-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 [hPre_chosen : Cert.Pre_chosen.Facts] (m : (ℓ : Loc Cert.Kernel2.nD Cert.Kernel2.τ Cert.Kernel2.sig) → Buf (Elt Bits) ℓ) : Prop :=
  ∀ c : Dev Cert.Kernel2.nD,
    (Cert.Pre_chosen.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2))) = (fun _ => 1#1)

def Pre_Kernel2Ideal [hPre_chosen : Cert.Pre_chosen.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_chosen.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_chosen [hPre_chosen : Cert.Pre_chosen.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_chosen.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_chosen4 : Cert.Pre_chosen4.Facts] (m : (ℓ : Loc Cert.Kernel4.nD Cert.Kernel4.τ Cert.Kernel4.sig) → Buf (Elt Bits) ℓ) : Prop :=
  ∀ c : Dev Cert.Kernel4.nD,
    (Cert.Pre_chosen4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_chosen4 : Cert.Pre_chosen4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_chosen4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Kernel4Ideal_chosen_finite [hPre_chosen_finite : Cert.Pre_chosen_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_chosen_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_chosen_finite [hPre_chosen_finite : Cert.Pre_chosen_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_chosen_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_chosen : Cert.Pre_chosen.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_chosen : Cert.Pre_chosen.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_chosen [hReference2Ideal : Cert.Reference2Ideal.Facts] [hPre_chosen : Cert.Pre_chosen.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_chosen m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] [hPre_chosen4 : Cert.Pre_chosen4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_chosen4 : Cert.Pre_chosen4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_chosen_finite [hKernel4Ideal : Cert.Kernel4Ideal.Facts] [hPre_chosen_finite : Cert.Pre_chosen_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_chosen_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_chosen_finite [hReference4Ideal : Cert.Reference4Ideal.Facts] [hPre_chosen_finite : Cert.Pre_chosen_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_chosen_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_chosen : Cert.Pre_chosen.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_chosen_finite [hKernel4Ideal : Cert.Kernel4Ideal.Facts] [hReference4Ideal : Cert.Reference4Ideal.Facts] [hPre_chosen_finite : Cert.Pre_chosen_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_chosen_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_chosen : Cert.Pre_chosen.Facts) (hPre_chosen4 : Cert.Pre_chosen4.Facts) (hPre_chosen_finite : Cert.Pre_chosen_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_chosen := hPre_chosen)
    ∧ quiescent_Kernel2Ideal (hKernel2Ideal := hKernel2Ideal) (hPre_chosen := hPre_chosen)
    ∧ quiescent_Reference2Ideal (hReference2Ideal := hReference2Ideal)
    ∧ quiescent_Reference2Ideal_pre_chosen (hReference2Ideal := hReference2Ideal) (hPre_chosen := hPre_chosen)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_chosen4 := hPre_chosen4)
    ∧ quiescent_Kernel4Ideal (hKernel4Ideal := hKernel4Ideal) (hPre_chosen4 := hPre_chosen4)
    ∧ quiescent_Kernel4Ideal_pre_chosen_finite (hKernel4Ideal := hKernel4Ideal) (hPre_chosen_finite := hPre_chosen_finite)
    ∧ quiescent_Reference4Ideal (hReference4Ideal := hReference4Ideal)
    ∧ quiescent_Reference4Ideal_pre_chosen_finite (hReference4Ideal := hReference4Ideal) (hPre_chosen_finite := hPre_chosen_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_chosen := hPre_chosen)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_chosen_finite (hKernel4Ideal := hKernel4Ideal) (hReference4Ideal := hReference4Ideal) (hPre_chosen_finite := hPre_chosen_finite)
-- ==== Pre_chosen.lean ====
abbrev S32768x128 : Shape := ⟨2, ![32768, 128]⟩
abbrev S65544x128 : Shape := ⟨2, ![65544, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S32768x128 32) (main_arg1 : FVec F S32768x128 .f32) (main_arg2 : IVec S65544x128 32) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 16384#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  main_v4
-- ==== Pre_chosen4.lean ====
abbrev S32768x128 : Shape := ⟨2, ![32768, 128]⟩
abbrev S16x2048x1024 : Shape := ⟨3, ![16, 2048, 1024]⟩
abbrev S65544x128 : Shape := ⟨2, ![65544, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : IVec S32768x128 32) (main_arg1 : FVec F S32768x128 .f32) (main_arg2 : FVec F S16x2048x1024 .f32) (main_arg3 : IVec S65544x128 32) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 16384#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  main_v4
-- ==== Pre_chosen_finite.lean ====
abbrev S32768x128 : Shape := ⟨2, ![32768, 128]⟩
abbrev S16x2048x1024 : Shape := ⟨3, ![16, 2048, 1024]⟩
abbrev S65544x128 : Shape := ⟨2, ![65544, 128]⟩
abbrev S_ : Shape := ⟨0, ![]⟩
abbrev S65536x128 : Shape := ⟨2, ![65536, 128]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  slices_S65544x128_S65536x128_4_0 : S65544x128.Slices ![4, 0] S65536x128
  shapeCasts_S65536x128_S16384x512 : S65536x128.ShapeCasts S16384x512
  splits_S16384x512_w32_S16384x512x2_w16 : S16384x512.SplitsWords 32 S16384x512x2 16
  slices_S16384x512x2_S16384x512x1_0_0_0 : S16384x512x2.Slices ![0, 0, 0] S16384x512x1
  shapeCasts_S16384x512x1_S16384x512 : S16384x512x1.ShapeCasts S16384x512
  slices_S16384x512x2_S16384x512x1_0_0_1 : S16384x512x2.Slices ![0, 0, 1] S16384x512x1
  concatenates_S16384x512_S16384x512_S16384x1024_d1 : Shape.Concatenates [S16384x512, S16384x512] S16384x1024 1
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_v10 : IVec S_ 1) (main_v18 : FVec F S16384x1024 .bf16) : IVec S_ 1 :=
  let main_v19 : FVec F S16384x1024 .f32 := (extf .f32 · bitsLt_bf16_f32) main_v18
  let main_v20 : FVec F S16384x1024 .f32 := Host.absf main_v19
  let main_cst_3 : FVec F S_ .f32 := constant S_ .f32 0x7F800000#32
  let main_v21 : FVec F S16384x1024 .f32 := broadcastInDim S16384x1024 ![] bcast_S_S16384x1024 main_cst_3
  let main_v22 : IVec S16384x1024 1 := cmpf .olt main_v20 main_v21
  let main_c_4 : IVec S_ 1 := constantI S_ 1 1#1
  let main_v23 : IVec S_ 1 := (fun x v => Host.reduce IntOp.andi x v reducesTo_S16384x1024_S_d0_1 h_S_) main_v22 main_c_4
  let main_v24 : IVec S_ 1 := andi main_v10 main_v23
  main_v24

def fn {F : FTy → Type} [FloatOps F] (main_arg0 : IVec S32768x128 32) (main_arg1 : FVec F S32768x128 .f32) (main_arg2 : FVec F S16x2048x1024 .f32) (main_arg3 : IVec S65544x128 32) : IVec S_ 1 :=
  let main_c : IVec S_ 32 := constantI S_ 32 0#32
  let main_v0 : IVec S32768x128 32 := broadcastInDim S32768x128 ![] bcast_S_S32768x128 main_c
  let main_v1 : IVec S32768x128 1 := cmpi .sge main_arg0 main_v0
  let main_c_0 : IVec S_ 32 := constantI S_ 32 16384#32
  let main_v2 : IVec S32768x128 32 := broadcastInDim S32768x128 ![] bcast_S_S32768x128 main_c_0
  let main_v3 : IVec S32768x128 1 := cmpi .slt main_arg0 main_v2
  let main_v4 : IVec S32768x128 1 := andi main_v1 main_v3
  let main_c_1 : IVec S_ 1 := constantI S_ 1 1#1
  let main_v5 : IVec S_ 1 := (fun x v => Host.reduce IntOp.andi x v reducesTo_S32768x128_S_d0_1 h_S_) main_v4 main_c_1
  let main_v6 : FVec F S16x2048x1024 .f32 := Host.absf main_arg2
  let main_cst : FVec F S_ .f32 := constant S_ .f32 0x7F800000#32
  let main_v7 : FVec F S16x2048x1024 .f32 := broadcastInDim S16x2048x1024 ![] bcast_S_S16x2048x1024 main_cst
  let main_v8 : IVec S16x2048x1024 1 := cmpf .olt main_v6 main_v7
  let main_c_2 : IVec S_ 1 := constantI S_ 1 1#1
  let main_v9 : IVec S_ 1 := (fun x v => Host.reduce IntOp.andi x v reducesTo_S16x2048x1024_S_d0_1_2 h_S_) main_v8 main_c_2
  let main_v10 : IVec S_ 1 := andi main_v5 main_v9
  let main_v11 : IVec S65536x128 32 := (extractStridedSlice S65536x128 ![4, 0] · slices_S65544x128_S65536x128_4_0) main_arg3
  let main_v12 : IVec S16384x512 32 := shapeCast S16384x512 main_v11 shapeCasts_S65536x128_S16384x512
  let main_v13 : FVec F S16384x512x2 .bf16 := (fun x => bitcastToFloat .bf16 (Host.bitcastConvertNarrow S16384x512x2 16 x splits_S16384x512_w32_S16384x512x2_w16)) main_v12
  let main_v14 : FVec F S16384x512x1 .bf16 := (extractStridedSlice S16384x512x1 ![0, 0, 0] · slices_S16384x512x2_S16384x512x1_0_0_0) main_v13
  let main_v15 : FVec F S16384x512 .bf16 := shapeCast S16384x512 main_v14 shapeCasts_S16384x512x1_S16384x512
  let main_v16 : FVec F S16384x512x1 .bf16 := (extractStridedSlice S16384x512x1 ![0, 0, 1] · slices_S16384x512x2_S16384x512x1_0_0_1) main_v13
  let main_v17 : FVec F S16384x512 .bf16 := shapeCast S16384x512 main_v16 shapeCasts_S16384x512x1_S16384x512
  let main_v18 : FVec F S16384x1024 .bf16 := (fun a b => concatenate S16384x1024 1 [⟨S16384x512, a⟩, ⟨S16384x512, b⟩] concatenates_S16384x512_S16384x512_S16384x1024_d1) main_v15 main_v17
  fn_part1 (F := F) main_v10 main_v18
-- ==== Pre_finite.lean ====
abbrev S16x2048x1024 : Shape := ⟨3, ![16, 2048, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x128 : Shape := ⟨3, ![1, 4, 128]⟩
abbrev S1x1024x1024 : Shape := ⟨3, ![1, 1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1536 : S_.BroadcastsInDim S1x1024x1536 (![] : Fin 0 → Fin S1x1024x1536.rank)
  reducesTo_S1x1024x1536_S_d0_1_2 : S1x1024x1536.ReducesTo [0, 1, 2] S_

variable [Facts]

def fn {F : FTy → Type} [FloatOps F] (main_arg0 : FVec F S16x2048x1024 .f32) (main_arg1 : FVec F S1x1024 .f32) (main_arg2 : FVec F S1x1024x1536 .f32) (main_arg3 : FVec F S1x4x128x128 .f32) (main_arg4 : FVec F S1x512 .f32) (main_arg5 : FVec F S1x512 .f32) (main_arg6 : FVec F S1x4x128x128 .f32) (main_arg7 : FVec F S1x4x128 .f32) (main_arg8 : FVec F S1x1024x1024 .f32) (main_arg9 : FVec F S1x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1536 .f32 := Host.absf main_arg2
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_c_3 : IVec S_ 1 := constantI S_ 1 1#1
  let main_v12 : IVec S_ 1 := (fun x v => Host.reduce IntOp.andi x v reducesTo_S1x1024x1536_S_d0_1_2 h_S_) main_v11 main_c_3
  let main_v13 : IVec S_ 1 := andi main_v8 main_v12
  main_v13
-- ==== Kernel.lean ====
abbrev S16x2048x1024 : Shape := ⟨3, ![16, 2048, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x128 : Shape := ⟨3, ![1, 4, 128]⟩
abbrev S1x1024x1024 : Shape := ⟨3, ![1, 1024, 1024]⟩
abbrev S1024x1536 : Shape := ⟨2, ![1024, 1536]⟩
abbrev S4x128x128 : Shape := ⟨3, ![4, 128, 128]⟩
abbrev S4x128 : Shape := ⟨2, ![4, 128]⟩
abbrev S128x4 : Shape := ⟨2, ![128, 4]⟩
abbrev S1024x1024 : Shape := ⟨2, ![1024, 1024]⟩
abbrev S1x512x1024 : Shape := ⟨3, ![1, 512, 1024]⟩
abbrev S16x512 : Shape := ⟨2, ![16, 512]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S528x512 : Shape := ⟨2, ![528, 512]⟩
abbrev S528x128 : Shape := ⟨2, ![528, 128]⟩
abbrev S527x128 : Shape := ⟨2, ![527, 128]⟩
abbrev S512x128 : Shape := ⟨2, ![512, 128]⟩
abbrev S1x128x128 : Shape := ⟨3, ![1, 128, 128]⟩
abbrev S128x128 : Shape := ⟨2, ![128, 128]⟩
abbrev S525x128 : Shape := ⟨2, ![525, 128]⟩
abbrev S521x128 : Shape := ⟨2, ![521, 128]⟩
abbrev S513x128 : Shape := ⟨2, ![513, 128]⟩
abbrev S128x1 : Shape := ⟨2, ![128, 1]⟩
abbrev S128x512 : Shape := ⟨2, ![128, 512]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x1536, .f32⟩
  | .hbm, ⟨3, _⟩ => ⟨S1x4x128x128, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x1024x1024, .f32⟩
  | .hbm, ⟨9, _⟩ => ⟨S1x1024, .f32⟩
  | .hbm, ⟨10, _⟩ => ⟨S1024x1536, .f32⟩
  | .hbm, ⟨11, _⟩ => ⟨S1024x1536, .bf16⟩
  | .hbm, ⟨12, _⟩ => ⟨S4x128x128, .f32⟩
  | .hbm, ⟨13, _⟩ => ⟨S4x128x128, .bf16⟩
  | .hbm, ⟨14, _⟩ => ⟨S4x128x128, .f32⟩
  | .hbm, ⟨15, _⟩ => ⟨S4x128, .f32⟩
  | .hbm, ⟨16, _⟩ => ⟨S128x4, .f32⟩
  | .hbm, ⟨17, _⟩ => ⟨S1024x1024, .f32⟩
  | .hbm, ⟨18, _⟩ => ⟨S1024x1024, .bf16⟩
  | .hbm, ⟨19, _⟩ => ⟨S16x2048x1024, .f32⟩
  | .hbm, ⟨20, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S4x128x128, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S16x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16x2048x1024 : Shape := ⟨3, ![16, 2048, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x512 : Shape := ⟨2, ![1, 512]⟩
abbrev S1x4x128 : Shape := ⟨3, ![1, 4, 128]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x1536 : Shape := ⟨2, ![1024, 1536]⟩
abbrev S16x2048x1536 : Shape := ⟨3, ![16, 2048, 1536]⟩
abbrev S16x2048x512 : Shape := ⟨3, ![16, 2048, 512]⟩
abbrev S4x128x128 : Shape := ⟨3, ![4, 128, 128]⟩
abbrev S512 : Shape := ⟨1, ![512]⟩
abbrev S16x2048x4x128 : Shape := ⟨4, ![16, 2048, 4, 128]⟩
abbrev S2048 : Shape := ⟨1, ![2048]⟩
abbrev S1x2048x1 : Shape := ⟨3, ![1, 2048, 1]⟩
abbrev S16x2048x1x128 : Shape := ⟨4, ![16, 2048, 1, 128]⟩
abbrev S16x2048x128 : Shape := ⟨3, ![16, 2048, 128]⟩
abbrev S16x2050x128 : Shape := ⟨3, ![16, 2050, 128]⟩
abbrev S16x2052x128 : Shape := ⟨3, ![16, 2052, 128]⟩
abbrev S16x2056x128 : Shape := ⟨3, ![16, 2056, 128]⟩
abbrev S16x2064x128 : Shape := ⟨3, ![16, 2064, 128]⟩
abbrev S4x128x16x2048 : Shape := ⟨4, ![4, 128, 16, 2048]⟩
abbrev S1x1x512 : Shape := ⟨3, ![1, 1, 512]⟩
abbrev S4x128 : Shape := ⟨2, ![4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S16x16x128x4x128 : Shape := ⟨5, ![16, 16, 128, 4, 128]⟩
abbrev S4x16x16x128x128 : Shape := ⟨5, ![4, 16, 16, 128, 128]⟩
abbrev S128x4 : Shape := ⟨2, ![128, 4]⟩
abbrev S1x1x128x4x1 : Shape := ⟨5, ![1, 1, 128, 4, 1]⟩
abbrev S1024x1024 : Shape := ⟨2, ![1024, 1024]⟩

abbrev nBuf : Space → Nat
  | .hbm => 229
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x1536, .f32⟩
  | 3 => ⟨S1x4x128x128, .f32⟩
  | 4 => ⟨S1x512, .f32⟩
  | 5 => ⟨S1x512, .f32⟩
  | 6 => ⟨S1x4x128x128, .f32⟩
  | 7 => ⟨S1x4x128, .f32⟩
  | 8 => ⟨S1x1024x1024, .f32⟩
  | 9 => ⟨S1x1024, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S1024x1536, .f32⟩
  | 28 => ⟨S16x2048x1536, .f32⟩
  | 29 => ⟨S16x2048x512, .f32⟩
  | 30 => ⟨S4x128x128, .f32⟩
  | 31 => ⟨S512, .f32⟩
  | 32 => ⟨S16x2048x4x128, .f32⟩
  | 33 => ⟨S_, .f32⟩
  | 34 => ⟨S_, .f32⟩
  | 35 => ⟨S16x2048x4x128, .f32⟩
  | 36 => ⟨S2048, .f32⟩
  | 37 => ⟨S1x2048x1, .f32⟩
  | 38 => ⟨S16x2048x1x128, .f32⟩
  | 39 => ⟨S16x2048x128, .f32⟩
  | 40 => ⟨S_, .i32⟩
  | 41 => ⟨S_, .f32⟩
  | 42 => ⟨S16x2050x128, .f32⟩
  | 43 => ⟨S16x2048x128, .f32⟩
  | 44 => ⟨S_, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S16x2048x128, .f32⟩
  | 51 => ⟨S16x2048x128, .f32⟩
  | 52 => ⟨S16x2048x128, .f32⟩
  | 53 => ⟨S16x2048x1x128, .f32⟩
  | 54 => ⟨S16x2048x128, .f32⟩
  | 55 => ⟨S16x2048x128, .f32⟩
  | 56 => ⟨S16x2048x1x128, .f32⟩
  | 57 => ⟨S16x2048x128, .f32⟩
  | 58 => ⟨S_, .i32⟩
  | 59 => ⟨S_, .f32⟩
  | 60 => ⟨S16x2052x128, .f32⟩
  | 61 => ⟨S16x2048x128, .f32⟩
  | 62 => ⟨S_, .f32⟩
  | 63 => ⟨S1x2048x1, .f32⟩
  | 64 => ⟨S1x2048x1, .f32⟩
  | 65 => ⟨S_, .f32⟩
  | 66 => ⟨S1x2048x1, .f32⟩
  | 67 => ⟨S1x2048x1, .f32⟩
  | 68 => ⟨S16x2048x128, .f32⟩
  | 69 => ⟨S16x2048x128, .f32⟩
  | 70 => ⟨S16x2048x128, .f32⟩
  | 71 => ⟨S16x2048x1x128, .f32⟩
  | 72 => ⟨S16x2048x128, .f32⟩
  | 73 => ⟨S16x2048x128, .f32⟩
  | 74 => ⟨S16x2048x1x128, .f32⟩
  | 75 => ⟨S16x2048x128, .f32⟩
  | 76 => ⟨S_, .i32⟩
  | 77 => ⟨S_, .f32⟩
  | 78 => ⟨S16x2056x128, .f32⟩
  | 79 => ⟨S16x2048x128, .f32⟩
  | 80 => ⟨S_, .f32⟩
  | 81 => ⟨S1x2048x1, .f32⟩
  | 82 => ⟨S1x2048x1, .f32⟩
  | 83 => ⟨S_, .f32⟩
  | 84 => ⟨S1x2048x1, .f32⟩
  | 85 => ⟨S1x2048x1, .f32⟩
  | 86 => ⟨S16x2048x128, .f32⟩
  | 87 => ⟨S16x2048x128, .f32⟩
  | 88 => ⟨S16x2048x128, .f32⟩
  | 89 => ⟨S16x2048x1x128, .f32⟩
  | 90 => ⟨S16x2048x128, .f32⟩
  | 91 => ⟨S16x2048x128, .f32⟩
  | 92 => ⟨S16x2048x1x128, .f32⟩
  | 93 => ⟨S16x2048x128, .f32⟩
  | 94 => ⟨S_, .i32⟩
  | 95 => ⟨S_, .f32⟩
  | 96 => ⟨S16x2064x128, .f32⟩
  | 97 => ⟨S16x2048x128, .f32⟩
  | 98 => ⟨S_, .f32⟩
  | 99 => ⟨S1x2048x1, .f32⟩
  | 100 => ⟨S1x2048x1, .f32⟩
  | 101 => ⟨S_, .f32⟩
  | 102 => ⟨S1x2048x1, .f32⟩
  | 103 => ⟨S1x2048x1, .f32⟩
  | 104 => ⟨S16x2048x128, .f32⟩
  | 105 => ⟨S16x2048x128, .f32⟩
  | 106 => ⟨S16x2048x128, .f32⟩
  | 107 => ⟨S16x2048x1x128, .f32⟩
  | 108 => ⟨S16x2048x128, .f32⟩
  | 109 => ⟨S16x2048x128, .f32⟩
  | 110 => ⟨S16x2048x1x128, .f32⟩
  | 111 => ⟨S16x2048x1x128, .f32⟩
  | 112 => ⟨S16x2048x1x128, .f32⟩
  | 113 => ⟨S16x2048x1x128, .f32⟩
  | 114 => ⟨S16x2048x4x128, .f32⟩
  | 115 => ⟨S4x128x16x2048, .f32⟩
  | 116 => ⟨S16x2048x4x128, .f32⟩
  | 117 => ⟨S16x2048x512, .f32⟩
  | 118 => ⟨S1x1x512, .f32⟩
  | 119 => ⟨S16x2048x512, .f32⟩
  | 120 => ⟨S16x2048x512, .f32⟩
  | 121 => ⟨S16x2048x1024, .f32⟩
  | 122 => ⟨S512, .f32⟩
  | 123 => ⟨S4x128x128, .f32⟩
  | 124 => ⟨S4x128, .f32⟩
  | 125 => ⟨S16x2048x1024, .f32⟩
  | 126 => ⟨S16x2048x1024, .f32⟩
  | 127 => ⟨S_, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S_, .f32⟩
  | 4 => ⟨S16x2048x1024, .f32⟩
  | 5 => ⟨S16x2048x1024, .f32⟩
  | 6 => ⟨S16x2048x1024, .f32⟩
  | 7 => ⟨S_, .f32⟩
  | 8 => ⟨S16x2048x1024, .f32⟩
  | 9 => ⟨S16x2048x1024, .f32⟩
  | 10 => ⟨S_, .f32⟩
  | 11 => ⟨S16x2048x1024, .f32⟩
  | 12 => ⟨S16x2048x1024, .f32⟩
  | 13 => ⟨S16x2048x1024, .f32⟩
  | 14 => ⟨S16x2048x512, .f32⟩
  | 15 => ⟨S16x2048x512, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S16x2048x512, .f32⟩
  | 23 => ⟨S16x2048x512, .f32⟩
  | 24 => ⟨S16x2048x512, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S16x2048x512, .f32⟩
  | 32 => ⟨S16x2048x512, .f32⟩
  | 33 => ⟨S_, .f32⟩
  | 34 => ⟨S16x2048x1, .f32⟩
  | 35 => ⟨S16x2048x1, .f32⟩
  | 36 => ⟨S16x2048x1, .f32⟩
  | 37 => ⟨S16x2048x512, .f32⟩
  | 38 => ⟨S16x2048x512, .f32⟩
  | 39 => ⟨S1x1x512, .f32⟩
  | 40 => ⟨S16x2048x512, .f32⟩
  | 41 => ⟨S16x2048x512, .f32⟩
  | 42 => ⟨S128, .i32⟩
  | 43 => ⟨S_, .i32⟩
  | 44 => ⟨S_, .i32⟩
  | 45 => ⟨S128, .i32⟩
  | 46 => ⟨S128, .i32⟩
  | 47 => ⟨S128, .i32⟩
  | 48 => ⟨S_, .i32⟩
  | 49 => ⟨S128, .i32⟩
  | 50 => ⟨S128, .i1⟩
  | 51 => ⟨S128, .i32⟩
  | 52 => ⟨S128, .i32⟩
  | 53 => ⟨S_, .i32⟩
  | 54 => ⟨S128, .i32⟩
  | 55 => ⟨S128, .i1⟩
  | 56 => ⟨S128, .i1⟩
  | 57 => ⟨S_, .i32⟩
  | 58 => ⟨S128, .i32⟩
  | 59 => ⟨S128, .i32⟩
  | 60 => ⟨S128, .i32⟩
  | 61 => ⟨S1x128, .i32⟩
  | 62 => ⟨S128x1, .i32⟩
  | 63 => ⟨S128x128, .i32⟩
  | 64 => ⟨S128x128, .i32⟩
  | 65 => ⟨S128x128, .i1⟩
  | 66 => ⟨S1x128x128, .i1⟩
  | 67 => ⟨S_, .f32⟩
  | 68 => ⟨S4x128x128, .f32⟩
  | 69 => ⟨S4x128x128, .i1⟩
  | 70 => ⟨S4x128x128, .f32⟩
  | 71 => ⟨S16x16x128x4x128, .f32⟩
  | 72 => ⟨S4x16x16x128x128, .f32⟩
  | 73 => ⟨S16x16x128x4x128, .f32⟩
  | 74 => ⟨S128x4, .f32⟩
  | 75 => ⟨S1x1x128x4x1, .f32⟩
  | 76 => ⟨S16x16x128x4x128, .f32⟩
  | 77 => ⟨S16x16x128x4x128, .f32⟩
  | 78 => ⟨S16x2048x512, .f32⟩
  | 79 => ⟨S16x2048x512, .f32⟩
  | 80 => ⟨S16x2048x1024, .f32⟩
  | 81 => ⟨S1024x1024, .f32⟩
  | 82 => ⟨S16x2048x1024, .f32⟩
  | 83 => ⟨S16x2048x1024, .f32⟩
  | 84 => ⟨S1024, .f32⟩
  | 85 => ⟨S16x2048x1024, .f32⟩
  | 86 => ⟨S_, .f32⟩
  | 87 => ⟨S16x2048, .f32⟩
  | 88 => ⟨S16x2048x1, .f32⟩
  | 89 => ⟨S_, .f32⟩
  | 90 => ⟨S16x2048x1, .f32⟩
  | 91 => ⟨S16x2048x1, .f32⟩
  | 92 => ⟨S_, .f32⟩
  | 93 => ⟨S16x2048x1, .f32⟩
  | 94 => ⟨S16x2048x1, .f32⟩
  | 95 => ⟨S16x2048x1, .f32⟩
  | 96 => ⟨S16x2048x1024, .f32⟩
  | 97 => ⟨S16x2048x1024, .f32⟩
  | 98 => ⟨S1x1x1024, .f32⟩
  | 99 => ⟨S16x2048x1024, .f32⟩
  | 100 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_call0_cst : Ref sig .tc := ⟨.hbm, 33, rfl⟩
abbrev main_call0_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_call2_v0 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_7 : Ref sig .tc := ⟨.hbm, 76, rfl⟩
abbrev main_call3_v0 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_10 : Ref sig .tc := ⟨.hbm, 94, rfl⟩
abbrev main_call4_v0 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_15 : Ref sig .tc := ⟨.hbm, 135, rfl⟩
abbrev main_v102 : Ref sig .tc := ⟨.hbm, 136, rfl⟩
abbrev main_v103 : Ref sig .tc := ⟨.hbm, 137, rfl⟩
abbrev main_cst_16 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_17 : Ref sig .tc := ⟨.hbm, 144, rfl⟩
abbrev main_v109 : Ref sig .tc := ⟨.hbm, 145, rfl⟩
abbrev main_v110 : Ref sig .tc := ⟨.hbm, 146, rfl⟩
abbrev main_cst_18 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_19 : Ref sig .tc := ⟨.hbm, 153, rfl⟩
abbrev main_v116 : Ref sig .tc := ⟨.hbm, 154, rfl⟩
abbrev main_v117 : Ref sig .tc := ⟨.hbm, 155, rfl⟩
abbrev main_cst_20 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_21 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_22 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_v6 : Ref sig .tc := ⟨.hbm, 178, rfl⟩
abbrev main_call5_v7 : Ref sig .tc := ⟨.hbm, 179, rfl⟩
abbrev main_call5_v8 : Ref sig .tc := ⟨.hbm, 180, rfl⟩
abbrev main_call5_c : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_c_0 : Ref sig .tc := ⟨.hbm, 185, rfl⟩
abbrev main_call5_v12 : Ref sig .tc := ⟨.hbm, 186, rfl⟩
abbrev main_call5_v13 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_23 : Ref sig .tc := ⟨.hbm, 195, rfl⟩
abbrev main_v138 : Ref sig .tc := ⟨.hbm, 196, rfl⟩
abbrev main_call6_v0 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_24 : Ref sig .tc := ⟨.hbm, 214, rfl⟩
abbrev main_v155 : Ref sig .tc := ⟨.hbm, 215, rfl⟩
abbrev main_v156 : Ref sig .tc := ⟨.hbm, 216, rfl⟩
abbrev main_cst_25 : Ref sig .tc := ⟨.hbm, 217, rfl⟩
abbrev main_v157 : Ref sig .tc := ⟨.hbm, 218, rfl⟩
abbrev main_v158 : Ref sig .tc := ⟨.hbm, 219, rfl⟩
abbrev main_cst_26 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩

abbrev nD : Nat := 1
abbrev τ : Topo := Topo.v7x

variable {F : FTy → Type} [FloatOps F]
-- ==== Kernel2.lean ====
abbrev S32768x128 : Shape := ⟨2, ![32768, 128]⟩
abbrev S65544x128 : Shape := ⟨2, ![65544, 128]⟩
abbrev S1x128 : Shape := ⟨2, ![1, 128]⟩
abbrev S_ : Shape := ⟨0, ![]⟩
abbrev S262144x128 : Shape := ⟨2, ![262144, 128]⟩
abbrev S64x128 : Shape := ⟨2, ![64, 128]⟩
abbrev S512x128 : Shape := ⟨2, ![512, 128]⟩
abbrev S8x128 : Shape := ⟨2, ![8, 128]⟩
abbrev S1x1 : Shape := ⟨2, ![1, 1]⟩

abbrev nBuf : Space → Nat
  | .hbm => 41
  | .vmem => 3
  | .smem => 4
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S65544x128, .i32⟩
  | .hbm, ⟨3, _⟩ => ⟨S1x128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S1x128, .i32⟩
  | .hbm, ⟨11, _⟩ => ⟨S1x128, .i32⟩
  | .hbm, ⟨12, _⟩ => ⟨S_, .i32⟩
  | .hbm, ⟨13, _⟩ => ⟨S1x128, .i32⟩
  | .hbm, ⟨14, _⟩ => ⟨S1x128, .i1⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S_, .i32⟩
  | .hbm, ⟨19, _⟩ => ⟨S_, .i1⟩
  | .hbm, ⟨20, _⟩ => ⟨S1x128, .i1⟩
  | .hbm, ⟨21, _⟩ => ⟨S1x128, .i1⟩
  | .hbm, ⟨22, _⟩ => ⟨S1x128, .i1⟩
  | .hbm, ⟨23, _⟩ => ⟨S1x128, .i32⟩
  | .hbm, ⟨24, _⟩ => ⟨S1x128, .i32⟩
  | .hbm, ⟨25, _⟩ => ⟨S1x128, .i32⟩
  | .hbm, ⟨26, _⟩ => ⟨S_, .i32⟩
  | .hbm, ⟨27, _⟩ => ⟨S32768x128, .i32⟩
  | .hbm, ⟨28, _⟩ => ⟨S32768x128, .i32⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S_, .i32⟩
  | .hbm, ⟨33, _⟩ => ⟨S_, .i32⟩
  | .hbm, ⟨34, _⟩ => ⟨S1x128, .i32⟩
  | .hbm, ⟨35, _⟩ => ⟨S1x128, .i32⟩
  | .hbm, ⟨36, _⟩ => ⟨S1x128, .i32⟩
  | .hbm, ⟨37, _⟩ => ⟨S1x128, .i32⟩
  | .hbm, ⟨38, _⟩ => ⟨S32768x128, .i32⟩
  | .hbm, ⟨39, _⟩ => ⟨S32768x128, .i32⟩
  | .hbm, ⟨40, _⟩ => ⟨S262144x128, .f32⟩
  | .local _ .vmem, ⟨0, _⟩ => ⟨S65544x128, .i32⟩
  | .local _ .vmem, ⟨1, _⟩ => ⟨S512x128, .f32⟩
  | .local _ .vmem, ⟨2, _⟩ => ⟨S512x128, .f32⟩
  | .local _ .smem, ⟨0, _⟩ => ⟨S64x128, .i32⟩
  | .local _ .smem, ⟨1, _⟩ => ⟨S64x128, .i32⟩
  | .local _ .smem, ⟨2, _⟩ => ⟨S64x128, .f32⟩
  | .local _ .smem, ⟨3, _⟩ => ⟨S64x128, .f32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_c_2 : Ref sig .tc := ⟨.hbm, 32, rfl⟩
abbrev main_c_3 : Ref sig .tc := ⟨.hbm, 33, rfl⟩
abbrev main_call1_v0 : Ref sig .tc := ⟨.hbm, 34, rfl⟩
abbrev main_call1_v1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v8 : Index := Scalar.indexCast arg5
  let c0 : Index := 0#32
  ![v8.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let v10 : Index := Scalar.indexCast arg5
  let c4 : Index := 4#32
  ![v10.toNat, 4]
def k0_off3 (v9 : BitVec 32) : Fin 2 → Nat :=
  let v12 : Index := Scalar.indexCast v9
  let c0_4 : Index := 0#32
  ![v12.toNat, 0]

def k0_chk1 (v9 : BitVec 32) : Prop :=
  (∀ a, (k0_off3 v9) a + S8x128.size a ≤ S65544x128.size a)
theorem k0_off3_inb : ∀ (v9 : BitVec 32) (k0_hw1 : k0_chk1 v9), ∀ a, (k0_off3 v9) a + S8x128.size a ≤ S65544x128.size a := fun v9 k0_hw1 => k0_hw1

def k0_off4 (v11 : BitVec 32) : Fin 2 → Nat :=
  let v14 : Index := Scalar.indexCast v11
  let c0_5 : Index := 0#32
  ![v14.toNat, 0]

def k0_chk2 (v11 : BitVec 32) : Prop :=
  (∀ a, (k0_off4 v11) a + S8x128.size a ≤ S65544x128.size a)
theorem k0_off4_inb : ∀ (v11 : BitVec 32) (k0_hw2 : k0_chk2 v11), ∀ a, (k0_off4 v11) a + S8x128.size a ≤ S65544x128.size a := fun v11 k0_hw2 => k0_hw2

def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let v23 : Index := Scalar.indexCast arg5
  let c0_6 : Index := 0#32
  ![v23.toNat, 0]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let v25 : Index := Scalar.indexCast arg5
  let c4_7 : Index := 4#32
  ![v25.toNat, 4]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let v34 : Index := Scalar.indexCast arg5
  let c1 : Index := 1#32
  ![v34.toNat, 1]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let v36 : Index := Scalar.indexCast arg5
  let c5 : Index := 5#32
  ![v36.toNat, 5]
def k0_off9 (v35 : BitVec 32) : Fin 2 → Nat :=
  let v38 : Index := Scalar.indexCast v35
  let c0_8 : Index := 0#32
  ![v38.toNat, 0]

def k0_chk3 (v35 : BitVec 32) : Prop :=
  (∀ a, (k0_off9 v35) a + S8x128.size a ≤ S65544x128.size a)
theorem k0_off9_inb : ∀ (v35 : BitVec 32) (k0_hw3 : k0_chk3 v35), ∀ a, (k0_off9 v35) a + S8x128.size a ≤ S65544x128.size a := fun v35 k0_hw3 => k0_hw3

def k0_off10 (v37 : BitVec 32) : Fin 2 → Nat :=
  let v40 : Index := Scalar.indexCast v37
  let c0_9 : Index := 0#32
  ![v40.toNat, 0]

def k0_chk4 (v37 : BitVec 32) : Prop :=
  (∀ a, (k0_off10 v37) a + S8x128.size a ≤ S65544x128.size a)
theorem k0_off10_inb : ∀ (v37 : BitVec 32) (k0_hw4 : k0_chk4 v37), ∀ a, (k0_off10 v37) a + S8x128.size a ≤ S65544x128.size a := fun v37 k0_hw4 => k0_hw4

def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let v49 : Index := Scalar.indexCast arg5
  let c1_12 : Index := 1#32
  ![v49.toNat, 1]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let v51 : Index := Scalar.indexCast arg5
  let c5_13 : Index := 5#32
  ![v51.toNat, 5]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let v60 : Index := Scalar.indexCast arg5
  let c2 : Index := 2#32
  ![v60.toNat, 2]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let v62 : Index := Scalar.indexCast arg5
  let c6 : Index := 6#32
  ![v62.toNat, 6]
def k0_off15 (v61 : BitVec 32) : Fin 2 → Nat :=
  let v64 : Index := Scalar.indexCast v61
  let c0_14 : Index := 0#32
  ![v64.toNat, 0]

def k0_chk5 (v61 : BitVec 32) : Prop :=
  (∀ a, (k0_off15 v61) a + S8x128.size a ≤ S65544x128.size a)
theorem k0_off15_inb : ∀ (v61 : BitVec 32) (k0_hw5 : k0_chk5 v61), ∀ a, (k0_off15 v61) a + S8x128.size a ≤ S65544x128.size a := fun v61 k0_hw5 => k0_hw5

def k0_off16 (v63 : BitVec 32) : Fin 2 → Nat :=
  let v66 : Index := Scalar.indexCast v63
  let c0_15 : Index := 0#32
  ![v66.toNat, 0]

def k0_chk6 (v63 : BitVec 32) : Prop :=
  (∀ a, (k0_off16 v63) a + S8x128.size a ≤ S65544x128.size a)
theorem k0_off16_inb : ∀ (v63 : BitVec 32) (k0_hw6 : k0_chk6 v63), ∀ a, (k0_off16 v63) a + S8x128.size a ≤ S65544x128.size a := fun v63 k0_hw6 => k0_hw6

def k0_off17 (k0_t1 : Fin k0_t1_loop.trips) : Fin 2 → Nat :=
  let c0_i32 : BitVec 32 := 0#32
  let c1_i32 : BitVec 32 := 1#32
  let arg5 : BitVec 32 := Scf.iv c0_i32 c1_i32 k0_t1
  let v75 : Index := Scalar.indexCast arg5
  let c2_18 : Index := 2#32
  ![v75.toNat, 2]
def k0_off18 (k0_t1 : Fin k0_t1_loop.trips) : Fin 2 → Nat :=
  let c0_i32 : BitVec 32 := 0#32
  let c1_i32 : BitVec 32 := 1#32
  let arg5 : BitVec 32 := Scf.iv c0_i32 c1_i32 k0_t1
  let v77 : Index := Scalar.indexCast arg5
  let c6_19 : Index := 6#32
  ![v77.toNat, 6]
def k0_off19 (k0_t1 : Fin k0_t1_loop.trips) : Fin 2 → Nat :=
  let c0_i32 : BitVec 32 := 0#32
  let c1_i32 : BitVec 32 := 1#32
  let arg5 : BitVec 32 := Scf.iv c0_i32 c1_i32 k0_t1
  let v86 : Index := Scalar.indexCast arg5
  let c3 : Index := 3#32
  ![v86.toNat, 3]
def k0_off20 (k0_t1 : Fin k0_t1_loop.trips) : Fin 2 → Nat :=
  let c0_i32 : BitVec 32 := 0#32
  let c1_i32 : BitVec 32 := 1#32
  let arg5 : BitVec 32 := Scf.iv c0_i32 c1_i32 k0_t1
  let v88 : Index := Scalar.indexCast arg5
  let c7 : Index := 7#32
  ![v88.toNat, 7]
def k0_off21 (v87 : BitVec 32) : Fin 2 → Nat :=
  let v90 : Index := Scalar.indexCast v87
  let c0_20 : Index := 0#32
  ![v90.toNat, 0]

def k0_chk7 (v87 : BitVec 32) : Prop :=
  (∀ a, (k0_off21 v87) a + S8x128.size a ≤ S65544x128.size a)
theorem k0_off21_inb : ∀ (v87 : BitVec 32) (k0_hw7 : k0_chk7 v87), ∀ a, (k0_off21 v87) a + S8x128.size a ≤ S65544x128.size a := fun v87 k0_hw7 => k0_hw7

def k0_off22 (v89 : BitVec 32) : Fin 2 → Nat :=
  let v92 : Index := Scalar.indexCast v89
  let c0_21 : Index := 0#32
  ![v92.toNat, 0]

def k0_chk8 (v89 : BitVec 32) : Prop :=
  (∀ a, (k0_off22 v89) a + S8x128.size a ≤ S65544x128.size a)
theorem k0_off22_inb : ∀ (v89 : BitVec 32) (k0_hw8 : k0_chk8 v89), ∀ a, (k0_off22 v89) a + S8x128.size a ≤ S65544x128.size a := fun v89 k0_hw8 => k0_hw8

def k0_off23 (k0_t1 : Fin k0_t1_loop.trips) : Fin 2 → Nat :=
  let c0_i32 : BitVec 32 := 0#32
  let c1_i32 : BitVec 32 := 1#32
  let arg5 : BitVec 32 := Scf.iv c0_i32 c1_i32 k0_t1
  let v101 : Index := Scalar.indexCast arg5
  let c3_24 : Index := 3#32
  ![v101.toNat, 3]
def k0_off24 (k0_t1 : Fin k0_t1_loop.trips) : Fin 2 → Nat :=
  let c0_i32 : BitVec 32 := 0#32
  let c1_i32 : BitVec 32 := 1#32
  let arg5 : BitVec 32 := Scf.iv c0_i32 c1_i32 k0_t1
  let v103 : Index := Scalar.indexCast arg5
  let c7_25 : Index := 7#32
  ![v103.toNat, 7]
def k0_off25 (k0_t1 : Fin k0_t1_loop.trips) : Fin 2 → Nat :=
  let c0_i32 : BitVec 32 := 0#32
  let c1_i32 : BitVec 32 := 1#32
  let arg5 : BitVec 32 := Scf.iv c0_i32 c1_i32 k0_t1
  let v112 : Index := Scalar.indexCast arg5
  let c8 : Index := 8#32
  ![v112.toNat, 8]
def k0_off26 (k0_t1 : Fin k0_t1_loop.trips) : Fin 2 → Nat :=
  let c0_i32 : BitVec 32 := 0#32
  let c1_i32 : BitVec 32 := 1#32
  let arg5 : BitVec 32 := Scf.iv c0_i32 c1_i32 k0_t1
  let v114 : Index := Scalar.indexCast arg5
  let c12 : Index := 12#32
  ![v114.toNat, 12]
def k0_off27 (v113 : BitVec 32) : Fin 2 → Nat :=
  let v116 : Index := Scalar.indexCast v113
  let c0_26 : Index := 0#32
  ![v116.toNat, 0]

def k0_chk9 (v113 : BitVec 32) : Prop :=
  (∀ a, (k0_off27 v113) a + S8x128.size a ≤ S65544x128.size a)
theorem k0_off27_inb : ∀ (v113 : BitVec 32) (k0_hw9 : k0_chk9 v113), ∀ a, (k0_off27 v113) a + S8x128.size a ≤ S65544x128.size a := fun v113 k0_hw9 => k0_hw9

def k0_off28 (v115 : BitVec 32) : Fin 2 → Nat :=
  let v118 : Index := Scalar.indexCast v115
  let c0_27 : Index := 0#32
  ![v118.toNat, 0]

def k0_chk10 (v115 : BitVec 32) : Prop :=
  (∀ a, (k0_off28 v115) a + S8x128.size a ≤ S65544x128.size a)
theorem k0_off28_inb : ∀ (v115 : BitVec 32) (k0_hw10 : k0_chk10 v115), ∀ a, (k0_off28 v115) a + S8x128.size a ≤ S65544x128.size a := fun v115 k0_hw10 => k0_hw10

def k0_off29 (k0_t1 : Fin k0_t1_loop.trips) : Fin 2 → Nat :=
  let c0_i32 : BitVec 32 := 0#32
  let c1_i32 : BitVec 32 := 1#32
  let arg5 : BitVec 32 := Scf.iv c0_i32 c1_i32 k0_t1
  let v127 : Index := Scalar.indexCast arg5
  let c8_30 : Index := 8#32
  ![v127.toNat, 8]
def k0_off30 (k0_t1 : Fin k0_t1_loop.trips) : Fin 2 → Nat :=
  let c0_i32 : BitVec 32 := 0#32
  let c1_i32 : BitVec 32 := 1#32
  let arg5 : BitVec 32 := Scf.iv c0_i32 c1_i32 k0_t1
  let v129 : Index := Scalar.indexCast arg5
  let c12_31 : Index := 12#32
  ![v129.toNat, 12]
def k0_off31 (k0_t1 : Fin k0_t1_loop.trips) : Fin 2 → Nat :=
  let c0_i32 : BitVec 32 := 0#32
  let c1_i32 : BitVec 32 := 1#32
  let arg5 : BitVec 32 := Scf.iv c0_i32 c1_i32 k0_t1
  let v138 : Index := Scalar.indexCast arg5
  let c9 : Index := 9#32
  ![v138.toNat, 9]
def k0_off32 (k0_t1 : Fin k0_t1_loop.trips) : Fin 2 → Nat :=
  let c0_i32 : BitVec 32 := 0#32
  let c1_i32 : BitVec 32 := 1#32
  let arg5 : BitVec 32 := Scf.iv c0_i32 c1_i32 k0_t1
  let v140 : Index := Scalar.indexCast arg5
  let c13 : Index := 13#32
  ![v140.toNat, 13]
def k0_off33 (v139 : BitVec 32) : Fin 2 → Nat :=
  let v142 : Index := Scalar.indexCast v139
  let c0_32 : Index := 0#32
  ![v142.toNat, 0]

def k0_chk11 (v139 : BitVec 32) : Prop :=
  (∀ a, (k0_off33 v139) a + S8x128.size a ≤ S65544x128.size a)
theorem k0_off33_inb : ∀ (v139 : BitVec 32) (k0_hw11 : k0_chk11 v139), ∀ a, (k0_off33 v139) a + S8x128.size a ≤ S65544x128.size a := fun v139 k0_hw11 => k0_hw11

def k0_off34 (v141 : BitVec 32) : Fin 2 → Nat :=
  let v144 : Index := Scalar.indexCast v141
  let c0_33 : Index := 0#32
  ![v144.toNat, 0]

def k0_chk12 (v141 : BitVec 32) : Prop :=
  (∀ a, (k0_off34 v141) a + S8x128.size a ≤ S65544x128.size a)
theorem k0_off34_inb : ∀ (v141 : BitVec 32) (k0_hw12 : k0_chk12 v141), ∀ a, (k0_off34 v141) a + S8x128.size a ≤ S65544x128.size a := fun v141 k0_hw12 => k0_hw12

def k0_off35 (k0_t1 : Fin k0_t1_loop.trips) : Fin 2 → Nat :=
  let c0_i32 : BitVec 32 := 0#32
  let c1_i32 : BitVec 32 := 1#32
  let arg5 : BitVec 32 := Scf.iv c0_i32 c1_i32 k0_t1
  let v153 : Index := Scalar.indexCast arg5
  let c9_36 : Index := 9#32
  ![v153.toNat, 9]
def k0_off36 (k0_t1 : Fin k0_t1_loop.trips) : Fin 2 → Nat :=
  let c0_i32 : BitVec 32 := 0#32
  let c1_i32 : BitVec 32 := 1#32
  let arg5 : BitVec 32 := Scf.iv c0_i32 c1_i32 k0_t1
  let v155 : Index := Scalar.indexCast arg5
  let c13_37 : Index := 13#32
  ![v155.toNat, 13]
def k0_off37 (k0_t1 : Fin k0_t1_loop.trips) : Fin 2 → Nat :=
  let c0_i32 : BitVec 32 := 0#32
  let c1_i32 : BitVec 32 := 1#32
  let arg5 : BitVec 32 := Scf.iv c0_i32 c1_i32 k0_t1
  let v164 : Index := Scalar.indexCast arg5
  let c10 : Index := 10#32
  ![v164.toNat, 10]
def k0_off38 (k0_t1 : Fin k0_t1_loop.trips) : Fin 2 → Nat :=
  let c0_i32 : BitVec 32 := 0#32
  let c1_i32 : BitVec 32 := 1#32
  let arg5 : BitVec 32 := Scf.iv c0_i32 c1_i32 k0_t1
  let v166 : Index := Scalar.indexCast arg5
  let c14 : Index := 14#32
  ![v166.toNat, 14]
def k0_off39 (v165 : BitVec 32) : Fin 2 → Nat :=
  let v168 : Index := Scalar.indexCast v165
  let c0_38 : Index := 0#32
  ![v168.toNat, 0]

def k0_chk13 (v165 : BitVec 32) : Prop :=
  (∀ a, (k0_off39 v165) a + S8x128.size a ≤ S65544x128.size a)
theorem k0_off39_inb : ∀ (v165 : BitVec 32) (k0_hw13 : k0_chk13 v165), ∀ a, (k0_off39 v165) a + S8x128.size a ≤ S65544x128.size a := fun v165 k0_hw13 => k0_hw13

def k0_off40 (v167 : BitVec 32) : Fin 2 → Nat :=
  let v170 : Index := Scalar.indexCast v167
  let c0_39 : Index := 0#32
  ![v170.toNat, 0]

def k0_chk14 (v167 : BitVec 32) : Prop :=
  (∀ a, (k0_off40 v167) a + S8x128.size a ≤ S65544x128.size a)
theorem k0_off40_inb : ∀ (v167 : BitVec 32) (k0_hw14 : k0_chk14 v167), ∀ a, (k0_off40 v167) a + S8x128.size a ≤ S65544x128.size a := fun v167 k0_hw14 => k0_hw14

def k0_off41 (k0_t1 : Fin k0_t1_loop.trips) : Fin 2 → Nat :=
  let c0_i32 : BitVec 32 := 0#32
  let c1_i32 : BitVec 32 := 1#32
  let arg5 : BitVec 32 := Scf.iv c0_i32 c1_i32 k0_t1
  let v179 : Index := Scalar.indexCast arg5
  let c10_42 : Index := 10#32
  ![v179.toNat, 10]
def k0_off42 (k0_t1 : Fin k0_t1_loop.trips) : Fin 2 → Nat :=
  let c0_i32 : BitVec 32 := 0#32
  let c1_i32 : BitVec 32 := 1#32
  let arg5 : BitVec 32 := Scf.iv c0_i32 c1_i32 k0_t1
  let v181 : Index := Scalar.indexCast arg5
  let c14_43 : Index := 14#32
  ![v181.toNat, 14]
def k0_off43 (k0_t1 : Fin k0_t1_loop.trips) : Fin 2 → Nat :=
  let c0_i32 : BitVec 32 := 0#32
  let c1_i32 : BitVec 32 := 1#32
  let arg5 : BitVec 32 := Scf.iv c0_i32 c1_i32 k0_t1
  let v190 : Index := Scalar.indexCast arg5
  let c11 : Index := 11#32
  ![v190.toNat, 11]
def k0_off44 (k0_t1 : Fin k0_t1_loop.trips) : Fin 2 → Nat :=
  let c0_i32 : BitVec 32 := 0#32
  let c1_i32 : BitVec 32 := 1#32
  let arg5 : BitVec 32 := Scf.iv c0_i32 c1_i32 k0_t1
  let v192 : Index := Scalar.indexCast arg5
  let c15 : Index := 15#32
  ![v192.toNat, 15]
def k0_off45 (v191 : BitVec 32) : Fin 2 → Nat :=
  let v194 : Index := Scalar.indexCast v191
  let c0_44 : Index := 0#32
  ![v194.toNat, 0]

def k0_chk15 (v191 : BitVec 32) : Prop :=
  (∀ a, (k0_off45 v191) a + S8x128.size a ≤ S65544x128.size a)
theorem k0_off45_inb : ∀ (v191 : BitVec 32) (k0_hw15 : k0_chk15 v191), ∀ a, (k0_off45 v191) a + S8x128.size a ≤ S65544x128.size a := fun v191 k0_hw15 => k0_hw15

def k0_off46 (v193 : BitVec 32) : Fin 2 → Nat :=
  let v196 : Index := Scalar.indexCast v193
  let c0_45 : Index := 0#32
  ![v196.toNat, 0]

def k0_chk16 (v193 : BitVec 32) : Prop :=
  (∀ a, (k0_off46 v193) a + S8x128.size a ≤ S65544x128.size a)
theorem k0_off46_inb : ∀ (v193 : BitVec 32) (k0_hw16 : k0_chk16 v193), ∀ a, (k0_off46 v193) a + S8x128.size a ≤ S65544x128.size a := fun v193 k0_hw16 => k0_hw16

def k0_off47 (k0_t1 : Fin k0_t1_loop.trips) : Fin 2 → Nat :=
  let c0_i32 : BitVec 32 := 0#32
  let c1_i32 : BitVec 32 := 1#32
  let arg5 : BitVec 32 := Scf.iv c0_i32 c1_i32 k0_t1
  let v205 : Index := Scalar.indexCast arg5
  let c11_48 : Index := 11#32
  ![v205.toNat, 11]
def k0_off48 (k0_t1 : Fin k0_t1_loop.trips) : Fin 2 → Nat :=
  let c0_i32 : BitVec 32 := 0#32
  let c1_i32 : BitVec 32 := 1#32
  let arg5 : BitVec 32 := Scf.iv c0_i32 c1_i32 k0_t1
  let v207 : Index := Scalar.indexCast arg5
  let c15_49 : Index := 15#32
  ![v207.toNat, 15]
def k0_off49 (k0_t1 : Fin k0_t1_loop.trips) : Fin 2 → Nat :=
  let c0_i32 : BitVec 32 := 0#32
  let c1_i32 : BitVec 32 := 1#32
  let arg5 : BitVec 32 := Scf.iv c0_i32 c1_i32 k0_t1
  let v216 : Index := Scalar.indexCast arg5
  let c16 : Index := 16#32
  ![v216.toNat, 16]
def k0_off50 (k0_t1 : Fin k0_t1_loop.trips) : Fin 2 → Nat :=
  let c0_i32 : BitVec 32 := 0#32
  let c1_i32 : BitVec 32 := 1#32
  let arg5 : BitVec 32 := Scf.iv c0_i32 c1_i32 k0_t1
  let v218 : Index := Scalar.indexCast arg5
  let c20 : Index := 20#32
  ![v218.toNat, 20]
def k0_off51 (v217 : BitVec 32) : Fin 2 → Nat :=
  let v220 : Index := Scalar.indexCast v217
  let c0_50 : Index := 0#32
  ![v220.toNat, 0]

def k0_chk17 (v217 : BitVec 32) : Prop :=
  (∀ a, (k0_off51 v217) a + S8x128.size a ≤ S65544x128.size a)
theorem k0_off51_inb : ∀ (v217 : BitVec 32) (k0_hw17 : k0_chk17 v217), ∀ a, (k0_off51 v217) a + S8x128.size a ≤ S65544x128.size a := fun v217 k0_hw17 => k0_hw17

def k0_off52 (v219 : BitVec 32) : Fin 2 → Nat :=
  let v222 : Index := Scalar.indexCast v219
  let c0_51 : Index := 0#32
  ![v222.toNat, 0]

def k0_chk18 (v219 : BitVec 32) : Prop :=
  (∀ a, (k0_off52 v219) a + S8x128.size a ≤ S65544x128.size a)
theorem k0_off52_inb : ∀ (v219 : BitVec 32) (k0_hw18 : k0_chk18 v219), ∀ a, (k0_off52 v219) a + S8x128.size a ≤ S65544x128.size a := fun v219 k0_hw18 => k0_hw18

def k0_off53 (k0_t1 : Fin k0_t1_loop.trips) : Fin 2 → Nat :=
  let c0_i32 : BitVec 32 := 0#32
  let c1_i32 : BitVec 32 := 1#32
  let arg5 : BitVec 32 := Scf.iv c0_i32 c1_i32 k0_t1
  let v231 : Index := Scalar.indexCast arg5
  let c16_54 : Index := 16#32
  ![v231.toNat, 16]
def k0_off54 (k0_t1 : Fin k0_t1_loop.trips) : Fin 2 → Nat :=
  let c0_i32 : BitVec 32 := 0#32
  let c1_i32 : BitVec 32 := 1#32
  let arg5 : BitVec 32 := Scf.iv c0_i32 c1_i32 k0_t1
  let v233 : Index := Scalar.indexCast arg5
  let c20_55 : Index := 20#32
  ![v233.toNat, 20]
def k0_off55 (k0_t1 : Fin k0_t1_loop.trips) : Fin 2 → Nat :=
  let c0_i32 : BitVec 32 := 0#32
  let c1_i32 : BitVec 32 := 1#32
  let arg5 : BitVec 32 := Scf.iv c0_i32 c1_i32 k0_t1
  let v242 : Index := Scalar.indexCast arg5
  let c17 : Index := 17#32
  ![v242.toNat, 17]
def k0_off56 (k0_t1 : Fin k0_t1_loop.trips) : Fin 2 → Nat :=
  let c0_i32 : BitVec 32 := 0#32
  let c1_i32 : BitVec 32 := 1#32
  let arg5 : BitVec 32 := Scf.iv c0_i32 c1_i32 k0_t1
  let v244 : Index := Scalar.indexCast arg5
  let c21 : Index := 21#32
  ![v244.toNat, 21]
def k0_off57 (v243 : BitVec 32) : Fin 2 → Nat :=
  let v246 : Index := Scalar.indexCast v243
  let c0_56 : Index := 0#32
  ![v246.toNat, 0]

def k0_chk19 (v243 : BitVec 32) : Prop :=
  (∀ a, (k0_off57 v243) a + S8x128.size a ≤ S65544x128.size a)
theorem k0_off57_inb : ∀ (v243 : BitVec 32) (k0_hw19 : k0_chk19 v243), ∀ a, (k0_off57 v243) a + S8x128.size a ≤ S65544x128.size a := fun v243 k0_hw19 => k0_hw19

def k0_off58 (v245 : BitVec 32) : Fin 2 → Nat :=
  let v248 : Index := Scalar.indexCast v245
  let c0_57 : Index := 0#32
  ![v248.toNat, 0]

def k0_chk20 (v245 : BitVec 32) : Prop :=
  (∀ a, (k0_off58 v245) a + S8x128.size a ≤ S65544x128.size a)
theorem k0_off58_inb : ∀ (v245 : BitVec 32) (k0_hw20 : k0_chk20 v245), ∀ a, (k0_off58 v245) a + S8x128.size a ≤ S65544x128.size a := fun v245 k0_hw20 => k0_hw20

def k0_off59 (k0_t1 : Fin k0_t1_loop.trips) : Fin 2 → Nat :=
  let c0_i32 : BitVec 32 := 0#32
  let c1_i32 : BitVec 32 := 1#32
  let arg5 : BitVec 32 := Scf.iv c0_i32 c1_i32 k0_t1
  let v257 : Index := Scalar.indexCast arg5
  let c17_60 : Index := 17#32
  ![v257.toNat, 17]
def k0_off60 (k0_t1 : Fin k0_t1_loop.trips) : Fin 2 → Nat :=
  let c0_i32 : BitVec 32 := 0#32
  let c1_i32 : BitVec 32 := 1#32
  let arg5 : BitVec 32 := Scf.iv c0_i32 c1_i32 k0_t1
  let v259 : Index := Scalar.indexCast arg5
  let c21_61 : Index := 21#32
  ![v259.toNat, 21]
def k0_off61 (k0_t1 : Fin k0_t1_loop.trips) : Fin 2 → Nat :=
  let c0_i32 : BitVec 32 := 0#32
  let c1_i32 : BitVec 32 := 1#32
  let arg5 : BitVec 32 := Scf.iv c0_i32 c1_i32 k0_t1
  let v268 : Index := Scalar.indexCast arg5
  let c18 : Index := 18#32
  ![v268.toNat, 18]
def k0_off62 (k0_t1 : Fin k0_t1_loop.trips) : Fin 2 → Nat :=
  let c0_i32 : BitVec 32 := 0#32
  let c1_i32 : BitVec 32 := 1#32
  let arg5 : BitVec 32 := Scf.iv c0_i32 c1_i32 k0_t1
  let v270 : Index := Scalar.indexCast arg5
  let c22 : Index := 22#32
  ![v270.toNat, 22]
def k0_off63 (v269 : BitVec 32) : Fin 2 → Nat :=
  let v272 : Index := Scalar.indexCast v269
  let c0_62 : Index := 0#32
  ![v272.toNat, 0]

def k0_chk21 (v269 : BitVec 32) : Prop :=
  (∀ a, (k0_off63 v269) a + S8x128.size a ≤ S65544x128.size a)
theorem k0_off63_inb : ∀ (v269 : BitVec 32) (k0_hw21 : k0_chk21 v269), ∀ a, (k0_off63 v269) a + S8x128.size a ≤ S65544x128.size a := fun v269 k0_hw21 => k0_hw21

def k0_off64 (v271 : BitVec 32) : Fin 2 → Nat :=
  let v274 : Index := Scalar.indexCast v271
  let c0_63 : Index := 0#32
  ![v274.toNat, 0]

def k0_chk22 (v271 : BitVec 32) : Prop :=
  (∀ a, (k0_off64 v271) a + S8x128.size a ≤ S65544x128.size a)
theorem k0_off64_inb : ∀ (v271 : BitVec 32) (k0_hw22 : k0_chk22 v271), ∀ a, (k0_off64 v271) a + S8x128.size a ≤ S65544x128.size a := fun v271 k0_hw22 => k0_hw22

def k0_off65 (k0_t1 : Fin k0_t1_loop.trips) : Fin 2 → Nat :=
  let c0_i32 : BitVec 32 := 0#32
  let c1_i32 : BitVec 32 := 1#32
  let arg5 : BitVec 32 := Scf.iv c0_i32 c1_i32 k0_t1
  let v283 : Index := Scalar.indexCast arg5
  let c18_66 : Index := 18#32
  ![v283.toNat, 18]
def k0_off66 (k0_t1 : Fin k0_t1_loop.trips) : Fin 2 → Nat :=
  let c0_i32 : BitVec 32 := 0#32
  let c1_i32 : BitVec 32 := 1#32
  let arg5 : BitVec 32 := Scf.iv c0_i32 c1_i32 k0_t1
  let v285 : Index := Scalar.indexCast arg5
  let c22_67 : Index := 22#32
  ![v285.toNat, 22]
def k0_off67 (k0_t1 : Fin k0_t1_loop.trips) : Fin 2 → Nat :=
  let c0_i32 : BitVec 32 := 0#32
  let c1_i32 : BitVec 32 := 1#32
  let arg5 : BitVec 32 := Scf.iv c0_i32 c1_i32 k0_t1
  let v294 : Index := Scalar.indexCast arg5
  let c19 : Index := 19#32
  ![v294.toNat, 19]
def k0_off68 (k0_t1 : Fin k0_t1_loop.trips) : Fin 2 → Nat :=
  let c0_i32 : BitVec 32 := 0#32
  let c1_i32 : BitVec 32 := 1#32
  let arg5 : BitVec 32 := Scf.iv c0_i32 c1_i32 k0_t1
  let v296 : Index := Scalar.indexCast arg5
  let c23 : Index := 23#32
  ![v296.toNat, 23]
def k0_off69 (v295 : BitVec 32) : Fin 2 → Nat :=
  let v298 : Index := Scalar.indexCast v295
  let c0_68 : Index := 0#32
  ![v298.toNat, 0]

def k0_chk23 (v295 : BitVec 32) : Prop :=
  (∀ a, (k0_off69 v295) a + S8x128.size a ≤ S65544x128.size a)
theorem k0_off69_inb : ∀ (v295 : BitVec 32) (k0_hw23 : k0_chk23 v295), ∀ a, (k0_off69 v295) a + S8x128.size a ≤ S65544x128.size a := fun v295 k0_hw23 => k0_hw23

def k0_off70 (v297 : BitVec 32) : Fin 2 → Nat :=
  let v300 : Index := Scalar.indexCast v297
  let c0_69 : Index := 0#32
  ![v300.toNat, 0]

def k0_chk24 (v297 : BitVec 32) : Prop :=
  (∀ a, (k0_off70 v297) a + S8x128.size a ≤ S65544x128.size a)
theorem k0_off70_inb : ∀ (v297 : BitVec 32) (k0_hw24 : k0_chk24 v297), ∀ a, (k0_off70 v297) a + S8x128.size a ≤ S65544x128.size a := fun v297 k0_hw24 => k0_hw24

def k0_off71 (k0_t1 : Fin k0_t1_loop.trips) : Fin 2 → Nat :=
  let c0_i32 : BitVec 32 := 0#32
  let c1_i32 : BitVec 32 := 1#32
  let arg5 : BitVec 32 := Scf.iv c0_i32 c1_i32 k0_t1
  let v309 : Index := Scalar.indexCast arg5
  let c19_72 : Index := 19#32
  ![v309.toNat, 19]
def k0_off72 (k0_t1 : Fin k0_t1_loop.trips) : Fin 2 → Nat :=
  let c0_i32 : BitVec 32 := 0#32
  let c1_i32 : BitVec 32 := 1#32
  let arg5 : BitVec 32 := Scf.iv c0_i32 c1_i32 k0_t1
  let v311 : Index := Scalar.indexCast arg5
  let c23_73 : Index := 23#32
  ![v311.toNat, 23]
def k0_off73 (k0_t1 : Fin k0_t1_loop.trips) : Fin 2 → Nat :=
  let c0_i32 : BitVec 32 := 0#32
  let c1_i32 : BitVec 32 := 1#32
  let arg5 : BitVec 32 := Scf.iv c0_i32 c1_i32 k0_t1
  let v320 : Index := Scalar.indexCast arg5
  let c24 : Index := 24#32
  ![v320.toNat, 24]
def k0_off74 (k0_t1 : Fin k0_t1_loop.trips) : Fin 2 → Nat :=
  let c0_i32 : BitVec 32 := 0#32
  let c1_i32 : BitVec 32 := 1#32
  let arg5 : BitVec 32 := Scf.iv c0_i32 c1_i32 k0_t1
  let v322 : Index := Scalar.indexCast arg5
  let c28 : Index := 28#32
  ![v322.toNat, 28]
def k0_off75 (v321 : BitVec 32) : Fin 2 → Nat :=
  let v324 : Index := Scalar.indexCast v321
  let c0_74 : Index := 0#32
  ![v324.toNat, 0]

def k0_chk25 (v321 : BitVec 32) : Prop :=
  (∀ a, (k0_off75 v321) a + S8x128.size a ≤ S65544x128.size a)
theorem k0_off75_inb : ∀ (v321 : BitVec 32) (k0_hw25 : k0_chk25 v321), ∀ a, (k0_off75 v321) a + S8x128.size a ≤ S65544x128.size a := fun v321 k0_hw25 => k0_hw25

def k0_off76 (v323 : BitVec 32) : Fin 2 → Nat :=
  let v326 : Index := Scalar.indexCast v323
  let c0_75 : Index := 0#32
  ![v326.toNat, 0]

def k0_chk26 (v323 : BitVec 32) : Prop :=
  (∀ a, (k0_off76 v323) a + S8x128.size a ≤ S65544x128.size a)
theorem k0_off76_inb : ∀ (v323 : BitVec 32) (k0_hw26 : k0_chk26 v323), ∀ a, (k0_off76 v323) a + S8x128.size a ≤ S65544x128.size a := fun v323 k0_hw26 => k0_hw26

def k0_off77 (k0_t1 : Fin k0_t1_loop.trips) : Fin 2 → Nat :=
  let c0_i32 : BitVec 32 := 0#32
  let c1_i32 : BitVec 32 := 1#32
  let arg5 : BitVec 32 := Scf.iv c0_i32 c1_i32 k0_t1
  let v335 : Index := Scalar.indexCast arg5
  let c24_78 : Index := 24#32
  ![v335.toNat, 24]
def k0_off78 (k0_t1 : Fin k0_t1_loop.trips) : Fin 2 → Nat :=
  let c0_i32 : BitVec 32 := 0#32
  let c1_i32 : BitVec 32 := 1#32
  let arg5 : BitVec 32 := Scf.iv c0_i32 c1_i32 k0_t1
  let v337 : Index := Scalar.indexCast arg5
  let c28_79 : Index := 28#32
  ![v337.toNat, 28]
def k0_off79 (k0_t1 : Fin k0_t1_loop.trips) : Fin 2 → Nat :=
  let c0_i32 : BitVec 32 := 0#32
  let c1_i32 : BitVec 32 := 1#32
  let arg5 : BitVec 32 := Scf.iv c0_i32 c1_i32 k0_t1
  let v346 : Index := Scalar.indexCast arg5
  let c25 : Index := 25#32
  ![v346.toNat, 25]
def k0_off80 (k0_t1 : Fin k0_t1_loop.trips) : Fin 2 → Nat :=
  let c0_i32 : BitVec 32 := 0#32
  let c1_i32 : BitVec 32 := 1#32
  let arg5 : BitVec 32 := Scf.iv c0_i32 c1_i32 k0_t1
  let v348 : Index := Scalar.indexCast arg5
  let c29 : Index := 29#32
  ![v348.toNat, 29]
def k0_off81 (v347 : BitVec 32) : Fin 2 → Nat :=
  let v350 : Index := Scalar.indexCast v347
  let c0_80 : Index := 0#32
  ![v350.toNat, 0]

def k0_chk27 (v347 : BitVec 32) : Prop :=
  (∀ a, (k0_off81 v347) a + S8x128.size a ≤ S65544x128.size a)
theorem k0_off81_inb : ∀ (v347 : BitVec 32) (k0_hw27 : k0_chk27 v347), ∀ a, (k0_off81 v347) a + S8x128.size a ≤ S65544x128.size a := fun v347 k0_hw27 => k0_hw27

def k0_off82 (v349 : BitVec 32) : Fin 2 → Nat :=
  let v352 : Index := Scalar.indexCast v349
  let c0_81 : Index := 0#32
  ![v352.toNat, 0]

def k0_chk28 (v349 : BitVec 32) : Prop :=
  (∀ a, (k0_off82 v349) a + S8x128.size a ≤ S65544x128.size a)
theorem k0_off82_inb : ∀ (v349 : BitVec 32) (k0_hw28 : k0_chk28 v349), ∀ a, (k0_off82 v349) a + S8x128.size a ≤ S65544x128.size a := fun v349 k0_hw28 => k0_hw28

def k0_off83 (k0_t1 : Fin k0_t1_loop.trips) : Fin 2 → Nat :=
  let c0_i32 : BitVec 32 := 0#32
  let c1_i32 : BitVec 32 := 1#32
  let arg5 : BitVec 32 := Scf.iv c0_i32 c1_i32 k0_t1
  let v361 : Index := Scalar.indexCast arg5
  let c25_84 : Index := 25#32
  ![v361.toNat, 25]
def k0_off84 (k0_t1 : Fin k0_t1_loop.trips) : Fin 2 → Nat :=
  let c0_i32 : BitVec 32 := 0#32
  let c1_i32 : BitVec 32 := 1#32
  let arg5 : BitVec 32 := Scf.iv c0_i32 c1_i32 k0_t1
  let v363 : Index := Scalar.indexCast arg5
  let c29_85 : Index := 29#32
  ![v363.toNat, 29]
def k0_off85 (k0_t1 : Fin k0_t1_loop.trips) : Fin 2 → Nat :=
  let c0_i32 : BitVec 32 := 0#32
  let c1_i32 : BitVec 32 := 1#32
  let arg5 : BitVec 32 := Scf.iv c0_i32 c1_i32 k0_t1
  let v372 : Index := Scalar.indexCast arg5
  let c26 : Index := 26#32
  ![v372.toNat, 26]
def k0_off86 (k0_t1 : Fin k0_t1_loop.trips) : Fin 2 → Nat :=
  let c0_i32 : BitVec 32 := 0#32
  let c1_i32 : BitVec 32 := 1#32
  let arg5 : BitVec 32 := Scf.iv c0_i32 c1_i32 k0_t1
  let v374 : Index := Scalar.indexCast arg5
  let c30 : Index := 30#32
  ![v374.toNat, 30]
def k0_off87 (v373 : BitVec 32) : Fin 2 → Nat :=
  let v376 : Index := Scalar.indexCast v373
  let c0_86 : Index := 0#32
  ![v376.toNat, 0]

def k0_chk29 (v373 : BitVec 32) : Prop :=
  (∀ a, (k0_off87 v373) a + S8x128.size a ≤ S65544x128.size a)
theorem k0_off87_inb : ∀ (v373 : BitVec 32) (k0_hw29 : k0_chk29 v373), ∀ a, (k0_off87 v373) a + S8x128.size a ≤ S65544x128.size a := fun v373 k0_hw29 => k0_hw29

def k0_off88 (v375 : BitVec 32) : Fin 2 → Nat :=
  let v378 : Index := Scalar.indexCast v375
  let c0_87 : Index := 0#32
  ![v378.toNat, 0]

def k0_chk30 (v375 : BitVec 32) : Prop :=
  (∀ a, (k0_off88 v375) a + S8x128.size a ≤ S65544x128.size a)
theorem k0_off88_inb : ∀ (v375 : BitVec 32) (k0_hw30 : k0_chk30 v375), ∀ a, (k0_off88 v375) a + S8x128.size a ≤ S65544x128.size a := fun v375 k0_hw30 => k0_hw30

def k0_off89 (k0_t1 : Fin k0_t1_loop.trips) : Fin 2 → Nat :=
  let c0_i32 : BitVec 32 := 0#32
  let c1_i32 : BitVec 32 := 1#32
  let arg5 : BitVec 32 := Scf.iv c0_i32 c1_i32 k0_t1
  let v387 : Index := Scalar.indexCast arg5
  let c26_90 : Index := 26#32
  ![v387.toNat, 26]
def k0_off90 (k0_t1 : Fin k0_t1_loop.trips) : Fin 2 → Nat :=
  let c0_i32 : BitVec 32 := 0#32
  let c1_i32 : BitVec 32 := 1#32
  let arg5 : BitVec 32 := Scf.iv c0_i32 c1_i32 k0_t1
  let v389 : Index := Scalar.indexCast arg5
  let c30_91 : Index := 30#32
  ![v389.toNat, 30]
def k0_off91 (k0_t1 : Fin k0_t1_loop.trips) : Fin 2 → Nat :=
  let c0_i32 : BitVec 32 := 0#32
  let c1_i32 : BitVec 32 := 1#32
  let arg5 : BitVec 32 := Scf.iv c0_i32 c1_i32 k0_t1
  let v398 : Index := Scalar.indexCast arg5
  let c27 : Index := 27#32
  ![v398.toNat, 27]
def k0_off92 (k0_t1 : Fin k0_t1_loop.trips) : Fin 2 → Nat :=
  let c0_i32 : BitVec 32 := 0#32
  let c1_i32 : BitVec 32 := 1#32
  let arg5 : BitVec 32 := Scf.iv c0_i32 c1_i32 k0_t1
  let v400 : Index := Scalar.indexCast arg5
  let c31 : Index := 31#32
  ![v400.toNat, 31]
def k0_off93 (v399 : BitVec 32) : Fin 2 → Nat :=
  let v402 : Index := Scalar.indexCast v399
  let c0_92 : Index := 0#32
  ![v402.toNat, 0]

def k0_chk31 (v399 : BitVec 32) : Prop :=
  (∀ a, (k0_off93 v399) a + S8x128.size a ≤ S65544x128.size a)
theorem k0_off93_inb : ∀ (v399 : BitVec 32) (k0_hw31 : k0_chk31 v399), ∀ a, (k0_off93 v399) a + S8x128.size a ≤ S65544x128.size a := fun v399 k0_hw31 => k0_hw31

def k0_off94 (v401 : BitVec 32) : Fin 2 → Nat :=
  let v404 : Index := Scalar.indexCast v401
  let c0_93 : Index := 0#32
  ![v404.toNat, 0]

def k0_chk32 (v401 : BitVec 32) : Prop :=
  (∀ a, (k0_off94 v401) a + S8x128.size a ≤ S65544x128.size a)
theorem k0_off94_inb : ∀ (v401 : BitVec 32) (k0_hw32 : k0_chk32 v401), ∀ a, (k0_off94 v401) a + S8x128.size a ≤ S65544x128.size a := fun v401 k0_hw32 => k0_hw32

def k0_off95 (k0_t1 : Fin k0_t1_loop.trips) : Fin 2 → Nat :=
  let c0_i32 : BitVec 32 := 0#32
  let c1_i32 : BitVec 32 := 1#32
  let arg5 : BitVec 32 := Scf.iv c0_i32 c1_i32 k0_t1
  let v413 : Index := Scalar.indexCast arg5
  let c27_96 : Index := 27#32
  ![v413.toNat, 27]
def k0_off96 (k0_t1 : Fin k0_t1_loop.trips) : Fin 2 → Nat :=
  let c0_i32 : BitVec 32 := 0#32
  let c1_i32 : BitVec 32 := 1#32
  let arg5 : BitVec 32 := Scf.iv c0_i32 c1_i32 k0_t1
  let v415 : Index := Scalar.indexCast arg5
  let c31_97 : Index := 31#32
  ![v415.toNat, 31]
def k0_off97 (k0_t1 : Fin k0_t1_loop.trips) : Fin 2 → Nat :=
  let c0_i32 : BitVec 32 := 0#32
  let c1_i32 : BitVec 32 := 1#32
  let arg5 : BitVec 32 := Scf.iv c0_i32 c1_i32 k0_t1
  let v424 : Index := Scalar.indexCast arg5
  let c32 : Index := 32#32
  ![v424.toNat, 32]
def k0_off98 (k0_t1 : Fin k0_t1_loop.trips) : Fin 2 → Nat :=
  let c0_i32 : BitVec 32 := 0#32
  let c1_i32 : BitVec 32 := 1#32
  let arg5 : BitVec 32 := Scf.iv c0_i32 c1_i32 k0_t1
  let v426 : Index := Scalar.indexCast arg5
  let c36 : Index := 36#32
  ![v426.toNat, 36]
def k0_off99 (v425 : BitVec 32) : Fin 2 → Nat :=
  let v428 : Index := Scalar.indexCast v425
  let c0_98 : Index := 0#32
  ![v428.toNat, 0]

def k0_chk33 (v425 : BitVec 32) : Prop :=
  (∀ a, (k0_off99 v425) a + S8x128.size a ≤ S65544x128.size a)
theorem k0_off99_inb : ∀ (v425 : BitVec 32) (k0_hw33 : k0_chk33 v425), ∀ a, (k0_off99 v425) a + S8x128.size a ≤ S65544x128.size a := fun v425 k0_hw33 => k0_hw33

def k0_off100 (v427 : BitVec 32) : Fin 2 → Nat :=
  let v430 : Index := Scalar.indexCast v427
  let c0_99 : Index := 0#32
  ![v430.toNat, 0]

def k0_chk34 (v427 : BitVec 32) : Prop :=
  (∀ a, (k0_off100 v427) a + S8x128.size a ≤ S65544x128.size a)
theorem k0_off100_inb : ∀ (v427 : BitVec 32) (k0_hw34 : k0_chk34 v427), ∀ a, (k0_off100 v427) a + S8x128.size a ≤ S65544x128.size a := fun v427 k0_hw34 => k0_hw34

def k0_off101 (k0_t1 : Fin k0_t1_loop.trips) : Fin 2 → Nat :=
  let c0_i32 : BitVec 32 := 0#32
  let c1_i32 : BitVec 32 := 1#32
  let arg5 : BitVec 32 := Scf.iv c0_i32 c1_i32 k0_t1
  let v439 : Index := Scalar.indexCast arg5
  let c32_102 : Index := 32#32
  ![v439.toNat, 32]
def k0_off102 (k0_t1 : Fin k0_t1_loop.trips) : Fin 2 → Nat :=
  let c0_i32 : BitVec 32 := 0#32
  let c1_i32 : BitVec 32 := 1#32
  let arg5 : BitVec 32 := Scf.iv c0_i32 c1_i32 k0_t1
  let v441 : Index := Scalar.indexCast arg5
  let c36_103 : Index := 36#32
  ![v441.toNat, 36]
def k0_off103 (k0_t1 : Fin k0_t1_loop.trips) : Fin 2 → Nat :=
  let c0_i32 : BitVec 32 := 0#32
  let c1_i32 : BitVec 32 := 1#32
  let arg5 : BitVec 32 := Scf.iv c0_i32 c1_i32 k0_t1
  let v450 : Index := Scalar.indexCast arg5
  let c33 : Index := 33#32
  ![v450.toNat, 33]
def k0_off104 (k0_t1 : Fin k0_t1_loop.trips) : Fin 2 → Nat :=
  let c0_i32 : BitVec 32 := 0#32
  let c1_i32 : BitVec 32 := 1#32
  let arg5 : BitVec 32 := Scf.iv c0_i32 c1_i32 k0_t1
  let v452 : Index := Scalar.indexCast arg5
  let c37 : Index := 37#32
  ![v452.toNat, 37]
def k0_off105 (v451 : BitVec 32) : Fin 2 → Nat :=
  let v454 : Index := Scalar.indexCast v451
  let c0_104 : Index := 0#32
  ![v454.toNat, 0]

def k0_chk35 (v451 : BitVec 32) : Prop :=
  (∀ a, (k0_off105 v451) a + S8x128.size a ≤ S65544x128.size a)
theorem k0_off105_inb : ∀ (v451 : BitVec 32) (k0_hw35 : k0_chk35 v451), ∀ a, (k0_off105 v451) a + S8x128.size a ≤ S65544x128.size a := fun v451 k0_hw35 => k0_hw35

def k0_off106 (v453 : BitVec 32) : Fin 2 → Nat :=
  let v456 : Index := Scalar.indexCast v453
  let c0_105 : Index := 0#32
  ![v456.toNat, 0]

def k0_chk36 (v453 : BitVec 32) : Prop :=
  (∀ a, (k0_off106 v453) a + S8x128.size a ≤ S65544x128.size a)
theorem k0_off106_inb : ∀ (v453 : BitVec 32) (k0_hw36 : k0_chk36 v453), ∀ a, (k0_off106 v453) a + S8x128.size a ≤ S65544x128.size a := fun v453 k0_hw36 => k0_hw36

def k0_off107 (k0_t1 : Fin k0_t1_loop.trips) : Fin 2 → Nat :=
  let c0_i32 : BitVec 32 := 0#32
  let c1_i32 : BitVec 32 := 1#32
  let arg5 : BitVec 32 := Scf.iv c0_i32 c1_i32 k0_t1
  let v465 : Index := Scalar.indexCast arg5
  let c33_108 : Index := 33#32
  ![v465.toNat, 33]
def k0_off108 (k0_t1 : Fin k0_t1_loop.trips) : Fin 2 → Nat :=
  let c0_i32 : BitVec 32 := 0#32
  let c1_i32 : BitVec 32 := 1#32
  let arg5 : BitVec 32 := Scf.iv c0_i32 c1_i32 k0_t1
  let v467 : Index := Scalar.indexCast arg5
  let c37_109 : Index := 37#32
  ![v467.toNat, 37]
def k0_off109 (k0_t1 : Fin k0_t1_loop.trips) : Fin 2 → Nat :=
  let c0_i32 : BitVec 32 := 0#32
  let c1_i32 : BitVec 32 := 1#32
  let arg5 : BitVec 32 := Scf.iv c0_i32 c1_i32 k0_t1
  let v476 : Index := Scalar.indexCast arg5
  let c34 : Index := 34#32
  ![v476.toNat, 34]
def k0_off110 (k0_t1 : Fin k0_t1_loop.trips) : Fin 2 → Nat :=
  let c0_i32 : BitVec 32 := 0#32
  let c1_i32 : BitVec 32 := 1#32
  let arg5 : BitVec 32 := Scf.iv c0_i32 c1_i32 k0_t1
  let v478 : Index := Scalar.indexCast arg5
  let c38 : Index := 38#32
  ![v478.toNat, 38]
def k0_off111 (v477 : BitVec 32) : Fin 2 → Nat :=
  let v480 : Index := Scalar.indexCast v477
  let c0_110 : Index := 0#32
  ![v480.toNat, 0]

def k0_chk37 (v477 : BitVec 32) : Prop :=
  (∀ a, (k0_off111 v477) a + S8x128.size a ≤ S65544x128.size a)
theorem k0_off111_inb : ∀ (v477 : BitVec 32) (k0_hw37 : k0_chk37 v477), ∀ a, (k0_off111 v477) a + S8x128.size a ≤ S65544x128.size a := fun v477 k0_hw37 => k0_hw37

def k0_off112 (v479 : BitVec 32) : Fin 2 → Nat :=
  let v482 : Index := Scalar.indexCast v479
  let c0_111 : Index := 0#32
  ![v482.toNat, 0]

def k0_chk38 (v479 : BitVec 32) : Prop :=
  (∀ a, (k0_off112 v479) a + S8x128.size a ≤ S65544x128.size a)
theorem k0_off112_inb : ∀ (v479 : BitVec 32) (k0_hw38 : k0_chk38 v479), ∀ a, (k0_off112 v479) a + S8x128.size a ≤ S65544x128.size a := fun v479 k0_hw38 => k0_hw38

def k0_off113 (k0_t1 : Fin k0_t1_loop.trips) : Fin 2 → Nat :=
  let c0_i32 : BitVec 32 := 0#32
  let c1_i32 : BitVec 32 := 1#32
  let arg5 : BitVec 32 := Scf.iv c0_i32 c1_i32 k0_t1
  let v491 : Index := Scalar.indexCast arg5
  let c34_114 : Index := 34#32
  ![v491.toNat, 34]
def k0_off114 (k0_t1 : Fin k0_t1_loop.trips) : Fin 2 → Nat :=
  let c0_i32 : BitVec 32 := 0#32
  let c1_i32 : BitVec 32 := 1#32
  let arg5 : BitVec 32 := Scf.iv c0_i32 c1_i32 k0_t1
  let v493 : Index := Scalar.indexCast arg5
  let c38_115 : Index := 38#32
  ![v493.toNat, 38]
def k0_off115 (k0_t1 : Fin k0_t1_loop.trips) : Fin 2 → Nat :=
  let c0_i32 : BitVec 32 := 0#32
  let c1_i32 : BitVec 32 := 1#32
  let arg5 : BitVec 32 := Scf.iv c0_i32 c1_i32 k0_t1
  let v502 : Index := Scalar.indexCast arg5
  let c35 : Index := 35#32
  ![v502.toNat, 35]
def k0_off116 (k0_t1 : Fin k0_t1_loop.trips) : Fin 2 → Nat :=
  let c0_i32 : BitVec 32 := 0#32
  let c1_i32 : BitVec 32 := 1#32
  let arg5 : BitVec 32 := Scf.iv c0_i32 c1_i32 k0_t1
  let v504 : Index := Scalar.indexCast arg5
  let c39 : Index := 39#32
  ![v504.toNat, 39]
def k0_off117 (v503 : BitVec 32) : Fin 2 → Nat :=
  let v506 : Index := Scalar.indexCast v503
  let c0_116 : Index := 0#32
  ![v506.toNat, 0]

def k0_chk39 (v503 : BitVec 32) : Prop :=
  (∀ a, (k0_off117 v503) a + S8x128.size a ≤ S65544x128.size a)
theorem k0_off117_inb : ∀ (v503 : BitVec 32) (k0_hw39 : k0_chk39 v503), ∀ a, (k0_off117 v503) a + S8x128.size a ≤ S65544x128.size a := fun v503 k0_hw39 => k0_hw39

def k0_off118 (v505 : BitVec 32) : Fin 2 → Nat :=
  let v508 : Index := Scalar.indexCast v505
  let c0_117 : Index := 0#32
  ![v508.toNat, 0]

def k0_chk40 (v505 : BitVec 32) : Prop :=
  (∀ a, (k0_off118 v505) a + S8x128.size a ≤ S65544x128.size a)
theorem k0_off118_inb : ∀ (v505 : BitVec 32) (k0_hw40 : k0_chk40 v505), ∀ a, (k0_off118 v505) a + S8x128.size a ≤ S65544x128.size a := fun v505 k0_hw40 => k0_hw40

def k0_off119 (k0_t1 : Fin k0_t1_loop.trips) : Fin 2 → Nat :=
  let c0_i32 : BitVec 32 := 0#32
  let c1_i32 : BitVec 32 := 1#32
  let arg5 : BitVec 32 := Scf.iv c0_i32 c1_i32 k0_t1
  let v517 : Index := Scalar.indexCast arg5
  let c35_120 : Index := 35#32
  ![v517.toNat, 35]
def k0_off120 (k0_t1 : Fin k0_t1_loop.trips) : Fin 2 → Nat :=
  let c0_i32 : BitVec 32 := 0#32
  let c1_i32 : BitVec 32 := 1#32
  let arg5 : BitVec 32 := Scf.iv c0_i32 c1_i32 k0_t1
  let v519 : Index := Scalar.indexCast arg5
  let c39_121 : Index := 39#32
  ![v519.toNat, 39]
def k0_off121 (k0_t1 : Fin k0_t1_loop.trips) : Fin 2 → Nat :=
  let c0_i32 : BitVec 32 := 0#32
  let c1_i32 : BitVec 32 := 1#32
  let arg5 : BitVec 32 := Scf.iv c0_i32 c1_i32 k0_t1
  let v528 : Index := Scalar.indexCast arg5
  let c40 : Index := 40#32
  ![v528.toNat, 40]
def k0_off122 (k0_t1 : Fin k0_t1_loop.trips) : Fin 2 → Nat :=
  let c0_i32 : BitVec 32 := 0#32
  let c1_i32 : BitVec 32 := 1#32
  let arg5 : BitVec 32 := Scf.iv c0_i32 c1_i32 k0_t1
  let v530 : Index := Scalar.indexCast arg5
  let c44 : Index := 44#32
  ![v530.toNat, 44]
def k0_off123 (v529 : BitVec 32) : Fin 2 → Nat :=
  let v532 : Index := Scalar.indexCast v529
  let c0_122 : Index := 0#32
  ![v532.toNat, 0]

def k0_chk41 (v529 : BitVec 32) : Prop :=
  (∀ a, (k0_off123 v529) a + S8x128.size a ≤ S65544x128.size a)
theorem k0_off123_inb : ∀ (v529 : BitVec 32) (k0_hw41 : k0_chk41 v529), ∀ a, (k0_off123 v529) a + S8x128.size a ≤ S65544x128.size a := fun v529 k0_hw41 => k0_hw41

def k0_off124 (v531 : BitVec 32) : Fin 2 → Nat :=
  let v534 : Index := Scalar.indexCast v531
  let c0_123 : Index := 0#32
  ![v534.toNat, 0]

def k0_chk42 (v531 : BitVec 32) : Prop :=
  (∀ a, (k0_off124 v531) a + S8x128.size a ≤ S65544x128.size a)
theorem k0_off124_inb : ∀ (v531 : BitVec 32) (k0_hw42 : k0_chk42 v531), ∀ a, (k0_off124 v531) a + S8x128.size a ≤ S65544x128.size a := fun v531 k0_hw42 => k0_hw42

def k0_off125 (k0_t1 : Fin k0_t1_loop.trips) : Fin 2 → Nat :=
  let c0_i32 : BitVec 32 := 0#32
  let c1_i32 : BitVec 32 := 1#32
  let arg5 : BitVec 32 := Scf.iv c0_i32 c1_i32 k0_t1
  let v543 : Index := Scalar.indexCast arg5
  let c40_126 : Index := 40#32
  ![v543.toNat, 40]
def k0_off126 (k0_t1 : Fin k0_t1_loop.trips) : Fin 2 → Nat :=
  let c0_i32 : BitVec 32 := 0#32
  let c1_i32 : BitVec 32 := 1#32
  let arg5 : BitVec 32 := Scf.iv c0_i32 c1_i32 k0_t1
  let v545 : Index := Scalar.indexCast arg5
  let c44_127 : Index := 44#32
  ![v545.toNat, 44]
def k0_off127 (k0_t1 : Fin k0_t1_loop.trips) : Fin 2 → Nat :=
  let c0_i32 : BitVec 32 := 0#32
  let c1_i32 : BitVec 32 := 1#32
  let arg5 : BitVec 32 := Scf.iv c0_i32 c1_i32 k0_t1
  let v554 : Index := Scalar.indexCast arg5
  let c41 : Index := 41#32
  ![v554.toNat, 41]
def k0_off128 (k0_t1 : Fin k0_t1_loop.trips) : Fin 2 → Nat :=
  let c0_i32 : BitVec 32 := 0#32
  let c1_i32 : BitVec 32 := 1#32
  let arg5 : BitVec 32 := Scf.iv c0_i32 c1_i32 k0_t1
  let v556 : Index := Scalar.indexCast arg5
  let c45 : Index := 45#32
  ![v556.toNat, 45]
def k0_off129 (v555 : BitVec 32) : Fin 2 → Nat :=
  let v558 : Index := Scalar.indexCast v555
  let c0_128 : Index := 0#32
  ![v558.toNat, 0]

def k0_chk43 (v555 : BitVec 32) : Prop :=
  (∀ a, (k0_off129 v555) a + S8x128.size a ≤ S65544x128.size a)
theorem k0_off129_inb : ∀ (v555 : BitVec 32) (k0_hw43 : k0_chk43 v555), ∀ a, (k0_off129 v555) a + S8x128.size a ≤ S65544x128.size a := fun v555 k0_hw43 => k0_hw43

def k0_off130 (v557 : BitVec 32) : Fin 2 → Nat :=
  let v560 : Index := Scalar.indexCast v557
  let c0_129 : Index := 0#32
  ![v560.toNat, 0]

def k0_chk44 (v557 : BitVec 32) : Prop :=
  (∀ a, (k0_off130 v557) a + S8x128.size a ≤ S65544x128.size a)
theorem k0_off130_inb : ∀ (v557 : BitVec 32) (k0_hw44 : k0_chk44 v557), ∀ a, (k0_off130 v557) a + S8x128.size a ≤ S65544x128.size a := fun v557 k0_hw44 => k0_hw44

def k0_off131 (k0_t1 : Fin k0_t1_loop.trips) : Fin 2 → Nat :=
  let c0_i32 : BitVec 32 := 0#32
  let c1_i32 : BitVec 32 := 1#32
  let arg5 : BitVec 32 := Scf.iv c0_i32 c1_i32 k0_t1
  let v569 : Index := Scalar.indexCast arg5
  let c41_132 : Index := 41#32
  ![v569.toNat, 41]
def k0_off132 (k0_t1 : Fin k0_t1_loop.trips) : Fin 2 → Nat :=
  let c0_i32 : BitVec 32 := 0#32
  let c1_i32 : BitVec 32 := 1#32
  let arg5 : BitVec 32 := Scf.iv c0_i32 c1_i32 k0_t1
  let v571 : Index := Scalar.indexCast arg5
  let c45_133 : Index := 45#32
  ![v571.toNat, 45]
def k0_off133 (k0_t1 : Fin k0_t1_loop.trips) : Fin 2 → Nat :=
  let c0_i32 : BitVec 32 := 0#32
  let c1_i32 : BitVec 32 := 1#32
  let arg5 : BitVec 32 := Scf.iv c0_i32 c1_i32 k0_t1
  let v580 : Index := Scalar.indexCast arg5
  let c42 : Index := 42#32
  ![v580.toNat, 42]
def k0_off134 (k0_t1 : Fin k0_t1_loop.trips) : Fin 2 → Nat :=
  let c0_i32 : BitVec 32 := 0#32
  let c1_i32 : BitVec 32 := 1#32
  let arg5 : BitVec 32 := Scf.iv c0_i32 c1_i32 k0_t1
  let v582 : Index := Scalar.indexCast arg5
  let c46 : Index := 46#32
  ![v582.toNat, 46]
def k0_off135 (v581 : BitVec 32) : Fin 2 → Nat :=
  let v584 : Index := Scalar.indexCast v581
  let c0_134 : Index := 0#32
  ![v584.toNat, 0]

def k0_chk45 (v581 : BitVec 32) : Prop :=
  (∀ a, (k0_off135 v581) a + S8x128.size a ≤ S65544x128.size a)
theorem k0_off135_inb : ∀ (v581 : BitVec 32) (k0_hw45 : k0_chk45 v581), ∀ a, (k0_off135 v581) a + S8x128.size a ≤ S65544x128.size a := fun v581 k0_hw45 => k0_hw45

def k0_off136 (v583 : BitVec 32) : Fin 2 → Nat :=
  let v586 : Index := Scalar.indexCast v583
  let c0_135 : Index := 0#32
  ![v586.toNat, 0]

def k0_chk46 (v583 : BitVec 32) : Prop :=
  (∀ a, (k0_off136 v583) a + S8x128.size a ≤ S65544x128.size a)
theorem k0_off136_inb : ∀ (v583 : BitVec 32) (k0_hw46 : k0_chk46 v583), ∀ a, (k0_off136 v583) a + S8x128.size a ≤ S65544x128.size a := fun v583 k0_hw46 => k0_hw46

def k0_off137 (k0_t1 : Fin k0_t1_loop.trips) : Fin 2 → Nat :=
  let c0_i32 : BitVec 32 := 0#32
  let c1_i32 : BitVec 32 := 1#32
  let arg5 : BitVec 32 := Scf.iv c0_i32 c1_i32 k0_t1
  let v595 : Index := Scalar.indexCast arg5
  let c42_138 : Index := 42#32
  ![v595.toNat, 42]
def k0_off138 (k0_t1 : Fin k0_t1_loop.trips) : Fin 2 → Nat :=
  let c0_i32 : BitVec 32 := 0#32
  let c1_i32 : BitVec 32 := 1#32
  let arg5 : BitVec 32 := Scf.iv c0_i32 c1_i32 k0_t1
  let v597 : Index := Scalar.indexCast arg5
  let c46_139 : Index := 46#32
  ![v597.toNat, 46]
def k0_off139 (k0_t1 : Fin k0_t1_loop.trips) : Fin 2 → Nat :=
  let c0_i32 : BitVec 32 := 0#32
  let c1_i32 : BitVec 32 := 1#32
  let arg5 : BitVec 32 := Scf.iv c0_i32 c1_i32 k0_t1
  let v606 : Index := Scalar.indexCast arg5
  let c43 : Index := 43#32
  ![v606.toNat, 43]
def k0_off140 (k0_t1 : Fin k0_t1_loop.trips) : Fin 2 → Nat :=
  let c0_i32 : BitVec 32 := 0#32
  let c1_i32 : BitVec 32 := 1#32
  let arg5 : BitVec 32 := Scf.iv c0_i32 c1_i32 k0_t1
  let v608 : Index := Scalar.indexCast arg5
  let c47 : Index := 47#32
  ![v608.toNat, 47]
def k0_off141 (v607 : BitVec 32) : Fin 2 → Nat :=
  let v610 : Index := Scalar.indexCast v607
  let c0_140 : Index := 0#32
  ![v610.toNat, 0]

def k0_chk47 (v607 : BitVec 32) : Prop :=
  (∀ a, (k0_off141 v607) a + S8x128.size a ≤ S65544x128.size a)
theorem k0_off141_inb : ∀ (v607 : BitVec 32) (k0_hw47 : k0_chk47 v607), ∀ a, (k0_off141 v607) a + S8x128.size a ≤ S65544x128.size a := fun v607 k0_hw47 => k0_hw47

def k0_off142 (v609 : BitVec 32) : Fin 2 → Nat :=
  let v612 : Index := Scalar.indexCast v609
  let c0_141 : Index := 0#32
  ![v612.toNat, 0]

def k0_chk48 (v609 : BitVec 32) : Prop :=
  (∀ a, (k0_off142 v609) a + S8x128.size a ≤ S65544x128.size a)
theorem k0_off142_inb : ∀ (v609 : BitVec 32) (k0_hw48 : k0_chk48 v609), ∀ a, (k0_off142 v609) a + S8x128.size a ≤ S65544x128.size a := fun v609 k0_hw48 => k0_hw48

def k0_off143 (k0_t1 : Fin k0_t1_loop.trips) : Fin 2 → Nat :=
  let c0_i32 : BitVec 32 := 0#32
  let c1_i32 : BitVec 32 := 1#32
  let arg5 : BitVec 32 := Scf.iv c0_i32 c1_i32 k0_t1
  let v621 : Index := Scalar.indexCast arg5
  let c43_144 : Index := 43#32
  ![v621.toNat, 43]
def k0_off144 (k0_t1 : Fin k0_t1_loop.trips) : Fin 2 → Nat :=
  let c0_i32 : BitVec 32 := 0#32
  let c1_i32 : BitVec 32 := 1#32
  let arg5 : BitVec 32 := Scf.iv c0_i32 c1_i32 k0_t1
  let v623 : Index := Scalar.indexCast arg5
  let c47_145 : Index := 47#32
  ![v623.toNat, 47]
def k0_off145 (k0_t1 : Fin k0_t1_loop.trips) : Fin 2 → Nat :=
  let c0_i32 : BitVec 32 := 0#32
  let c1_i32 : BitVec 32 := 1#32
  let arg5 : BitVec 32 := Scf.iv c0_i32 c1_i32 k0_t1
  let v632 : Index := Scalar.indexCast arg5
  let c48 : Index := 48#32
  ![v632.toNat, 48]
def k0_off146 (k0_t1 : Fin k0_t1_loop.trips) : Fin 2 → Nat :=
  let c0_i32 : BitVec 32 := 0#32
  let c1_i32 : BitVec 32 := 1#32
  let arg5 : BitVec 32 := Scf.iv c0_i32 c1_i32 k0_t1
  let v634 : Index := Scalar.indexCast arg5
  let c52 : Index := 52#32
  ![v634.toNat, 52]
def k0_off147 (v633 : BitVec 32) : Fin 2 → Nat :=
  let v636 : Index := Scalar.indexCast v633
  let c0_146 : Index := 0#32
  ![v636.toNat, 0]

def k0_chk49 (v633 : BitVec 32) : Prop :=
  (∀ a, (k0_off147 v633) a + S8x128.size a ≤ S65544x128.size a)
theorem k0_off147_inb : ∀ (v633 : BitVec 32) (k0_hw49 : k0_chk49 v633), ∀ a, (k0_off147 v633) a + S8x128.size a ≤ S65544x128.size a := fun v633 k0_hw49 => k0_hw49

def k0_off148 (v635 : BitVec 32) : Fin 2 → Nat :=
  let v638 : Index := Scalar.indexCast v635
  let c0_147 : Index := 0#32
  ![v638.toNat, 0]

def k0_chk50 (v635 : BitVec 32) : Prop :=
  (∀ a, (k0_off148 v635) a + S8x128.size a ≤ S65544x128.size a)
theorem k0_off148_inb : ∀ (v635 : BitVec 32) (k0_hw50 : k0_chk50 v635), ∀ a, (k0_off148 v635) a + S8x128.size a ≤ S65544x128.size a := fun v635 k0_hw50 => k0_hw50

def k0_off149 (k0_t1 : Fin k0_t1_loop.trips) : Fin 2 → Nat :=
  let c0_i32 : BitVec 32 := 0#32
  let c1_i32 : BitVec 32 := 1#32
  let arg5 : BitVec 32 := Scf.iv c0_i32 c1_i32 k0_t1
  let v647 : Index := Scalar.indexCast arg5
  let c48_150 : Index := 48#32
  ![v647.toNat, 48]
def k0_off150 (k0_t1 : Fin k0_t1_loop.trips) : Fin 2 → Nat :=
  let c0_i32 : BitVec 32 := 0#32
  let c1_i32 : BitVec 32 := 1#32
  let arg5 : BitVec 32 := Scf.iv c0_i32 c1_i32 k0_t1
  let v649 : Index := Scalar.indexCast arg5
  let c52_151 : Index := 52#32
  ![v649.toNat, 52]
def k0_off151 (k0_t1 : Fin k0_t1_loop.trips) : Fin 2 → Nat :=
  let c0_i32 : BitVec 32 := 0#32
  let c1_i32 : BitVec 32 := 1#32
  let arg5 : BitVec 32 := Scf.iv c0_i32 c1_i32 k0_t1
  let v658 : Index := Scalar.indexCast arg5
  let c49 : Index := 49#32
  ![v658.toNat, 49]
def k0_off152 (k0_t1 : Fin k0_t1_loop.trips) : Fin 2 → Nat :=
  let c0_i32 : BitVec 32 := 0#32
  let c1_i32 : BitVec 32 := 1#32
  let arg5 : BitVec 32 := Scf.iv c0_i32 c1_i32 k0_t1
  let v660 : Index := Scalar.indexCast arg5
  let c53 : Index := 53#32
  ![v660.toNat, 53]
def k0_off153 (v659 : BitVec 32) : Fin 2 → Nat :=
  let v662 : Index := Scalar.indexCast v659
  let c0_152 : Index := 0#32
  ![v662.toNat, 0]

def k0_chk51 (v659 : BitVec 32) : Prop :=
  (∀ a, (k0_off153 v659) a + S8x128.size a ≤ S65544x128.size a)
theorem k0_off153_inb : ∀ (v659 : BitVec 32) (k0_hw51 : k0_chk51 v659), ∀ a, (k0_off153 v659) a + S8x128.size a ≤ S65544x128.size a := fun v659 k0_hw51 => k0_hw51

def k0_off154 (v661 : BitVec 32) : Fin 2 → Nat :=
  let v664 : Index := Scalar.indexCast v661
  let c0_153 : Index := 0#32
  ![v664.toNat, 0]

def k0_chk52 (v661 : BitVec 32) : Prop :=
  (∀ a, (k0_off154 v661) a + S8x128.size a ≤ S65544x128.size a)
theorem k0_off154_inb : ∀ (v661 : BitVec 32) (k0_hw52 : k0_chk52 v661), ∀ a, (k0_off154 v661) a + S8x128.size a ≤ S65544x128.size a := fun v661 k0_hw52 => k0_hw52

def k0_off155 (k0_t1 : Fin k0_t1_loop.trips) : Fin 2 → Nat :=
  let c0_i32 : BitVec 32 := 0#32
  let c1_i32 : BitVec 32 := 1#32
  let arg5 : BitVec 32 := Scf.iv c0_i32 c1_i32 k0_t1
  let v673 : Index := Scalar.indexCast arg5
  let c49_156 : Index := 49#32
  ![v673.toNat, 49]
def k0_off156 (k0_t1 : Fin k0_t1_loop.trips) : Fin 2 → Nat :=
  let c0_i32 : BitVec 32 := 0#32
  let c1_i32 : BitVec 32 := 1#32
  let arg5 : BitVec 32 := Scf.iv c0_i32 c1_i32 k0_t1
  let v675 : Index := Scalar.indexCast arg5
  let c53_157 : Index := 53#32
  ![v675.toNat, 53]
def k0_off157 (k0_t1 : Fin k0_t1_loop.trips) : Fin 2 → Nat :=
  let c0_i32 : BitVec 32 := 0#32
  let c1_i32 : BitVec 32 := 1#32
  let arg5 : BitVec 32 := Scf.iv c0_i32 c1_i32 k0_t1
  let v684 : Index := Scalar.indexCast arg5
  let c50 : Index := 50#32
  ![v684.toNat, 50]
def k0_off158 (k0_t1 : Fin k0_t1_loop.trips) : Fin 2 → Nat :=
  let c0_i32 : BitVec 32 := 0#32
  let c1_i32 : BitVec 32 := 1#32
  let arg5 : BitVec 32 := Scf.iv c0_i32 c1_i32 k0_t1
  let v686 : Index := Scalar.indexCast arg5
  let c54 : Index := 54#32
  ![v686.toNat, 54]
def k0_off159 (v685 : BitVec 32) : Fin 2 → Nat :=
  let v688 : Index := Scalar.indexCast v685
  let c0_158 : Index := 0#32
  ![v688.toNat, 0]

def k0_chk53 (v685 : BitVec 32) : Prop :=
  (∀ a, (k0_off159 v685) a + S8x128.size a ≤ S65544x128.size a)
theorem k0_off159_inb : ∀ (v685 : BitVec 32) (k0_hw53 : k0_chk53 v685), ∀ a, (k0_off159 v685) a + S8x128.size a ≤ S65544x128.size a := fun v685 k0_hw53 => k0_hw53

def k0_off160 (v687 : BitVec 32) : Fin 2 → Nat :=
  let v690 : Index := Scalar.indexCast v687
  let c0_159 : Index := 0#32
  ![v690.toNat, 0]

def k0_chk54 (v687 : BitVec 32) : Prop :=
  (∀ a, (k0_off160 v687) a + S8x128.size a ≤ S65544x128.size a)
theorem k0_off160_inb : ∀ (v687 : BitVec 32) (k0_hw54 : k0_chk54 v687), ∀ a, (k0_off160 v687) a + S8x128.size a ≤ S65544x128.size a := fun v687 k0_hw54 => k0_hw54

def k0_off161 (k0_t1 : Fin k0_t1_loop.trips) : Fin 2 → Nat :=
  let c0_i32 : BitVec 32 := 0#32
  let c1_i32 : BitVec 32 := 1#32
  let arg5 : BitVec 32 := Scf.iv c0_i32 c1_i32 k0_t1
  let v699 : Index := Scalar.indexCast arg5
  let c50_162 : Index := 50#32
  ![v699.toNat, 50]
def k0_off162 (k0_t1 : Fin k0_t1_loop.trips) : Fin 2 → Nat :=
  let c0_i32 : BitVec 32 := 0#32
  let c1_i32 : BitVec 32 := 1#32
  let arg5 : BitVec 32 := Scf.iv c0_i32 c1_i32 k0_t1
  let v701 : Index := Scalar.indexCast arg5
  let c54_163 : Index := 54#32
  ![v701.toNat, 54]
def k0_off163 (k0_t1 : Fin k0_t1_loop.trips) : Fin 2 → Nat :=
  let c0_i32 : BitVec 32 := 0#32
  let c1_i32 : BitVec 32 := 1#32
  let arg5 : BitVec 32 := Scf.iv c0_i32 c1_i32 k0_t1
  let v710 : Index := Scalar.indexCast arg5
  let c51 : Index := 51#32
  ![v710.toNat, 51]
def k0_off164 (k0_t1 : Fin k0_t1_loop.trips) : Fin 2 → Nat :=
  let c0_i32 : BitVec 32 := 0#32
  let c1_i32 : BitVec 32 := 1#32
  let arg5 : BitVec 32 := Scf.iv c0_i32 c1_i32 k0_t1
  let v712 : Index := Scalar.indexCast arg5
  let c55 : Index := 55#32
  ![v712.toNat, 55]
def k0_off165 (v711 : BitVec 32) : Fin 2 → Nat :=
  let v714 : Index := Scalar.indexCast v711
  let c0_164 : Index := 0#32
  ![v714.toNat, 0]

def k0_chk55 (v711 : BitVec 32) : Prop :=
  (∀ a, (k0_off165 v711) a + S8x128.size a ≤ S65544x128.size a)
theorem k0_off165_inb : ∀ (v711 : BitVec 32) (k0_hw55 : k0_chk55 v711), ∀ a, (k0_off165 v711) a + S8x128.size a ≤ S65544x128.size a := fun v711 k0_hw55 => k0_hw55

def k0_off166 (v713 : BitVec 32) : Fin 2 → Nat :=
  let v716 : Index := Scalar.indexCast v713
  let c0_165 : Index := 0#32
  ![v716.toNat, 0]

def k0_chk56 (v713 : BitVec 32) : Prop :=
  (∀ a, (k0_off166 v713) a + S8x128.size a ≤ S65544x128.size a)
theorem k0_off166_inb : ∀ (v713 : BitVec 32) (k0_hw56 : k0_chk56 v713), ∀ a, (k0_off166 v713) a + S8x128.size a ≤ S65544x128.size a := fun v713 k0_hw56 => k0_hw56

def k0_off167 (k0_t1 : Fin k0_t1_loop.trips) : Fin 2 → Nat :=
  let c0_i32 : BitVec 32 := 0#32
  let c1_i32 : BitVec 32 := 1#32
  let arg5 : BitVec 32 := Scf.iv c0_i32 c1_i32 k0_t1
  let v725 : Index := Scalar.indexCast arg5
  let c51_168 : Index := 51#32
  ![v725.toNat, 51]
def k0_off168 (k0_t1 : Fin k0_t1_loop.trips) : Fin 2 → Nat :=
  let c0_i32 : BitVec 32 := 0#32
  let c1_i32 : BitVec 32 := 1#32
  let arg5 : BitVec 32 := Scf.iv c0_i32 c1_i32 k0_t1
  let v727 : Index := Scalar.indexCast arg5
  let c55_169 : Index := 55#32
  ![v727.toNat, 55]
def k0_off169 (k0_t1 : Fin k0_t1_loop.trips) : Fin 2 → Nat :=
  let c0_i32 : BitVec 32 := 0#32
  let c1_i32 : BitVec 32 := 1#32
  let arg5 : BitVec 32 := Scf.iv c0_i32 c1_i32 k0_t1
  let v736 : Index := Scalar.indexCast arg5
  let c56 : Index := 56#32
  ![v736.toNat, 56]
def k0_off170 (k0_t1 : Fin k0_t1_loop.trips) : Fin 2 → Nat :=
  let c0_i32 : BitVec 32 := 0#32
  let c1_i32 : BitVec 32 := 1#32
  let arg5 : BitVec 32 := Scf.iv c0_i32 c1_i32 k0_t1
  let v738 : Index := Scalar.indexCast arg5
  let c60 : Index := 60#32
  ![v738.toNat, 60]
def k0_off171 (v737 : BitVec 32) : Fin 2 → Nat :=
  let v740 : Index := Scalar.indexCast v737
  let c0_170 : Index := 0#32
  ![v740.toNat, 0]

def k0_chk57 (v737 : BitVec 32) : Prop :=
  (∀ a, (k0_off171 v737) a + S8x128.size a ≤ S65544x128.size a)
theorem k0_off171_inb : ∀ (v737 : BitVec 32) (k0_hw57 : k0_chk57 v737), ∀ a, (k0_off171 v737) a + S8x128.size a ≤ S65544x128.size a := fun v737 k0_hw57 => k0_hw57

def k0_off172 (v739 : BitVec 32) : Fin 2 → Nat :=
  let v742 : Index := Scalar.indexCast v739
  let c0_171 : Index := 0#32
  ![v742.toNat, 0]

def k0_chk58 (v739 : BitVec 32) : Prop :=
  (∀ a, (k0_off172 v739) a + S8x128.size a ≤ S65544x128.size a)
theorem k0_off172_inb : ∀ (v739 : BitVec 32) (k0_hw58 : k0_chk58 v739), ∀ a, (k0_off172 v739) a + S8x128.size a ≤ S65544x128.size a := fun v739 k0_hw58 => k0_hw58

def k0_off173 (k0_t1 : Fin k0_t1_loop.trips) : Fin 2 → Nat :=
  let c0_i32 : BitVec 32 := 0#32
  let c1_i32 : BitVec 32 := 1#32
  let arg5 : BitVec 32 := Scf.iv c0_i32 c1_i32 k0_t1
  let v751 : Index := Scalar.indexCast arg5
  let c56_174 : Index := 56#32
  ![v751.toNat, 56]
def k0_off174 (k0_t1 : Fin k0_t1_loop.trips) : Fin 2 → Nat :=
  let c0_i32 : BitVec 32 := 0#32
  let c1_i32 : BitVec 32 := 1#32
  let arg5 : BitVec 32 := Scf.iv c0_i32 c1_i32 k0_t1
  let v753 : Index := Scalar.indexCast arg5
  let c60_175 : Index := 60#32
  ![v753.toNat, 60]
def k0_off175 (k0_t1 : Fin k0_t1_loop.trips) : Fin 2 → Nat :=
  let c0_i32 : BitVec 32 := 0#32
  let c1_i32 : BitVec 32 := 1#32
  let arg5 : BitVec 32 := Scf.iv c0_i32 c1_i32 k0_t1
  let v762 : Index := Scalar.indexCast arg5
  let c57 : Index := 57#32
  ![v762.toNat, 57]
def k0_off176 (k0_t1 : Fin k0_t1_loop.trips) : Fin 2 → Nat :=
  let c0_i32 : BitVec 32 := 0#32
  let c1_i32 : BitVec 32 := 1#32
  let arg5 : BitVec 32 := Scf.iv c0_i32 c1_i32 k0_t1
  let v764 : Index := Scalar.indexCast arg5
  let c61 : Index := 61#32
  ![v764.toNat, 61]
def k0_off177 (v763 : BitVec 32) : Fin 2 → Nat :=
  let v766 : Index := Scalar.indexCast v763
  let c0_176 : Index := 0#32
  ![v766.toNat, 0]

def k0_chk59 (v763 : BitVec 32) : Prop :=
  (∀ a, (k0_off177 v763) a + S8x128.size a ≤ S65544x128.size a)
theorem k0_off177_inb : ∀ (v763 : BitVec 32) (k0_hw59 : k0_chk59 v763), ∀ a, (k0_off177 v763) a + S8x128.size a ≤ S65544x128.size a := fun v763 k0_hw59 => k0_hw59

def k0_off178 (v765 : BitVec 32) : Fin 2 → Nat :=
  let v768 : Index := Scalar.indexCast v765
  let c0_177 : Index := 0#32
  ![v768.toNat, 0]

def k0_chk60 (v765 : BitVec 32) : Prop :=
  (∀ a, (k0_off178 v765) a + S8x128.size a ≤ S65544x128.size a)
theorem k0_off178_inb : ∀ (v765 : BitVec 32) (k0_hw60 : k0_chk60 v765), ∀ a, (k0_off178 v765) a + S8x128.size a ≤ S65544x128.size a := fun v765 k0_hw60 => k0_hw60

def k0_off179 (k0_t1 : Fin k0_t1_loop.trips) : Fin 2 → Nat :=
  let c0_i32 : BitVec 32 := 0#32
  let c1_i32 : BitVec 32 := 1#32
  let arg5 : BitVec 32 := Scf.iv c0_i32 c1_i32 k0_t1
  let v777 : Index := Scalar.indexCast arg5
  let c57_180 : Index := 57#32
  ![v777.toNat, 57]
def k0_off180 (k0_t1 : Fin k0_t1_loop.trips) : Fin 2 → Nat :=
  let c0_i32 : BitVec 32 := 0#32
  let c1_i32 : BitVec 32 := 1#32
  let arg5 : BitVec 32 := Scf.iv c0_i32 c1_i32 k0_t1
  let v779 : Index := Scalar.indexCast arg5
  let c61_181 : Index := 61#32
  ![v779.toNat, 61]
def k0_off181 (k0_t1 : Fin k0_t1_loop.trips) : Fin 2 → Nat :=
  let c0_i32 : BitVec 32 := 0#32
  let c1_i32 : BitVec 32 := 1#32
  let arg5 : BitVec 32 := Scf.iv c0_i32 c1_i32 k0_t1
  let v788 : Index := Scalar.indexCast arg5
  let c58 : Index := 58#32
  ![v788.toNat, 58]
def k0_off182 (k0_t1 : Fin k0_t1_loop.trips) : Fin 2 → Nat :=
  let c0_i32 : BitVec 32 := 0#32
  let c1_i32 : BitVec 32 := 1#32
  let arg5 : BitVec 32 := Scf.iv c0_i32 c1_i32 k0_t1
  let v790 : Index := Scalar.indexCast arg5
  let c62 : Index := 62#32
  ![v790.toNat, 62]
def k0_off183 (v789 : BitVec 32) : Fin 2 → Nat :=
  let v792 : Index := Scalar.indexCast v789
  let c0_182 : Index := 0#32
  ![v792.toNat, 0]

def k0_chk61 (v789 : BitVec 32) : Prop :=
  (∀ a, (k0_off183 v789) a + S8x128.size a ≤ S65544x128.size a)
theorem k0_off183_inb : ∀ (v789 : BitVec 32) (k0_hw61 : k0_chk61 v789), ∀ a, (k0_off183 v789) a + S8x128.size a ≤ S65544x128.size a := fun v789 k0_hw61 => k0_hw61

def k0_off184 (v791 : BitVec 32) : Fin 2 → Nat :=
  let v794 : Index := Scalar.indexCast v791
  let c0_183 : Index := 0#32
  ![v794.toNat, 0]

def k0_chk62 (v791 : BitVec 32) : Prop :=
  (∀ a, (k0_off184 v791) a + S8x128.size a ≤ S65544x128.size a)
theorem k0_off184_inb : ∀ (v791 : BitVec 32) (k0_hw62 : k0_chk62 v791), ∀ a, (k0_off184 v791) a + S8x128.size a ≤ S65544x128.size a := fun v791 k0_hw62 => k0_hw62

def k0_off185 (k0_t1 : Fin k0_t1_loop.trips) : Fin 2 → Nat :=
  let c0_i32 : BitVec 32 := 0#32
  let c1_i32 : BitVec 32 := 1#32
  let arg5 : BitVec 32 := Scf.iv c0_i32 c1_i32 k0_t1
  let v803 : Index := Scalar.indexCast arg5
  let c58_186 : Index := 58#32
  ![v803.toNat, 58]
def k0_off186 (k0_t1 : Fin k0_t1_loop.trips) : Fin 2 → Nat :=
  let c0_i32 : BitVec 32 := 0#32
  let c1_i32 : BitVec 32 := 1#32
  let arg5 : BitVec 32 := Scf.iv c0_i32 c1_i32 k0_t1
  let v805 : Index := Scalar.indexCast arg5
  let c62_187 : Index := 62#32
  ![v805.toNat, 62]
def k0_off187 (k0_t1 : Fin k0_t1_loop.trips) : Fin 2 → Nat :=
  let c0_i32 : BitVec 32 := 0#32
  let c1_i32 : BitVec 32 := 1#32
  let arg5 : BitVec 32 := Scf.iv c0_i32 c1_i32 k0_t1
  let v814 : Index := Scalar.indexCast arg5
  let c59 : Index := 59#32
  ![v814.toNat, 59]
def k0_off188 (k0_t1 : Fin k0_t1_loop.trips) : Fin 2 → Nat :=
  let c0_i32 : BitVec 32 := 0#32
  let c1_i32 : BitVec 32 := 1#32
  let arg5 : BitVec 32 := Scf.iv c0_i32 c1_i32 k0_t1
  let v816 : Index := Scalar.indexCast arg5
  let c63 : Index := 63#32
  ![v816.toNat, 63]
def k0_off189 (v815 : BitVec 32) : Fin 2 → Nat :=
  let v818 : Index := Scalar.indexCast v815
  let c0_188 : Index := 0#32
  ![v818.toNat, 0]

def k0_chk63 (v815 : BitVec 32) : Prop :=
  (∀ a, (k0_off189 v815) a + S8x128.size a ≤ S65544x128.size a)
theorem k0_off189_inb : ∀ (v815 : BitVec 32) (k0_hw63 : k0_chk63 v815), ∀ a, (k0_off189 v815) a + S8x128.size a ≤ S65544x128.size a := fun v815 k0_hw63 => k0_hw63

def k0_off190 (v817 : BitVec 32) : Fin 2 → Nat :=
  let v820 : Index := Scalar.indexCast v817
  let c0_189 : Index := 0#32
  ![v820.toNat, 0]

def k0_chk64 (v817 : BitVec 32) : Prop :=
  (∀ a, (k0_off190 v817) a + S8x128.size a ≤ S65544x128.size a)
theorem k0_off190_inb : ∀ (v817 : BitVec 32) (k0_hw64 : k0_chk64 v817), ∀ a, (k0_off190 v817) a + S8x128.size a ≤ S65544x128.size a := fun v817 k0_hw64 => k0_hw64

def k0_off191 (k0_t1 : Fin k0_t1_loop.trips) : Fin 2 → Nat :=
  let c0_i32 : BitVec 32 := 0#32
  let c1_i32 : BitVec 32 := 1#32
  let arg5 : BitVec 32 := Scf.iv c0_i32 c1_i32 k0_t1
  let v829 : Index := Scalar.indexCast arg5
  let c59_192 : Index := 59#32
  ![v829.toNat, 59]
def k0_off192 (k0_t1 : Fin k0_t1_loop.trips) : Fin 2 → Nat :=
  let c0_i32 : BitVec 32 := 0#32
  let c1_i32 : BitVec 32 := 1#32
  let arg5 : BitVec 32 := Scf.iv c0_i32 c1_i32 k0_t1
  let v831 : Index := Scalar.indexCast arg5
  let c63_193 : Index := 63#32
  ![v831.toNat, 63]
def k0_off193 (k0_t1 : Fin k0_t1_loop.trips) : Fin 2 → Nat :=
  let c0_i32 : BitVec 32 := 0#32
  let c1_i32 : BitVec 32 := 1#32
  let arg5 : BitVec 32 := Scf.iv c0_i32 c1_i32 k0_t1
  let v840 : Index := Scalar.indexCast arg5
  let c64 : Index := 64#32
  ![v840.toNat, 64]
def k0_off194 (k0_t1 : Fin k0_t1_loop.trips) : Fin 2 → Nat :=
  let c0_i32 : BitVec 32 := 0#32
  let c1_i32 : BitVec 32 := 1#32
  let arg5 : BitVec 32 := Scf.iv c0_i32 c1_i32 k0_t1
  let v842 : Index := Scalar.indexCast arg5
  let c68 : Index := 68#32
  ![v842.toNat, 68]
def k0_off195 (v841 : BitVec 32) : Fin 2 → Nat :=
  let v844 : Index := Scalar.indexCast v841
  let c0_194 : Index := 0#32
  ![v844.toNat, 0]

def k0_chk65 (v841 : BitVec 32) : Prop :=
  (∀ a, (k0_off195 v841) a + S8x128.size a ≤ S65544x128.size a)
theorem k0_off195_inb : ∀ (v841 : BitVec 32) (k0_hw65 : k0_chk65 v841), ∀ a, (k0_off195 v841) a + S8x128.size a ≤ S65544x128.size a := fun v841 k0_hw65 => k0_hw65

def k0_off196 (v843 : BitVec 32) : Fin 2 → Nat :=
  let v846 : Index := Scalar.indexCast v843
  let c0_195 : Index := 0#32
  ![v846.toNat, 0]

def k0_chk66 (v843 : BitVec 32) : Prop :=
  (∀ a, (k0_off196 v843) a + S8x128.size a ≤ S65544x128.size a)
theorem k0_off196_inb : ∀ (v843 : BitVec 32) (k0_hw66 : k0_chk66 v843), ∀ a, (k0_off196 v843) a + S8x128.size a ≤ S65544x128.size a := fun v843 k0_hw66 => k0_hw66

def k0_off197 (k0_t1 : Fin k0_t1_loop.trips) : Fin 2 → Nat :=
  let c0_i32 : BitVec 32 := 0#32
  let c1_i32 : BitVec 32 := 1#32
  let arg5 : BitVec 32 := Scf.iv c0_i32 c1_i32 k0_t1
  let v855 : Index := Scalar.indexCast arg5
  let c64_198 : Index := 64#32
  ![v855.toNat, 64]
def k0_off198 (k0_t1 : Fin k0_t1_loop.trips) : Fin 2 → Nat :=
  let c0_i32 : BitVec 32 := 0#32
  let c1_i32 : BitVec 32 := 1#32
  let arg5 : BitVec 32 := Scf.iv c0_i32 c1_i32 k0_t1
  let v857 : Index := Scalar.indexCast arg5
  let c68_199 : Index := 68#32
  ![v857.toNat, 68]
def k0_off199 (k0_t1 : Fin k0_t1_loop.trips) : Fin 2 → Nat :=
  let c0_i32 : BitVec 32 := 0#32
  let c1_i32 : BitVec 32 := 1#32
  let arg5 : BitVec 32 := Scf.iv c0_i32 c1_i32 k0_t1
  let v866 : Index := Scalar.indexCast arg5
  let c65 : Index := 65#32
  ![v866.toNat, 65]
def k0_off200 (k0_t1 : Fin k0_t1_loop.trips) : Fin 2 → Nat :=
  let c0_i32 : BitVec 32 := 0#32
  let c1_i32 : BitVec 32 := 1#32
  let arg5 : BitVec 32 := Scf.iv c0_i32 c1_i32 k0_t1
  let v868 : Index := Scalar.indexCast arg5
  let c69 : Index := 69#32
  ![v868.toNat, 69]
def k0_off201 (v867 : BitVec 32) : Fin 2 → Nat :=
  let v870 : Index := Scalar.indexCast v867
  let c0_200 : Index := 0#32
  ![v870.toNat, 0]

def k0_chk67 (v867 : BitVec 32) : Prop :=
  (∀ a, (k0_off201 v867) a + S8x128.size a ≤ S65544x128.size a)
theorem k0_off201_inb : ∀ (v867 : BitVec 32) (k0_hw67 : k0_chk67 v867), ∀ a, (k0_off201 v867) a + S8x128.size a ≤ S65544x128.size a := fun v867 k0_hw67 => k0_hw67

def k0_off202 (v869 : BitVec 32) : Fin 2 → Nat :=
  let v872 : Index := Scalar.indexCast v869
  let c0_201 : Index := 0#32
  ![v872.toNat, 0]

def k0_chk68 (v869 : BitVec 32) : Prop :=
  (∀ a, (k0_off202 v869) a + S8x128.size a ≤ S65544x128.size a)
theorem k0_off202_inb : ∀ (v869 : BitVec 32) (k0_hw68 : k0_chk68 v869), ∀ a, (k0_off202 v869) a + S8x128.size a ≤ S65544x128.size a := fun v869 k0_hw68 => k0_hw68

def k0_off203 (k0_t1 : Fin k0_t1_loop.trips) : Fin 2 → Nat :=
  let c0_i32 : BitVec 32 := 0#32
  let c1_i32 : BitVec 32 := 1#32
  let arg5 : BitVec 32 := Scf.iv c0_i32 c1_i32 k0_t1
  let v881 : Index := Scalar.indexCast arg5
  let c65_204 : Index := 65#32
  ![v881.toNat, 65]
def k0_off204 (k0_t1 : Fin k0_t1_loop.trips) : Fin 2 → Nat :=
  let c0_i32 : BitVec 32 := 0#32
  let c1_i32 : BitVec 32 := 1#32
  let arg5 : BitVec 32 := Scf.iv c0_i32 c1_i32 k0_t1
  let v883 : Index := Scalar.indexCast arg5
  let c69_205 : Index := 69#32
  ![v883.toNat, 69]
def k0_off205 (k0_t1 : Fin k0_t1_loop.trips) : Fin 2 → Nat :=
  let c0_i32 : BitVec 32 := 0#32
  let c1_i32 : BitVec 32 := 1#32
  let arg5 : BitVec 32 := Scf.iv c0_i32 c1_i32 k0_t1
  let v892 : Index := Scalar.indexCast arg5
  let c66 : Index := 66#32
  ![v892.toNat, 66]
def k0_off206 (k0_t1 : Fin k0_t1_loop.trips) : Fin 2 → Nat :=
  let c0_i32 : BitVec 32 := 0#32
  let c1_i32 : BitVec 32 := 1#32
  let arg5 : BitVec 32 := Scf.iv c0_i32 c1_i32 k0_t1
  let v894 : Index := Scalar.indexCast arg5
  let c70 : Index := 70#32
  ![v894.toNat, 70]
def k0_off207 (v893 : BitVec 32) : Fin 2 → Nat :=
  let v896 : Index := Scalar.indexCast v893
  let c0_206 : Index := 0#32
  ![v896.toNat, 0]

def k0_chk69 (v893 : BitVec 32) : Prop :=
  (∀ a, (k0_off207 v893) a + S8x128.size a ≤ S65544x128.size a)
theorem k0_off207_inb : ∀ (v893 : BitVec 32) (k0_hw69 : k0_chk69 v893), ∀ a, (k0_off207 v893) a + S8x128.size a ≤ S65544x128.size a := fun v893 k0_hw69 => k0_hw69

def k0_off208 (v895 : BitVec 32) : Fin 2 → Nat :=
  let v898 : Index := Scalar.indexCast v895
  let c0_207 : Index := 0#32
  ![v898.toNat, 0]

def k0_chk70 (v895 : BitVec 32) : Prop :=
  (∀ a, (k0_off208 v895) a + S8x128.size a ≤ S65544x128.size a)
theorem k0_off208_inb : ∀ (v895 : BitVec 32) (k0_hw70 : k0_chk70 v895), ∀ a, (k0_off208 v895) a + S8x128.size a ≤ S65544x128.size a := fun v895 k0_hw70 => k0_hw70

def k0_off209 (k0_t1 : Fin k0_t1_loop.trips) : Fin 2 → Nat :=
  let c0_i32 : BitVec 32 := 0#32
  let c1_i32 : BitVec 32 := 1#32
  let arg5 : BitVec 32 := Scf.iv c0_i32 c1_i32 k0_t1
  let v907 : Index := Scalar.indexCast arg5
  let c66_210 : Index := 66#32
  ![v907.toNat, 66]
def k0_off210 (k0_t1 : Fin k0_t1_loop.trips) : Fin 2 → Nat :=
  let c0_i32 : BitVec 32 := 0#32
  let c1_i32 : BitVec 32 := 1#32
  let arg5 : BitVec 32 := Scf.iv c0_i32 c1_i32 k0_t1
  let v909 : Index := Scalar.indexCast arg5
  let c70_211 : Index := 70#32
  ![v909.toNat, 70]
def k0_off211 (k0_t1 : Fin k0_t1_loop.trips) : Fin 2 → Nat :=
  let c0_i32 : BitVec 32 := 0#32
  let c1_i32 : BitVec 32 := 1#32
  let arg5 : BitVec 32 := Scf.iv c0_i32 c1_i32 k0_t1
  let v918 : Index := Scalar.indexCast arg5
  let c67 : Index := 67#32
  ![v918.toNat, 67]
def k0_off212 (k0_t1 : Fin k0_t1_loop.trips) : Fin 2 → Nat :=
  let c0_i32 : BitVec 32 := 0#32
  let c1_i32 : BitVec 32 := 1#32
  let arg5 : BitVec 32 := Scf.iv c0_i32 c1_i32 k0_t1
  let v920 : Index := Scalar.indexCast arg5
  let c71 : Index := 71#32
  ![v920.toNat, 71]
def k0_off213 (v919 : BitVec 32) : Fin 2 → Nat :=
  let v922 : Index := Scalar.indexCast v919
  let c0_212 : Index := 0#32
  ![v922.toNat, 0]

def k0_chk71 (v919 : BitVec 32) : Prop :=
  (∀ a, (k0_off213 v919) a + S8x128.size a ≤ S65544x128.size a)
theorem k0_off213_inb : ∀ (v919 : BitVec 32) (k0_hw71 : k0_chk71 v919), ∀ a, (k0_off213 v919) a + S8x128.size a ≤ S65544x128.size a := fun v919 k0_hw71 => k0_hw71

def k0_off214 (v921 : BitVec 32) : Fin 2 → Nat :=
  let v924 : Index := Scalar.indexCast v921
  let c0_213 : Index := 0#32
  ![v924.toNat, 0]

def k0_chk72 (v921 : BitVec 32) : Prop :=
  (∀ a, (k0_off214 v921) a + S8x128.size a ≤ S65544x128.size a)
theorem k0_off214_inb : ∀ (v921 : BitVec 32) (k0_hw72 : k0_chk72 v921), ∀ a, (k0_off214 v921) a + S8x128.size a ≤ S65544x128.size a := fun v921 k0_hw72 => k0_hw72

def k0_off215 (k0_t1 : Fin k0_t1_loop.trips) : Fin 2 → Nat :=
  let c0_i32 : BitVec 32 := 0#32
  let c1_i32 : BitVec 32 := 1#32
  let arg5 : BitVec 32 := Scf.iv c0_i32 c1_i32 k0_t1
  let v933 : Index := Scalar.indexCast arg5
  let c67_216 : Index := 67#32
  ![v933.toNat, 67]
def k0_off216 (k0_t1 : Fin k0_t1_loop.trips) : Fin 2 → Nat :=
  let c0_i32 : BitVec 32 := 0#32
  let c1_i32 : BitVec 32 := 1#32
  let arg5 : BitVec 32 := Scf.iv c0_i32 c1_i32 k0_t1
  let v935 : Index := Scalar.indexCast arg5
  let c71_217 : Index := 71#32
  ![v935.toNat, 71]
def k0_off217 (k0_t1 : Fin k0_t1_loop.trips) : Fin 2 → Nat :=
  let c0_i32 : BitVec 32 := 0#32
  let c1_i32 : BitVec 32 := 1#32
  let arg5 : BitVec 32 := Scf.iv c0_i32 c1_i32 k0_t1
  let v944 : Index := Scalar.indexCast arg5
  let c72 : Index := 72#32
  ![v944.toNat, 72]
def k0_off218 (k0_t1 : Fin k0_t1_loop.trips) : Fin 2 → Nat :=
  let c0_i32 : BitVec 32 := 0#32
  let c1_i32 : BitVec 32 := 1#32
  let arg5 : BitVec 32 := Scf.iv c0_i32 c1_i32 k0_t1
  let v946 : Index := Scalar.indexCast arg5
  let c76 : Index := 76#32
  ![v946.toNat, 76]
def k0_off219 (v945 : BitVec 32) : Fin 2 → Nat :=
  let v948 : Index := Scalar.indexCast v945
  let c0_218 : Index := 0#32
  ![v948.toNat, 0]

def k0_chk73 (v945 : BitVec 32) : Prop :=
  (∀ a, (k0_off219 v945) a + S8x128.size a ≤ S65544x128.size a)
theorem k0_off219_inb : ∀ (v945 : BitVec 32) (k0_hw73 : k0_chk73 v945), ∀ a, (k0_off219 v945) a + S8x128.size a ≤ S65544x128.size a := fun v945 k0_hw73 => k0_hw73

def k0_off220 (v947 : BitVec 32) : Fin 2 → Nat :=
  let v950 : Index := Scalar.indexCast v947
  let c0_219 : Index := 0#32
  ![v950.toNat, 0]

def k0_chk74 (v947 : BitVec 32) : Prop :=
  (∀ a, (k0_off220 v947) a + S8x128.size a ≤ S65544x128.size a)
theorem k0_off220_inb : ∀ (v947 : BitVec 32) (k0_hw74 : k0_chk74 v947), ∀ a, (k0_off220 v947) a + S8x128.size a ≤ S65544x128.size a := fun v947 k0_hw74 => k0_hw74

def k0_off221 (k0_t1 : Fin k0_t1_loop.trips) : Fin 2 → Nat :=
  let c0_i32 : BitVec 32 := 0#32
  let c1_i32 : BitVec 32 := 1#32
  let arg5 : BitVec 32 := Scf.iv c0_i32 c1_i32 k0_t1
  let v959 : Index := Scalar.indexCast arg5
  let c72_222 : Index := 72#32
  ![v959.toNat, 72]
def k0_off222 (k0_t1 : Fin k0_t1_loop.trips) : Fin 2 → Nat :=
  let c0_i32 : BitVec 32 := 0#32
  let c1_i32 : BitVec 32 := 1#32
  let arg5 : BitVec 32 := Scf.iv c0_i32 c1_i32 k0_t1
  let v961 : Index := Scalar.indexCast arg5
  let c76_223 : Index := 76#32
  ![v961.toNat, 76]
def k0_off223 (k0_t1 : Fin k0_t1_loop.trips) : Fin 2 → Nat :=
  let c0_i32 : BitVec 32 := 0#32
  let c1_i32 : BitVec 32 := 1#32
  let arg5 : BitVec 32 := Scf.iv c0_i32 c1_i32 k0_t1
  let v970 : Index := Scalar.indexCast arg5
  let c73 : Index := 73#32
  ![v970.toNat, 73]
def k0_off224 (k0_t1 : Fin k0_t1_loop.trips) : Fin 2 → Nat :=
  let c0_i32 : BitVec 32 := 0#32
  let c1_i32 : BitVec 32 := 1#32
  let arg5 : BitVec 32 := Scf.iv c0_i32 c1_i32 k0_t1
  let v972 : Index := Scalar.indexCast arg5
  let c77 : Index := 77#32
  ![v972.toNat, 77]
def k0_off225 (v971 : BitVec 32) : Fin 2 → Nat :=
  let v974 : Index := Scalar.indexCast v971
  let c0_224 : Index := 0#32
  ![v974.toNat, 0]

def k0_chk75 (v971 : BitVec 32) : Prop :=
  (∀ a, (k0_off225 v971) a + S8x128.size a ≤ S65544x128.size a)
theorem k0_off225_inb : ∀ (v971 : BitVec 32) (k0_hw75 : k0_chk75 v971), ∀ a, (k0_off225 v971) a + S8x128.size a ≤ S65544x128.size a := fun v971 k0_hw75 => k0_hw75

def k0_off226 (v973 : BitVec 32) : Fin 2 → Nat :=
  let v976 : Index := Scalar.indexCast v973
  let c0_225 : Index := 0#32
  ![v976.toNat, 0]

def k0_chk76 (v973 : BitVec 32) : Prop :=
  (∀ a, (k0_off226 v973) a + S8x128.size a ≤ S65544x128.size a)
theorem k0_off226_inb : ∀ (v973 : BitVec 32) (k0_hw76 : k0_chk76 v973), ∀ a, (k0_off226 v973) a + S8x128.size a ≤ S65544x128.size a := fun v973 k0_hw76 => k0_hw76

def k0_off227 (k0_t1 : Fin k0_t1_loop.trips) : Fin 2 → Nat :=
  let c0_i32 : BitVec 32 := 0#32
  let c1_i32 : BitVec 32 := 1#32
  let arg5 : BitVec 32 := Scf.iv c0_i32 c1_i32 k0_t1
  let v985 : Index := Scalar.indexCast arg5
  let c73_228 : Index := 73#32
  ![v985.toNat, 73]
def k0_off228 (k0_t1 : Fin k0_t1_loop.trips) : Fin 2 → Nat :=
  let c0_i32 : BitVec 32 := 0#32
  let c1_i32 : BitVec 32 := 1#32
  let arg5 : BitVec 32 := Scf.iv c0_i32 c1_i32 k0_t1
  let v987 : Index := Scalar.indexCast arg5
  let c77_229 : Index := 77#32
  ![v987.toNat, 77]
def k0_off229 (k0_t1 : Fin k0_t1_loop.trips) : Fin 2 → Nat :=
  let c0_i32 : BitVec 32 := 0#32
  let c1_i32 : BitVec 32 := 1#32
  let arg5 : BitVec 32 := Scf.iv c0_i32 c1_i32 k0_t1
  let v996 : Index := Scalar.indexCast arg5
  let c74 : Index := 74#32
  ![v996.toNat, 74]
def k0_off230 (k0_t1 : Fin k0_t1_loop.trips) : Fin 2 → Nat :=
  let c0_i32 : BitVec 32 := 0#32
  let c1_i32 : BitVec 32 := 1#32
  let arg5 : BitVec 32 := Scf.iv c0_i32 c1_i32 k0_t1
  let v998 : Index := Scalar.indexCast arg5
  let c78 : Index := 78#32
  ![v998.toNat, 78]
def k0_off231 (v997 : BitVec 32) : Fin 2 → Nat :=
  let v1000 : Index := Scalar.indexCast v997
  let c0_230 : Index := 0#32
  ![v1000.toNat, 0]

def k0_chk77 (v997 : BitVec 32) : Prop :=
  (∀ a, (k0_off231 v997) a + S8x128.size a ≤ S65544x128.size a)
theorem k0_off231_inb : ∀ (v997 : BitVec 32) (k0_hw77 : k0_chk77 v997), ∀ a, (k0_off231 v997) a + S8x128.size a ≤ S65544x128.size a := fun v997 k0_hw77 => k0_hw77

def k0_off232 (v999 : BitVec 32) : Fin 2 → Nat :=
  let v1002 : Index := Scalar.indexCast v999
  let c0_231 : Index := 0#32
  ![v1002.toNat, 0]

def k0_chk78 (v999 : BitVec 32) : Prop :=
  (∀ a, (k0_off232 v999) a + S8x128.size a ≤ S65544x128.size a)
theorem k0_off232_inb : ∀ (v999 : BitVec 32) (k0_hw78 : k0_chk78 v999), ∀ a, (k0_off232 v999) a + S8x128.size a ≤ S65544x128.size a := fun v999 k0_hw78 => k0_hw78

def k0_off233 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1011 : Index := Scalar.indexCast arg5
  let c74_234 : Index := 74#32
  ![v1011.toNat, 74]
def k0_off234 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1013 : Index := Scalar.indexCast arg5
  let c78_235 : Index := 78#32
  ![v1013.toNat, 78]
def k0_off235 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1022 : Index := Scalar.indexCast arg5
  let c75 : Index := 75#32
  ![v1022.toNat, 75]
def k0_off236 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1024 : Index := Scalar.indexCast arg5
  let c79 : Index := 79#32
  ![v1024.toNat, 79]
def k0_off237 (v1023 : BitVec 32) : Fin 2 → Nat :=
  let v1026 : Index := Scalar.indexCast v1023
  let c0_236 : Index := 0#32
  ![v1026.toNat, 0]

def k0_chk79 (v1023 : BitVec 32) : Prop :=
  (∀ a, (k0_off237 v1023) a + S8x128.size a ≤ S65544x128.size a)
theorem k0_off237_inb : ∀ (v1023 : BitVec 32) (k0_hw79 : k0_chk79 v1023), ∀ a, (k0_off237 v1023) a + S8x128.size a ≤ S65544x128.size a := fun v1023 k0_hw79 => k0_hw79

def k0_off238 (v1025 : BitVec 32) : Fin 2 → Nat :=
  let v1028 : Index := Scalar.indexCast v1025
  let c0_237 : Index := 0#32
  ![v1028.toNat, 0]

def k0_chk80 (v1025 : BitVec 32) : Prop :=
  (∀ a, (k0_off238 v1025) a + S8x128.size a ≤ S65544x128.size a)
theorem k0_off238_inb : ∀ (v1025 : BitVec 32) (k0_hw80 : k0_chk80 v1025), ∀ a, (k0_off238 v1025) a + S8x128.size a ≤ S65544x128.size a := fun v1025 k0_hw80 => k0_hw80

def k0_off239 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1037 : Index := Scalar.indexCast arg5
  let c75_240 : Index := 75#32
  ![v1037.toNat, 75]
def k0_off240 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1039 : Index := Scalar.indexCast arg5
  let c79_241 : Index := 79#32
  ![v1039.toNat, 79]
def k0_off241 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1048 : Index := Scalar.indexCast arg5
  let c80 : Index := 80#32
  ![v1048.toNat, 80]
def k0_off242 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1050 : Index := Scalar.indexCast arg5
  let c84 : Index := 84#32
  ![v1050.toNat, 84]
def k0_off243 (v1049 : BitVec 32) : Fin 2 → Nat :=
  let v1052 : Index := Scalar.indexCast v1049
  let c0_242 : Index := 0#32
  ![v1052.toNat, 0]

def k0_chk81 (v1049 : BitVec 32) : Prop :=
  (∀ a, (k0_off243 v1049) a + S8x128.size a ≤ S65544x128.size a)
theorem k0_off243_inb : ∀ (v1049 : BitVec 32) (k0_hw81 : k0_chk81 v1049), ∀ a, (k0_off243 v1049) a + S8x128.size a ≤ S65544x128.size a := fun v1049 k0_hw81 => k0_hw81

def k0_off244 (v1051 : BitVec 32) : Fin 2 → Nat :=
  let v1054 : Index := Scalar.indexCast v1051
  let c0_243 : Index := 0#32
  ![v1054.toNat, 0]

def k0_chk82 (v1051 : BitVec 32) : Prop :=
  (∀ a, (k0_off244 v1051) a + S8x128.size a ≤ S65544x128.size a)
theorem k0_off244_inb : ∀ (v1051 : BitVec 32) (k0_hw82 : k0_chk82 v1051), ∀ a, (k0_off244 v1051) a + S8x128.size a ≤ S65544x128.size a := fun v1051 k0_hw82 => k0_hw82

def k0_off245 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1063 : Index := Scalar.indexCast arg5
  let c80_246 : Index := 80#32
  ![v1063.toNat, 80]
def k0_off246 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1065 : Index := Scalar.indexCast arg5
  let c84_247 : Index := 84#32
  ![v1065.toNat, 84]
def k0_off247 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1074 : Index := Scalar.indexCast arg5
  let c81 : Index := 81#32
  ![v1074.toNat, 81]
def k0_off248 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1076 : Index := Scalar.indexCast arg5
  let c85 : Index := 85#32
  ![v1076.toNat, 85]
def k0_off249 (v1075 : BitVec 32) : Fin 2 → Nat :=
  let v1078 : Index := Scalar.indexCast v1075
  let c0_248 : Index := 0#32
  ![v1078.toNat, 0]

def k0_chk83 (v1075 : BitVec 32) : Prop :=
  (∀ a, (k0_off249 v1075) a + S8x128.size a ≤ S65544x128.size a)
theorem k0_off249_inb : ∀ (v1075 : BitVec 32) (k0_hw83 : k0_chk83 v1075), ∀ a, (k0_off249 v1075) a + S8x128.size a ≤ S65544x128.size a := fun v1075 k0_hw83 => k0_hw83

def k0_off250 (v1077 : BitVec 32) : Fin 2 → Nat :=
  let v1080 : Index := Scalar.indexCast v1077
  let c0_249 : Index := 0#32
  ![v1080.toNat, 0]

def k0_chk84 (v1077 : BitVec 32) : Prop :=
  (∀ a, (k0_off250 v1077) a + S8x128.size a ≤ S65544x128.size a)
theorem k0_off250_inb : ∀ (v1077 : BitVec 32) (k0_hw84 : k0_chk84 v1077), ∀ a, (k0_off250 v1077) a + S8x128.size a ≤ S65544x128.size a := fun v1077 k0_hw84 => k0_hw84

def k0_off251 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1089 : Index := Scalar.indexCast arg5
  let c81_252 : Index := 81#32
  ![v1089.toNat, 81]
def k0_off252 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1091 : Index := Scalar.indexCast arg5
  let c85_253 : Index := 85#32
  ![v1091.toNat, 85]
def k0_off253 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1100 : Index := Scalar.indexCast arg5
  let c82 : Index := 82#32
  ![v1100.toNat, 82]
def k0_off254 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1102 : Index := Scalar.indexCast arg5
  let c86 : Index := 86#32
  ![v1102.toNat, 86]
def k0_off255 (v1101 : BitVec 32) : Fin 2 → Nat :=
  let v1104 : Index := Scalar.indexCast v1101
  let c0_254 : Index := 0#32
  ![v1104.toNat, 0]

def k0_chk85 (v1101 : BitVec 32) : Prop :=
  (∀ a, (k0_off255 v1101) a + S8x128.size a ≤ S65544x128.size a)
theorem k0_off255_inb : ∀ (v1101 : BitVec 32) (k0_hw85 : k0_chk85 v1101), ∀ a, (k0_off255 v1101) a + S8x128.size a ≤ S65544x128.size a := fun v1101 k0_hw85 => k0_hw85

def k0_off256 (v1103 : BitVec 32) : Fin 2 → Nat :=
  let v1106 : Index := Scalar.indexCast v1103
  let c0_255 : Index := 0#32
  ![v1106.toNat, 0]

def k0_chk86 (v1103 : BitVec 32) : Prop :=
  (∀ a, (k0_off256 v1103) a + S8x128.size a ≤ S65544x128.size a)
theorem k0_off256_inb : ∀ (v1103 : BitVec 32) (k0_hw86 : k0_chk86 v1103), ∀ a, (k0_off256 v1103) a + S8x128.size a ≤ S65544x128.size a := fun v1103 k0_hw86 => k0_hw86

def k0_off257 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1115 : Index := Scalar.indexCast arg5
  let c82_258 : Index := 82#32
  ![v1115.toNat, 82]
def k0_off258 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1117 : Index := Scalar.indexCast arg5
  let c86_259 : Index := 86#32
  ![v1117.toNat, 86]
def k0_off259 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1126 : Index := Scalar.indexCast arg5
  let c83 : Index := 83#32
  ![v1126.toNat, 83]
def k0_off260 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1128 : Index := Scalar.indexCast arg5
  let c87 : Index := 87#32
  ![v1128.toNat, 87]
def k0_off261 (v1127 : BitVec 32) : Fin 2 → Nat :=
  let v1130 : Index := Scalar.indexCast v1127
  let c0_260 : Index := 0#32
  ![v1130.toNat, 0]

def k0_chk87 (v1127 : BitVec 32) : Prop :=
  (∀ a, (k0_off261 v1127) a + S8x128.size a ≤ S65544x128.size a)
theorem k0_off261_inb : ∀ (v1127 : BitVec 32) (k0_hw87 : k0_chk87 v1127), ∀ a, (k0_off261 v1127) a + S8x128.size a ≤ S65544x128.size a := fun v1127 k0_hw87 => k0_hw87

def k0_off262 (v1129 : BitVec 32) : Fin 2 → Nat :=
  let v1132 : Index := Scalar.indexCast v1129
  let c0_261 : Index := 0#32
  ![v1132.toNat, 0]

def k0_chk88 (v1129 : BitVec 32) : Prop :=
  (∀ a, (k0_off262 v1129) a + S8x128.size a ≤ S65544x128.size a)
theorem k0_off262_inb : ∀ (v1129 : BitVec 32) (k0_hw88 : k0_chk88 v1129), ∀ a, (k0_off262 v1129) a + S8x128.size a ≤ S65544x128.size a := fun v1129 k0_hw88 => k0_hw88

def k0_off263 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1141 : Index := Scalar.indexCast arg5
  let c83_264 : Index := 83#32
  ![v1141.toNat, 83]
def k0_off264 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1143 : Index := Scalar.indexCast arg5
  let c87_265 : Index := 87#32
  ![v1143.toNat, 87]
def k0_off265 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1152 : Index := Scalar.indexCast arg5
  let c88 : Index := 88#32
  ![v1152.toNat, 88]
def k0_off266 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1154 : Index := Scalar.indexCast arg5
  let c92 : Index := 92#32
  ![v1154.toNat, 92]
def k0_off267 (v1153 : BitVec 32) : Fin 2 → Nat :=
  let v1156 : Index := Scalar.indexCast v1153
  let c0_266 : Index := 0#32
  ![v1156.toNat, 0]

def k0_chk89 (v1153 : BitVec 32) : Prop :=
  (∀ a, (k0_off267 v1153) a + S8x128.size a ≤ S65544x128.size a)
theorem k0_off267_inb : ∀ (v1153 : BitVec 32) (k0_hw89 : k0_chk89 v1153), ∀ a, (k0_off267 v1153) a + S8x128.size a ≤ S65544x128.size a := fun v1153 k0_hw89 => k0_hw89

def k0_off268 (v1155 : BitVec 32) : Fin 2 → Nat :=
  let v1158 : Index := Scalar.indexCast v1155
  let c0_267 : Index := 0#32
  ![v1158.toNat, 0]

def k0_chk90 (v1155 : BitVec 32) : Prop :=
  (∀ a, (k0_off268 v1155) a + S8x128.size a ≤ S65544x128.size a)
theorem k0_off268_inb : ∀ (v1155 : BitVec 32) (k0_hw90 : k0_chk90 v1155), ∀ a, (k0_off268 v1155) a + S8x128.size a ≤ S65544x128.size a := fun v1155 k0_hw90 => k0_hw90

def k0_off269 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1167 : Index := Scalar.indexCast arg5
  let c88_270 : Index := 88#32
  ![v1167.toNat, 88]
def k0_off270 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1169 : Index := Scalar.indexCast arg5
  let c92_271 : Index := 92#32
  ![v1169.toNat, 92]
def k0_off271 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1178 : Index := Scalar.indexCast arg5
  let c89 : Index := 89#32
  ![v1178.toNat, 89]
def k0_off272 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1180 : Index := Scalar.indexCast arg5
  let c93 : Index := 93#32
  ![v1180.toNat, 93]
def k0_off273 (v1179 : BitVec 32) : Fin 2 → Nat :=
  let v1182 : Index := Scalar.indexCast v1179
  let c0_272 : Index := 0#32
  ![v1182.toNat, 0]

def k0_chk91 (v1179 : BitVec 32) : Prop :=
  (∀ a, (k0_off273 v1179) a + S8x128.size a ≤ S65544x128.size a)
theorem k0_off273_inb : ∀ (v1179 : BitVec 32) (k0_hw91 : k0_chk91 v1179), ∀ a, (k0_off273 v1179) a + S8x128.size a ≤ S65544x128.size a := fun v1179 k0_hw91 => k0_hw91

def k0_off274 (v1181 : BitVec 32) : Fin 2 → Nat :=
  let v1184 : Index := Scalar.indexCast v1181
  let c0_273 : Index := 0#32
  ![v1184.toNat, 0]

def k0_chk92 (v1181 : BitVec 32) : Prop :=
  (∀ a, (k0_off274 v1181) a + S8x128.size a ≤ S65544x128.size a)
theorem k0_off274_inb : ∀ (v1181 : BitVec 32) (k0_hw92 : k0_chk92 v1181), ∀ a, (k0_off274 v1181) a + S8x128.size a ≤ S65544x128.size a := fun v1181 k0_hw92 => k0_hw92

def k0_off275 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1193 : Index := Scalar.indexCast arg5
  let c89_276 : Index := 89#32
  ![v1193.toNat, 89]
def k0_off276 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1195 : Index := Scalar.indexCast arg5
  let c93_277 : Index := 93#32
  ![v1195.toNat, 93]
def k0_off277 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1204 : Index := Scalar.indexCast arg5
  let c90 : Index := 90#32
  ![v1204.toNat, 90]
def k0_off278 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1206 : Index := Scalar.indexCast arg5
  let c94 : Index := 94#32
  ![v1206.toNat, 94]
def k0_off279 (v1205 : BitVec 32) : Fin 2 → Nat :=
  let v1208 : Index := Scalar.indexCast v1205
  let c0_278 : Index := 0#32
  ![v1208.toNat, 0]

def k0_chk93 (v1205 : BitVec 32) : Prop :=
  (∀ a, (k0_off279 v1205) a + S8x128.size a ≤ S65544x128.size a)
theorem k0_off279_inb : ∀ (v1205 : BitVec 32) (k0_hw93 : k0_chk93 v1205), ∀ a, (k0_off279 v1205) a + S8x128.size a ≤ S65544x128.size a := fun v1205 k0_hw93 => k0_hw93

def k0_off280 (v1207 : BitVec 32) : Fin 2 → Nat :=
  let v1210 : Index := Scalar.indexCast v1207
  let c0_279 : Index := 0#32
  ![v1210.toNat, 0]

def k0_chk94 (v1207 : BitVec 32) : Prop :=
  (∀ a, (k0_off280 v1207) a + S8x128.size a ≤ S65544x128.size a)
theorem k0_off280_inb : ∀ (v1207 : BitVec 32) (k0_hw94 : k0_chk94 v1207), ∀ a, (k0_off280 v1207) a + S8x128.size a ≤ S65544x128.size a := fun v1207 k0_hw94 => k0_hw94

def k0_off281 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1219 : Index := Scalar.indexCast arg5
  let c90_282 : Index := 90#32
  ![v1219.toNat, 90]
def k0_off282 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1221 : Index := Scalar.indexCast arg5
  let c94_283 : Index := 94#32
  ![v1221.toNat, 94]
def k0_off283 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1230 : Index := Scalar.indexCast arg5
  let c91 : Index := 91#32
  ![v1230.toNat, 91]
def k0_off284 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1232 : Index := Scalar.indexCast arg5
  let c95 : Index := 95#32
  ![v1232.toNat, 95]
def k0_off285 (v1231 : BitVec 32) : Fin 2 → Nat :=
  let v1234 : Index := Scalar.indexCast v1231
  let c0_284 : Index := 0#32
  ![v1234.toNat, 0]

def k0_chk95 (v1231 : BitVec 32) : Prop :=
  (∀ a, (k0_off285 v1231) a + S8x128.size a ≤ S65544x128.size a)
theorem k0_off285_inb : ∀ (v1231 : BitVec 32) (k0_hw95 : k0_chk95 v1231), ∀ a, (k0_off285 v1231) a + S8x128.size a ≤ S65544x128.size a := fun v1231 k0_hw95 => k0_hw95

def k0_off286 (v1233 : BitVec 32) : Fin 2 → Nat :=
  let v1236 : Index := Scalar.indexCast v1233
  let c0_285 : Index := 0#32
  ![v1236.toNat, 0]

def k0_chk96 (v1233 : BitVec 32) : Prop :=
  (∀ a, (k0_off286 v1233) a + S8x128.size a ≤ S65544x128.size a)
theorem k0_off286_inb : ∀ (v1233 : BitVec 32) (k0_hw96 : k0_chk96 v1233), ∀ a, (k0_off286 v1233) a + S8x128.size a ≤ S65544x128.size a := fun v1233 k0_hw96 => k0_hw96

def k0_off287 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1245 : Index := Scalar.indexCast arg5
  let c91_288 : Index := 91#32
  ![v1245.toNat, 91]
def k0_off288 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1247 : Index := Scalar.indexCast arg5
  let c95_289 : Index := 95#32
  ![v1247.toNat, 95]
def k0_off289 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1256 : Index := Scalar.indexCast arg5
  let c96 : Index := 96#32
  ![v1256.toNat, 96]
def k0_off290 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1258 : Index := Scalar.indexCast arg5
  let c100 : Index := 100#32
  ![v1258.toNat, 100]
def k0_off291 (v1257 : BitVec 32) : Fin 2 → Nat :=
  let v1260 : Index := Scalar.indexCast v1257
  let c0_290 : Index := 0#32
  ![v1260.toNat, 0]

def k0_chk97 (v1257 : BitVec 32) : Prop :=
  (∀ a, (k0_off291 v1257) a + S8x128.size a ≤ S65544x128.size a)
theorem k0_off291_inb : ∀ (v1257 : BitVec 32) (k0_hw97 : k0_chk97 v1257), ∀ a, (k0_off291 v1257) a + S8x128.size a ≤ S65544x128.size a := fun v1257 k0_hw97 => k0_hw97

def k0_off292 (v1259 : BitVec 32) : Fin 2 → Nat :=
  let v1262 : Index := Scalar.indexCast v1259
  let c0_291 : Index := 0#32
  ![v1262.toNat, 0]

def k0_chk98 (v1259 : BitVec 32) : Prop :=
  (∀ a, (k0_off292 v1259) a + S8x128.size a ≤ S65544x128.size a)
theorem k0_off292_inb : ∀ (v1259 : BitVec 32) (k0_hw98 : k0_chk98 v1259), ∀ a, (k0_off292 v1259) a + S8x128.size a ≤ S65544x128.size a := fun v1259 k0_hw98 => k0_hw98

def k0_off293 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1271 : Index := Scalar.indexCast arg5
  let c96_294 : Index := 96#32
  ![v1271.toNat, 96]
def k0_off294 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1273 : Index := Scalar.indexCast arg5
  let c100_295 : Index := 100#32
  ![v1273.toNat, 100]
def k0_off295 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1282 : Index := Scalar.indexCast arg5
  let c97 : Index := 97#32
  ![v1282.toNat, 97]
def k0_off296 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1284 : Index := Scalar.indexCast arg5
  let c101 : Index := 101#32
  ![v1284.toNat, 101]
def k0_off297 (v1283 : BitVec 32) : Fin 2 → Nat :=
  let v1286 : Index := Scalar.indexCast v1283
  let c0_296 : Index := 0#32
  ![v1286.toNat, 0]

def k0_chk99 (v1283 : BitVec 32) : Prop :=
  (∀ a, (k0_off297 v1283) a + S8x128.size a ≤ S65544x128.size a)
theorem k0_off297_inb : ∀ (v1283 : BitVec 32) (k0_hw99 : k0_chk99 v1283), ∀ a, (k0_off297 v1283) a + S8x128.size a ≤ S65544x128.size a := fun v1283 k0_hw99 => k0_hw99

def k0_off298 (v1285 : BitVec 32) : Fin 2 → Nat :=
  let v1288 : Index := Scalar.indexCast v1285
  let c0_297 : Index := 0#32
  ![v1288.toNat, 0]

def k0_chk100 (v1285 : BitVec 32) : Prop :=
  (∀ a, (k0_off298 v1285) a + S8x128.size a ≤ S65544x128.size a)
theorem k0_off298_inb : ∀ (v1285 : BitVec 32) (k0_hw100 : k0_chk100 v1285), ∀ a, (k0_off298 v1285) a + S8x128.size a ≤ S65544x128.size a := fun v1285 k0_hw100 => k0_hw100

def k0_off299 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1297 : Index := Scalar.indexCast arg5
  let c97_300 : Index := 97#32
  ![v1297.toNat, 97]
def k0_off300 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1299 : Index := Scalar.indexCast arg5
  let c101_301 : Index := 101#32
  ![v1299.toNat, 101]
def k0_off301 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1308 : Index := Scalar.indexCast arg5
  let c98 : Index := 98#32
  ![v1308.toNat, 98]
def k0_off302 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1310 : Index := Scalar.indexCast arg5
  let c102 : Index := 102#32
  ![v1310.toNat, 102]
def k0_off303 (v1309 : BitVec 32) : Fin 2 → Nat :=
  let v1312 : Index := Scalar.indexCast v1309
  let c0_302 : Index := 0#32
  ![v1312.toNat, 0]

def k0_chk101 (v1309 : BitVec 32) : Prop :=
  (∀ a, (k0_off303 v1309) a + S8x128.size a ≤ S65544x128.size a)
theorem k0_off303_inb : ∀ (v1309 : BitVec 32) (k0_hw101 : k0_chk101 v1309), ∀ a, (k0_off303 v1309) a + S8x128.size a ≤ S65544x128.size a := fun v1309 k0_hw101 => k0_hw101

def k0_off304 (v1311 : BitVec 32) : Fin 2 → Nat :=
  let v1314 : Index := Scalar.indexCast v1311
  let c0_303 : Index := 0#32
  ![v1314.toNat, 0]

def k0_chk102 (v1311 : BitVec 32) : Prop :=
  (∀ a, (k0_off304 v1311) a + S8x128.size a ≤ S65544x128.size a)
theorem k0_off304_inb : ∀ (v1311 : BitVec 32) (k0_hw102 : k0_chk102 v1311), ∀ a, (k0_off304 v1311) a + S8x128.size a ≤ S65544x128.size a := fun v1311 k0_hw102 => k0_hw102

def k0_off305 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1323 : Index := Scalar.indexCast arg5
  let c98_306 : Index := 98#32
  ![v1323.toNat, 98]
def k0_off306 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1325 : Index := Scalar.indexCast arg5
  let c102_307 : Index := 102#32
  ![v1325.toNat, 102]
def k0_off307 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1334 : Index := Scalar.indexCast arg5
  let c99 : Index := 99#32
  ![v1334.toNat, 99]
def k0_off308 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1336 : Index := Scalar.indexCast arg5
  let c103 : Index := 103#32
  ![v1336.toNat, 103]
def k0_off309 (v1335 : BitVec 32) : Fin 2 → Nat :=
  let v1338 : Index := Scalar.indexCast v1335
  let c0_308 : Index := 0#32
  ![v1338.toNat, 0]

def k0_chk103 (v1335 : BitVec 32) : Prop :=
  (∀ a, (k0_off309 v1335) a + S8x128.size a ≤ S65544x128.size a)
theorem k0_off309_inb : ∀ (v1335 : BitVec 32) (k0_hw103 : k0_chk103 v1335), ∀ a, (k0_off309 v1335) a + S8x128.size a ≤ S65544x128.size a := fun v1335 k0_hw103 => k0_hw103

def k0_off310 (v1337 : BitVec 32) : Fin 2 → Nat :=
  let v1340 : Index := Scalar.indexCast v1337
  let c0_309 : Index := 0#32
  ![v1340.toNat, 0]

def k0_chk104 (v1337 : BitVec 32) : Prop :=
  (∀ a, (k0_off310 v1337) a + S8x128.size a ≤ S65544x128.size a)
theorem k0_off310_inb : ∀ (v1337 : BitVec 32) (k0_hw104 : k0_chk104 v1337), ∀ a, (k0_off310 v1337) a + S8x128.size a ≤ S65544x128.size a := fun v1337 k0_hw104 => k0_hw104

def k0_off311 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1349 : Index := Scalar.indexCast arg5
  let c99_312 : Index := 99#32
  ![v1349.toNat, 99]
def k0_off312 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1351 : Index := Scalar.indexCast arg5
  let c103_313 : Index := 103#32
  ![v1351.toNat, 103]
def k0_off313 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1360 : Index := Scalar.indexCast arg5
  let c104 : Index := 104#32
  ![v1360.toNat, 104]
def k0_off314 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1362 : Index := Scalar.indexCast arg5
  let c108 : Index := 108#32
  ![v1362.toNat, 108]
def k0_off315 (v1361 : BitVec 32) : Fin 2 → Nat :=
  let v1364 : Index := Scalar.indexCast v1361
  let c0_314 : Index := 0#32
  ![v1364.toNat, 0]

def k0_chk105 (v1361 : BitVec 32) : Prop :=
  (∀ a, (k0_off315 v1361) a + S8x128.size a ≤ S65544x128.size a)
theorem k0_off315_inb : ∀ (v1361 : BitVec 32) (k0_hw105 : k0_chk105 v1361), ∀ a, (k0_off315 v1361) a + S8x128.size a ≤ S65544x128.size a := fun v1361 k0_hw105 => k0_hw105

def k0_off316 (v1363 : BitVec 32) : Fin 2 → Nat :=
  let v1366 : Index := Scalar.indexCast v1363
  let c0_315 : Index := 0#32
  ![v1366.toNat, 0]

def k0_chk106 (v1363 : BitVec 32) : Prop :=
  (∀ a, (k0_off316 v1363) a + S8x128.size a ≤ S65544x128.size a)
theorem k0_off316_inb : ∀ (v1363 : BitVec 32) (k0_hw106 : k0_chk106 v1363), ∀ a, (k0_off316 v1363) a + S8x128.size a ≤ S65544x128.size a := fun v1363 k0_hw106 => k0_hw106

def k0_off317 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1375 : Index := Scalar.indexCast arg5
  let c104_318 : Index := 104#32
  ![v1375.toNat, 104]
def k0_off318 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1377 : Index := Scalar.indexCast arg5
  let c108_319 : Index := 108#32
  ![v1377.toNat, 108]
def k0_off319 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1386 : Index := Scalar.indexCast arg5
  let c105 : Index := 105#32
  ![v1386.toNat, 105]
def k0_off320 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1388 : Index := Scalar.indexCast arg5
  let c109 : Index := 109#32
  ![v1388.toNat, 109]
def k0_off321 (v1387 : BitVec 32) : Fin 2 → Nat :=
  let v1390 : Index := Scalar.indexCast v1387
  let c0_320 : Index := 0#32
  ![v1390.toNat, 0]

def k0_chk107 (v1387 : BitVec 32) : Prop :=
  (∀ a, (k0_off321 v1387) a + S8x128.size a ≤ S65544x128.size a)
theorem k0_off321_inb : ∀ (v1387 : BitVec 32) (k0_hw107 : k0_chk107 v1387), ∀ a, (k0_off321 v1387) a + S8x128.size a ≤ S65544x128.size a := fun v1387 k0_hw107 => k0_hw107

def k0_off322 (v1389 : BitVec 32) : Fin 2 → Nat :=
  let v1392 : Index := Scalar.indexCast v1389
  let c0_321 : Index := 0#32
  ![v1392.toNat, 0]

def k0_chk108 (v1389 : BitVec 32) : Prop :=
  (∀ a, (k0_off322 v1389) a + S8x128.size a ≤ S65544x128.size a)
theorem k0_off322_inb : ∀ (v1389 : BitVec 32) (k0_hw108 : k0_chk108 v1389), ∀ a, (k0_off322 v1389) a + S8x128.size a ≤ S65544x128.size a := fun v1389 k0_hw108 => k0_hw108

def k0_off323 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1401 : Index := Scalar.indexCast arg5
  let c105_324 : Index := 105#32
  ![v1401.toNat, 105]
def k0_off324 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1403 : Index := Scalar.indexCast arg5
  let c109_325 : Index := 109#32
  ![v1403.toNat, 109]
def k0_off325 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1412 : Index := Scalar.indexCast arg5
  let c106 : Index := 106#32
  ![v1412.toNat, 106]
def k0_off326 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1414 : Index := Scalar.indexCast arg5
  let c110 : Index := 110#32
  ![v1414.toNat, 110]
def k0_off327 (v1413 : BitVec 32) : Fin 2 → Nat :=
  let v1416 : Index := Scalar.indexCast v1413
  let c0_326 : Index := 0#32
  ![v1416.toNat, 0]

def k0_chk109 (v1413 : BitVec 32) : Prop :=
  (∀ a, (k0_off327 v1413) a + S8x128.size a ≤ S65544x128.size a)
theorem k0_off327_inb : ∀ (v1413 : BitVec 32) (k0_hw109 : k0_chk109 v1413), ∀ a, (k0_off327 v1413) a + S8x128.size a ≤ S65544x128.size a := fun v1413 k0_hw109 => k0_hw109

def k0_off328 (v1415 : BitVec 32) : Fin 2 → Nat :=
  let v1418 : Index := Scalar.indexCast v1415
  let c0_327 : Index := 0#32
  ![v1418.toNat, 0]

def k0_chk110 (v1415 : BitVec 32) : Prop :=
  (∀ a, (k0_off328 v1415) a + S8x128.size a ≤ S65544x128.size a)
theorem k0_off328_inb : ∀ (v1415 : BitVec 32) (k0_hw110 : k0_chk110 v1415), ∀ a, (k0_off328 v1415) a + S8x128.size a ≤ S65544x128.size a := fun v1415 k0_hw110 => k0_hw110

def k0_off329 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1427 : Index := Scalar.indexCast arg5
  let c106_330 : Index := 106#32
  ![v1427.toNat, 106]
def k0_off330 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1429 : Index := Scalar.indexCast arg5
  let c110_331 : Index := 110#32
  ![v1429.toNat, 110]
def k0_off331 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1438 : Index := Scalar.indexCast arg5
  let c107 : Index := 107#32
  ![v1438.toNat, 107]
def k0_off332 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1440 : Index := Scalar.indexCast arg5
  let c111 : Index := 111#32
  ![v1440.toNat, 111]
def k0_off333 (v1439 : BitVec 32) : Fin 2 → Nat :=
  let v1442 : Index := Scalar.indexCast v1439
  let c0_332 : Index := 0#32
  ![v1442.toNat, 0]

def k0_chk111 (v1439 : BitVec 32) : Prop :=
  (∀ a, (k0_off333 v1439) a + S8x128.size a ≤ S65544x128.size a)
theorem k0_off333_inb : ∀ (v1439 : BitVec 32) (k0_hw111 : k0_chk111 v1439), ∀ a, (k0_off333 v1439) a + S8x128.size a ≤ S65544x128.size a := fun v1439 k0_hw111 => k0_hw111

def k0_off334 (v1441 : BitVec 32) : Fin 2 → Nat :=
  let v1444 : Index := Scalar.indexCast v1441
  let c0_333 : Index := 0#32
  ![v1444.toNat, 0]

def k0_chk112 (v1441 : BitVec 32) : Prop :=
  (∀ a, (k0_off334 v1441) a + S8x128.size a ≤ S65544x128.size a)
theorem k0_off334_inb : ∀ (v1441 : BitVec 32) (k0_hw112 : k0_chk112 v1441), ∀ a, (k0_off334 v1441) a + S8x128.size a ≤ S65544x128.size a := fun v1441 k0_hw112 => k0_hw112

def k0_off335 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1453 : Index := Scalar.indexCast arg5
  let c107_336 : Index := 107#32
  ![v1453.toNat, 107]
def k0_off336 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1455 : Index := Scalar.indexCast arg5
  let c111_337 : Index := 111#32
  ![v1455.toNat, 111]
def k0_off337 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1464 : Index := Scalar.indexCast arg5
  let c112 : Index := 112#32
  ![v1464.toNat, 112]
def k0_off338 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1466 : Index := Scalar.indexCast arg5
  let c116 : Index := 116#32
  ![v1466.toNat, 116]
def k0_off339 (v1465 : BitVec 32) : Fin 2 → Nat :=
  let v1468 : Index := Scalar.indexCast v1465
  let c0_338 : Index := 0#32
  ![v1468.toNat, 0]

def k0_chk113 (v1465 : BitVec 32) : Prop :=
  (∀ a, (k0_off339 v1465) a + S8x128.size a ≤ S65544x128.size a)
theorem k0_off339_inb : ∀ (v1465 : BitVec 32) (k0_hw113 : k0_chk113 v1465), ∀ a, (k0_off339 v1465) a + S8x128.size a ≤ S65544x128.size a := fun v1465 k0_hw113 => k0_hw113

def k0_off340 (v1467 : BitVec 32) : Fin 2 → Nat :=
  let v1470 : Index := Scalar.indexCast v1467
  let c0_339 : Index := 0#32
  ![v1470.toNat, 0]

def k0_chk114 (v1467 : BitVec 32) : Prop :=
  (∀ a, (k0_off340 v1467) a + S8x128.size a ≤ S65544x128.size a)
theorem k0_off340_inb : ∀ (v1467 : BitVec 32) (k0_hw114 : k0_chk114 v1467), ∀ a, (k0_off340 v1467) a + S8x128.size a ≤ S65544x128.size a := fun v1467 k0_hw114 => k0_hw114

def k0_off341 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1479 : Index := Scalar.indexCast arg5
  let c112_342 : Index := 112#32
  ![v1479.toNat, 112]
def k0_off342 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1481 : Index := Scalar.indexCast arg5
  let c116_343 : Index := 116#32
  ![v1481.toNat, 116]
def k0_off343 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1490 : Index := Scalar.indexCast arg5
  let c113 : Index := 113#32
  ![v1490.toNat, 113]
def k0_off344 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1492 : Index := Scalar.indexCast arg5
  let c117 : Index := 117#32
  ![v1492.toNat, 117]
def k0_off345 (v1491 : BitVec 32) : Fin 2 → Nat :=
  let v1494 : Index := Scalar.indexCast v1491
  let c0_344 : Index := 0#32
  ![v1494.toNat, 0]

def k0_chk115 (v1491 : BitVec 32) : Prop :=
  (∀ a, (k0_off345 v1491) a + S8x128.size a ≤ S65544x128.size a)
theorem k0_off345_inb : ∀ (v1491 : BitVec 32) (k0_hw115 : k0_chk115 v1491), ∀ a, (k0_off345 v1491) a + S8x128.size a ≤ S65544x128.size a := fun v1491 k0_hw115 => k0_hw115

def k0_off346 (v1493 : BitVec 32) : Fin 2 → Nat :=
  let v1496 : Index := Scalar.indexCast v1493
  let c0_345 : Index := 0#32
  ![v1496.toNat, 0]

def k0_chk116 (v1493 : BitVec 32) : Prop :=
  (∀ a, (k0_off346 v1493) a + S8x128.size a ≤ S65544x128.size a)
theorem k0_off346_inb : ∀ (v1493 : BitVec 32) (k0_hw116 : k0_chk116 v1493), ∀ a, (k0_off346 v1493) a + S8x128.size a ≤ S65544x128.size a := fun v1493 k0_hw116 => k0_hw116

def k0_off347 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1505 : Index := Scalar.indexCast arg5
  let c113_348 : Index := 113#32
  ![v1505.toNat, 113]
def k0_off348 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1507 : Index := Scalar.indexCast arg5
  let c117_349 : Index := 117#32
  ![v1507.toNat, 117]
def k0_off349 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1516 : Index := Scalar.indexCast arg5
  let c114 : Index := 114#32
  ![v1516.toNat, 114]
def k0_off350 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1518 : Index := Scalar.indexCast arg5
  let c118 : Index := 118#32
  ![v1518.toNat, 118]
def k0_off351 (v1517 : BitVec 32) : Fin 2 → Nat :=
  let v1520 : Index := Scalar.indexCast v1517
  let c0_350 : Index := 0#32
  ![v1520.toNat, 0]

def k0_chk117 (v1517 : BitVec 32) : Prop :=
  (∀ a, (k0_off351 v1517) a + S8x128.size a ≤ S65544x128.size a)
theorem k0_off351_inb : ∀ (v1517 : BitVec 32) (k0_hw117 : k0_chk117 v1517), ∀ a, (k0_off351 v1517) a + S8x128.size a ≤ S65544x128.size a := fun v1517 k0_hw117 => k0_hw117

def k0_off352 (v1519 : BitVec 32) : Fin 2 → Nat :=
  let v1522 : Index := Scalar.indexCast v1519
  let c0_351 : Index := 0#32
  ![v1522.toNat, 0]

def k0_chk118 (v1519 : BitVec 32) : Prop :=
  (∀ a, (k0_off352 v1519) a + S8x128.size a ≤ S65544x128.size a)
theorem k0_off352_inb : ∀ (v1519 : BitVec 32) (k0_hw118 : k0_chk118 v1519), ∀ a, (k0_off352 v1519) a + S8x128.size a ≤ S65544x128.size a := fun v1519 k0_hw118 => k0_hw118

def k0_off353 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1531 : Index := Scalar.indexCast arg5
  let c114_354 : Index := 114#32
  ![v1531.toNat, 114]
def k0_off354 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1533 : Index := Scalar.indexCast arg5
  let c118_355 : Index := 118#32
  ![v1533.toNat, 118]
def k0_off355 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1542 : Index := Scalar.indexCast arg5
  let c115 : Index := 115#32
  ![v1542.toNat, 115]
def k0_off356 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1544 : Index := Scalar.indexCast arg5
  let c119 : Index := 119#32
  ![v1544.toNat, 119]
def k0_off357 (v1543 : BitVec 32) : Fin 2 → Nat :=
  let v1546 : Index := Scalar.indexCast v1543
  let c0_356 : Index := 0#32
  ![v1546.toNat, 0]

def k0_chk119 (v1543 : BitVec 32) : Prop :=
  (∀ a, (k0_off357 v1543) a + S8x128.size a ≤ S65544x128.size a)
theorem k0_off357_inb : ∀ (v1543 : BitVec 32) (k0_hw119 : k0_chk119 v1543), ∀ a, (k0_off357 v1543) a + S8x128.size a ≤ S65544x128.size a := fun v1543 k0_hw119 => k0_hw119

def k0_off358 (v1545 : BitVec 32) : Fin 2 → Nat :=
  let v1548 : Index := Scalar.indexCast v1545
  let c0_357 : Index := 0#32
  ![v1548.toNat, 0]

def k0_chk120 (v1545 : BitVec 32) : Prop :=
  (∀ a, (k0_off358 v1545) a + S8x128.size a ≤ S65544x128.size a)
theorem k0_off358_inb : ∀ (v1545 : BitVec 32) (k0_hw120 : k0_chk120 v1545), ∀ a, (k0_off358 v1545) a + S8x128.size a ≤ S65544x128.size a := fun v1545 k0_hw120 => k0_hw120

def k0_off359 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1557 : Index := Scalar.indexCast arg5
  let c115_360 : Index := 115#32
  ![v1557.toNat, 115]
def k0_off360 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1559 : Index := Scalar.indexCast arg5
  let c119_361 : Index := 119#32
  ![v1559.toNat, 119]
def k0_off361 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1568 : Index := Scalar.indexCast arg5
  let c120 : Index := 120#32
  ![v1568.toNat, 120]
def k0_off362 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1570 : Index := Scalar.indexCast arg5
  let c124 : Index := 124#32
  ![v1570.toNat, 124]
def k0_off363 (v1569 : BitVec 32) : Fin 2 → Nat :=
  let v1572 : Index := Scalar.indexCast v1569
  let c0_362 : Index := 0#32
  ![v1572.toNat, 0]

def k0_chk121 (v1569 : BitVec 32) : Prop :=
  (∀ a, (k0_off363 v1569) a + S8x128.size a ≤ S65544x128.size a)
theorem k0_off363_inb : ∀ (v1569 : BitVec 32) (k0_hw121 : k0_chk121 v1569), ∀ a, (k0_off363 v1569) a + S8x128.size a ≤ S65544x128.size a := fun v1569 k0_hw121 => k0_hw121

def k0_off364 (v1571 : BitVec 32) : Fin 2 → Nat :=
  let v1574 : Index := Scalar.indexCast v1571
  let c0_363 : Index := 0#32
  ![v1574.toNat, 0]

def k0_chk122 (v1571 : BitVec 32) : Prop :=
  (∀ a, (k0_off364 v1571) a + S8x128.size a ≤ S65544x128.size a)
theorem k0_off364_inb : ∀ (v1571 : BitVec 32) (k0_hw122 : k0_chk122 v1571), ∀ a, (k0_off364 v1571) a + S8x128.size a ≤ S65544x128.size a := fun v1571 k0_hw122 => k0_hw122

def k0_off365 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1583 : Index := Scalar.indexCast arg5
  let c120_366 : Index := 120#32
  ![v1583.toNat, 120]
def k0_off366 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1585 : Index := Scalar.indexCast arg5
  let c124_367 : Index := 124#32
  ![v1585.toNat, 124]
def k0_off367 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1594 : Index := Scalar.indexCast arg5
  let c121 : Index := 121#32
  ![v1594.toNat, 121]
def k0_off368 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1596 : Index := Scalar.indexCast arg5
  let c125 : Index := 125#32
  ![v1596.toNat, 125]
def k0_off369 (v1595 : BitVec 32) : Fin 2 → Nat :=
  let v1598 : Index := Scalar.indexCast v1595
  let c0_368 : Index := 0#32
  ![v1598.toNat, 0]

def k0_chk123 (v1595 : BitVec 32) : Prop :=
  (∀ a, (k0_off369 v1595) a + S8x128.size a ≤ S65544x128.size a)
theorem k0_off369_inb : ∀ (v1595 : BitVec 32) (k0_hw123 : k0_chk123 v1595), ∀ a, (k0_off369 v1595) a + S8x128.size a ≤ S65544x128.size a := fun v1595 k0_hw123 => k0_hw123

def k0_off370 (v1597 : BitVec 32) : Fin 2 → Nat :=
  let v1600 : Index := Scalar.indexCast v1597
  let c0_369 : Index := 0#32
  ![v1600.toNat, 0]

def k0_chk124 (v1597 : BitVec 32) : Prop :=
  (∀ a, (k0_off370 v1597) a + S8x128.size a ≤ S65544x128.size a)
theorem k0_off370_inb : ∀ (v1597 : BitVec 32) (k0_hw124 : k0_chk124 v1597), ∀ a, (k0_off370 v1597) a + S8x128.size a ≤ S65544x128.size a := fun v1597 k0_hw124 => k0_hw124

def k0_off371 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1609 : Index := Scalar.indexCast arg5
  let c121_372 : Index := 121#32
  ![v1609.toNat, 121]
def k0_off372 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1611 : Index := Scalar.indexCast arg5
  let c125_373 : Index := 125#32
  ![v1611.toNat, 125]
def k0_off373 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1620 : Index := Scalar.indexCast arg5
  let c122 : Index := 122#32
  ![v1620.toNat, 122]
def k0_off374 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1622 : Index := Scalar.indexCast arg5
  let c126 : Index := 126#32
  ![v1622.toNat, 126]
def k0_off375 (v1621 : BitVec 32) : Fin 2 → Nat :=
  let v1624 : Index := Scalar.indexCast v1621
  let c0_374 : Index := 0#32
  ![v1624.toNat, 0]

def k0_chk125 (v1621 : BitVec 32) : Prop :=
  (∀ a, (k0_off375 v1621) a + S8x128.size a ≤ S65544x128.size a)
theorem k0_off375_inb : ∀ (v1621 : BitVec 32) (k0_hw125 : k0_chk125 v1621), ∀ a, (k0_off375 v1621) a + S8x128.size a ≤ S65544x128.size a := fun v1621 k0_hw125 => k0_hw125

def k0_off376 (v1623 : BitVec 32) : Fin 2 → Nat :=
  let v1626 : Index := Scalar.indexCast v1623
  let c0_375 : Index := 0#32
  ![v1626.toNat, 0]

def k0_chk126 (v1623 : BitVec 32) : Prop :=
  (∀ a, (k0_off376 v1623) a + S8x128.size a ≤ S65544x128.size a)
theorem k0_off376_inb : ∀ (v1623 : BitVec 32) (k0_hw126 : k0_chk126 v1623), ∀ a, (k0_off376 v1623) a + S8x128.size a ≤ S65544x128.size a := fun v1623 k0_hw126 => k0_hw126

def k0_off377 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1635 : Index := Scalar.indexCast arg5
  let c122_378 : Index := 122#32
  ![v1635.toNat, 122]
def k0_off378 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1637 : Index := Scalar.indexCast arg5
  let c126_379 : Index := 126#32
  ![v1637.toNat, 126]
def k0_off379 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1646 : Index := Scalar.indexCast arg5
  let c123 : Index := 123#32
  ![v1646.toNat, 123]
def k0_off380 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1648 : Index := Scalar.indexCast arg5
  let c127 : Index := 127#32
  ![v1648.toNat, 127]
def k0_off381 (v1647 : BitVec 32) : Fin 2 → Nat :=
  let v1650 : Index := Scalar.indexCast v1647
  let c0_380 : Index := 0#32
  ![v1650.toNat, 0]

def k0_chk127 (v1647 : BitVec 32) : Prop :=
  (∀ a, (k0_off381 v1647) a + S8x128.size a ≤ S65544x128.size a)
theorem k0_off381_inb : ∀ (v1647 : BitVec 32) (k0_hw127 : k0_chk127 v1647), ∀ a, (k0_off381 v1647) a + S8x128.size a ≤ S65544x128.size a := fun v1647 k0_hw127 => k0_hw127

def k0_off382 (v1649 : BitVec 32) : Fin 2 → Nat :=
  let v1652 : Index := Scalar.indexCast v1649
  let c0_381 : Index := 0#32
  ![v1652.toNat, 0]

def k0_chk128 (v1649 : BitVec 32) : Prop :=
  (∀ a, (k0_off382 v1649) a + S8x128.size a ≤ S65544x128.size a)
theorem k0_off382_inb : ∀ (v1649 : BitVec 32) (k0_hw128 : k0_chk128 v1649), ∀ a, (k0_off382 v1649) a + S8x128.size a ≤ S65544x128.size a := fun v1649 k0_hw128 => k0_hw128

def k0_off383 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1661 : Index := Scalar.indexCast arg5
  let c123_384 : Index := 123#32
  ![v1661.toNat, 123]
def k0_off384 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1663 : Index := Scalar.indexCast arg5
  let c127_385 : Index := 127#32
  ![v1663.toNat, 127]
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v1679 : BitVec 32 := Scalar.muli arg5 c8_i32
  v1679
def k0_off385 (k0_t1 : Fin k0_t1_loop.trips) : Fin 2 → Nat :=
  let c0_i32 : BitVec 32 := 0#32
  let c1_i32 : BitVec 32 := 1#32
  let arg5 : BitVec 32 := Scf.iv c0_i32 c1_i32 k0_t1
  let c8_i32 : BitVec 32 := 8#32
  let v1679 : BitVec 32 := Scalar.muli arg5 c8_i32
  let v1680 : BitVec 32 := v1679
  let v1681 : Index := Scalar.indexCast v1680
  let c0_388 : Index := 0#32
  ![v1681.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65544x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x128 : Shape := ⟨2, ![32768, 128]⟩
abbrev S65544x128 : Shape := ⟨2, ![65544, 128]⟩
abbrev S65536x128 : Shape := ⟨2, ![65536, 128]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩
abbrev S_ : Shape := ⟨0, ![]⟩
abbrev S32768x128x1 : Shape := ⟨3, ![32768, 128, 1]⟩
abbrev S32768x128x1024 : Shape := ⟨3, ![32768, 128, 1024]⟩
abbrev S32768x1024 : Shape := ⟨2, ![32768, 1024]⟩
abbrev S262144x128 : Shape := ⟨2, ![262144, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S65544x128, .i32⟩
  | .hbm, ⟨3, _⟩ => ⟨S65536x128, .i32⟩
  | .hbm, ⟨4, _⟩ => ⟨S16384x512, .i32⟩
  | .hbm, ⟨5, _⟩ => ⟨S16384x512x2, .bf16⟩
  | .hbm, ⟨6, _⟩ => ⟨S16384x512x1, .bf16⟩
  | .hbm, ⟨7, _⟩ => ⟨S16384x512, .bf16⟩
  | .hbm, ⟨8, _⟩ => ⟨S16384x512x1, .bf16⟩
  | .hbm, ⟨9, _⟩ => ⟨S16384x512, .bf16⟩
  | .hbm, ⟨10, _⟩ => ⟨S16384x1024, .bf16⟩
  | .hbm, ⟨11, _⟩ => ⟨S16384x1024, .f32⟩
  | .hbm, ⟨12, _⟩ => ⟨S_, .i32⟩
  | .hbm, ⟨13, _⟩ => ⟨S32768x128, .i32⟩
  | .hbm, ⟨14, _⟩ => ⟨S32768x128, .i1⟩
  | .hbm, ⟨15, _⟩ => ⟨S_, .i32⟩
  | .hbm, ⟨16, _⟩ => ⟨S32768x128, .i32⟩
  | .hbm, ⟨17, _⟩ => ⟨S32768x128, .i32⟩
  | .hbm, ⟨18, _⟩ => ⟨S32768x128, .i32⟩
  | .hbm, ⟨19, _⟩ => ⟨S32768x128x1, .i32⟩
  | .hbm, ⟨20, _⟩ => ⟨S32768x128x1024, .f32⟩
  | .hbm, ⟨21, _⟩ => ⟨S32768x1024, .f32⟩
  | .hbm, ⟨22, _⟩ => ⟨S262144x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel3.lean ====
abbrev S16x2048x1024 : Shape := ⟨3, ![16, 2048, 1024]⟩
abbrev S262144x128 : Shape := ⟨2, ![262144, 128]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S262144x128, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x2048x1024 : Shape := ⟨3, ![16, 2048, 1024]⟩
abbrev S262144x128 : Shape := ⟨2, ![262144, 128]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S262144x128, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S32768x128 : Shape := ⟨2, ![32768, 128]⟩
abbrev S16x2048x1024 : Shape := ⟨3, ![16, 2048, 1024]⟩
abbrev S65544x128 : Shape := ⟨2, ![65544, 128]⟩
abbrev S32768x1024 : Shape := ⟨2, ![32768, 1024]⟩
abbrev S1x128 : Shape := ⟨2, ![1, 128]⟩
abbrev S_ : Shape := ⟨0, ![]⟩
abbrev S262144x128 : Shape := ⟨2, ![262144, 128]⟩
abbrev S64x128 : Shape := ⟨2, ![64, 128]⟩
abbrev S512x128 : Shape := ⟨2, ![512, 128]⟩
abbrev S8x128 : Shape := ⟨2, ![8, 128]⟩
abbrev S128x128 : Shape := ⟨2, ![128, 128]⟩
abbrev S384x128 : Shape := ⟨2, ![384, 128]⟩
abbrev S1x1 : Shape := ⟨2, ![1, 1]⟩
abbrev S128x384 : Shape := ⟨2, ![128, 384]⟩
abbrev S128 : Shape := ⟨1, ![128]⟩

abbrev nBuf : Space → Nat
  | .hbm => 44
  | .vmem => 7
  | .smem => 2
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S16x2048x1024, .f32⟩
  | .hbm, ⟨3, _⟩ => ⟨S65544x128, .i32⟩
  | .hbm, ⟨4, _⟩ => ⟨S32768x1024, .f32⟩
  | .hbm, ⟨5, _⟩ => ⟨S1x128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S_, .i32⟩
  | .hbm, ⟨18, _⟩ => ⟨S1x128, .i32⟩
  | .hbm, ⟨19, _⟩ => ⟨S1x128, .i1⟩
  | .hbm, ⟨20, _⟩ => ⟨S_, .i32⟩
  | .hbm, ⟨21, _⟩ => ⟨S_, .i1⟩
  | .hbm, ⟨22, _⟩ => ⟨S1x128, .i1⟩
  | .hbm, ⟨23, _⟩ => ⟨S1x128, .i1⟩
  | .hbm, ⟨24, _⟩ => ⟨S1x128, .i1⟩
  | .hbm, ⟨25, _⟩ => ⟨S1x128, .i32⟩
  | .hbm, ⟨26, _⟩ => ⟨S1x128, .i32⟩
  | .hbm, ⟨27, _⟩ => ⟨S1x128, .i32⟩
  | .hbm, ⟨28, _⟩ => ⟨S_, .i32⟩
  | .hbm, ⟨29, _⟩ => ⟨S32768x128, .i32⟩
  | .hbm, ⟨30, _⟩ => ⟨S32768x128, .i32⟩
  | .hbm, ⟨31, _⟩ => ⟨S_, .i32⟩
  | .hbm, ⟨32, _⟩ => ⟨S1x128, .i32⟩
  | .hbm, ⟨33, _⟩ => ⟨S1x128, .i1⟩
  | .hbm, ⟨34, _⟩ => ⟨S_, .i32⟩
  | .hbm, ⟨35, _⟩ => ⟨S_, .i32⟩
  | .hbm, ⟨36, _⟩ => ⟨S1x128, .i32⟩
  | .hbm, ⟨37, _⟩ => ⟨S1x128, .i32⟩
  | .hbm, ⟨38, _⟩ => ⟨S1x128, .i32⟩
  | .hbm, ⟨39, _⟩ => ⟨S1x128, .i32⟩
  | .hbm, ⟨40, _⟩ => ⟨S32768x128, .i32⟩
  | .hbm, ⟨41, _⟩ => ⟨S32768x128, .i32⟩
  | .hbm, ⟨42, _⟩ => ⟨S262144x128, .f32⟩
  | .hbm, ⟨43, _⟩ => ⟨S32768x128, .f32⟩
  | .local _ .vmem, ⟨0, _⟩ => ⟨S512x128, .f32⟩
  | .local _ .vmem, ⟨1, _⟩ => ⟨S512x128, .f32⟩
  | .local _ .vmem, ⟨2, _⟩ => ⟨S64x128, .f32⟩
  | .local _ .vmem, ⟨3, _⟩ => ⟨S64x128, .f32⟩
  | .local _ .vmem, ⟨4, _⟩ => ⟨S65544x128, .i32⟩
  | .local _ .vmem, ⟨5, _⟩ => ⟨S64x128, .f32⟩
  | .local _ .vmem, ⟨6, _⟩ => ⟨S64x128, .f32⟩
  | .local _ .smem, ⟨0, _⟩ => ⟨S64x128, .i32⟩
  | .local _ .smem, ⟨1, _⟩ => ⟨S64x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_c_3 : Ref sig .tc := ⟨.hbm, 35, rfl⟩
abbrev main_call1_v0 : Ref sig .tc := ⟨.hbm, 36, rfl⟩
abbrev main_call1_v1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![512], ![false]⟩

@[reducible] def k0_t1_loop : Scf.Loop 32 :=
  let c0_i32_11 : BitVec 32 := 0#32
  let c64_i32 : BitVec 32 := 64#32
  let v43 : BitVec 32 := Scalar.addi c0_i32_11 c64_i32
  let c1_i32_12 : BitVec 32 := 1#32
  ⟨c0_i32_11, v43, c1_i32_12⟩
def k0_mult1 (k0_t1 : Fin k0_t1_loop.trips) : BitVec 32 :=
  let c0_i32_11 : BitVec 32 := 0#32
  let c1_i32_12 : BitVec 32 := 1#32
  let arg6 : BitVec 32 := Scf.iv c0_i32_11 c1_i32_12 k0_t1
  let c8_i32 : BitVec 32 := 8#32
  let v62 : BitVec 32 := Scalar.muli arg6 c8_i32
  v62
def k0_off1 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let c8_i32 : BitVec 32 := 8#32
  let v62 : BitVec 32 := Scalar.muli arg6 c8_i32
  let v63 : BitVec 32 := v62
  let v64 : Index := Scalar.indexCast v63
  let c0_23 : Index := 0#32
  ![v64.toNat, 0]
def k0_off2 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v70 : Index := Scalar.indexCast arg6
  let c0_25 : Index := 0#32
  ![v70.toNat, 0]
def k0_off3 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v72 : Index := Scalar.indexCast arg6
  let c4 : Index := 4#32
  ![v72.toNat, 4]
def k0_off4 (v71 : BitVec 32) : Fin 2 → Nat :=
  let v74 : Index := Scalar.indexCast v71
  let c0_26 : Index := 0#32
  ![v74.toNat, 0]

def k0_chk1 (v71 : BitVec 32) : Prop :=
  (∀ a, (k0_off4 v71) a + S8x128.size a ≤ S65544x128.size a)
theorem k0_off4_inb : ∀ (v71 : BitVec 32) (k0_hw1 : k0_chk1 v71), ∀ a, (k0_off4 v71) a + S8x128.size a ≤ S65544x128.size a := fun v71 k0_hw1 => k0_hw1

def k0_off5 (v73 : BitVec 32) : Fin 2 → Nat :=
  let v76 : Index := Scalar.indexCast v73
  let c0_27 : Index := 0#32
  ![v76.toNat, 0]

def k0_chk2 (v73 : BitVec 32) : Prop :=
  (∀ a, (k0_off5 v73) a + S8x128.size a ≤ S65544x128.size a)
theorem k0_off5_inb : ∀ (v73 : BitVec 32) (k0_hw2 : k0_chk2 v73), ∀ a, (k0_off5 v73) a + S8x128.size a ≤ S65544x128.size a := fun v73 k0_hw2 => k0_hw2

def k0_off6 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v88 : Index := Scalar.indexCast arg6
  let c1 : Index := 1#32
  ![v88.toNat, 1]
def k0_off7 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v90 : Index := Scalar.indexCast arg6
  let c5 : Index := 5#32
  ![v90.toNat, 5]
def k0_off8 (v89 : BitVec 32) : Fin 2 → Nat :=
  let v92 : Index := Scalar.indexCast v89
  let c0_28 : Index := 0#32
  ![v92.toNat, 0]

def k0_chk3 (v89 : BitVec 32) : Prop :=
  (∀ a, (k0_off8 v89) a + S8x128.size a ≤ S65544x128.size a)
theorem k0_off8_inb : ∀ (v89 : BitVec 32) (k0_hw3 : k0_chk3 v89), ∀ a, (k0_off8 v89) a + S8x128.size a ≤ S65544x128.size a := fun v89 k0_hw3 => k0_hw3

def k0_off9 (v91 : BitVec 32) : Fin 2 → Nat :=
  let v94 : Index := Scalar.indexCast v91
  let c0_29 : Index := 0#32
  ![v94.toNat, 0]

def k0_chk4 (v91 : BitVec 32) : Prop :=
  (∀ a, (k0_off9 v91) a + S8x128.size a ≤ S65544x128.size a)
theorem k0_off9_inb : ∀ (v91 : BitVec 32) (k0_hw4 : k0_chk4 v91), ∀ a, (k0_off9 v91) a + S8x128.size a ≤ S65544x128.size a := fun v91 k0_hw4 => k0_hw4

def k0_off10 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v106 : Index := Scalar.indexCast arg6
  let c2 : Index := 2#32
  ![v106.toNat, 2]
def k0_off11 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v108 : Index := Scalar.indexCast arg6
  let c6 : Index := 6#32
  ![v108.toNat, 6]
def k0_off12 (v107 : BitVec 32) : Fin 2 → Nat :=
  let v110 : Index := Scalar.indexCast v107
  let c0_32 : Index := 0#32
  ![v110.toNat, 0]

def k0_chk5 (v107 : BitVec 32) : Prop :=
  (∀ a, (k0_off12 v107) a + S8x128.size a ≤ S65544x128.size a)
theorem k0_off12_inb : ∀ (v107 : BitVec 32) (k0_hw5 : k0_chk5 v107), ∀ a, (k0_off12 v107) a + S8x128.size a ≤ S65544x128.size a := fun v107 k0_hw5 => k0_hw5

def k0_off13 (v109 : BitVec 32) : Fin 2 → Nat :=
  let v112 : Index := Scalar.indexCast v109
  let c0_33 : Index := 0#32
  ![v112.toNat, 0]

def k0_chk6 (v109 : BitVec 32) : Prop :=
  (∀ a, (k0_off13 v109) a + S8x128.size a ≤ S65544x128.size a)
theorem k0_off13_inb : ∀ (v109 : BitVec 32) (k0_hw6 : k0_chk6 v109), ∀ a, (k0_off13 v109) a + S8x128.size a ≤ S65544x128.size a := fun v109 k0_hw6 => k0_hw6

def k0_off14 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v124 : Index := Scalar.indexCast arg6
  let c3 : Index := 3#32
  ![v124.toNat, 3]
def k0_off15 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v126 : Index := Scalar.indexCast arg6
  let c7 : Index := 7#32
  ![v126.toNat, 7]
def k0_off16 (v125 : BitVec 32) : Fin 2 → Nat :=
  let v128 : Index := Scalar.indexCast v125
  let c0_36 : Index := 0#32
  ![v128.toNat, 0]

def k0_chk7 (v125 : BitVec 32) : Prop :=
  (∀ a, (k0_off16 v125) a + S8x128.size a ≤ S65544x128.size a)
theorem k0_off16_inb : ∀ (v125 : BitVec 32) (k0_hw7 : k0_chk7 v125), ∀ a, (k0_off16 v125) a + S8x128.size a ≤ S65544x128.size a := fun v125 k0_hw7 => k0_hw7

def k0_off17 (v127 : BitVec 32) : Fin 2 → Nat :=
  let v130 : Index := Scalar.indexCast v127
  let c0_37 : Index := 0#32
  ![v130.toNat, 0]

def k0_chk8 (v127 : BitVec 32) : Prop :=
  (∀ a, (k0_off17 v127) a + S8x128.size a ≤ S65544x128.size a)
theorem k0_off17_inb : ∀ (v127 : BitVec 32) (k0_hw8 : k0_chk8 v127), ∀ a, (k0_off17 v127) a + S8x128.size a ≤ S65544x128.size a := fun v127 k0_hw8 => k0_hw8

def k0_off18 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v160 : Index := Scalar.indexCast arg6
  let c8 : Index := 8#32
  ![v160.toNat, 8]
def k0_off19 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v162 : Index := Scalar.indexCast arg6
  let c12 : Index := 12#32
  ![v162.toNat, 12]
def k0_off20 (v161 : BitVec 32) : Fin 2 → Nat :=
  let v164 : Index := Scalar.indexCast v161
  let c0_47 : Index := 0#32
  ![v164.toNat, 0]

def k0_chk9 (v161 : BitVec 32) : Prop :=
  (∀ a, (k0_off20 v161) a + S8x128.size a ≤ S65544x128.size a)
theorem k0_off20_inb : ∀ (v161 : BitVec 32) (k0_hw9 : k0_chk9 v161), ∀ a, (k0_off20 v161) a + S8x128.size a ≤ S65544x128.size a := fun v161 k0_hw9 => k0_hw9

def k0_off21 (v163 : BitVec 32) : Fin 2 → Nat :=
  let v166 : Index := Scalar.indexCast v163
  let c0_48 : Index := 0#32
  ![v166.toNat, 0]

def k0_chk10 (v163 : BitVec 32) : Prop :=
  (∀ a, (k0_off21 v163) a + S8x128.size a ≤ S65544x128.size a)
theorem k0_off21_inb : ∀ (v163 : BitVec 32) (k0_hw10 : k0_chk10 v163), ∀ a, (k0_off21 v163) a + S8x128.size a ≤ S65544x128.size a := fun v163 k0_hw10 => k0_hw10

def k0_off22 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v178 : Index := Scalar.indexCast arg6
  let c9 : Index := 9#32
  ![v178.toNat, 9]
def k0_off23 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v180 : Index := Scalar.indexCast arg6
  let c13 : Index := 13#32
  ![v180.toNat, 13]
def k0_off24 (v179 : BitVec 32) : Fin 2 → Nat :=
  let v182 : Index := Scalar.indexCast v179
  let c0_51 : Index := 0#32
  ![v182.toNat, 0]

def k0_chk11 (v179 : BitVec 32) : Prop :=
  (∀ a, (k0_off24 v179) a + S8x128.size a ≤ S65544x128.size a)
theorem k0_off24_inb : ∀ (v179 : BitVec 32) (k0_hw11 : k0_chk11 v179), ∀ a, (k0_off24 v179) a + S8x128.size a ≤ S65544x128.size a := fun v179 k0_hw11 => k0_hw11

def k0_off25 (v181 : BitVec 32) : Fin 2 → Nat :=
  let v184 : Index := Scalar.indexCast v181
  let c0_52 : Index := 0#32
  ![v184.toNat, 0]

def k0_chk12 (v181 : BitVec 32) : Prop :=
  (∀ a, (k0_off25 v181) a + S8x128.size a ≤ S65544x128.size a)
theorem k0_off25_inb : ∀ (v181 : BitVec 32) (k0_hw12 : k0_chk12 v181), ∀ a, (k0_off25 v181) a + S8x128.size a ≤ S65544x128.size a := fun v181 k0_hw12 => k0_hw12

def k0_off26 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v196 : Index := Scalar.indexCast arg6
  let c10 : Index := 10#32
  ![v196.toNat, 10]
def k0_off27 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v198 : Index := Scalar.indexCast arg6
  let c14 : Index := 14#32
  ![v198.toNat, 14]
def k0_off28 (v197 : BitVec 32) : Fin 2 → Nat :=
  let v200 : Index := Scalar.indexCast v197
  let c0_55 : Index := 0#32
  ![v200.toNat, 0]

def k0_chk13 (v197 : BitVec 32) : Prop :=
  (∀ a, (k0_off28 v197) a + S8x128.size a ≤ S65544x128.size a)
theorem k0_off28_inb : ∀ (v197 : BitVec 32) (k0_hw13 : k0_chk13 v197), ∀ a, (k0_off28 v197) a + S8x128.size a ≤ S65544x128.size a := fun v197 k0_hw13 => k0_hw13

def k0_off29 (v199 : BitVec 32) : Fin 2 → Nat :=
  let v202 : Index := Scalar.indexCast v199
  let c0_56 : Index := 0#32
  ![v202.toNat, 0]

def k0_chk14 (v199 : BitVec 32) : Prop :=
  (∀ a, (k0_off29 v199) a + S8x128.size a ≤ S65544x128.size a)
theorem k0_off29_inb : ∀ (v199 : BitVec 32) (k0_hw14 : k0_chk14 v199), ∀ a, (k0_off29 v199) a + S8x128.size a ≤ S65544x128.size a := fun v199 k0_hw14 => k0_hw14

def k0_off30 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v214 : Index := Scalar.indexCast arg6
  let c11 : Index := 11#32
  ![v214.toNat, 11]
def k0_off31 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v216 : Index := Scalar.indexCast arg6
  let c15 : Index := 15#32
  ![v216.toNat, 15]
def k0_off32 (v215 : BitVec 32) : Fin 2 → Nat :=
  let v218 : Index := Scalar.indexCast v215
  let c0_59 : Index := 0#32
  ![v218.toNat, 0]

def k0_chk15 (v215 : BitVec 32) : Prop :=
  (∀ a, (k0_off32 v215) a + S8x128.size a ≤ S65544x128.size a)
theorem k0_off32_inb : ∀ (v215 : BitVec 32) (k0_hw15 : k0_chk15 v215), ∀ a, (k0_off32 v215) a + S8x128.size a ≤ S65544x128.size a := fun v215 k0_hw15 => k0_hw15

def k0_off33 (v217 : BitVec 32) : Fin 2 → Nat :=
  let v220 : Index := Scalar.indexCast v217
  let c0_60 : Index := 0#32
  ![v220.toNat, 0]

def k0_chk16 (v217 : BitVec 32) : Prop :=
  (∀ a, (k0_off33 v217) a + S8x128.size a ≤ S65544x128.size a)
theorem k0_off33_inb : ∀ (v217 : BitVec 32) (k0_hw16 : k0_chk16 v217), ∀ a, (k0_off33 v217) a + S8x128.size a ≤ S65544x128.size a := fun v217 k0_hw16 => k0_hw16

def k0_off34 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v250 : Index := Scalar.indexCast arg6
  let c16 : Index := 16#32
  ![v250.toNat, 16]
def k0_off35 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v252 : Index := Scalar.indexCast arg6
  let c20 : Index := 20#32
  ![v252.toNat, 20]
def k0_off36 (v251 : BitVec 32) : Fin 2 → Nat :=
  let v254 : Index := Scalar.indexCast v251
  let c0_72 : Index := 0#32
  ![v254.toNat, 0]

def k0_chk17 (v251 : BitVec 32) : Prop :=
  (∀ a, (k0_off36 v251) a + S8x128.size a ≤ S65544x128.size a)
theorem k0_off36_inb : ∀ (v251 : BitVec 32) (k0_hw17 : k0_chk17 v251), ∀ a, (k0_off36 v251) a + S8x128.size a ≤ S65544x128.size a := fun v251 k0_hw17 => k0_hw17

def k0_off37 (v253 : BitVec 32) : Fin 2 → Nat :=
  let v256 : Index := Scalar.indexCast v253
  let c0_73 : Index := 0#32
  ![v256.toNat, 0]

def k0_chk18 (v253 : BitVec 32) : Prop :=
  (∀ a, (k0_off37 v253) a + S8x128.size a ≤ S65544x128.size a)
theorem k0_off37_inb : ∀ (v253 : BitVec 32) (k0_hw18 : k0_chk18 v253), ∀ a, (k0_off37 v253) a + S8x128.size a ≤ S65544x128.size a := fun v253 k0_hw18 => k0_hw18

def k0_off38 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v268 : Index := Scalar.indexCast arg6
  let c17 : Index := 17#32
  ![v268.toNat, 17]
def k0_off39 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v270 : Index := Scalar.indexCast arg6
  let c21 : Index := 21#32
  ![v270.toNat, 21]
def k0_off40 (v269 : BitVec 32) : Fin 2 → Nat :=
  let v272 : Index := Scalar.indexCast v269
  let c0_76 : Index := 0#32
  ![v272.toNat, 0]

def k0_chk19 (v269 : BitVec 32) : Prop :=
  (∀ a, (k0_off40 v269) a + S8x128.size a ≤ S65544x128.size a)
theorem k0_off40_inb : ∀ (v269 : BitVec 32) (k0_hw19 : k0_chk19 v269), ∀ a, (k0_off40 v269) a + S8x128.size a ≤ S65544x128.size a := fun v269 k0_hw19 => k0_hw19

def k0_off41 (v271 : BitVec 32) : Fin 2 → Nat :=
  let v274 : Index := Scalar.indexCast v271
  let c0_77 : Index := 0#32
  ![v274.toNat, 0]

def k0_chk20 (v271 : BitVec 32) : Prop :=
  (∀ a, (k0_off41 v271) a + S8x128.size a ≤ S65544x128.size a)
theorem k0_off41_inb : ∀ (v271 : BitVec 32) (k0_hw20 : k0_chk20 v271), ∀ a, (k0_off41 v271) a + S8x128.size a ≤ S65544x128.size a := fun v271 k0_hw20 => k0_hw20

def k0_off42 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v286 : Index := Scalar.indexCast arg6
  let c18 : Index := 18#32
  ![v286.toNat, 18]
def k0_off43 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v288 : Index := Scalar.indexCast arg6
  let c22 : Index := 22#32
  ![v288.toNat, 22]
def k0_off44 (v287 : BitVec 32) : Fin 2 → Nat :=
  let v290 : Index := Scalar.indexCast v287
  let c0_80 : Index := 0#32
  ![v290.toNat, 0]

def k0_chk21 (v287 : BitVec 32) : Prop :=
  (∀ a, (k0_off44 v287) a + S8x128.size a ≤ S65544x128.size a)
theorem k0_off44_inb : ∀ (v287 : BitVec 32) (k0_hw21 : k0_chk21 v287), ∀ a, (k0_off44 v287) a + S8x128.size a ≤ S65544x128.size a := fun v287 k0_hw21 => k0_hw21

def k0_off45 (v289 : BitVec 32) : Fin 2 → Nat :=
  let v292 : Index := Scalar.indexCast v289
  let c0_81 : Index := 0#32
  ![v292.toNat, 0]

def k0_chk22 (v289 : BitVec 32) : Prop :=
  (∀ a, (k0_off45 v289) a + S8x128.size a ≤ S65544x128.size a)
theorem k0_off45_inb : ∀ (v289 : BitVec 32) (k0_hw22 : k0_chk22 v289), ∀ a, (k0_off45 v289) a + S8x128.size a ≤ S65544x128.size a := fun v289 k0_hw22 => k0_hw22

def k0_off46 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v304 : Index := Scalar.indexCast arg6
  let c19 : Index := 19#32
  ![v304.toNat, 19]
def k0_off47 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v306 : Index := Scalar.indexCast arg6
  let c23 : Index := 23#32
  ![v306.toNat, 23]
def k0_off48 (v305 : BitVec 32) : Fin 2 → Nat :=
  let v308 : Index := Scalar.indexCast v305
  let c0_84 : Index := 0#32
  ![v308.toNat, 0]

def k0_chk23 (v305 : BitVec 32) : Prop :=
  (∀ a, (k0_off48 v305) a + S8x128.size a ≤ S65544x128.size a)
theorem k0_off48_inb : ∀ (v305 : BitVec 32) (k0_hw23 : k0_chk23 v305), ∀ a, (k0_off48 v305) a + S8x128.size a ≤ S65544x128.size a := fun v305 k0_hw23 => k0_hw23

def k0_off49 (v307 : BitVec 32) : Fin 2 → Nat :=
  let v310 : Index := Scalar.indexCast v307
  let c0_85 : Index := 0#32
  ![v310.toNat, 0]

def k0_chk24 (v307 : BitVec 32) : Prop :=
  (∀ a, (k0_off49 v307) a + S8x128.size a ≤ S65544x128.size a)
theorem k0_off49_inb : ∀ (v307 : BitVec 32) (k0_hw24 : k0_chk24 v307), ∀ a, (k0_off49 v307) a + S8x128.size a ≤ S65544x128.size a := fun v307 k0_hw24 => k0_hw24

def k0_off50 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v340 : Index := Scalar.indexCast arg6
  let c24 : Index := 24#32
  ![v340.toNat, 24]
def k0_off51 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v342 : Index := Scalar.indexCast arg6
  let c28 : Index := 28#32
  ![v342.toNat, 28]
def k0_off52 (v341 : BitVec 32) : Fin 2 → Nat :=
  let v344 : Index := Scalar.indexCast v341
  let c0_97 : Index := 0#32
  ![v344.toNat, 0]

def k0_chk25 (v341 : BitVec 32) : Prop :=
  (∀ a, (k0_off52 v341) a + S8x128.size a ≤ S65544x128.size a)
theorem k0_off52_inb : ∀ (v341 : BitVec 32) (k0_hw25 : k0_chk25 v341), ∀ a, (k0_off52 v341) a + S8x128.size a ≤ S65544x128.size a := fun v341 k0_hw25 => k0_hw25

def k0_off53 (v343 : BitVec 32) : Fin 2 → Nat :=
  let v346 : Index := Scalar.indexCast v343
  let c0_98 : Index := 0#32
  ![v346.toNat, 0]

def k0_chk26 (v343 : BitVec 32) : Prop :=
  (∀ a, (k0_off53 v343) a + S8x128.size a ≤ S65544x128.size a)
theorem k0_off53_inb : ∀ (v343 : BitVec 32) (k0_hw26 : k0_chk26 v343), ∀ a, (k0_off53 v343) a + S8x128.size a ≤ S65544x128.size a := fun v343 k0_hw26 => k0_hw26

def k0_off54 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v358 : Index := Scalar.indexCast arg6
  let c25 : Index := 25#32
  ![v358.toNat, 25]
def k0_off55 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v360 : Index := Scalar.indexCast arg6
  let c29 : Index := 29#32
  ![v360.toNat, 29]
def k0_off56 (v359 : BitVec 32) : Fin 2 → Nat :=
  let v362 : Index := Scalar.indexCast v359
  let c0_101 : Index := 0#32
  ![v362.toNat, 0]

def k0_chk27 (v359 : BitVec 32) : Prop :=
  (∀ a, (k0_off56 v359) a + S8x128.size a ≤ S65544x128.size a)
theorem k0_off56_inb : ∀ (v359 : BitVec 32) (k0_hw27 : k0_chk27 v359), ∀ a, (k0_off56 v359) a + S8x128.size a ≤ S65544x128.size a := fun v359 k0_hw27 => k0_hw27

def k0_off57 (v361 : BitVec 32) : Fin 2 → Nat :=
  let v364 : Index := Scalar.indexCast v361
  let c0_102 : Index := 0#32
  ![v364.toNat, 0]

def k0_chk28 (v361 : BitVec 32) : Prop :=
  (∀ a, (k0_off57 v361) a + S8x128.size a ≤ S65544x128.size a)
theorem k0_off57_inb : ∀ (v361 : BitVec 32) (k0_hw28 : k0_chk28 v361), ∀ a, (k0_off57 v361) a + S8x128.size a ≤ S65544x128.size a := fun v361 k0_hw28 => k0_hw28

def k0_off58 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v376 : Index := Scalar.indexCast arg6
  let c26 : Index := 26#32
  ![v376.toNat, 26]
def k0_off59 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v378 : Index := Scalar.indexCast arg6
  let c30 : Index := 30#32
  ![v378.toNat, 30]
def k0_off60 (v377 : BitVec 32) : Fin 2 → Nat :=
  let v380 : Index := Scalar.indexCast v377
  let c0_105 : Index := 0#32
  ![v380.toNat, 0]

def k0_chk29 (v377 : BitVec 32) : Prop :=
  (∀ a, (k0_off60 v377) a + S8x128.size a ≤ S65544x128.size a)
theorem k0_off60_inb : ∀ (v377 : BitVec 32) (k0_hw29 : k0_chk29 v377), ∀ a, (k0_off60 v377) a + S8x128.size a ≤ S65544x128.size a := fun v377 k0_hw29 => k0_hw29

def k0_off61 (v379 : BitVec 32) : Fin 2 → Nat :=
  let v382 : Index := Scalar.indexCast v379
  let c0_106 : Index := 0#32
  ![v382.toNat, 0]

def k0_chk30 (v379 : BitVec 32) : Prop :=
  (∀ a, (k0_off61 v379) a + S8x128.size a ≤ S65544x128.size a)
theorem k0_off61_inb : ∀ (v379 : BitVec 32) (k0_hw30 : k0_chk30 v379), ∀ a, (k0_off61 v379) a + S8x128.size a ≤ S65544x128.size a := fun v379 k0_hw30 => k0_hw30

def k0_off62 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v394 : Index := Scalar.indexCast arg6
  let c27 : Index := 27#32
  ![v394.toNat, 27]
def k0_off63 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v396 : Index := Scalar.indexCast arg6
  let c31 : Index := 31#32
  ![v396.toNat, 31]
def k0_off64 (v395 : BitVec 32) : Fin 2 → Nat :=
  let v398 : Index := Scalar.indexCast v395
  let c0_109 : Index := 0#32
  ![v398.toNat, 0]

def k0_chk31 (v395 : BitVec 32) : Prop :=
  (∀ a, (k0_off64 v395) a + S8x128.size a ≤ S65544x128.size a)
theorem k0_off64_inb : ∀ (v395 : BitVec 32) (k0_hw31 : k0_chk31 v395), ∀ a, (k0_off64 v395) a + S8x128.size a ≤ S65544x128.size a := fun v395 k0_hw31 => k0_hw31

def k0_off65 (v397 : BitVec 32) : Fin 2 → Nat :=
  let v400 : Index := Scalar.indexCast v397
  let c0_110 : Index := 0#32
  ![v400.toNat, 0]

def k0_chk32 (v397 : BitVec 32) : Prop :=
  (∀ a, (k0_off65 v397) a + S8x128.size a ≤ S65544x128.size a)
theorem k0_off65_inb : ∀ (v397 : BitVec 32) (k0_hw32 : k0_chk32 v397), ∀ a, (k0_off65 v397) a + S8x128.size a ≤ S65544x128.size a := fun v397 k0_hw32 => k0_hw32

def k0_off66 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v430 : Index := Scalar.indexCast arg6
  let c32 : Index := 32#32
  ![v430.toNat, 32]
def k0_off67 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v432 : Index := Scalar.indexCast arg6
  let c36 : Index := 36#32
  ![v432.toNat, 36]
def k0_off68 (v431 : BitVec 32) : Fin 2 → Nat :=
  let v434 : Index := Scalar.indexCast v431
  let c0_122 : Index := 0#32
  ![v434.toNat, 0]

def k0_chk33 (v431 : BitVec 32) : Prop :=
  (∀ a, (k0_off68 v431) a + S8x128.size a ≤ S65544x128.size a)
theorem k0_off68_inb : ∀ (v431 : BitVec 32) (k0_hw33 : k0_chk33 v431), ∀ a, (k0_off68 v431) a + S8x128.size a ≤ S65544x128.size a := fun v431 k0_hw33 => k0_hw33

def k0_off69 (v433 : BitVec 32) : Fin 2 → Nat :=
  let v436 : Index := Scalar.indexCast v433
  let c0_123 : Index := 0#32
  ![v436.toNat, 0]

def k0_chk34 (v433 : BitVec 32) : Prop :=
  (∀ a, (k0_off69 v433) a + S8x128.size a ≤ S65544x128.size a)
theorem k0_off69_inb : ∀ (v433 : BitVec 32) (k0_hw34 : k0_chk34 v433), ∀ a, (k0_off69 v433) a + S8x128.size a ≤ S65544x128.size a := fun v433 k0_hw34 => k0_hw34

def k0_off70 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v448 : Index := Scalar.indexCast arg6
  let c33 : Index := 33#32
  ![v448.toNat, 33]
def k0_off71 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v450 : Index := Scalar.indexCast arg6
  let c37 : Index := 37#32
  ![v450.toNat, 37]
def k0_off72 (v449 : BitVec 32) : Fin 2 → Nat :=
  let v452 : Index := Scalar.indexCast v449
  let c0_126 : Index := 0#32
  ![v452.toNat, 0]

def k0_chk35 (v449 : BitVec 32) : Prop :=
  (∀ a, (k0_off72 v449) a + S8x128.size a ≤ S65544x128.size a)
theorem k0_off72_inb : ∀ (v449 : BitVec 32) (k0_hw35 : k0_chk35 v449), ∀ a, (k0_off72 v449) a + S8x128.size a ≤ S65544x128.size a := fun v449 k0_hw35 => k0_hw35

def k0_off73 (v451 : BitVec 32) : Fin 2 → Nat :=
  let v454 : Index := Scalar.indexCast v451
  let c0_127 : Index := 0#32
  ![v454.toNat, 0]

def k0_chk36 (v451 : BitVec 32) : Prop :=
  (∀ a, (k0_off73 v451) a + S8x128.size a ≤ S65544x128.size a)
theorem k0_off73_inb : ∀ (v451 : BitVec 32) (k0_hw36 : k0_chk36 v451), ∀ a, (k0_off73 v451) a + S8x128.size a ≤ S65544x128.size a := fun v451 k0_hw36 => k0_hw36

def k0_off74 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v466 : Index := Scalar.indexCast arg6
  let c34 : Index := 34#32
  ![v466.toNat, 34]
def k0_off75 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v468 : Index := Scalar.indexCast arg6
  let c38 : Index := 38#32
  ![v468.toNat, 38]
def k0_off76 (v467 : BitVec 32) : Fin 2 → Nat :=
  let v470 : Index := Scalar.indexCast v467
  let c0_130 : Index := 0#32
  ![v470.toNat, 0]

def k0_chk37 (v467 : BitVec 32) : Prop :=
  (∀ a, (k0_off76 v467) a + S8x128.size a ≤ S65544x128.size a)
theorem k0_off76_inb : ∀ (v467 : BitVec 32) (k0_hw37 : k0_chk37 v467), ∀ a, (k0_off76 v467) a + S8x128.size a ≤ S65544x128.size a := fun v467 k0_hw37 => k0_hw37

def k0_off77 (v469 : BitVec 32) : Fin 2 → Nat :=
  let v472 : Index := Scalar.indexCast v469
  let c0_131 : Index := 0#32
  ![v472.toNat, 0]

def k0_chk38 (v469 : BitVec 32) : Prop :=
  (∀ a, (k0_off77 v469) a + S8x128.size a ≤ S65544x128.size a)
theorem k0_off77_inb : ∀ (v469 : BitVec 32) (k0_hw38 : k0_chk38 v469), ∀ a, (k0_off77 v469) a + S8x128.size a ≤ S65544x128.size a := fun v469 k0_hw38 => k0_hw38

def k0_off78 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v484 : Index := Scalar.indexCast arg6
  let c35 : Index := 35#32
  ![v484.toNat, 35]
def k0_off79 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v486 : Index := Scalar.indexCast arg6
  let c39 : Index := 39#32
  ![v486.toNat, 39]
def k0_off80 (v485 : BitVec 32) : Fin 2 → Nat :=
  let v488 : Index := Scalar.indexCast v485
  let c0_134 : Index := 0#32
  ![v488.toNat, 0]

def k0_chk39 (v485 : BitVec 32) : Prop :=
  (∀ a, (k0_off80 v485) a + S8x128.size a ≤ S65544x128.size a)
theorem k0_off80_inb : ∀ (v485 : BitVec 32) (k0_hw39 : k0_chk39 v485), ∀ a, (k0_off80 v485) a + S8x128.size a ≤ S65544x128.size a := fun v485 k0_hw39 => k0_hw39

def k0_off81 (v487 : BitVec 32) : Fin 2 → Nat :=
  let v490 : Index := Scalar.indexCast v487
  let c0_135 : Index := 0#32
  ![v490.toNat, 0]

def k0_chk40 (v487 : BitVec 32) : Prop :=
  (∀ a, (k0_off81 v487) a + S8x128.size a ≤ S65544x128.size a)
theorem k0_off81_inb : ∀ (v487 : BitVec 32) (k0_hw40 : k0_chk40 v487), ∀ a, (k0_off81 v487) a + S8x128.size a ≤ S65544x128.size a := fun v487 k0_hw40 => k0_hw40

def k0_off82 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v520 : Index := Scalar.indexCast arg6
  let c40 : Index := 40#32
  ![v520.toNat, 40]
def k0_off83 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v522 : Index := Scalar.indexCast arg6
  let c44 : Index := 44#32
  ![v522.toNat, 44]
def k0_off84 (v521 : BitVec 32) : Fin 2 → Nat :=
  let v524 : Index := Scalar.indexCast v521
  let c0_147 : Index := 0#32
  ![v524.toNat, 0]

def k0_chk41 (v521 : BitVec 32) : Prop :=
  (∀ a, (k0_off84 v521) a + S8x128.size a ≤ S65544x128.size a)
theorem k0_off84_inb : ∀ (v521 : BitVec 32) (k0_hw41 : k0_chk41 v521), ∀ a, (k0_off84 v521) a + S8x128.size a ≤ S65544x128.size a := fun v521 k0_hw41 => k0_hw41

def k0_off85 (v523 : BitVec 32) : Fin 2 → Nat :=
  let v526 : Index := Scalar.indexCast v523
  let c0_148 : Index := 0#32
  ![v526.toNat, 0]

def k0_chk42 (v523 : BitVec 32) : Prop :=
  (∀ a, (k0_off85 v523) a + S8x128.size a ≤ S65544x128.size a)
theorem k0_off85_inb : ∀ (v523 : BitVec 32) (k0_hw42 : k0_chk42 v523), ∀ a, (k0_off85 v523) a + S8x128.size a ≤ S65544x128.size a := fun v523 k0_hw42 => k0_hw42

def k0_off86 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v538 : Index := Scalar.indexCast arg6
  let c41 : Index := 41#32
  ![v538.toNat, 41]
def k0_off87 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v540 : Index := Scalar.indexCast arg6
  let c45 : Index := 45#32
  ![v540.toNat, 45]
def k0_off88 (v539 : BitVec 32) : Fin 2 → Nat :=
  let v542 : Index := Scalar.indexCast v539
  let c0_151 : Index := 0#32
  ![v542.toNat, 0]

def k0_chk43 (v539 : BitVec 32) : Prop :=
  (∀ a, (k0_off88 v539) a + S8x128.size a ≤ S65544x128.size a)
theorem k0_off88_inb : ∀ (v539 : BitVec 32) (k0_hw43 : k0_chk43 v539), ∀ a, (k0_off88 v539) a + S8x128.size a ≤ S65544x128.size a := fun v539 k0_hw43 => k0_hw43

def k0_off89 (v541 : BitVec 32) : Fin 2 → Nat :=
  let v544 : Index := Scalar.indexCast v541
  let c0_152 : Index := 0#32
  ![v544.toNat, 0]

def k0_chk44 (v541 : BitVec 32) : Prop :=
  (∀ a, (k0_off89 v541) a + S8x128.size a ≤ S65544x128.size a)
theorem k0_off89_inb : ∀ (v541 : BitVec 32) (k0_hw44 : k0_chk44 v541), ∀ a, (k0_off89 v541) a + S8x128.size a ≤ S65544x128.size a := fun v541 k0_hw44 => k0_hw44

def k0_off90 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v556 : Index := Scalar.indexCast arg6
  let c42 : Index := 42#32
  ![v556.toNat, 42]
def k0_off91 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v558 : Index := Scalar.indexCast arg6
  let c46 : Index := 46#32
  ![v558.toNat, 46]
def k0_off92 (v557 : BitVec 32) : Fin 2 → Nat :=
  let v560 : Index := Scalar.indexCast v557
  let c0_155 : Index := 0#32
  ![v560.toNat, 0]

def k0_chk45 (v557 : BitVec 32) : Prop :=
  (∀ a, (k0_off92 v557) a + S8x128.size a ≤ S65544x128.size a)
theorem k0_off92_inb : ∀ (v557 : BitVec 32) (k0_hw45 : k0_chk45 v557), ∀ a, (k0_off92 v557) a + S8x128.size a ≤ S65544x128.size a := fun v557 k0_hw45 => k0_hw45

def k0_off93 (v559 : BitVec 32) : Fin 2 → Nat :=
  let v562 : Index := Scalar.indexCast v559
  let c0_156 : Index := 0#32
  ![v562.toNat, 0]

def k0_chk46 (v559 : BitVec 32) : Prop :=
  (∀ a, (k0_off93 v559) a + S8x128.size a ≤ S65544x128.size a)
theorem k0_off93_inb : ∀ (v559 : BitVec 32) (k0_hw46 : k0_chk46 v559), ∀ a, (k0_off93 v559) a + S8x128.size a ≤ S65544x128.size a := fun v559 k0_hw46 => k0_hw46

def k0_off94 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v574 : Index := Scalar.indexCast arg6
  let c43 : Index := 43#32
  ![v574.toNat, 43]
def k0_off95 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v576 : Index := Scalar.indexCast arg6
  let c47 : Index := 47#32
  ![v576.toNat, 47]
def k0_off96 (v575 : BitVec 32) : Fin 2 → Nat :=
  let v578 : Index := Scalar.indexCast v575
  let c0_159 : Index := 0#32
  ![v578.toNat, 0]

def k0_chk47 (v575 : BitVec 32) : Prop :=
  (∀ a, (k0_off96 v575) a + S8x128.size a ≤ S65544x128.size a)
theorem k0_off96_inb : ∀ (v575 : BitVec 32) (k0_hw47 : k0_chk47 v575), ∀ a, (k0_off96 v575) a + S8x128.size a ≤ S65544x128.size a := fun v575 k0_hw47 => k0_hw47

def k0_off97 (v577 : BitVec 32) : Fin 2 → Nat :=
  let v580 : Index := Scalar.indexCast v577
  let c0_160 : Index := 0#32
  ![v580.toNat, 0]

def k0_chk48 (v577 : BitVec 32) : Prop :=
  (∀ a, (k0_off97 v577) a + S8x128.size a ≤ S65544x128.size a)
theorem k0_off97_inb : ∀ (v577 : BitVec 32) (k0_hw48 : k0_chk48 v577), ∀ a, (k0_off97 v577) a + S8x128.size a ≤ S65544x128.size a := fun v577 k0_hw48 => k0_hw48

def k0_off98 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v610 : Index := Scalar.indexCast arg6
  let c48 : Index := 48#32
  ![v610.toNat, 48]
def k0_off99 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v612 : Index := Scalar.indexCast arg6
  let c52 : Index := 52#32
  ![v612.toNat, 52]
def k0_off100 (v611 : BitVec 32) : Fin 2 → Nat :=
  let v614 : Index := Scalar.indexCast v611
  let c0_172 : Index := 0#32
  ![v614.toNat, 0]

def k0_chk49 (v611 : BitVec 32) : Prop :=
  (∀ a, (k0_off100 v611) a + S8x128.size a ≤ S65544x128.size a)
theorem k0_off100_inb : ∀ (v611 : BitVec 32) (k0_hw49 : k0_chk49 v611), ∀ a, (k0_off100 v611) a + S8x128.size a ≤ S65544x128.size a := fun v611 k0_hw49 => k0_hw49

def k0_off101 (v613 : BitVec 32) : Fin 2 → Nat :=
  let v616 : Index := Scalar.indexCast v613
  let c0_173 : Index := 0#32
  ![v616.toNat, 0]

def k0_chk50 (v613 : BitVec 32) : Prop :=
  (∀ a, (k0_off101 v613) a + S8x128.size a ≤ S65544x128.size a)
theorem k0_off101_inb : ∀ (v613 : BitVec 32) (k0_hw50 : k0_chk50 v613), ∀ a, (k0_off101 v613) a + S8x128.size a ≤ S65544x128.size a := fun v613 k0_hw50 => k0_hw50

def k0_off102 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v628 : Index := Scalar.indexCast arg6
  let c49 : Index := 49#32
  ![v628.toNat, 49]
def k0_off103 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v630 : Index := Scalar.indexCast arg6
  let c53 : Index := 53#32
  ![v630.toNat, 53]
def k0_off104 (v629 : BitVec 32) : Fin 2 → Nat :=
  let v632 : Index := Scalar.indexCast v629
  let c0_176 : Index := 0#32
  ![v632.toNat, 0]

def k0_chk51 (v629 : BitVec 32) : Prop :=
  (∀ a, (k0_off104 v629) a + S8x128.size a ≤ S65544x128.size a)
theorem k0_off104_inb : ∀ (v629 : BitVec 32) (k0_hw51 : k0_chk51 v629), ∀ a, (k0_off104 v629) a + S8x128.size a ≤ S65544x128.size a := fun v629 k0_hw51 => k0_hw51

def k0_off105 (v631 : BitVec 32) : Fin 2 → Nat :=
  let v634 : Index := Scalar.indexCast v631
  let c0_177 : Index := 0#32
  ![v634.toNat, 0]

def k0_chk52 (v631 : BitVec 32) : Prop :=
  (∀ a, (k0_off105 v631) a + S8x128.size a ≤ S65544x128.size a)
theorem k0_off105_inb : ∀ (v631 : BitVec 32) (k0_hw52 : k0_chk52 v631), ∀ a, (k0_off105 v631) a + S8x128.size a ≤ S65544x128.size a := fun v631 k0_hw52 => k0_hw52

def k0_off106 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v646 : Index := Scalar.indexCast arg6
  let c50 : Index := 50#32
  ![v646.toNat, 50]
def k0_off107 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v648 : Index := Scalar.indexCast arg6
  let c54 : Index := 54#32
  ![v648.toNat, 54]
def k0_off108 (v647 : BitVec 32) : Fin 2 → Nat :=
  let v650 : Index := Scalar.indexCast v647
  let c0_180 : Index := 0#32
  ![v650.toNat, 0]

def k0_chk53 (v647 : BitVec 32) : Prop :=
  (∀ a, (k0_off108 v647) a + S8x128.size a ≤ S65544x128.size a)
theorem k0_off108_inb : ∀ (v647 : BitVec 32) (k0_hw53 : k0_chk53 v647), ∀ a, (k0_off108 v647) a + S8x128.size a ≤ S65544x128.size a := fun v647 k0_hw53 => k0_hw53

def k0_off109 (v649 : BitVec 32) : Fin 2 → Nat :=
  let v652 : Index := Scalar.indexCast v649
  let c0_181 : Index := 0#32
  ![v652.toNat, 0]

def k0_chk54 (v649 : BitVec 32) : Prop :=
  (∀ a, (k0_off109 v649) a + S8x128.size a ≤ S65544x128.size a)
theorem k0_off109_inb : ∀ (v649 : BitVec 32) (k0_hw54 : k0_chk54 v649), ∀ a, (k0_off109 v649) a + S8x128.size a ≤ S65544x128.size a := fun v649 k0_hw54 => k0_hw54

def k0_off110 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v664 : Index := Scalar.indexCast arg6
  let c51 : Index := 51#32
  ![v664.toNat, 51]
def k0_off111 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v666 : Index := Scalar.indexCast arg6
  let c55 : Index := 55#32
  ![v666.toNat, 55]
def k0_off112 (v665 : BitVec 32) : Fin 2 → Nat :=
  let v668 : Index := Scalar.indexCast v665
  let c0_184 : Index := 0#32
  ![v668.toNat, 0]

def k0_chk55 (v665 : BitVec 32) : Prop :=
  (∀ a, (k0_off112 v665) a + S8x128.size a ≤ S65544x128.size a)
theorem k0_off112_inb : ∀ (v665 : BitVec 32) (k0_hw55 : k0_chk55 v665), ∀ a, (k0_off112 v665) a + S8x128.size a ≤ S65544x128.size a := fun v665 k0_hw55 => k0_hw55

def k0_off113 (v667 : BitVec 32) : Fin 2 → Nat :=
  let v670 : Index := Scalar.indexCast v667
  let c0_185 : Index := 0#32
  ![v670.toNat, 0]

def k0_chk56 (v667 : BitVec 32) : Prop :=
  (∀ a, (k0_off113 v667) a + S8x128.size a ≤ S65544x128.size a)
theorem k0_off113_inb : ∀ (v667 : BitVec 32) (k0_hw56 : k0_chk56 v667), ∀ a, (k0_off113 v667) a + S8x128.size a ≤ S65544x128.size a := fun v667 k0_hw56 => k0_hw56

def k0_off114 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v700 : Index := Scalar.indexCast arg6
  let c56 : Index := 56#32
  ![v700.toNat, 56]
def k0_off115 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v702 : Index := Scalar.indexCast arg6
  let c60 : Index := 60#32
  ![v702.toNat, 60]
def k0_off116 (v701 : BitVec 32) : Fin 2 → Nat :=
  let v704 : Index := Scalar.indexCast v701
  let c0_197 : Index := 0#32
  ![v704.toNat, 0]

def k0_chk57 (v701 : BitVec 32) : Prop :=
  (∀ a, (k0_off116 v701) a + S8x128.size a ≤ S65544x128.size a)
theorem k0_off116_inb : ∀ (v701 : BitVec 32) (k0_hw57 : k0_chk57 v701), ∀ a, (k0_off116 v701) a + S8x128.size a ≤ S65544x128.size a := fun v701 k0_hw57 => k0_hw57

def k0_off117 (v703 : BitVec 32) : Fin 2 → Nat :=
  let v706 : Index := Scalar.indexCast v703
  let c0_198 : Index := 0#32
  ![v706.toNat, 0]

def k0_chk58 (v703 : BitVec 32) : Prop :=
  (∀ a, (k0_off117 v703) a + S8x128.size a ≤ S65544x128.size a)
theorem k0_off117_inb : ∀ (v703 : BitVec 32) (k0_hw58 : k0_chk58 v703), ∀ a, (k0_off117 v703) a + S8x128.size a ≤ S65544x128.size a := fun v703 k0_hw58 => k0_hw58

def k0_off118 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v718 : Index := Scalar.indexCast arg6
  let c57 : Index := 57#32
  ![v718.toNat, 57]
def k0_off119 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v720 : Index := Scalar.indexCast arg6
  let c61 : Index := 61#32
  ![v720.toNat, 61]
def k0_off120 (v719 : BitVec 32) : Fin 2 → Nat :=
  let v722 : Index := Scalar.indexCast v719
  let c0_201 : Index := 0#32
  ![v722.toNat, 0]

def k0_chk59 (v719 : BitVec 32) : Prop :=
  (∀ a, (k0_off120 v719) a + S8x128.size a ≤ S65544x128.size a)
theorem k0_off120_inb : ∀ (v719 : BitVec 32) (k0_hw59 : k0_chk59 v719), ∀ a, (k0_off120 v719) a + S8x128.size a ≤ S65544x128.size a := fun v719 k0_hw59 => k0_hw59

def k0_off121 (v721 : BitVec 32) : Fin 2 → Nat :=
  let v724 : Index := Scalar.indexCast v721
  let c0_202 : Index := 0#32
  ![v724.toNat, 0]

def k0_chk60 (v721 : BitVec 32) : Prop :=
  (∀ a, (k0_off121 v721) a + S8x128.size a ≤ S65544x128.size a)
theorem k0_off121_inb : ∀ (v721 : BitVec 32) (k0_hw60 : k0_chk60 v721), ∀ a, (k0_off121 v721) a + S8x128.size a ≤ S65544x128.size a := fun v721 k0_hw60 => k0_hw60

def k0_off122 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v736 : Index := Scalar.indexCast arg6
  let c58 : Index := 58#32
  ![v736.toNat, 58]
def k0_off123 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v738 : Index := Scalar.indexCast arg6
  let c62 : Index := 62#32
  ![v738.toNat, 62]
def k0_off124 (v737 : BitVec 32) : Fin 2 → Nat :=
  let v740 : Index := Scalar.indexCast v737
  let c0_205 : Index := 0#32
  ![v740.toNat, 0]

def k0_chk61 (v737 : BitVec 32) : Prop :=
  (∀ a, (k0_off124 v737) a + S8x128.size a ≤ S65544x128.size a)
theorem k0_off124_inb : ∀ (v737 : BitVec 32) (k0_hw61 : k0_chk61 v737), ∀ a, (k0_off124 v737) a + S8x128.size a ≤ S65544x128.size a := fun v737 k0_hw61 => k0_hw61

def k0_off125 (v739 : BitVec 32) : Fin 2 → Nat :=
  let v742 : Index := Scalar.indexCast v739
  let c0_206 : Index := 0#32
  ![v742.toNat, 0]

def k0_chk62 (v739 : BitVec 32) : Prop :=
  (∀ a, (k0_off125 v739) a + S8x128.size a ≤ S65544x128.size a)
theorem k0_off125_inb : ∀ (v739 : BitVec 32) (k0_hw62 : k0_chk62 v739), ∀ a, (k0_off125 v739) a + S8x128.size a ≤ S65544x128.size a := fun v739 k0_hw62 => k0_hw62

def k0_off126 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v754 : Index := Scalar.indexCast arg6
  let c59 : Index := 59#32
  ![v754.toNat, 59]
def k0_off127 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v756 : Index := Scalar.indexCast arg6
  let c63 : Index := 63#32
  ![v756.toNat, 63]
def k0_off128 (v755 : BitVec 32) : Fin 2 → Nat :=
  let v758 : Index := Scalar.indexCast v755
  let c0_209 : Index := 0#32
  ![v758.toNat, 0]

def k0_chk63 (v755 : BitVec 32) : Prop :=
  (∀ a, (k0_off128 v755) a + S8x128.size a ≤ S65544x128.size a)
theorem k0_off128_inb : ∀ (v755 : BitVec 32) (k0_hw63 : k0_chk63 v755), ∀ a, (k0_off128 v755) a + S8x128.size a ≤ S65544x128.size a := fun v755 k0_hw63 => k0_hw63

def k0_off129 (v757 : BitVec 32) : Fin 2 → Nat :=
  let v760 : Index := Scalar.indexCast v757
  let c0_210 : Index := 0#32
  ![v760.toNat, 0]

def k0_chk64 (v757 : BitVec 32) : Prop :=
  (∀ a, (k0_off129 v757) a + S8x128.size a ≤ S65544x128.size a)
theorem k0_off129_inb : ∀ (v757 : BitVec 32) (k0_hw64 : k0_chk64 v757), ∀ a, (k0_off129 v757) a + S8x128.size a ≤ S65544x128.size a := fun v757 k0_hw64 => k0_hw64

def k0_off130 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v790 : Index := Scalar.indexCast arg6
  let c64 : Index := 64#32
  ![v790.toNat, 64]
def k0_off131 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v792 : Index := Scalar.indexCast arg6
  let c68 : Index := 68#32
  ![v792.toNat, 68]
def k0_off132 (v791 : BitVec 32) : Fin 2 → Nat :=
  let v794 : Index := Scalar.indexCast v791
  let c0_222 : Index := 0#32
  ![v794.toNat, 0]

def k0_chk65 (v791 : BitVec 32) : Prop :=
  (∀ a, (k0_off132 v791) a + S8x128.size a ≤ S65544x128.size a)
theorem k0_off132_inb : ∀ (v791 : BitVec 32) (k0_hw65 : k0_chk65 v791), ∀ a, (k0_off132 v791) a + S8x128.size a ≤ S65544x128.size a := fun v791 k0_hw65 => k0_hw65

def k0_off133 (v793 : BitVec 32) : Fin 2 → Nat :=
  let v796 : Index := Scalar.indexCast v793
  let c0_223 : Index := 0#32
  ![v796.toNat, 0]

def k0_chk66 (v793 : BitVec 32) : Prop :=
  (∀ a, (k0_off133 v793) a + S8x128.size a ≤ S65544x128.size a)
theorem k0_off133_inb : ∀ (v793 : BitVec 32) (k0_hw66 : k0_chk66 v793), ∀ a, (k0_off133 v793) a + S8x128.size a ≤ S65544x128.size a := fun v793 k0_hw66 => k0_hw66

def k0_off134 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v808 : Index := Scalar.indexCast arg6
  let c65 : Index := 65#32
  ![v808.toNat, 65]
def k0_off135 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v810 : Index := Scalar.indexCast arg6
  let c69 : Index := 69#32
  ![v810.toNat, 69]
def k0_off136 (v809 : BitVec 32) : Fin 2 → Nat :=
  let v812 : Index := Scalar.indexCast v809
  let c0_226 : Index := 0#32
  ![v812.toNat, 0]

def k0_chk67 (v809 : BitVec 32) : Prop :=
  (∀ a, (k0_off136 v809) a + S8x128.size a ≤ S65544x128.size a)
theorem k0_off136_inb : ∀ (v809 : BitVec 32) (k0_hw67 : k0_chk67 v809), ∀ a, (k0_off136 v809) a + S8x128.size a ≤ S65544x128.size a := fun v809 k0_hw67 => k0_hw67

def k0_off137 (v811 : BitVec 32) : Fin 2 → Nat :=
  let v814 : Index := Scalar.indexCast v811
  let c0_227 : Index := 0#32
  ![v814.toNat, 0]

def k0_chk68 (v811 : BitVec 32) : Prop :=
  (∀ a, (k0_off137 v811) a + S8x128.size a ≤ S65544x128.size a)
theorem k0_off137_inb : ∀ (v811 : BitVec 32) (k0_hw68 : k0_chk68 v811), ∀ a, (k0_off137 v811) a + S8x128.size a ≤ S65544x128.size a := fun v811 k0_hw68 => k0_hw68

def k0_off138 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v826 : Index := Scalar.indexCast arg6
  let c66 : Index := 66#32
  ![v826.toNat, 66]
def k0_off139 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v828 : Index := Scalar.indexCast arg6
  let c70 : Index := 70#32
  ![v828.toNat, 70]
def k0_off140 (v827 : BitVec 32) : Fin 2 → Nat :=
  let v830 : Index := Scalar.indexCast v827
  let c0_230 : Index := 0#32
  ![v830.toNat, 0]

def k0_chk69 (v827 : BitVec 32) : Prop :=
  (∀ a, (k0_off140 v827) a + S8x128.size a ≤ S65544x128.size a)
theorem k0_off140_inb : ∀ (v827 : BitVec 32) (k0_hw69 : k0_chk69 v827), ∀ a, (k0_off140 v827) a + S8x128.size a ≤ S65544x128.size a := fun v827 k0_hw69 => k0_hw69

def k0_off141 (v829 : BitVec 32) : Fin 2 → Nat :=
  let v832 : Index := Scalar.indexCast v829
  let c0_231 : Index := 0#32
  ![v832.toNat, 0]

def k0_chk70 (v829 : BitVec 32) : Prop :=
  (∀ a, (k0_off141 v829) a + S8x128.size a ≤ S65544x128.size a)
theorem k0_off141_inb : ∀ (v829 : BitVec 32) (k0_hw70 : k0_chk70 v829), ∀ a, (k0_off141 v829) a + S8x128.size a ≤ S65544x128.size a := fun v829 k0_hw70 => k0_hw70

def k0_off142 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v844 : Index := Scalar.indexCast arg6
  let c67 : Index := 67#32
  ![v844.toNat, 67]
def k0_off143 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v846 : Index := Scalar.indexCast arg6
  let c71 : Index := 71#32
  ![v846.toNat, 71]
def k0_off144 (v845 : BitVec 32) : Fin 2 → Nat :=
  let v848 : Index := Scalar.indexCast v845
  let c0_234 : Index := 0#32
  ![v848.toNat, 0]

def k0_chk71 (v845 : BitVec 32) : Prop :=
  (∀ a, (k0_off144 v845) a + S8x128.size a ≤ S65544x128.size a)
theorem k0_off144_inb : ∀ (v845 : BitVec 32) (k0_hw71 : k0_chk71 v845), ∀ a, (k0_off144 v845) a + S8x128.size a ≤ S65544x128.size a := fun v845 k0_hw71 => k0_hw71

def k0_off145 (v847 : BitVec 32) : Fin 2 → Nat :=
  let v850 : Index := Scalar.indexCast v847
  let c0_235 : Index := 0#32
  ![v850.toNat, 0]

def k0_chk72 (v847 : BitVec 32) : Prop :=
  (∀ a, (k0_off145 v847) a + S8x128.size a ≤ S65544x128.size a)
theorem k0_off145_inb : ∀ (v847 : BitVec 32) (k0_hw72 : k0_chk72 v847), ∀ a, (k0_off145 v847) a + S8x128.size a ≤ S65544x128.size a := fun v847 k0_hw72 => k0_hw72

def k0_off146 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v880 : Index := Scalar.indexCast arg6
  let c72 : Index := 72#32
  ![v880.toNat, 72]
def k0_off147 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v882 : Index := Scalar.indexCast arg6
  let c76 : Index := 76#32
  ![v882.toNat, 76]
def k0_off148 (v881 : BitVec 32) : Fin 2 → Nat :=
  let v884 : Index := Scalar.indexCast v881
  let c0_247 : Index := 0#32
  ![v884.toNat, 0]

def k0_chk73 (v881 : BitVec 32) : Prop :=
  (∀ a, (k0_off148 v881) a + S8x128.size a ≤ S65544x128.size a)
theorem k0_off148_inb : ∀ (v881 : BitVec 32) (k0_hw73 : k0_chk73 v881), ∀ a, (k0_off148 v881) a + S8x128.size a ≤ S65544x128.size a := fun v881 k0_hw73 => k0_hw73

def k0_off149 (v883 : BitVec 32) : Fin 2 → Nat :=
  let v886 : Index := Scalar.indexCast v883
  let c0_248 : Index := 0#32
  ![v886.toNat, 0]

def k0_chk74 (v883 : BitVec 32) : Prop :=
  (∀ a, (k0_off149 v883) a + S8x128.size a ≤ S65544x128.size a)
theorem k0_off149_inb : ∀ (v883 : BitVec 32) (k0_hw74 : k0_chk74 v883), ∀ a, (k0_off149 v883) a + S8x128.size a ≤ S65544x128.size a := fun v883 k0_hw74 => k0_hw74

def k0_off150 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v898 : Index := Scalar.indexCast arg6
  let c73 : Index := 73#32
  ![v898.toNat, 73]
def k0_off151 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v900 : Index := Scalar.indexCast arg6
  let c77 : Index := 77#32
  ![v900.toNat, 77]
def k0_off152 (v899 : BitVec 32) : Fin 2 → Nat :=
  let v902 : Index := Scalar.indexCast v899
  let c0_251 : Index := 0#32
  ![v902.toNat, 0]

def k0_chk75 (v899 : BitVec 32) : Prop :=
  (∀ a, (k0_off152 v899) a + S8x128.size a ≤ S65544x128.size a)
theorem k0_off152_inb : ∀ (v899 : BitVec 32) (k0_hw75 : k0_chk75 v899), ∀ a, (k0_off152 v899) a + S8x128.size a ≤ S65544x128.size a := fun v899 k0_hw75 => k0_hw75

def k0_off153 (v901 : BitVec 32) : Fin 2 → Nat :=
  let v904 : Index := Scalar.indexCast v901
  let c0_252 : Index := 0#32
  ![v904.toNat, 0]

def k0_chk76 (v901 : BitVec 32) : Prop :=
  (∀ a, (k0_off153 v901) a + S8x128.size a ≤ S65544x128.size a)
theorem k0_off153_inb : ∀ (v901 : BitVec 32) (k0_hw76 : k0_chk76 v901), ∀ a, (k0_off153 v901) a + S8x128.size a ≤ S65544x128.size a := fun v901 k0_hw76 => k0_hw76

def k0_off154 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v916 : Index := Scalar.indexCast arg6
  let c74 : Index := 74#32
  ![v916.toNat, 74]
def k0_off155 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v918 : Index := Scalar.indexCast arg6
  let c78 : Index := 78#32
  ![v918.toNat, 78]
def k0_off156 (v917 : BitVec 32) : Fin 2 → Nat :=
  let v920 : Index := Scalar.indexCast v917
  let c0_255 : Index := 0#32
  ![v920.toNat, 0]

def k0_chk77 (v917 : BitVec 32) : Prop :=
  (∀ a, (k0_off156 v917) a + S8x128.size a ≤ S65544x128.size a)
theorem k0_off156_inb : ∀ (v917 : BitVec 32) (k0_hw77 : k0_chk77 v917), ∀ a, (k0_off156 v917) a + S8x128.size a ≤ S65544x128.size a := fun v917 k0_hw77 => k0_hw77

def k0_off157 (v919 : BitVec 32) : Fin 2 → Nat :=
  let v922 : Index := Scalar.indexCast v919
  let c0_256 : Index := 0#32
  ![v922.toNat, 0]

def k0_chk78 (v919 : BitVec 32) : Prop :=
  (∀ a, (k0_off157 v919) a + S8x128.size a ≤ S65544x128.size a)
theorem k0_off157_inb : ∀ (v919 : BitVec 32) (k0_hw78 : k0_chk78 v919), ∀ a, (k0_off157 v919) a + S8x128.size a ≤ S65544x128.size a := fun v919 k0_hw78 => k0_hw78

def k0_off158 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v934 : Index := Scalar.indexCast arg6
  let c75 : Index := 75#32
  ![v934.toNat, 75]
def k0_off159 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v936 : Index := Scalar.indexCast arg6
  let c79 : Index := 79#32
  ![v936.toNat, 79]
def k0_off160 (v935 : BitVec 32) : Fin 2 → Nat :=
  let v938 : Index := Scalar.indexCast v935
  let c0_259 : Index := 0#32
  ![v938.toNat, 0]

def k0_chk79 (v935 : BitVec 32) : Prop :=
  (∀ a, (k0_off160 v935) a + S8x128.size a ≤ S65544x128.size a)
theorem k0_off160_inb : ∀ (v935 : BitVec 32) (k0_hw79 : k0_chk79 v935), ∀ a, (k0_off160 v935) a + S8x128.size a ≤ S65544x128.size a := fun v935 k0_hw79 => k0_hw79

def k0_off161 (v937 : BitVec 32) : Fin 2 → Nat :=
  let v940 : Index := Scalar.indexCast v937
  let c0_260 : Index := 0#32
  ![v940.toNat, 0]

def k0_chk80 (v937 : BitVec 32) : Prop :=
  (∀ a, (k0_off161 v937) a + S8x128.size a ≤ S65544x128.size a)
theorem k0_off161_inb : ∀ (v937 : BitVec 32) (k0_hw80 : k0_chk80 v937), ∀ a, (k0_off161 v937) a + S8x128.size a ≤ S65544x128.size a := fun v937 k0_hw80 => k0_hw80

def k0_off162 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v970 : Index := Scalar.indexCast arg6
  let c80 : Index := 80#32
  ![v970.toNat, 80]
def k0_off163 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v972 : Index := Scalar.indexCast arg6
  let c84 : Index := 84#32
  ![v972.toNat, 84]
def k0_off164 (v971 : BitVec 32) : Fin 2 → Nat :=
  let v974 : Index := Scalar.indexCast v971
  let c0_272 : Index := 0#32
  ![v974.toNat, 0]

def k0_chk81 (v971 : BitVec 32) : Prop :=
  (∀ a, (k0_off164 v971) a + S8x128.size a ≤ S65544x128.size a)
theorem k0_off164_inb : ∀ (v971 : BitVec 32) (k0_hw81 : k0_chk81 v971), ∀ a, (k0_off164 v971) a + S8x128.size a ≤ S65544x128.size a := fun v971 k0_hw81 => k0_hw81

def k0_off165 (v973 : BitVec 32) : Fin 2 → Nat :=
  let v976 : Index := Scalar.indexCast v973
  let c0_273 : Index := 0#32
  ![v976.toNat, 0]

def k0_chk82 (v973 : BitVec 32) : Prop :=
  (∀ a, (k0_off165 v973) a + S8x128.size a ≤ S65544x128.size a)
theorem k0_off165_inb : ∀ (v973 : BitVec 32) (k0_hw82 : k0_chk82 v973), ∀ a, (k0_off165 v973) a + S8x128.size a ≤ S65544x128.size a := fun v973 k0_hw82 => k0_hw82

def k0_off166 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v988 : Index := Scalar.indexCast arg6
  let c81 : Index := 81#32
  ![v988.toNat, 81]
def k0_off167 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v990 : Index := Scalar.indexCast arg6
  let c85 : Index := 85#32
  ![v990.toNat, 85]
def k0_off168 (v989 : BitVec 32) : Fin 2 → Nat :=
  let v992 : Index := Scalar.indexCast v989
  let c0_276 : Index := 0#32
  ![v992.toNat, 0]

def k0_chk83 (v989 : BitVec 32) : Prop :=
  (∀ a, (k0_off168 v989) a + S8x128.size a ≤ S65544x128.size a)
theorem k0_off168_inb : ∀ (v989 : BitVec 32) (k0_hw83 : k0_chk83 v989), ∀ a, (k0_off168 v989) a + S8x128.size a ≤ S65544x128.size a := fun v989 k0_hw83 => k0_hw83

def k0_off169 (v991 : BitVec 32) : Fin 2 → Nat :=
  let v994 : Index := Scalar.indexCast v991
  let c0_277 : Index := 0#32
  ![v994.toNat, 0]

def k0_chk84 (v991 : BitVec 32) : Prop :=
  (∀ a, (k0_off169 v991) a + S8x128.size a ≤ S65544x128.size a)
theorem k0_off169_inb : ∀ (v991 : BitVec 32) (k0_hw84 : k0_chk84 v991), ∀ a, (k0_off169 v991) a + S8x128.size a ≤ S65544x128.size a := fun v991 k0_hw84 => k0_hw84

def k0_off170 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1006 : Index := Scalar.indexCast arg6
  let c82 : Index := 82#32
  ![v1006.toNat, 82]
def k0_off171 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1008 : Index := Scalar.indexCast arg6
  let c86 : Index := 86#32
  ![v1008.toNat, 86]
def k0_off172 (v1007 : BitVec 32) : Fin 2 → Nat :=
  let v1010 : Index := Scalar.indexCast v1007
  let c0_280 : Index := 0#32
  ![v1010.toNat, 0]

def k0_chk85 (v1007 : BitVec 32) : Prop :=
  (∀ a, (k0_off172 v1007) a + S8x128.size a ≤ S65544x128.size a)
theorem k0_off172_inb : ∀ (v1007 : BitVec 32) (k0_hw85 : k0_chk85 v1007), ∀ a, (k0_off172 v1007) a + S8x128.size a ≤ S65544x128.size a := fun v1007 k0_hw85 => k0_hw85

def k0_off173 (v1009 : BitVec 32) : Fin 2 → Nat :=
  let v1012 : Index := Scalar.indexCast v1009
  let c0_281 : Index := 0#32
  ![v1012.toNat, 0]

def k0_chk86 (v1009 : BitVec 32) : Prop :=
  (∀ a, (k0_off173 v1009) a + S8x128.size a ≤ S65544x128.size a)
theorem k0_off173_inb : ∀ (v1009 : BitVec 32) (k0_hw86 : k0_chk86 v1009), ∀ a, (k0_off173 v1009) a + S8x128.size a ≤ S65544x128.size a := fun v1009 k0_hw86 => k0_hw86

def k0_off174 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1024 : Index := Scalar.indexCast arg6
  let c83 : Index := 83#32
  ![v1024.toNat, 83]
def k0_off175 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1026 : Index := Scalar.indexCast arg6
  let c87 : Index := 87#32
  ![v1026.toNat, 87]
def k0_off176 (v1025 : BitVec 32) : Fin 2 → Nat :=
  let v1028 : Index := Scalar.indexCast v1025
  let c0_284 : Index := 0#32
  ![v1028.toNat, 0]

def k0_chk87 (v1025 : BitVec 32) : Prop :=
  (∀ a, (k0_off176 v1025) a + S8x128.size a ≤ S65544x128.size a)
theorem k0_off176_inb : ∀ (v1025 : BitVec 32) (k0_hw87 : k0_chk87 v1025), ∀ a, (k0_off176 v1025) a + S8x128.size a ≤ S65544x128.size a := fun v1025 k0_hw87 => k0_hw87

def k0_off177 (v1027 : BitVec 32) : Fin 2 → Nat :=
  let v1030 : Index := Scalar.indexCast v1027
  let c0_285 : Index := 0#32
  ![v1030.toNat, 0]

def k0_chk88 (v1027 : BitVec 32) : Prop :=
  (∀ a, (k0_off177 v1027) a + S8x128.size a ≤ S65544x128.size a)
theorem k0_off177_inb : ∀ (v1027 : BitVec 32) (k0_hw88 : k0_chk88 v1027), ∀ a, (k0_off177 v1027) a + S8x128.size a ≤ S65544x128.size a := fun v1027 k0_hw88 => k0_hw88

def k0_off178 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1060 : Index := Scalar.indexCast arg6
  let c88 : Index := 88#32
  ![v1060.toNat, 88]
def k0_off179 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1062 : Index := Scalar.indexCast arg6
  let c92 : Index := 92#32
  ![v1062.toNat, 92]
def k0_off180 (v1061 : BitVec 32) : Fin 2 → Nat :=
  let v1064 : Index := Scalar.indexCast v1061
  let c0_297 : Index := 0#32
  ![v1064.toNat, 0]

def k0_chk89 (v1061 : BitVec 32) : Prop :=
  (∀ a, (k0_off180 v1061) a + S8x128.size a ≤ S65544x128.size a)
theorem k0_off180_inb : ∀ (v1061 : BitVec 32) (k0_hw89 : k0_chk89 v1061), ∀ a, (k0_off180 v1061) a + S8x128.size a ≤ S65544x128.size a := fun v1061 k0_hw89 => k0_hw89

def k0_off181 (v1063 : BitVec 32) : Fin 2 → Nat :=
  let v1066 : Index := Scalar.indexCast v1063
  let c0_298 : Index := 0#32
  ![v1066.toNat, 0]

def k0_chk90 (v1063 : BitVec 32) : Prop :=
  (∀ a, (k0_off181 v1063) a + S8x128.size a ≤ S65544x128.size a)
theorem k0_off181_inb : ∀ (v1063 : BitVec 32) (k0_hw90 : k0_chk90 v1063), ∀ a, (k0_off181 v1063) a + S8x128.size a ≤ S65544x128.size a := fun v1063 k0_hw90 => k0_hw90

def k0_off182 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1078 : Index := Scalar.indexCast arg6
  let c89 : Index := 89#32
  ![v1078.toNat, 89]
def k0_off183 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1080 : Index := Scalar.indexCast arg6
  let c93 : Index := 93#32
  ![v1080.toNat, 93]
def k0_off184 (v1079 : BitVec 32) : Fin 2 → Nat :=
  let v1082 : Index := Scalar.indexCast v1079
  let c0_301 : Index := 0#32
  ![v1082.toNat, 0]

def k0_chk91 (v1079 : BitVec 32) : Prop :=
  (∀ a, (k0_off184 v1079) a + S8x128.size a ≤ S65544x128.size a)
theorem k0_off184_inb : ∀ (v1079 : BitVec 32) (k0_hw91 : k0_chk91 v1079), ∀ a, (k0_off184 v1079) a + S8x128.size a ≤ S65544x128.size a := fun v1079 k0_hw91 => k0_hw91

def k0_off185 (v1081 : BitVec 32) : Fin 2 → Nat :=
  let v1084 : Index := Scalar.indexCast v1081
  let c0_302 : Index := 0#32
  ![v1084.toNat, 0]

def k0_chk92 (v1081 : BitVec 32) : Prop :=
  (∀ a, (k0_off185 v1081) a + S8x128.size a ≤ S65544x128.size a)
theorem k0_off185_inb : ∀ (v1081 : BitVec 32) (k0_hw92 : k0_chk92 v1081), ∀ a, (k0_off185 v1081) a + S8x128.size a ≤ S65544x128.size a := fun v1081 k0_hw92 => k0_hw92

def k0_off186 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1096 : Index := Scalar.indexCast arg6
  let c90 : Index := 90#32
  ![v1096.toNat, 90]
def k0_off187 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1098 : Index := Scalar.indexCast arg6
  let c94 : Index := 94#32
  ![v1098.toNat, 94]
def k0_off188 (v1097 : BitVec 32) : Fin 2 → Nat :=
  let v1100 : Index := Scalar.indexCast v1097
  let c0_305 : Index := 0#32
  ![v1100.toNat, 0]

def k0_chk93 (v1097 : BitVec 32) : Prop :=
  (∀ a, (k0_off188 v1097) a + S8x128.size a ≤ S65544x128.size a)
theorem k0_off188_inb : ∀ (v1097 : BitVec 32) (k0_hw93 : k0_chk93 v1097), ∀ a, (k0_off188 v1097) a + S8x128.size a ≤ S65544x128.size a := fun v1097 k0_hw93 => k0_hw93

def k0_off189 (v1099 : BitVec 32) : Fin 2 → Nat :=
  let v1102 : Index := Scalar.indexCast v1099
  let c0_306 : Index := 0#32
  ![v1102.toNat, 0]

def k0_chk94 (v1099 : BitVec 32) : Prop :=
  (∀ a, (k0_off189 v1099) a + S8x128.size a ≤ S65544x128.size a)
theorem k0_off189_inb : ∀ (v1099 : BitVec 32) (k0_hw94 : k0_chk94 v1099), ∀ a, (k0_off189 v1099) a + S8x128.size a ≤ S65544x128.size a := fun v1099 k0_hw94 => k0_hw94

def k0_off190 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1114 : Index := Scalar.indexCast arg6
  let c91 : Index := 91#32
  ![v1114.toNat, 91]
def k0_off191 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1116 : Index := Scalar.indexCast arg6
  let c95 : Index := 95#32
  ![v1116.toNat, 95]
def k0_off192 (v1115 : BitVec 32) : Fin 2 → Nat :=
  let v1118 : Index := Scalar.indexCast v1115
  let c0_309 : Index := 0#32
  ![v1118.toNat, 0]

def k0_chk95 (v1115 : BitVec 32) : Prop :=
  (∀ a, (k0_off192 v1115) a + S8x128.size a ≤ S65544x128.size a)
theorem k0_off192_inb : ∀ (v1115 : BitVec 32) (k0_hw95 : k0_chk95 v1115), ∀ a, (k0_off192 v1115) a + S8x128.size a ≤ S65544x128.size a := fun v1115 k0_hw95 => k0_hw95

def k0_off193 (v1117 : BitVec 32) : Fin 2 → Nat :=
  let v1120 : Index := Scalar.indexCast v1117
  let c0_310 : Index := 0#32
  ![v1120.toNat, 0]

def k0_chk96 (v1117 : BitVec 32) : Prop :=
  (∀ a, (k0_off193 v1117) a + S8x128.size a ≤ S65544x128.size a)
theorem k0_off193_inb : ∀ (v1117 : BitVec 32) (k0_hw96 : k0_chk96 v1117), ∀ a, (k0_off193 v1117) a + S8x128.size a ≤ S65544x128.size a := fun v1117 k0_hw96 => k0_hw96

def k0_off194 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1150 : Index := Scalar.indexCast arg6
  let c96 : Index := 96#32
  ![v1150.toNat, 96]
def k0_off195 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1152 : Index := Scalar.indexCast arg6
  let c100 : Index := 100#32
  ![v1152.toNat, 100]
def k0_off196 (v1151 : BitVec 32) : Fin 2 → Nat :=
  let v1154 : Index := Scalar.indexCast v1151
  let c0_322 : Index := 0#32
  ![v1154.toNat, 0]

def k0_chk97 (v1151 : BitVec 32) : Prop :=
  (∀ a, (k0_off196 v1151) a + S8x128.size a ≤ S65544x128.size a)
theorem k0_off196_inb : ∀ (v1151 : BitVec 32) (k0_hw97 : k0_chk97 v1151), ∀ a, (k0_off196 v1151) a + S8x128.size a ≤ S65544x128.size a := fun v1151 k0_hw97 => k0_hw97

def k0_off197 (v1153 : BitVec 32) : Fin 2 → Nat :=
  let v1156 : Index := Scalar.indexCast v1153
  let c0_323 : Index := 0#32
  ![v1156.toNat, 0]

def k0_chk98 (v1153 : BitVec 32) : Prop :=
  (∀ a, (k0_off197 v1153) a + S8x128.size a ≤ S65544x128.size a)
theorem k0_off197_inb : ∀ (v1153 : BitVec 32) (k0_hw98 : k0_chk98 v1153), ∀ a, (k0_off197 v1153) a + S8x128.size a ≤ S65544x128.size a := fun v1153 k0_hw98 => k0_hw98

def k0_off198 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1168 : Index := Scalar.indexCast arg6
  let c97 : Index := 97#32
  ![v1168.toNat, 97]
def k0_off199 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1170 : Index := Scalar.indexCast arg6
  let c101 : Index := 101#32
  ![v1170.toNat, 101]
def k0_off200 (v1169 : BitVec 32) : Fin 2 → Nat :=
  let v1172 : Index := Scalar.indexCast v1169
  let c0_326 : Index := 0#32
  ![v1172.toNat, 0]

def k0_chk99 (v1169 : BitVec 32) : Prop :=
  (∀ a, (k0_off200 v1169) a + S8x128.size a ≤ S65544x128.size a)
theorem k0_off200_inb : ∀ (v1169 : BitVec 32) (k0_hw99 : k0_chk99 v1169), ∀ a, (k0_off200 v1169) a + S8x128.size a ≤ S65544x128.size a := fun v1169 k0_hw99 => k0_hw99

def k0_off201 (v1171 : BitVec 32) : Fin 2 → Nat :=
  let v1174 : Index := Scalar.indexCast v1171
  let c0_327 : Index := 0#32
  ![v1174.toNat, 0]

def k0_chk100 (v1171 : BitVec 32) : Prop :=
  (∀ a, (k0_off201 v1171) a + S8x128.size a ≤ S65544x128.size a)
theorem k0_off201_inb : ∀ (v1171 : BitVec 32) (k0_hw100 : k0_chk100 v1171), ∀ a, (k0_off201 v1171) a + S8x128.size a ≤ S65544x128.size a := fun v1171 k0_hw100 => k0_hw100

def k0_off202 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1186 : Index := Scalar.indexCast arg6
  let c98 : Index := 98#32
  ![v1186.toNat, 98]
def k0_off203 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1188 : Index := Scalar.indexCast arg6
  let c102 : Index := 102#32
  ![v1188.toNat, 102]
def k0_off204 (v1187 : BitVec 32) : Fin 2 → Nat :=
  let v1190 : Index := Scalar.indexCast v1187
  let c0_330 : Index := 0#32
  ![v1190.toNat, 0]

def k0_chk101 (v1187 : BitVec 32) : Prop :=
  (∀ a, (k0_off204 v1187) a + S8x128.size a ≤ S65544x128.size a)
theorem k0_off204_inb : ∀ (v1187 : BitVec 32) (k0_hw101 : k0_chk101 v1187), ∀ a, (k0_off204 v1187) a + S8x128.size a ≤ S65544x128.size a := fun v1187 k0_hw101 => k0_hw101

def k0_off205 (v1189 : BitVec 32) : Fin 2 → Nat :=
  let v1192 : Index := Scalar.indexCast v1189
  let c0_331 : Index := 0#32
  ![v1192.toNat, 0]

def k0_chk102 (v1189 : BitVec 32) : Prop :=
  (∀ a, (k0_off205 v1189) a + S8x128.size a ≤ S65544x128.size a)
theorem k0_off205_inb : ∀ (v1189 : BitVec 32) (k0_hw102 : k0_chk102 v1189), ∀ a, (k0_off205 v1189) a + S8x128.size a ≤ S65544x128.size a := fun v1189 k0_hw102 => k0_hw102

def k0_off206 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1204 : Index := Scalar.indexCast arg6
  let c99 : Index := 99#32
  ![v1204.toNat, 99]
def k0_off207 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1206 : Index := Scalar.indexCast arg6
  let c103 : Index := 103#32
  ![v1206.toNat, 103]
def k0_off208 (v1205 : BitVec 32) : Fin 2 → Nat :=
  let v1208 : Index := Scalar.indexCast v1205
  let c0_334 : Index := 0#32
  ![v1208.toNat, 0]

def k0_chk103 (v1205 : BitVec 32) : Prop :=
  (∀ a, (k0_off208 v1205) a + S8x128.size a ≤ S65544x128.size a)
theorem k0_off208_inb : ∀ (v1205 : BitVec 32) (k0_hw103 : k0_chk103 v1205), ∀ a, (k0_off208 v1205) a + S8x128.size a ≤ S65544x128.size a := fun v1205 k0_hw103 => k0_hw103

def k0_off209 (v1207 : BitVec 32) : Fin 2 → Nat :=
  let v1210 : Index := Scalar.indexCast v1207
  let c0_335 : Index := 0#32
  ![v1210.toNat, 0]

def k0_chk104 (v1207 : BitVec 32) : Prop :=
  (∀ a, (k0_off209 v1207) a + S8x128.size a ≤ S65544x128.size a)
theorem k0_off209_inb : ∀ (v1207 : BitVec 32) (k0_hw104 : k0_chk104 v1207), ∀ a, (k0_off209 v1207) a + S8x128.size a ≤ S65544x128.size a := fun v1207 k0_hw104 => k0_hw104

def k0_off210 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1240 : Index := Scalar.indexCast arg6
  let c104 : Index := 104#32
  ![v1240.toNat, 104]
def k0_off211 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1242 : Index := Scalar.indexCast arg6
  let c108 : Index := 108#32
  ![v1242.toNat, 108]
def k0_off212 (v1241 : BitVec 32) : Fin 2 → Nat :=
  let v1244 : Index := Scalar.indexCast v1241
  let c0_347 : Index := 0#32
  ![v1244.toNat, 0]

def k0_chk105 (v1241 : BitVec 32) : Prop :=
  (∀ a, (k0_off212 v1241) a + S8x128.size a ≤ S65544x128.size a)
theorem k0_off212_inb : ∀ (v1241 : BitVec 32) (k0_hw105 : k0_chk105 v1241), ∀ a, (k0_off212 v1241) a + S8x128.size a ≤ S65544x128.size a := fun v1241 k0_hw105 => k0_hw105

def k0_off213 (v1243 : BitVec 32) : Fin 2 → Nat :=
  let v1246 : Index := Scalar.indexCast v1243
  let c0_348 : Index := 0#32
  ![v1246.toNat, 0]

def k0_chk106 (v1243 : BitVec 32) : Prop :=
  (∀ a, (k0_off213 v1243) a + S8x128.size a ≤ S65544x128.size a)
theorem k0_off213_inb : ∀ (v1243 : BitVec 32) (k0_hw106 : k0_chk106 v1243), ∀ a, (k0_off213 v1243) a + S8x128.size a ≤ S65544x128.size a := fun v1243 k0_hw106 => k0_hw106

def k0_off214 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1258 : Index := Scalar.indexCast arg6
  let c105 : Index := 105#32
  ![v1258.toNat, 105]
def k0_off215 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1260 : Index := Scalar.indexCast arg6
  let c109 : Index := 109#32
  ![v1260.toNat, 109]
def k0_off216 (v1259 : BitVec 32) : Fin 2 → Nat :=
  let v1262 : Index := Scalar.indexCast v1259
  let c0_351 : Index := 0#32
  ![v1262.toNat, 0]

def k0_chk107 (v1259 : BitVec 32) : Prop :=
  (∀ a, (k0_off216 v1259) a + S8x128.size a ≤ S65544x128.size a)
theorem k0_off216_inb : ∀ (v1259 : BitVec 32) (k0_hw107 : k0_chk107 v1259), ∀ a, (k0_off216 v1259) a + S8x128.size a ≤ S65544x128.size a := fun v1259 k0_hw107 => k0_hw107

def k0_off217 (v1261 : BitVec 32) : Fin 2 → Nat :=
  let v1264 : Index := Scalar.indexCast v1261
  let c0_352 : Index := 0#32
  ![v1264.toNat, 0]

def k0_chk108 (v1261 : BitVec 32) : Prop :=
  (∀ a, (k0_off217 v1261) a + S8x128.size a ≤ S65544x128.size a)
theorem k0_off217_inb : ∀ (v1261 : BitVec 32) (k0_hw108 : k0_chk108 v1261), ∀ a, (k0_off217 v1261) a + S8x128.size a ≤ S65544x128.size a := fun v1261 k0_hw108 => k0_hw108

def k0_off218 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1276 : Index := Scalar.indexCast arg6
  let c106 : Index := 106#32
  ![v1276.toNat, 106]
def k0_off219 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1278 : Index := Scalar.indexCast arg6
  let c110 : Index := 110#32
  ![v1278.toNat, 110]
def k0_off220 (v1277 : BitVec 32) : Fin 2 → Nat :=
  let v1280 : Index := Scalar.indexCast v1277
  let c0_355 : Index := 0#32
  ![v1280.toNat, 0]

def k0_chk109 (v1277 : BitVec 32) : Prop :=
  (∀ a, (k0_off220 v1277) a + S8x128.size a ≤ S65544x128.size a)
theorem k0_off220_inb : ∀ (v1277 : BitVec 32) (k0_hw109 : k0_chk109 v1277), ∀ a, (k0_off220 v1277) a + S8x128.size a ≤ S65544x128.size a := fun v1277 k0_hw109 => k0_hw109

def k0_off221 (v1279 : BitVec 32) : Fin 2 → Nat :=
  let v1282 : Index := Scalar.indexCast v1279
  let c0_356 : Index := 0#32
  ![v1282.toNat, 0]

def k0_chk110 (v1279 : BitVec 32) : Prop :=
  (∀ a, (k0_off221 v1279) a + S8x128.size a ≤ S65544x128.size a)
theorem k0_off221_inb : ∀ (v1279 : BitVec 32) (k0_hw110 : k0_chk110 v1279), ∀ a, (k0_off221 v1279) a + S8x128.size a ≤ S65544x128.size a := fun v1279 k0_hw110 => k0_hw110

def k0_off222 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1294 : Index := Scalar.indexCast arg6
  let c107 : Index := 107#32
  ![v1294.toNat, 107]
def k0_off223 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1296 : Index := Scalar.indexCast arg6
  let c111 : Index := 111#32
  ![v1296.toNat, 111]
def k0_off224 (v1295 : BitVec 32) : Fin 2 → Nat :=
  let v1298 : Index := Scalar.indexCast v1295
  let c0_359 : Index := 0#32
  ![v1298.toNat, 0]

def k0_chk111 (v1295 : BitVec 32) : Prop :=
  (∀ a, (k0_off224 v1295) a + S8x128.size a ≤ S65544x128.size a)
theorem k0_off224_inb : ∀ (v1295 : BitVec 32) (k0_hw111 : k0_chk111 v1295), ∀ a, (k0_off224 v1295) a + S8x128.size a ≤ S65544x128.size a := fun v1295 k0_hw111 => k0_hw111

def k0_off225 (v1297 : BitVec 32) : Fin 2 → Nat :=
  let v1300 : Index := Scalar.indexCast v1297
  let c0_360 : Index := 0#32
  ![v1300.toNat, 0]

def k0_chk112 (v1297 : BitVec 32) : Prop :=
  (∀ a, (k0_off225 v1297) a + S8x128.size a ≤ S65544x128.size a)
theorem k0_off225_inb : ∀ (v1297 : BitVec 32) (k0_hw112 : k0_chk112 v1297), ∀ a, (k0_off225 v1297) a + S8x128.size a ≤ S65544x128.size a := fun v1297 k0_hw112 => k0_hw112

def k0_off226 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1330 : Index := Scalar.indexCast arg6
  let c112 : Index := 112#32
  ![v1330.toNat, 112]
def k0_off227 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1332 : Index := Scalar.indexCast arg6
  let c116 : Index := 116#32
  ![v1332.toNat, 116]
def k0_off228 (v1331 : BitVec 32) : Fin 2 → Nat :=
  let v1334 : Index := Scalar.indexCast v1331
  let c0_372 : Index := 0#32
  ![v1334.toNat, 0]

def k0_chk113 (v1331 : BitVec 32) : Prop :=
  (∀ a, (k0_off228 v1331) a + S8x128.size a ≤ S65544x128.size a)
theorem k0_off228_inb : ∀ (v1331 : BitVec 32) (k0_hw113 : k0_chk113 v1331), ∀ a, (k0_off228 v1331) a + S8x128.size a ≤ S65544x128.size a := fun v1331 k0_hw113 => k0_hw113

def k0_off229 (v1333 : BitVec 32) : Fin 2 → Nat :=
  let v1336 : Index := Scalar.indexCast v1333
  let c0_373 : Index := 0#32
  ![v1336.toNat, 0]

def k0_chk114 (v1333 : BitVec 32) : Prop :=
  (∀ a, (k0_off229 v1333) a + S8x128.size a ≤ S65544x128.size a)
theorem k0_off229_inb : ∀ (v1333 : BitVec 32) (k0_hw114 : k0_chk114 v1333), ∀ a, (k0_off229 v1333) a + S8x128.size a ≤ S65544x128.size a := fun v1333 k0_hw114 => k0_hw114

def k0_off230 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1348 : Index := Scalar.indexCast arg6
  let c113 : Index := 113#32
  ![v1348.toNat, 113]
def k0_off231 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1350 : Index := Scalar.indexCast arg6
  let c117 : Index := 117#32
  ![v1350.toNat, 117]
def k0_off232 (v1349 : BitVec 32) : Fin 2 → Nat :=
  let v1352 : Index := Scalar.indexCast v1349
  let c0_376 : Index := 0#32
  ![v1352.toNat, 0]

def k0_chk115 (v1349 : BitVec 32) : Prop :=
  (∀ a, (k0_off232 v1349) a + S8x128.size a ≤ S65544x128.size a)
theorem k0_off232_inb : ∀ (v1349 : BitVec 32) (k0_hw115 : k0_chk115 v1349), ∀ a, (k0_off232 v1349) a + S8x128.size a ≤ S65544x128.size a := fun v1349 k0_hw115 => k0_hw115

def k0_off233 (v1351 : BitVec 32) : Fin 2 → Nat :=
  let v1354 : Index := Scalar.indexCast v1351
  let c0_377 : Index := 0#32
  ![v1354.toNat, 0]

def k0_chk116 (v1351 : BitVec 32) : Prop :=
  (∀ a, (k0_off233 v1351) a + S8x128.size a ≤ S65544x128.size a)
theorem k0_off233_inb : ∀ (v1351 : BitVec 32) (k0_hw116 : k0_chk116 v1351), ∀ a, (k0_off233 v1351) a + S8x128.size a ≤ S65544x128.size a := fun v1351 k0_hw116 => k0_hw116

def k0_off234 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1366 : Index := Scalar.indexCast arg6
  let c114 : Index := 114#32
  ![v1366.toNat, 114]
def k0_off235 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1368 : Index := Scalar.indexCast arg6
  let c118 : Index := 118#32
  ![v1368.toNat, 118]
def k0_off236 (v1367 : BitVec 32) : Fin 2 → Nat :=
  let v1370 : Index := Scalar.indexCast v1367
  let c0_380 : Index := 0#32
  ![v1370.toNat, 0]

def k0_chk117 (v1367 : BitVec 32) : Prop :=
  (∀ a, (k0_off236 v1367) a + S8x128.size a ≤ S65544x128.size a)
theorem k0_off236_inb : ∀ (v1367 : BitVec 32) (k0_hw117 : k0_chk117 v1367), ∀ a, (k0_off236 v1367) a + S8x128.size a ≤ S65544x128.size a := fun v1367 k0_hw117 => k0_hw117

def k0_off237 (v1369 : BitVec 32) : Fin 2 → Nat :=
  let v1372 : Index := Scalar.indexCast v1369
  let c0_381 : Index := 0#32
  ![v1372.toNat, 0]

def k0_chk118 (v1369 : BitVec 32) : Prop :=
  (∀ a, (k0_off237 v1369) a + S8x128.size a ≤ S65544x128.size a)
theorem k0_off237_inb : ∀ (v1369 : BitVec 32) (k0_hw118 : k0_chk118 v1369), ∀ a, (k0_off237 v1369) a + S8x128.size a ≤ S65544x128.size a := fun v1369 k0_hw118 => k0_hw118

def k0_off238 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1384 : Index := Scalar.indexCast arg6
  let c115 : Index := 115#32
  ![v1384.toNat, 115]
def k0_off239 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1386 : Index := Scalar.indexCast arg6
  let c119 : Index := 119#32
  ![v1386.toNat, 119]
def k0_off240 (v1385 : BitVec 32) : Fin 2 → Nat :=
  let v1388 : Index := Scalar.indexCast v1385
  let c0_384 : Index := 0#32
  ![v1388.toNat, 0]

def k0_chk119 (v1385 : BitVec 32) : Prop :=
  (∀ a, (k0_off240 v1385) a + S8x128.size a ≤ S65544x128.size a)
theorem k0_off240_inb : ∀ (v1385 : BitVec 32) (k0_hw119 : k0_chk119 v1385), ∀ a, (k0_off240 v1385) a + S8x128.size a ≤ S65544x128.size a := fun v1385 k0_hw119 => k0_hw119

def k0_off241 (v1387 : BitVec 32) : Fin 2 → Nat :=
  let v1390 : Index := Scalar.indexCast v1387
  let c0_385 : Index := 0#32
  ![v1390.toNat, 0]

def k0_chk120 (v1387 : BitVec 32) : Prop :=
  (∀ a, (k0_off241 v1387) a + S8x128.size a ≤ S65544x128.size a)
theorem k0_off241_inb : ∀ (v1387 : BitVec 32) (k0_hw120 : k0_chk120 v1387), ∀ a, (k0_off241 v1387) a + S8x128.size a ≤ S65544x128.size a := fun v1387 k0_hw120 => k0_hw120

def k0_off242 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1420 : Index := Scalar.indexCast arg6
  let c120 : Index := 120#32
  ![v1420.toNat, 120]
def k0_off243 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1422 : Index := Scalar.indexCast arg6
  let c124 : Index := 124#32
  ![v1422.toNat, 124]
def k0_off244 (v1421 : BitVec 32) : Fin 2 → Nat :=
  let v1424 : Index := Scalar.indexCast v1421
  let c0_397 : Index := 0#32
  ![v1424.toNat, 0]

def k0_chk121 (v1421 : BitVec 32) : Prop :=
  (∀ a, (k0_off244 v1421) a + S8x128.size a ≤ S65544x128.size a)
theorem k0_off244_inb : ∀ (v1421 : BitVec 32) (k0_hw121 : k0_chk121 v1421), ∀ a, (k0_off244 v1421) a + S8x128.size a ≤ S65544x128.size a := fun v1421 k0_hw121 => k0_hw121

def k0_off245 (v1423 : BitVec 32) : Fin 2 → Nat :=
  let v1426 : Index := Scalar.indexCast v1423
  let c0_398 : Index := 0#32
  ![v1426.toNat, 0]

def k0_chk122 (v1423 : BitVec 32) : Prop :=
  (∀ a, (k0_off245 v1423) a + S8x128.size a ≤ S65544x128.size a)
theorem k0_off245_inb : ∀ (v1423 : BitVec 32) (k0_hw122 : k0_chk122 v1423), ∀ a, (k0_off245 v1423) a + S8x128.size a ≤ S65544x128.size a := fun v1423 k0_hw122 => k0_hw122

def k0_off246 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1438 : Index := Scalar.indexCast arg6
  let c121 : Index := 121#32
  ![v1438.toNat, 121]
def k0_off247 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1440 : Index := Scalar.indexCast arg6
  let c125 : Index := 125#32
  ![v1440.toNat, 125]
def k0_off248 (v1439 : BitVec 32) : Fin 2 → Nat :=
  let v1442 : Index := Scalar.indexCast v1439
  let c0_401 : Index := 0#32
  ![v1442.toNat, 0]

def k0_chk123 (v1439 : BitVec 32) : Prop :=
  (∀ a, (k0_off248 v1439) a + S8x128.size a ≤ S65544x128.size a)
theorem k0_off248_inb : ∀ (v1439 : BitVec 32) (k0_hw123 : k0_chk123 v1439), ∀ a, (k0_off248 v1439) a + S8x128.size a ≤ S65544x128.size a := fun v1439 k0_hw123 => k0_hw123

def k0_off249 (v1441 : BitVec 32) : Fin 2 → Nat :=
  let v1444 : Index := Scalar.indexCast v1441
  let c0_402 : Index := 0#32
  ![v1444.toNat, 0]

def k0_chk124 (v1441 : BitVec 32) : Prop :=
  (∀ a, (k0_off249 v1441) a + S8x128.size a ≤ S65544x128.size a)
theorem k0_off249_inb : ∀ (v1441 : BitVec 32) (k0_hw124 : k0_chk124 v1441), ∀ a, (k0_off249 v1441) a + S8x128.size a ≤ S65544x128.size a := fun v1441 k0_hw124 => k0_hw124

def k0_off250 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1456 : Index := Scalar.indexCast arg6
  let c122 : Index := 122#32
  ![v1456.toNat, 122]
def k0_off251 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1458 : Index := Scalar.indexCast arg6
  let c126 : Index := 126#32
  ![v1458.toNat, 126]
def k0_off252 (v1457 : BitVec 32) : Fin 2 → Nat :=
  let v1460 : Index := Scalar.indexCast v1457
  let c0_405 : Index := 0#32
  ![v1460.toNat, 0]

def k0_chk125 (v1457 : BitVec 32) : Prop :=
  (∀ a, (k0_off252 v1457) a + S8x128.size a ≤ S65544x128.size a)
theorem k0_off252_inb : ∀ (v1457 : BitVec 32) (k0_hw125 : k0_chk125 v1457), ∀ a, (k0_off252 v1457) a + S8x128.size a ≤ S65544x128.size a := fun v1457 k0_hw125 => k0_hw125

def k0_off253 (v1459 : BitVec 32) : Fin 2 → Nat :=
  let v1462 : Index := Scalar.indexCast v1459
  let c0_406 : Index := 0#32
  ![v1462.toNat, 0]

def k0_chk126 (v1459 : BitVec 32) : Prop :=
  (∀ a, (k0_off253 v1459) a + S8x128.size a ≤ S65544x128.size a)
theorem k0_off253_inb : ∀ (v1459 : BitVec 32) (k0_hw126 : k0_chk126 v1459), ∀ a, (k0_off253 v1459) a + S8x128.size a ≤ S65544x128.size a := fun v1459 k0_hw126 => k0_hw126

def k0_off254 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1474 : Index := Scalar.indexCast arg6
  let c123 : Index := 123#32
  ![v1474.toNat, 123]
def k0_off255 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1476 : Index := Scalar.indexCast arg6
  let c127 : Index := 127#32
  ![v1476.toNat, 127]
def k0_off256 (v1475 : BitVec 32) : Fin 2 → Nat :=
  let v1478 : Index := Scalar.indexCast v1475
  let c0_409 : Index := 0#32
  ![v1478.toNat, 0]

def k0_chk127 (v1475 : BitVec 32) : Prop :=
  (∀ a, (k0_off256 v1475) a + S8x128.size a ≤ S65544x128.size a)
theorem k0_off256_inb : ∀ (v1475 : BitVec 32) (k0_hw127 : k0_chk127 v1475), ∀ a, (k0_off256 v1475) a + S8x128.size a ≤ S65544x128.size a := fun v1475 k0_hw127 => k0_hw127

def k0_off257 (v1477 : BitVec 32) : Fin 2 → Nat :=
  let v1480 : Index := Scalar.indexCast v1477
  let c0_410 : Index := 0#32
  ![v1480.toNat, 0]

def k0_chk128 (v1477 : BitVec 32) : Prop :=
  (∀ a, (k0_off257 v1477) a + S8x128.size a ≤ S65544x128.size a)
theorem k0_off257_inb : ∀ (v1477 : BitVec 32) (k0_hw128 : k0_chk128 v1477), ∀ a, (k0_off257 v1477) a + S8x128.size a ≤ S65544x128.size a := fun v1477 k0_hw128 => k0_hw128

def k0_off258 (k0_t1 : Fin k0_t1_loop.trips) : Fin 2 → Nat :=
  let c0_i32_11 : BitVec 32 := 0#32
  let c1_i32_12 : BitVec 32 := 1#32
  let arg6 : BitVec 32 := Scf.iv c0_i32_11 c1_i32_12 k0_t1
  let v1524 : Index := Scalar.indexCast arg6
  let c0_425 : Index := 0#32
  ![v1524.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65544x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x128 : Shape := ⟨2, ![32768, 128]⟩
abbrev S16x2048x1024 : Shape := ⟨3, ![16, 2048, 1024]⟩
abbrev S65544x128 : Shape := ⟨2, ![65544, 128]⟩
abbrev S32768x1024 : Shape := ⟨2, ![32768, 1024]⟩
abbrev S65536x128 : Shape := ⟨2, ![65536, 128]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩
abbrev S_ : Shape := ⟨0, ![]⟩
abbrev S32768x128x1 : Shape := ⟨3, ![32768, 128, 1]⟩
abbrev S32768x128x1024 : Shape := ⟨3, ![32768, 128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .f32⟩
  | .hbm, ⟨2, _⟩ => ⟨S16x2048x1024, .f32⟩
  | .hbm, ⟨3, _⟩ => ⟨S65544x128, .i32⟩
  | .hbm, ⟨4, _⟩ => ⟨S32768x1024, .f32⟩
  | .hbm, ⟨5, _⟩ => ⟨S65536x128, .i32⟩
  | .hbm, ⟨6, _⟩ => ⟨S16384x512, .i32⟩
  | .hbm, ⟨7, _⟩ => ⟨S16384x512x2, .bf16⟩
  | .hbm, ⟨8, _⟩ => ⟨S16384x512x1, .bf16⟩
  | .hbm, ⟨9, _⟩ => ⟨S16384x512, .bf16⟩
  | .hbm, ⟨10, _⟩ => ⟨S16384x512x1, .bf16⟩
  | .hbm, ⟨11, _⟩ => ⟨S16384x512, .bf16⟩
  | .hbm, ⟨12, _⟩ => ⟨S16384x1024, .bf16⟩
  | .hbm, ⟨13, _⟩ => ⟨S16384x1024, .f32⟩
  | .hbm, ⟨14, _⟩ => ⟨S_, .i32⟩
  | .hbm, ⟨15, _⟩ => ⟨S32768x128, .i32⟩
  | .hbm, ⟨16, _⟩ => ⟨S32768x128, .i1⟩
  | .hbm, ⟨17, _⟩ => ⟨S_, .i32⟩
  | .hbm, ⟨18, _⟩ => ⟨S32768x128, .i32⟩
  | .hbm, ⟨19, _⟩ => ⟨S32768x128, .i32⟩
  | .hbm, ⟨20, _⟩ => ⟨S32768x128, .i32⟩
  | .hbm, ⟨21, _⟩ => ⟨S32768x128x1, .i32⟩
  | .hbm, ⟨22, _⟩ => ⟨S32768x128x1024, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S_, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S_, .f32⟩
  | .hbm, ⟨31, _⟩ => ⟨S32768x128, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S_, .f32⟩
  | .hbm, ⟨38, _⟩ => ⟨S32768x128, .f32⟩
  | .hbm, ⟨39, _⟩ => ⟨S32768x128, .f32⟩
  | .hbm, ⟨40, _⟩ => ⟨S32768x128, .f32⟩
  | .hbm, ⟨41, _⟩ => ⟨S32768x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Spec.lean ====
module

public import Idealize.ShloMosaic.Lib.Pointwise
public import Mathlib.Algebra.BigOperators.Fin

/-! The token mixer of one sequence, as functions of natural-number positions over the extended reals.  A sequence is a table of
rows; every weight is a table too.  The kernel's block and the reference's array are both proved equal to these functions. -/

@[expose] public section

noncomputable section

open Idealize.ShloMosaic

namespace Cert.Mixer

/-- The arrays of the mixer for one sequence, each read at natural-number positions. -/
structure Par where
  /-- the sequence: row, column -/
  X : ℕ → ℕ → EReal
  /-- the gain of the first normalisation -/
  g1 : ℕ → EReal
  /-- the input projection -/
  wi : ℕ → ℕ → EReal
  /-- the pooling matrices: head, row, column -/
  pw : ℕ → ℕ → ℕ → EReal
  /-- the scale of the pooled half -/
  ps : ℕ → EReal
  /-- the gain of the gate's normalisation -/
  sg : ℕ → EReal
  /-- the gate's position matrices: head, row, column -/
  sw : ℕ → ℕ → ℕ → EReal
  /-- the gate's biases: head, row -/
  sb : ℕ → ℕ → EReal
  /-- the output projection -/
  wo : ℕ → ℕ → EReal
  /-- the gain of the second normalisation -/
  g2 : ℕ → EReal

/-- The small number added under every reciprocal square root. -/
def eps : EReal := Ideal.ofBits .f32 897988541#32
/-- The number 1024, as printed. -/
def n1024 : EReal := Ideal.ofBits .f32 1149239296#32
/-- The number 512, as printed. -/
def n512 : EReal := Ideal.ofBits .f32 1140850688#32

/-- The window lengths 2, 4, 8, 16 as printed, by head. -/
def wl (g : ℕ) : EReal :=
  if g = 0 then Ideal.ofBits .f32 1073741824#32
  else if g = 1 then Ideal.ofBits .f32 1082130432#32
  else if g = 2 then Ideal.ofBits .f32 1090519040#32
  else Ideal.ofBits .f32 1098907648#32

/-- The smooth activation, in its hyperbolic-tangent form. -/
def act (v : EReal) : EReal :=
  v * (Ideal.ofBits .f32 1056964608#32 *
    (1 + Ideal.tanh (Ideal.ofBits .f32 1061962282#32 * (v + Ideal.ofBits .f32 1027024659#32 * (v * v * v)))))

/-- A position as a float. -/
def pos (p : ℕ) : EReal := (FloatOps.sitofp .f32 (BitVec.ofNat 32 p) : Ideal .f32)

variable (P : Par)

/-- The projected row: the normalised row times the input projection. -/
def z (p j : ℕ) : EReal :=
  ∑ k : Fin 1024, P.X p k * Ideal.rsqrt (Ideal.div (∑ i : Fin 1024, P.X p i * P.X p i) n1024 + eps) * P.g1 k * P.wi k j

/-- The projected rows behind sixteen rows of zeros. -/
def zs (m c : ℕ) : EReal := if m < 16 then 0 else z P (m - 16) c

/-- The sum of the last `w` projected rows up to row `p`, where rows before the first count as zero. -/
def win (w p c : ℕ) : EReal := ∑ i ∈ Finset.range w, zs P (p + (17 - w) + i) c

/-- The windowed mean of head `g` minus the row itself. -/
def mean (g p c : ℕ) : EReal :=
  Ideal.div (win P (2 ^ (g + 1)) p (128 * g + c)) (min (pos p + 1) (wl g)) - z P p (128 * g + c)

/-- The pooled row of head `g` times that head's matrix. -/
def pool (g p c : ℕ) : EReal := ∑ k : Fin 128, mean P g p k * P.pw g k c

/-- The pooled half, scaled. -/
def pooled (p x : ℕ) : EReal := pool P (x / 128) p (x % 128) * P.ps x

/-- The activated second part of the projection. -/
def ge (p j : ℕ) : EReal := act (z P p (512 + j))

/-- The mean of the half of it that drives the gate. -/
def mu (p : ℕ) : EReal := Ideal.div (∑ x : Fin 512, ge P p (512 + x)) n512

/-- Its variance. -/
def va (p : ℕ) : EReal :=
  Ideal.div (∑ x : Fin 512, (ge P p (512 + x) - mu P p) * (ge P p (512 + x) - mu P p)) n512

/-- The normalised gate input. -/
def ln (p x : ℕ) : EReal := (ge P p (512 + x) - mu P p) * Ideal.rsqrt (va P p + eps) * P.sg x

/-- A position matrix with the entries of later 64-blocks cleared. -/
def msk (g a j : ℕ) : EReal := if j / 64 ≤ a / 64 then P.sw g a j else 0

/-- The gate: each 128-row chunk mixed along positions. -/
def gate (p x : ℕ) : EReal :=
  ∑ j : Fin 128, msk P (x / 128) (p % 128) j * ln P (p / 128 * 128 + j) x + P.sb (x / 128) (p % 128)

/-- The gated half. -/
def gated (p x : ℕ) : EReal := ge P p x * gate P p x

/-- The mixer's first result: the row plus the projection of both halves. -/
def h (p c : ℕ) : EReal :=
  P.X p c + (∑ x : Fin 512, pooled P p x * P.wo x c + ∑ x : Fin 512, gated P p x * P.wo (512 + x) c)

/-- The mixer's second result: the first, normalised. -/
def hn (p c : ℕ) : EReal :=
  h P p c * Ideal.rsqrt (Ideal.div (∑ x : Fin 1024, h P p x * h P p x) n1024 + eps) * P.g2 c

/-- A window of two. -/
theorem win2 (p c : ℕ) : zs P (p + 16) c + zs P (p + 15) c = win P 2 p c := by
  simp only [win, Finset.sum_range_succ, Finset.sum_range_zero, zero_add]
  simp only [Nat.add_assoc, Nat.reduceAdd, Nat.reduceSub]
  ac_rfl

/-- A window of four, summed in pairs. -/
theorem win4 (p c : ℕ) : zs P (p + 16) c + zs P (p + 15) c + (zs P (p + 14) c + zs P (p + 13) c) = win P 4 p c := by
  simp only [win, Finset.sum_range_succ, Finset.sum_range_zero, zero_add]
  simp only [Nat.add_assoc, Nat.reduceAdd, Nat.reduceSub]
  ac_rfl

/-- A window of eight, summed in pairs of pairs. -/
theorem win8 (p c : ℕ) : zs P (p + 16) c + zs P (p + 15) c + (zs P (p + 14) c + zs P (p + 13) c)
    + (zs P (p + 12) c + zs P (p + 11) c + (zs P (p + 10) c + zs P (p + 9) c)) = win P 8 p c := by
  simp only [win, Finset.sum_range_succ, Finset.sum_range_zero, zero_add]
  simp only [Nat.add_assoc, Nat.reduceAdd, Nat.reduceSub]
  ac_rfl

/-- A window of sixteen, summed by halves. -/
theorem win16 (p c : ℕ) : zs P (p + 16) c + zs P (p + 15) c + (zs P (p + 14) c + zs P (p + 13) c)
    + (zs P (p + 12) c + zs P (p + 11) c + (zs P (p + 10) c + zs P (p + 9) c))
    + (zs P (p + 8) c + zs P (p + 7) c + (zs P (p + 6) c + zs P (p + 5) c)
    + (zs P (p + 4) c + zs P (p + 3) c + (zs P (p + 2) c + zs P (p + 1) c))) = win P 16 p c := by
  simp only [win, Finset.sum_range_succ, Finset.sum_range_zero, zero_add]
  simp only [Nat.add_assoc, Nat.reduceAdd, Nat.reduceSub]
  ac_rfl

/-- A sum over 1024 columns is the sum over the first 512 plus the sum over the last 512. -/
theorem sum1024 (f : ℕ → EReal) : ∑ x : Fin 1024, f x = ∑ x : Fin 512, f x + ∑ x : Fin 512, f (512 + x) := by
  rw [show (1024 : ℕ) = 512 + 512 from rfl, Fin.sum_univ_add]
  rfl

end Cert.Mixer

end
-- ==== Proof.Pay.lean ====
module

public import proofs.«01_k».proof.Proof.Gen.KernelIdeal.Skeleton
public import proofs.«01_k».proof.Proof.Spec
public import Idealize.ShloMosaic.Lib.Pointwise
public import Idealize.ShloMosaic.Lib.StableHlo.Predicate

/-! What each stage of the kernel's block computes at one element, in terms of the token mixer of the sequence the block lies in.
The block holds rows `512 * s … 512 * s + 511` of the sequence. -/

@[expose] public section

set_option maxRecDepth 16384

noncomputable section

open Idealize.ShloMosaic Idealize.ShloMosaic.TcCoe Idealize.ShloMosaic.StableHlo.Predicate

namespace Cert.Mixer
open Cert.KernelIdeal Cert.KernelIdeal.Gen

/-- Dividing a position by 64 the way the kernel does: quotient, corrected when the signs differ and a remainder is left. -/
def fdiv64 (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- On a position below 128 it is the natural quotient. -/
theorem fdiv64_eq (a : Fin 128) : fdiv64 (BitVec.ofNat 32 a) = BitVec.ofNat 32 (a / 64) := by
  revert a; decide

/-- The mask holds where the column's 64-block is not after the row's. -/
theorem mask_at (a b : Fin 128) :
    k0_pay23 (iota .tc S128x128 32 [0] iota_S128x128_d0_w32) (64#32) k0_pay20 k0_pay21 k0_pay22 (ix2 a b)
      = if b.val / 64 ≤ a.val / 64 then 1#1 else 0#1 := by
  unfold k0_pay23 k0_pay20 k0_pay21 k0_pay22
  pointwise
  show IntOp.cmpi .sle (fdiv64 (BitVec.ofNat 32 b)) (fdiv64 (BitVec.ofNat 32 a)) = _
  rw [fdiv64_eq, fdiv64_eq]
  have hb := b.isLt
  have ha := a.isLt
  split
  · next hle => exact (sle_ofNat_iff _ _ (by omega) (by omega)).2 hle
  · next hle =>
    rcases BitVec.eq_zero_or_eq_one (IntOp.cmpi .sle (BitVec.ofNat 32 (b.val / 64)) (BitVec.ofNat 32 (a.val / 64))) with e | e
    · exact e
    · exact absurd ((sle_ofNat_iff _ _ (by omega) (by omega)).1 e) hle

variable (P : Par) (s : ℕ)

/-- What it means that a block of rows, the two carried in weights and the carried rows are those of `P` at block `s`. -/
structure Rows (x0 : Vec Ideal S1x512x1024 .f32) (x1 : Vec Ideal S1x1024 .f32) (x2 : Vec Ideal S1024x1536 .bf16) : Prop where
  hx : ∀ (r : Fin 512) (k : Fin 1024), x0 (ix3 0 r k) = P.X (512 * s + r) k
  hg : ∀ k : Fin 1024, x1 (ix2 0 k) = P.g1 k
  hw : ∀ (k : Fin 1024) (j : Fin 1536), x2 (ix2 k j) = P.wi k j

section
variable {P s} {x0 : Vec Ideal S1x512x1024 .f32} {x1 : Vec Ideal S1x1024 .f32} {x2 : Vec Ideal S1024x1536 .bf16}

/-- The block's projected rows. -/
theorem z_at (R : Rows P s x0 x1 x2) (r : Fin 512) (c : Fin 1536) : k0_pay3 x0 x1 x2 (ix2 r c) = z P (512 * s + r) c := by
  pointwise [k0_pay3, k0_pay2]
  simp only [R.hx, R.hg, R.hw]
  rfl

/-- The first third of them. -/
theorem z1_at (R : Rows P s x0 x1 x2) (r : Fin 512) (c : Fin 512) : k0_pay4 x0 x1 x2 (ix2 r c) = z P (512 * s + r) c := by
  pointwise [k0_pay4]
  rw [z_at R]

/-- The rows the block leaves for the next one. -/
theorem carry_at (R : Rows P s x0 x1 x2) (r : Fin 16) (c : Fin 512) :
    k0_pay7 x0 x1 x2 (ix2 r c) = zs P (512 * (s + 1) + r) c := by
  pointwise [k0_pay7]
  rw [z1_at R, zs, if_neg (by omega)]
  congr 1
  simp only
  omega

/-- The rows behind the carried ones. -/
theorem ext_at (R : Rows P s x0 x1 x2) {car : Vec Ideal S16x512 .f32} (hc : ∀ (r : Fin 16) (c : Fin 512), car (ix2 r c) = zs P (512 * s + r) c)
    (n : Fin 528) (c : Fin 512) : k0_pay6 x0 x1 x2 car (ix2 n c) = zs P (512 * s + n) c := by
  pointwise [k0_pay6]
  split
  · next hn => exact hc ⟨n, hn⟩ c
  · next hn =>
    have hn' := n.isLt
    refine (z1_at R ⟨n - 16, by omega⟩ c).trans ?_
    rw [zs, if_neg (by omega), Nat.add_sub_assoc (by omega)]

/-- The block's rows themselves. -/
theorem x_at (R : Rows P s x0 x1 x2) (r : Fin 512) (c : Fin 1024) : k0_pay2 x0 (ix2 r c) = P.X (512 * s + r) c := by
  pointwise [k0_pay2]
  rw [R.hx]

/-- Sums of neighbouring rows of the first head. -/
theorem pair_at (R : Rows P s x0 x1 x2) {car : Vec Ideal S16x512 .f32} (hc : ∀ (r : Fin 16) (c : Fin 512), car (ix2 r c) = zs P (512 * s + r) c)
    (a : Fin 527) (b : Fin 128) :
    k0_pay9 x0 x1 x2 car (ix2 a b) = zs P (512 * s + (1 + a)) b + zs P (512 * s + a) b := by
  pointwise [k0_pay9]
  simp only [ext_at R hc]
end

/-- The position of a row. -/
theorem pos_at (i : grid0.Coords) (hi : (i 1).val = s) (r : Fin 512) : k0_pay8 (F := Ideal) i (ix2 r 0) = pos (512 * s + r) := by
  pointwise [k0_pay8]
  rw [hi]
  show (FloatOps.sitofp .f32 (IntOp.addi (IntOp.muli (BitVec.ofNat 32 s) 512#32) (BitVec.ofNat 32 r)) : Ideal .f32) = _
  rw [pos, Nat.mul_comm 512 s, BitVec.ofNat_add, BitVec.ofNat_mul]
  rfl

section
variable {P s} {z1 : FVec Ideal S512x512 .f32} {ext : FVec Ideal S528x512 .f32} {ps : FVec Ideal S512x1 .f32}
  (hz : ∀ (r c : Fin 512), z1 (ix2 r c) = z P (512 * s + r) c)
  (he : ∀ (n : Fin 528) (c : Fin 512), ext (ix2 n c) = zs P (512 * s + n) c)
  (hp : ∀ r : Fin 512, ps (ix2 r 0) = pos (512 * s + r))
include hz he hp

/-- The first head's pooled rows times its matrix. -/
theorem pool0_at {pr : FVec Ideal S527x128 .f32} (hpr : ∀ (a : Fin 527) (b : Fin 128), pr (ix2 a b) = zs P (512 * s + (1 + a)) b + zs P (512 * s + a) b)
    {w : Vec Ideal S1x128x128 .bf16} (hw : ∀ a b : Fin 128, w (ix3 0 a b) = P.pw 0 a b) (a : Fin 512) (b : Fin 128) :
    k0_pay10 z1 ps pr w (ix2 a b) = pool P 0 (512 * s + a) b := by
  pointwise [k0_pay10]
  have e16 : 512 * s + (1 + (15 + a.val)) = 512 * s + a.val + 16 := by omega
  have e15 : 512 * s + (15 + a.val) = 512 * s + a.val + 15 := by omega
  have e0 : ∀ x : ℕ, 128 * 0 + x = x := by omega
  simp only [hpr, hz, hp, hw, e16, e15, win2]
  simp only [pool, mean, e0]
  rfl

/-- The second head's. -/
theorem pool1_at {w : Vec Ideal S1x128x128 .bf16} (hw : ∀ a b : Fin 128, w (ix3 0 a b) = P.pw 1 a b) (a : Fin 512) (b : Fin 128) :
    k0_pay11 z1 ext ps w (ix2 a b) = pool P 1 (512 * s + a) b := by
  pointwise [k0_pay11]
  simp only [he, hz, hp, hw]
  have e16 : 512 * s + (1 + (2 + (13 + a.val))) = 512 * s + a.val + 16 := by omega
  have e15 : 512 * s + (2 + (13 + a.val)) = 512 * s + a.val + 15 := by omega
  have e14 : 512 * s + (1 + (13 + a.val)) = 512 * s + a.val + 14 := by omega
  have e13 : 512 * s + (13 + a.val) = 512 * s + a.val + 13 := by omega
  simp only [e16, e15, e14, e13, win4]
  rfl

/-- The third head's window sums. -/
theorem win8_at (a : Fin 512) (b : Fin 128) : k0_pay12 ext (ix2 a b) = win P 8 (512 * s + a) (256 + b) := by
  pointwise [k0_pay12]
  simp only [he]
  have e16 : 512 * s + (1 + (2 + (4 + (9 + a.val)))) = 512 * s + a.val + 16 := by omega
  have e15 : 512 * s + (2 + (4 + (9 + a.val))) = 512 * s + a.val + 15 := by omega
  have e14 : 512 * s + (1 + (4 + (9 + a.val))) = 512 * s + a.val + 14 := by omega
  have e13 : 512 * s + (4 + (9 + a.val)) = 512 * s + a.val + 13 := by omega
  have e12 : 512 * s + (1 + (2 + (9 + a.val))) = 512 * s + a.val + 12 := by omega
  have e11 : 512 * s + (2 + (9 + a.val)) = 512 * s + a.val + 11 := by omega
  have e10 : 512 * s + (1 + (9 + a.val)) = 512 * s + a.val + 10 := by omega
  have e9 : 512 * s + (9 + a.val) = 512 * s + a.val + 9 := by omega
  simp only [e16, e15, e14, e13, e12, e11, e10, e9, win8]

/-- Both halves' pooled rows, scaled. -/
theorem pooled_at {p0 p1 w8 : FVec Ideal S512x128 .f32} {ps1 : FVec Ideal S512x1 .f32} {cst : Ideal .f32}
    (h0 : ∀ (a : Fin 512) (b : Fin 128), p0 (ix2 a b) = pool P 0 (512 * s + a) b)
    (h1 : ∀ (a : Fin 512) (b : Fin 128), p1 (ix2 a b) = pool P 1 (512 * s + a) b)
    (h8 : ∀ (a : Fin 512) (b : Fin 128), w8 (ix2 a b) = win P 8 (512 * s + a) (256 + b))
    (hps1 : ∀ a : Fin 512, ps1 (ix2 a 0) = pos (512 * s + a) + 1) (hcst : cst = wl 2)
    {wa wb : Vec Ideal S1x128x128 .bf16} (hwa : ∀ a b : Fin 128, wa (ix3 0 a b) = P.pw 2 a b)
    (hwb : ∀ a b : Fin 128, wb (ix3 0 a b) = P.pw 3 a b)
    {sc : Vec Ideal S1x512 .f32} (hsc : ∀ c : Fin 512, sc (ix2 0 c) = P.ps c) (a : Fin 512) (b : Fin 512) :
    k0_pay14 z1 ext ps p0 p1 w8 ps1 cst wa wb sc (ix2 a b) = pooled P (512 * s + a) b := by
  pointwise [k0_pay14]
  simp only [h0, h1, h8, hps1, hcst, hwa, hwb, hsc, he, hz, hp]
  have e16 : 512 * s + (1 + (2 + (4 + (8 + (1 + a.val))))) = 512 * s + a.val + 16 := by omega
  have e15 : 512 * s + (2 + (4 + (8 + (1 + a.val)))) = 512 * s + a.val + 15 := by omega
  have e14 : 512 * s + (1 + (4 + (8 + (1 + a.val)))) = 512 * s + a.val + 14 := by omega
  have e13 : 512 * s + (4 + (8 + (1 + a.val))) = 512 * s + a.val + 13 := by omega
  have e12 : 512 * s + (1 + (2 + (8 + (1 + a.val)))) = 512 * s + a.val + 12 := by omega
  have e11 : 512 * s + (2 + (8 + (1 + a.val))) = 512 * s + a.val + 11 := by omega
  have e10 : 512 * s + (1 + (8 + (1 + a.val))) = 512 * s + a.val + 10 := by omega
  have e9 : 512 * s + (8 + (1 + a.val)) = 512 * s + a.val + 9 := by omega
  have e8 : 512 * s + (1 + (2 + (4 + (1 + a.val)))) = 512 * s + a.val + 8 := by omega
  have e7 : 512 * s + (2 + (4 + (1 + a.val))) = 512 * s + a.val + 7 := by omega
  have e6 : 512 * s + (1 + (4 + (1 + a.val))) = 512 * s + a.val + 6 := by omega
  have e5 : 512 * s + (4 + (1 + a.val)) = 512 * s + a.val + 5 := by omega
  have e4 : 512 * s + (1 + (2 + (1 + a.val))) = 512 * s + a.val + 4 := by omega
  have e3 : 512 * s + (2 + (1 + a.val)) = 512 * s + a.val + 3 := by omega
  have e2 : 512 * s + (1 + (1 + a.val)) = 512 * s + a.val + 2 := by omega
  have e1 : 512 * s + (1 + a.val) = 512 * s + a.val + 1 := by omega
  simp only [e16, e15, e14, e13, e12, e11, e10, e9, e8, e7, e6, e5, e4, e3, e2, e1, win16]
  unfold pooled
  congr 1
  have hb := b.isLt
  split_ifs with c0 c1 c2
  · rw [show b.val / 128 = 0 by omega, show b.val % 128 = b.val by omega]
  · rw [show b.val / 128 = 1 by omega, show b.val % 128 = b.val - 128 by omega]
  · rw [show b.val / 128 = 2 by omega, show b.val % 128 = b.val - 128 - 128 by omega]
    rfl
  · rw [show b.val / 128 = 3 by omega, show b.val % 128 = b.val - 128 - 128 - 128 by omega]
    rfl
end

/-- The argument of the hyperbolic tangent, before its factor. -/
theorem cubic_at (v : FVec Ideal S512x1536 .f32) (a : Fin 512) (b : Fin 1024) :
    k0_pay16 v (ix2 a b) = v (ix2 a ⟨512 + b, by omega⟩)
      + Ideal.ofBits .f32 1027024659#32 * (v (ix2 a ⟨512 + b, by omega⟩) * v (ix2 a ⟨512 + b, by omega⟩) * v (ix2 a ⟨512 + b, by omega⟩)) := by
  pointwise [k0_pay16, k0_pay15]
  rw [mul_assoc]

section
variable {P s} {v : FVec Ideal S512x1536 .f32} (hv : ∀ (r : Fin 512) (c : Fin 1536), v (ix2 r c) = z P (512 * s + r) c)
  {cst : Ideal .f32} (hc : cst = Ideal.ofBits .f32 1061962282#32)
include hv hc

/-- The activated rows. -/
theorem act_at (a : Fin 512) (b : Fin 1024) : k0_pay17 (k0_pay15 v) (k0_pay16 v) cst (ix2 a b) = ge P (512 * s + a) b := by
  pointwise [k0_pay17]
  rw [cubic_at, hc]
  pointwise [k0_pay15]
  simp only [hv]
  rfl

/-- The first half of them. -/
theorem act1_at (a : Fin 512) (b : Fin 512) : k0_pay18 (k0_pay15 v) (k0_pay16 v) cst (ix2 a b) = ge P (512 * s + a) b := by
  unfold k0_pay18
  pointwise
  rw [act_at hv hc]

/-- The second half of them, normalised. -/
theorem ln_at {g : Vec Ideal S1x512 .f32} (hg : ∀ c : Fin 512, g (ix2 0 c) = P.sg c) (a : Fin 512) (b : Fin 512) :
    k0_pay19 (k0_pay15 v) (k0_pay16 v) cst g (ix2 a b) = ln P (512 * s + a) b := by
  unfold k0_pay19
  pointwise
  simp only [act_at hv hc, hg]
  rfl
end

section
variable {P s} {v138 v159 : FVec Ideal S512x512 .f32} {M0 M1 M2 M3 : FVec Ideal S128x128 .f32} {c0 c1 c2 c3 : FVec Ideal S128x1 .f32}

/-- One entry of the gated half, read in its 128-row chunk `q` and its head `g`. -/
theorem gated_eq (q g : ℕ) (a : ℕ) (ha : a < 128) (b : ℕ) (hb : b / 128 = g) :
    ge P (512 * s + (128 * q + a)) b * (∑ j : Fin 128, msk P g a j * ln P (512 * s + (128 * q + j)) b + P.sb g a)
      = gated P (512 * s + (128 * q + a)) b := by
  subst hb
  unfold gated gate
  rw [show (512 * s + (128 * q + a)) % 128 = a by omega, show (512 * s + (128 * q + a)) / 128 * 128 = 512 * s + 128 * q by omega]
  simp only [Nat.add_assoc]
end

/-- What the gate's payloads read: the activated rows, the normalised rows, the masked matrices and the biases. -/
structure Gate (v138 : FVec Ideal S512x512 .f32) (v159 : FVec Ideal S512x512 .bf16) (M0 M1 M2 M3 : FVec Ideal S128x128 .bf16)
    (c0 c1 c2 c3 : FVec Ideal S128x1 .f32) : Prop where
  hv : ∀ a b : Fin 512, v138 (ix2 a b) = ge P (512 * s + a) b
  hl : ∀ a b : Fin 512, v159 (ix2 a b) = ln P (512 * s + a) b
  h0 : ∀ a b : Fin 128, M0 (ix2 a b) = msk P 0 a b
  h1 : ∀ a b : Fin 128, M1 (ix2 a b) = msk P 1 a b
  h2 : ∀ a b : Fin 128, M2 (ix2 a b) = msk P 2 a b
  h3 : ∀ a b : Fin 128, M3 (ix2 a b) = msk P 3 a b
  k0 : ∀ a : Fin 128, c0 (ix2 a 0) = P.sb 0 a
  k1 : ∀ a : Fin 128, c1 (ix2 a 0) = P.sb 1 a
  k2 : ∀ a : Fin 128, c2 (ix2 a 0) = P.sb 2 a
  k3 : ∀ a : Fin 128, c3 (ix2 a 0) = P.sb 3 a

section
variable {P s} {g : FVec Ideal S512x512 .f32} {l : FVec Ideal S512x512 .bf16} {msk210 : IVec S128x128 1} {w0 w1 w2 w3 : Vec Ideal S1x128x128 .f32}
  {M0 M1 M2 M3 : FVec Ideal S128x128 .bf16} {c0 c1 c2 c3 : FVec Ideal S128x1 .f32}

/-- The mask at an entry is the comparison of 64-blocks. -/
theorem select_at {m : IVec S128x128 1} (hm : ∀ a b : Fin 128, m (ix2 a b) = if b.val / 64 ≤ a.val / 64 then 1#1 else 0#1) (k : ℕ)
    (a b : Fin 128) (v : EReal) (hv : v = P.sw k a b) : Scalar.select (m (ix2 a b)) v 0 = msk P k a b := by
  rw [hm, hv]
  unfold msk Scalar.select
  split <;> rfl

/-- The first head's masked matrix. -/
theorem m0_at (hw : ∀ a b : Fin 128, w0 (ix3 0 a b) = P.sw 0 a b) (a b : Fin 128) :
    k0_pay24 (iota .tc S128x128 32 [0] iota_S128x128_d0_w32) (64#32) k0_pay20 k0_pay21 k0_pay22 w0 (ix2 a b) = msk P 0 a b := by
  unfold k0_pay24
  pointwise
  exact select_at mask_at 0 a b _ (hw a b)

/-- The second head's. -/
theorem m1_at (hm : ∀ a b : Fin 128, msk210 (ix2 a b) = if b.val / 64 ≤ a.val / 64 then 1#1 else 0#1)
    (hw : ∀ a b : Fin 128, w1 (ix3 0 a b) = P.sw 1 a b) (a b : Fin 128) :
    k0_pay27 msk210 (k0_pay25 w1) k0_pay26 (ix2 a b) = msk P 1 a b := by
  pointwise [k0_pay27, k0_pay25, k0_pay26]
  exact select_at hm 1 a b _ (hw a b)

/-- The third head's. -/
theorem m2_at (hm : ∀ a b : Fin 128, msk210 (ix2 a b) = if b.val / 64 ≤ a.val / 64 then 1#1 else 0#1)
    (hw : ∀ a b : Fin 128, w2 (ix3 0 a b) = P.sw 2 a b) (a b : Fin 128) :
    k0_pay28 msk210 w2 (ix2 a b) = msk P 2 a b := by
  pointwise [k0_pay28]
  exact select_at hm 2 a b _ (hw a b)

/-- The fourth head's. -/
theorem m3_at (hm : ∀ a b : Fin 128, msk210 (ix2 a b) = if b.val / 64 ≤ a.val / 64 then 1#1 else 0#1)
    (hw : ∀ a b : Fin 128, w3 (ix3 0 a b) = P.sw 3 a b) (a b : Fin 128) :
    k0_pay29 msk210 w3 (ix2 a b) = msk P 3 a b := by
  pointwise [k0_pay29]
  exact select_at hm 3 a b _ (hw a b)
end

section
variable {P s} {v138 : FVec Ideal S512x512 .f32} {v159 : FVec Ideal S512x512 .bf16} {M0 M1 M2 M3 : FVec Ideal S128x128 .bf16}
  {c0 c1 c2 c3 : FVec Ideal S128x1 .f32} (G : Gate P s v138 v159 M0 M1 M2 M3 c0 c1 c2 c3)
include G

/-- Rows 128 to 255 of the gated half. -/
theorem row1_at (a : Fin 128) (b : Fin 512) :
    k0_pay36 v138 v159 M0 M1 M2 M3 c0 c1 c2 c3 (ix2 a b) = gated P (512 * s + (128 + a)) b := by
  pointwise [k0_pay36]
  simp only [G.hv, G.hl, G.h0, G.h1, G.h2, G.h3, G.k0, G.k1, G.k2, G.k3]
  have hb := b.isLt
  split_ifs with d0 d1 d2
  · exact gated_eq 1 0 a a.isLt _ (by omega)
  · rw [show 128 + (b.val - 128) = b.val by omega]; exact gated_eq 1 1 a a.isLt _ (by omega)
  · rw [show 256 + (b.val - 128 - 128) = b.val by omega]; exact gated_eq 1 2 a a.isLt _ (by omega)
  · rw [show 384 + (b.val - 128 - 128 - 128) = b.val by omega]; exact gated_eq 1 3 a a.isLt _ (by omega)

/-- Rows 256 to 383. -/
theorem row2_at (a : Fin 128) (b : Fin 512) :
    k0_pay39 v138 v159 M1 M2 M3 (k0_pay37 v159 M0 c0) (k0_pay38 v138) c1 c2 c3 (ix2 a b) = gated P (512 * s + (256 + a)) b := by
  pointwise [k0_pay39, k0_pay37, k0_pay38]
  simp only [G.hv, G.hl, G.h0, G.h1, G.h2, G.h3, G.k0, G.k1, G.k2, G.k3]
  have hb := b.isLt
  split_ifs with d0 d1 d2
  · exact gated_eq 2 0 a a.isLt _ (by omega)
  · rw [show 128 + (b.val - 128) = b.val by omega]; exact gated_eq 2 1 a a.isLt _ (by omega)
  · rw [show 256 + (b.val - 128 - 128) = b.val by omega]; exact gated_eq 2 2 a a.isLt _ (by omega)
  · rw [show 384 + (b.val - 128 - 128 - 128) = b.val by omega]; exact gated_eq 2 3 a a.isLt _ (by omega)

/-- The first head's part of rows 384 to 511. -/
theorem row3a_at (a : Fin 128) (b : Fin 128) : k0_pay40 v138 v159 M0 c0 (ix2 a b) = gated P (512 * s + (384 + a)) b := by
  pointwise [k0_pay40]
  simp only [G.hv, G.hl, G.h0, G.h1, G.h2, G.h3, G.k0, G.k1, G.k2, G.k3]
  exact gated_eq 3 0 a a.isLt _ (by omega)

/-- The second head's part. -/
theorem row3b_at (a : Fin 128) (b : Fin 128) : k0_pay41 v138 v159 M1 c1 (ix2 a b) = gated P (512 * s + (384 + a)) (128 + b) := by
  pointwise [k0_pay41]
  simp only [G.hv, G.hl, G.h0, G.h1, G.h2, G.h3, G.k0, G.k1, G.k2, G.k3]
  exact gated_eq 3 1 a a.isLt _ (by omega)

/-- The third head's mixed rows. -/
theorem row3c_at (a : Fin 128) (b : Fin 128) :
    k0_pay42 v159 M2 (ix2 a b) = ∑ j : Fin 128, msk P 2 a j * ln P (512 * s + (384 + j)) (256 + b) := by
  pointwise [k0_pay42]
  simp only [G.hv, G.hl, G.h0, G.h1, G.h2, G.h3, G.k0, G.k1, G.k2, G.k3]

/-- The block's first result. -/
theorem h_at {x : FVec Ideal S512x1024 .f32} (hx : ∀ (r : Fin 512) (c : Fin 1024), x (ix2 r c) = P.X (512 * s + r) c)
    {pl : FVec Ideal S512x512 .f32} (hpl : ∀ a b : Fin 512, pl (ix2 a b) = pooled P (512 * s + a) b)
    {r0 r1 r2 : FVec Ideal S128x512 .f32}
    (h0 : ∀ (a : Fin 128) (b : Fin 512), r0 (ix2 a b) = gated P (512 * s + a) b)
    (h1 : ∀ (a : Fin 128) (b : Fin 512), r1 (ix2 a b) = gated P (512 * s + (128 + a)) b)
    (h2 : ∀ (a : Fin 128) (b : Fin 512), r2 (ix2 a b) = gated P (512 * s + (256 + a)) b)
    {ra rb rc : FVec Ideal S128x128 .f32}
    (ha : ∀ a b : Fin 128, ra (ix2 a b) = gated P (512 * s + (384 + a)) b)
    (hb : ∀ a b : Fin 128, rb (ix2 a b) = gated P (512 * s + (384 + a)) (128 + b))
    (hc : ∀ a b : Fin 128, rc (ix2 a b) = ∑ j : Fin 128, msk P 2 a j * ln P (512 * s + (384 + j)) (256 + b))
    {wo : Vec Ideal S1024x1024 .bf16} (hwo : ∀ a b : Fin 1024, wo (ix2 a b) = P.wo a b) (a : Fin 512) (b : Fin 1024) :
    k0_pay43 x pl v138 v159 M3 r0 r1 r2 ra rb rc c2 c3 wo (ix2 a b) = h P (512 * s + a) b := by
  pointwise [k0_pay43]
  simp only [hx, hpl, h0, h1, h2, ha, hb, hc, hwo, G.hv, G.hl, G.h3, G.k2, G.k3]
  unfold h
  congr 1
  have ha' := a.isLt
  trans ∑ y : Fin 1024, (fun n : ℕ => (if n < 512 then pooled P (512 * s + a) n else gated P (512 * s + a) (n - 512)) * P.wo n b) y
  · refine Finset.sum_congr rfl fun y _ => ?_
    have hy := y.isLt
    congr 1
    split_ifs with d0 d1 d2 d3 d4 d5 d6
    · rfl
    · rfl
    · rw [show 128 + (a.val - 128) = a.val by omega]
    · rw [show 256 + (a.val - 128 - 128) = a.val by omega]
    · rw [show 384 + (a.val - 128 - 128 - 128) = a.val by omega]
    · rw [show 384 + (a.val - 128 - 128 - 128) = a.val by omega, show 128 + (y.val - 512 - 128) = y.val - 512 by omega]
    · rw [show 256 + (y.val - 512 - 128 - 128) = y.val - 512 by omega]
      refine (gated_eq 3 2 (a.val - 128 - 128 - 128) (by omega) (y.val - 512) (by omega)).trans ?_
      rw [show 128 * 3 + (a.val - 128 - 128 - 128) = a.val by omega]
    · rw [show 384 + (y.val - 512 - 128 - 128 - 128) = y.val - 512 by omega]
      refine (gated_eq 3 3 (a.val - 128 - 128 - 128) (by omega) (y.val - 512) (by omega)).trans ?_
      rw [show 128 * 3 + (a.val - 128 - 128 - 128) = a.val by omega]
  · refine (sum1024 (fun n : ℕ => (if n < 512 then pooled P (512 * s + a) n else gated P (512 * s + a) (n - 512)) * P.wo n b)).trans ?_
    refine congrArg₂ (· + ·) (Finset.sum_congr rfl fun y _ => ?_) (Finset.sum_congr rfl fun y _ => ?_)
    · show (if y.val < 512 then _ else _) * _ = _
      rw [if_pos y.isLt]
    · have h5 : ¬ 512 + y.val < 512 := by omega
      show (if 512 + y.val < 512 then _ else _) * _ = _
      rw [if_neg h5, show 512 + y.val - 512 = y.val by omega]
end

/-- Rows 0 to 127 of the gated half. -/
theorem row0_at {P : Par} {s : ℕ} {v138 : FVec Ideal S512x512 .f32} {v159 : FVec Ideal S512x512 .bf16} {m : IVec S128x128 1}
    {w1 w2 w3 : Vec Ideal S1x128x128 .f32} {M0 : FVec Ideal S128x128 .bf16} {c0 c1 c2 c3 : FVec Ideal S128x1 .f32}
    (G : Gate P s v138 v159 M0 (k0_pay27 m (k0_pay25 w1) k0_pay26) (k0_pay28 m w2) (k0_pay29 m w3) c0 c1 c2 c3)
    (a : Fin 128) (b : Fin 512) :
    k0_pay35 v138 (k0_pay30 v138 v159 M0 c0) (k0_pay31 v138 v159 m (k0_pay25 w1) k0_pay26 c1) (k0_pay32 v138 v159 m w2 c2)
      (k0_pay33 v159 m w3) (k0_pay34 c3) (ix2 a b) = gated P (512 * s + a) b := by
  have hb := b.isLt
  unfold k0_pay30 k0_pay31 k0_pay32 k0_pay33 k0_pay34
  have g1 := G.h1
  have g2 := G.h2
  have g3 := G.h3
  generalize k0_pay27 m (k0_pay25 w1) k0_pay26 = M1 at g1 ⊢
  generalize k0_pay28 m w2 = M2 at g2 ⊢
  generalize k0_pay29 m w3 = M3 at g3 ⊢
  pointwise [k0_pay35]
  simp only [G.hv, G.hl, G.h0, g1, g2, g3, G.k0, G.k1, G.k2, G.k3]
  have key := fun g hg => gated_eq (P := P) (s := s) 0 g a a.isLt b hg
  simp only [Nat.mul_zero, Nat.zero_add] at key
  split_ifs with d0 d1 d2
  · exact key 0 (by omega)
  · rw [show 128 + (b.val - 128) = b.val by omega]; exact key 1 (by omega)
  · rw [show 256 + (b.val - 128 - 128) = b.val by omega]; exact key 2 (by omega)
  · rw [show 384 + (b.val - 128 - 128 - 128) = b.val by omega]; exact key 3 (by omega)

/-- The block's second result from its first. -/
theorem hn_at {P : Par} {s : ℕ} {x : FVec Ideal S512x1024 .f32} {pl v138 : FVec Ideal S512x512 .f32} {v159 : FVec Ideal S512x512 .bf16}
    {M3 : FVec Ideal S128x128 .bf16} {r0 r1 r2 : FVec Ideal S128x512 .f32} {ra rb rc : FVec Ideal S128x128 .f32} {c2 c3 : Vec Ideal S128x1 .f32}
    {wo : Vec Ideal S1024x1024 .bf16}
    (hh : ∀ (a : Fin 512) (b : Fin 1024), k0_pay43 x pl v138 v159 M3 r0 r1 r2 ra rb rc c2 c3 wo (ix2 a b) = h P (512 * s + a) b)
    {g : Vec Ideal S1x1024 .f32} (hg : ∀ k : Fin 1024, g (ix2 0 k) = P.g2 k) (a : Fin 512) (b : Fin 1024) :
    k0_pay45 x pl v138 v159 M3 r0 r1 r2 ra rb rc c2 c3 wo g (ix2 a b) = hn P (512 * s + a) b := by
  unfold k0_pay45
  pointwise
  simp only [hh, hg]
  rfl

end Cert.Mixer

end
-- ==== Proof.Block.lean ====
module

public import proofs.«01_k».proof.Proof.Gen.KernelIdeal.Frame
public import proofs.«01_k».proof.Proof.Gen.KernelIdeal.Value
public import Idealize.ShloMosaic.Lib.Pointwise
public import Idealize.ShloMosaic.Lib.Pipeline.Value
public import Idealize.ShloMosaic.Lib.Tactic
public import proofs.«01_k».proof.Proof.Pay

/-! One execution of the kernel's body: its two results and the rows it carries on, first as the composition of its payloads, then
element by element as the token mixer. -/

@[expose] public section

noncomputable section

open Idealize.ShloMosaic Idealize.ShloMosaic.TcCoe Idealize.SL.Sem
open Idealize.ShloMosaic.Pipeline (Dat)

namespace Cert.Mixer
open Cert.KernelIdeal Cert.KernelIdeal.Gen

section
variable {F : FTy → Type} [FloatOps F]
variable (i : grid0.Coords) (x0 : Vec F S1x512x1024 .f32) (x1 : Vec F S1x1024 .f32) (x2 : Vec F S1024x1536 .bf16) (x3 : Vec F S4x128x128 .bf16)
  (x4 x5 : Vec F S1x512 .f32) (x6 : Vec F S4x128x128 .f32) (x7 : Vec F S128x4 .f32) (x8 : Vec F S1024x1024 .bf16) (x9 : Vec F S1x1024 .f32)
  (car : Vec F S16x512 .f32)

/-- The pooling matrix of head 0. -/
def pwm0 : Vec F S1x128x128 .bf16 := View.ld x3 (Rect.unit ![0, 0, 0] ![1, 128, 128] inb_S4x128x128_S1x128x128_0_0_0)
/-- The gate's matrix of head 0. -/
def swm0 : Vec F S1x128x128 .f32 := View.ld x6 (Rect.unit ![0, 0, 0] ![1, 128, 128] inb_S4x128x128_S1x128x128_0_0_0)
/-- The gate's biases of head 0. -/
def sbc0 : Vec F S128x1 .f32 := View.ld x7 (Rect.unit ![0, 0] ![128, 1] inb_S128x4_S128x1_0_0)
/-- The pooling matrix of head 1. -/
def pwm1 : Vec F S1x128x128 .bf16 := View.ld x3 (Rect.unit ![1, 0, 0] ![1, 128, 128] inb_S4x128x128_S1x128x128_1_0_0)
/-- The gate's matrix of head 1. -/
def swm1 : Vec F S1x128x128 .f32 := View.ld x6 (Rect.unit ![1, 0, 0] ![1, 128, 128] inb_S4x128x128_S1x128x128_1_0_0)
/-- The gate's biases of head 1. -/
def sbc1 : Vec F S128x1 .f32 := View.ld x7 (Rect.unit ![0, 1] ![128, 1] inb_S128x4_S128x1_0_1)
/-- The pooling matrix of head 2. -/
def pwm2 : Vec F S1x128x128 .bf16 := View.ld x3 (Rect.unit ![2, 0, 0] ![1, 128, 128] inb_S4x128x128_S1x128x128_2_0_0)
/-- The gate's matrix of head 2. -/
def swm2 : Vec F S1x128x128 .f32 := View.ld x6 (Rect.unit ![2, 0, 0] ![1, 128, 128] inb_S4x128x128_S1x128x128_2_0_0)
/-- The gate's biases of head 2. -/
def sbc2 : Vec F S128x1 .f32 := View.ld x7 (Rect.unit ![0, 2] ![128, 1] inb_S128x4_S128x1_0_2)
/-- The pooling matrix of head 3. -/
def pwm3 : Vec F S1x128x128 .bf16 := View.ld x3 (Rect.unit ![3, 0, 0] ![1, 128, 128] inb_S4x128x128_S1x128x128_3_0_0)
/-- The gate's matrix of head 3. -/
def swm3 : Vec F S1x128x128 .f32 := View.ld x6 (Rect.unit ![3, 0, 0] ![1, 128, 128] inb_S4x128x128_S1x128x128_3_0_0)
/-- The gate's biases of head 3. -/
def sbc3 : Vec F S128x1 .f32 := View.ld x7 (Rect.unit ![0, 3] ![128, 1] inb_S128x4_S128x1_0_3)
/-- The scaled pooled half. -/
def bPool : FVec F S512x512 .f32 :=
  k0_pay14 (k0_pay4 x0 x1 x2) (k0_pay6 x0 x1 x2 car) (k0_pay8 i)
    (k0_pay10 (k0_pay4 x0 x1 x2) (k0_pay8 i) (k0_pay9 x0 x1 x2 car) (pwm0 x3))
    (k0_pay11 (k0_pay4 x0 x1 x2) (k0_pay6 x0 x1 x2 car) (k0_pay8 i) (pwm1 x3))
    (k0_pay12 (k0_pay6 x0 x1 x2 car)) (k0_pay13 (k0_pay8 i)) (FloatOps.ofBits .f32 0x41000000#32) (pwm2 x3) (pwm3 x3) x4
/-- The activated first half. -/
def bAct : FVec F S512x512 .f32 := k0_pay18 (k0_pay15 (k0_pay3 x0 x1 x2)) (k0_pay16 (k0_pay3 x0 x1 x2)) (FloatOps.ofBits .f32 0x3F4C422A#32)
/-- The normalised second half. -/
def bLn : FVec F S512x512 .bf16 := k0_pay19 (k0_pay15 (k0_pay3 x0 x1 x2)) (k0_pay16 (k0_pay3 x0 x1 x2)) (FloatOps.ofBits .f32 0x3F4C422A#32) x5
/-- The mask. -/
def bMask : IVec S128x128 1 := k0_pay23 (iota .tc S128x128 32 [0] iota_S128x128_d0_w32) (64#32) k0_pay20 k0_pay21 k0_pay22
/-- The masked matrices, by head. -/
def bM0 : FVec F S128x128 .bf16 := k0_pay24 (iota .tc S128x128 32 [0] iota_S128x128_d0_w32) (64#32) k0_pay20 k0_pay21 k0_pay22 (swm0 x6)
/-- The second. -/
def bM1 : FVec F S128x128 .bf16 := k0_pay27 bMask (k0_pay25 (swm1 x6)) k0_pay26
/-- The third. -/
def bM2 : FVec F S128x128 .bf16 := k0_pay28 bMask (swm2 x6)
/-- The fourth. -/
def bM3 : FVec F S128x128 .bf16 := k0_pay29 bMask (swm3 x6)
/-- Rows 0 to 127 of the gated half. -/
def bR0 : FVec F S128x512 .f32 :=
  k0_pay35 (bAct x0 x1 x2) (k0_pay30 (bAct x0 x1 x2) (bLn x0 x1 x2 x5) (bM0 x6) (sbc0 x7))
    (k0_pay31 (bAct x0 x1 x2) (bLn x0 x1 x2 x5) bMask (k0_pay25 (swm1 x6)) k0_pay26 (sbc1 x7))
    (k0_pay32 (bAct x0 x1 x2) (bLn x0 x1 x2 x5) bMask (swm2 x6) (sbc2 x7)) (k0_pay33 (bLn x0 x1 x2 x5) bMask (swm3 x6)) (k0_pay34 (sbc3 x7))
/-- Rows 128 to 255. -/
def bR1 : FVec F S128x512 .f32 :=
  k0_pay36 (bAct x0 x1 x2) (bLn x0 x1 x2 x5) (bM0 x6) (bM1 x6) (bM2 x6) (bM3 x6) (sbc0 x7) (sbc1 x7) (sbc2 x7) (sbc3 x7)
/-- Rows 256 to 383. -/
def bR2 : FVec F S128x512 .f32 :=
  k0_pay39 (bAct x0 x1 x2) (bLn x0 x1 x2 x5) (bM1 x6) (bM2 x6) (bM3 x6) (k0_pay37 (bLn x0 x1 x2 x5) (bM0 x6) (sbc0 x7)) (k0_pay38 (bAct x0 x1 x2))
    (sbc1 x7) (sbc2 x7) (sbc3 x7)
/-- The block's first result. -/
def bH : Vec F S1x512x1024 .f32 :=
  k0_pay44 (k0_pay2 x0) (bPool i x0 x1 x2 x3 x4 car) (bAct x0 x1 x2) (bLn x0 x1 x2 x5) (bM3 x6) (bR0 x0 x1 x2 x5 x6 x7) (bR1 x0 x1 x2 x5 x6 x7)
    (bR2 x0 x1 x2 x5 x6 x7) (k0_pay40 (bAct x0 x1 x2) (bLn x0 x1 x2 x5) (bM0 x6) (sbc0 x7))
    (k0_pay41 (bAct x0 x1 x2) (bLn x0 x1 x2 x5) (bM1 x6) (sbc1 x7)) (k0_pay42 (bLn x0 x1 x2 x5) (bM2 x6)) (sbc2 x7) (sbc3 x7) x8
/-- The block's second result. -/
def bHn : Vec F S1x512x1024 .f32 :=
  k0_pay1 (k0_pay45 (k0_pay2 x0) (bPool i x0 x1 x2 x3 x4 car) (bAct x0 x1 x2) (bLn x0 x1 x2 x5) (bM3 x6) (bR0 x0 x1 x2 x5 x6 x7) (bR1 x0 x1 x2 x5 x6 x7)
    (bR2 x0 x1 x2 x5 x6 x7) (k0_pay40 (bAct x0 x1 x2) (bLn x0 x1 x2 x5) (bM0 x6) (sbc0 x7))
    (k0_pay41 (bAct x0 x1 x2) (bLn x0 x1 x2 x5) (bM1 x6) (sbc1 x7)) (k0_pay42 (bLn x0 x1 x2 x5) (bM2 x6)) (sbc2 x7) (sbc3 x7) x8 x9)
end

variable {F : FTy → Type} [FloatOps F]
/-- The two-axis origin. -/
theorem hz2 : (![0, 0] : Fin 2 → Nat) = fun _ => 0 := funext fun a => by fin_cases a <;> rfl
/-- The three-axis origin. -/
theorem hz3 : (![0, 0, 0] : Fin 3 → Nat) = fun _ => 0 := funext fun a => by fin_cases a <;> rfl

set_option maxRecDepth 65536 in
/-- The body's first result at a sequence's first block. -/
theorem out0_A_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32)  : out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = bH i x0 x1 x2 x3 x4 x5 x6 x7 x8 k0_pay5 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S1x512x1024) hz3]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]
  rfl

set_option maxRecDepth 65536 in
/-- The body's second result at a sequence's first block. -/
theorem out0_A_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32)  : out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = bHn i x0 x1 x2 x3 x4 x5 x6 x7 x8 x9 k0_pay5 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero (S := S1x512x1024) hz3]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]
  rfl

set_option maxRecDepth 65536 in
/-- The body's carried rows at a sequence's first block. -/
theorem sout0_A_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32)  : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay7 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S16x512) hz2]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]

set_option maxRecDepth 65536 in
/-- The body's first result at a later block. -/
theorem out0_B_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : ¬cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32) (xs0 : Vec F S16x512 .f32)  : out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = bH i x0 x1 x2 x3 x4 x5 x6 x7 x8 xs0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  rw [View.canon_unit_zero (S := S1x512x1024) hz3]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]
  rfl

set_option maxRecDepth 65536 in
/-- The body's second result at a later block. -/
theorem out0_B_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : ¬cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32) (xs0 : Vec F S16x512 .f32)  : out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = bHn i x0 x1 x2 x3 x4 x5 x6 x7 x8 x9 xs0 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  rw [View.canon_unit_zero (S := S1x512x1024) hz3]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]
  rfl

set_option maxRecDepth 65536 in
/-- The body's carried rows at a later block. -/
theorem sout0_B_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S4x128x128 .f32) (harg8 : arg8.IsWhole) (arg9 : Memref sig .tc .vmem S128x4 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S16x512 .f32) (harg14 : arg14.IsWhole) (hc0 : ¬cond0_0 i)
    (x0 : Vec F S1x512x1024 .f32) (x1 : Vec F S1x1024 .f32) (x2 : Vec F S1024x1536 .bf16) (x3 : Vec F S4x128x128 .bf16) (x4 : Vec F S1x512 .f32) (x5 : Vec F S1x512 .f32) (x6 : Vec F S4x128x128 .f32) (x7 : Vec F S128x4 .f32) (x8 : Vec F S1024x1024 .bf16) (x9 : Vec F S1x1024 .f32) (xs0 : Vec F S16x512 .f32)  : sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 = k0_pay7 x0 x1 x2 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0)]
  unfold kernelRun0_B
  dsimp only
  sl_unfold_words
  rw [View.canon_unit_zero (S := S16x512) hz2]
  simp only [View.readAt_eq_ld, View.readCov_unit_zero (S := S16x512) _ hz2, View.canon_cons_unit_zero (S := S16x512) hz2, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x512x1024) hz3, View.ld_unit_zero (S := S1x1024) hz2, View.ld_unit_zero (S := S1024x1536) hz2, View.ld_unit_zero (S := S1024x1024) hz2, View.ld_unit_zero (S := S16x512) hz2, View.ld_unit_zero (S := S1x512) hz2]

/-- What the block's inputs are, for the token mixer `P` at block `s`. -/
structure Blk (P : Par) (s : ℕ) (i : grid0.Coords) (x0 : Vec Ideal S1x512x1024 .f32) (x1 : Vec Ideal S1x1024 .f32) (x2 : Vec Ideal S1024x1536 .bf16)
    (x3 : Vec Ideal S4x128x128 .bf16) (x4 x5 : Vec Ideal S1x512 .f32) (x6 : Vec Ideal S4x128x128 .f32) (x7 : Vec Ideal S128x4 .f32)
    (x8 : Vec Ideal S1024x1024 .bf16) (x9 : Vec Ideal S1x1024 .f32) : Prop extends Rows P s x0 x1 x2 where
  hi : (i 1).val = s
  h3 : ∀ (g : Fin 4) (a b : Fin 128), x3 (ix3 g a b) = P.pw g a b
  h4 : ∀ c : Fin 512, x4 (ix2 0 c) = P.ps c
  h5 : ∀ c : Fin 512, x5 (ix2 0 c) = P.sg c
  h6 : ∀ (g : Fin 4) (a b : Fin 128), x6 (ix3 g a b) = P.sw g a b
  h7 : ∀ (a : Fin 128) (g : Fin 4), x7 (ix2 a g) = P.sb g a
  h8 : ∀ a b : Fin 1024, x8 (ix2 a b) = P.wo a b
  h9 : ∀ c : Fin 1024, x9 (ix2 0 c) = P.g2 c

section
variable {P : Par} {s : ℕ} {i : grid0.Coords} {x0 : Vec Ideal S1x512x1024 .f32} {x1 : Vec Ideal S1x1024 .f32} {x2 : Vec Ideal S1024x1536 .bf16}
  {x3 : Vec Ideal S4x128x128 .bf16} {x4 x5 : Vec Ideal S1x512 .f32} {x6 : Vec Ideal S4x128x128 .f32} {x7 : Vec Ideal S128x4 .f32}
  {x8 : Vec Ideal S1024x1024 .bf16} {x9 : Vec Ideal S1x1024 .f32} (B : Blk P s i x0 x1 x2 x3 x4 x5 x6 x7 x8 x9)
  {car : Vec Ideal S16x512 .f32} (hcar : ∀ (r : Fin 16) (c : Fin 512), car (ix2 r c) = zs P (512 * s + r) c)
include B

/-- Reading the pooling matrix of head 0. -/
theorem pwm0_at (a b : Fin 128) : pwm0 x3 (ix3 0 a b) = P.pw 0 a b := by
  unfold pwm0
  pointwise
  exact B.h3 0 a b
/-- Reading the gate's matrix of head 0. -/
theorem swm0_at (a b : Fin 128) : swm0 x6 (ix3 0 a b) = P.sw 0 a b := by
  unfold swm0
  pointwise
  exact B.h6 0 a b
/-- Reading the gate's biases of head 0. -/
theorem sbc0_at (a : Fin 128) : sbc0 x7 (ix2 a 0) = P.sb 0 a := by
  unfold sbc0
  pointwise
  exact B.h7 a 0
/-- Reading the pooling matrix of head 1. -/
theorem pwm1_at (a b : Fin 128) : pwm1 x3 (ix3 0 a b) = P.pw 1 a b := by
  unfold pwm1
  pointwise
  exact B.h3 1 a b
/-- Reading the gate's matrix of head 1. -/
theorem swm1_at (a b : Fin 128) : swm1 x6 (ix3 0 a b) = P.sw 1 a b := by
  unfold swm1
  pointwise
  exact B.h6 1 a b
/-- Reading the gate's biases of head 1. -/
theorem sbc1_at (a : Fin 128) : sbc1 x7 (ix2 a 0) = P.sb 1 a := by
  unfold sbc1
  pointwise
  exact B.h7 a 1
/-- Reading the pooling matrix of head 2. -/
theorem pwm2_at (a b : Fin 128) : pwm2 x3 (ix3 0 a b) = P.pw 2 a b := by
  unfold pwm2
  pointwise
  exact B.h3 2 a b
/-- Reading the gate's matrix of head 2. -/
theorem swm2_at (a b : Fin 128) : swm2 x6 (ix3 0 a b) = P.sw 2 a b := by
  unfold swm2
  pointwise
  exact B.h6 2 a b
/-- Reading the gate's biases of head 2. -/
theorem sbc2_at (a : Fin 128) : sbc2 x7 (ix2 a 0) = P.sb 2 a := by
  unfold sbc2
  pointwise
  exact B.h7 a 2
/-- Reading the pooling matrix of head 3. -/
theorem pwm3_at (a b : Fin 128) : pwm3 x3 (ix3 0 a b) = P.pw 3 a b := by
  unfold pwm3
  pointwise
  exact B.h3 3 a b
/-- Reading the gate's matrix of head 3. -/
theorem swm3_at (a b : Fin 128) : swm3 x6 (ix3 0 a b) = P.sw 3 a b := by
  unfold swm3
  pointwise
  exact B.h6 3 a b
/-- Reading the gate's biases of head 3. -/
theorem sbc3_at (a : Fin 128) : sbc3 x7 (ix2 a 0) = P.sb 3 a := by
  unfold sbc3
  pointwise
  exact B.h7 a 3

/-- The gate's inputs are the mixer's. -/
theorem gate_of : Gate P s (bAct x0 x1 x2) (bLn x0 x1 x2 x5) (bM0 x6) (bM1 x6) (bM2 x6) (bM3 x6) (sbc0 x7) (sbc1 x7) (sbc2 x7) (sbc3 x7) where
  hv := act1_at (z_at B.toRows) rfl
  hl := ln_at (z_at B.toRows) rfl B.h5
  h0 := m0_at (swm0_at B)
  h1 := m1_at mask_at (swm1_at B)
  h2 := m2_at mask_at (swm2_at B)
  h3 := m3_at mask_at (swm3_at B)
  k0 := sbc0_at B
  k1 := sbc1_at B
  k2 := sbc2_at B
  k3 := sbc3_at B

include hcar

/-- The block's pooled half is the mixer's. -/
theorem bPool_at (a b : Fin 512) : bPool i x0 x1 x2 x3 x4 car (ix2 a b) = pooled P (512 * s + a) b := by
  have hz := z1_at B.toRows
  have he := ext_at B.toRows hcar
  have hp := pos_at s i B.hi
  refine pooled_at hz he hp (pool0_at hz he hp (pair_at B.toRows hcar) (pwm0_at B)) (pool1_at hz he hp (pwm1_at B)) (win8_at hz he hp)
    (fun a => ?_) rfl (pwm2_at B) (pwm3_at B) B.h4 a b
  pointwise [k0_pay13]
  rw [hp]

/-- The block's first result, unwrapped. -/
theorem bH0_at (a : Fin 512) (b : Fin 1024) :
    k0_pay43 (k0_pay2 x0) (bPool i x0 x1 x2 x3 x4 car) (bAct x0 x1 x2) (bLn x0 x1 x2 x5) (bM3 x6) (bR0 x0 x1 x2 x5 x6 x7) (bR1 x0 x1 x2 x5 x6 x7)
      (bR2 x0 x1 x2 x5 x6 x7) (k0_pay40 (bAct x0 x1 x2) (bLn x0 x1 x2 x5) (bM0 x6) (sbc0 x7))
      (k0_pay41 (bAct x0 x1 x2) (bLn x0 x1 x2 x5) (bM1 x6) (sbc1 x7)) (k0_pay42 (bLn x0 x1 x2 x5) (bM2 x6)) (sbc2 x7) (sbc3 x7) x8 (ix2 a b)
      = h P (512 * s + a) b :=
  have G := gate_of B
  h_at G (x_at B.toRows) (bPool_at B hcar) (row0_at G) (row1_at G) (row2_at G) (row3a_at G) (row3b_at G) (row3c_at G) B.h8 a b

/-- The block's first result is the mixer's first result at its rows. -/
theorem bH_at (a : Fin 512) (b : Fin 1024) : bH i x0 x1 x2 x3 x4 x5 x6 x7 x8 car (ix3 0 a b) = h P (512 * s + a) b := by
  unfold bH k0_pay44
  pointwise
  exact bH0_at B hcar a b

/-- The block's second result is the mixer's second result at its rows. -/
theorem bHn_at (a : Fin 512) (b : Fin 1024) : bHn i x0 x1 x2 x3 x4 x5 x6 x7 x8 x9 car (ix3 0 a b) = hn P (512 * s + a) b := by
  unfold bHn k0_pay1
  pointwise
  exact hn_at (bH0_at B hcar) B.h9 a b
end

end Cert.Mixer

end
-- ==== Proof.Array.lean ====
module

public import proofs.«01_k».proof.Proof.Block
public import Idealize.ShloMosaic.Lib.Claim

/-! The kernel's run: the arrays its blocks are read from, the rows carried between blocks, and the two arrays it ends with. -/

@[expose] public section

set_option maxRecDepth 16384

noncomputable section

open Idealize.ShloMosaic Idealize.ShloMosaic.TcCoe Idealize.SL.Sem
open Idealize.ShloMosaic.Pipeline (Dat)

namespace Cert.Mixer
open Cert.KernelIdeal Cert.KernelIdeal.Gen Cert.KernelIdeal.Value

variable (m : (ℓ : Loc nD τ sig) → Buf (Elt Ideal) ℓ)

/-- The kernel's arguments are the arrays of the mixer, sequence `b`. -/
structure KArr (P : Par) (b : Fin 16) (c : Dev nD) : Prop where
  hx : ∀ (p : Fin 2048) (k : Fin 1024), m ((c : Thread nD τ).loc main_arg0) (ix3 b p k) = P.X p k
  hg : ∀ k : Fin 1024, m ((c : Thread nD τ).loc main_arg1) (ix2 0 k) = P.g1 k
  hw : ∀ (k : Fin 1024) (j : Fin 1536), m ((c : Thread nD τ).loc main_arg2) (ix3 0 k j) = P.wi k j
  hpw : ∀ (g : Fin 4) (a d : Fin 128), m ((c : Thread nD τ).loc main_arg3) (ix4 0 g a d) = P.pw g a d
  hps : ∀ d : Fin 512, m ((c : Thread nD τ).loc main_arg4) (ix2 0 d) = P.ps d
  hsg : ∀ d : Fin 512, m ((c : Thread nD τ).loc main_arg5) (ix2 0 d) = P.sg d
  hsw : ∀ (g : Fin 4) (a d : Fin 128), m ((c : Thread nD τ).loc main_arg6) (ix4 0 g a d) = P.sw g a d
  hsb : ∀ (g : Fin 4) (a : Fin 128), m ((c : Thread nD τ).loc main_arg7) (ix3 0 g a) = P.sb g a
  hwo : ∀ a d : Fin 1024, m ((c : Thread nD τ).loc main_arg8) (ix3 0 a d) = P.wo a d
  hg2 : ∀ d : Fin 1024, m ((c : Thread nD τ).loc main_arg9) (ix2 0 d) = P.g2 d

/-! ### The arrays prepared before the launch -/

/-- The input projection: the preparation at one element. -/
theorem v1_at_pre (x : FVec Ideal S1x1024x1536 .f32) (k : Fin 1024) (j : Fin 1536) :
    (truncf (F := Ideal) .bf16 (shapeCast S1024x1536 x shapeCasts_S1x1024x1536_S1024x1536 : FVec Ideal S1024x1536 .f32) bitsLt_bf16_f32 : FVec Ideal S1024x1536 .bf16) (ix2 k j)
      = x (ix3 0 k j) := by
  pointwise
/-- The input projection as the kernel receives it. -/
theorem v1_at (c : Dev nD) (k : Fin 1024) (j : Fin 1536) : V m c main_v1 (ix2 k j) = m ((c : Thread nD τ).loc main_arg2) (ix3 0 k j) := by
  have e : V m c main_v1 = (fun x : FVec Ideal S1x1024x1536 .f32 => (truncf (F := Ideal) .bf16 (shapeCast S1024x1536 x shapeCasts_S1x1024x1536_S1024x1536 : FVec Ideal S1024x1536 .f32) bitsLt_bf16_f32 : FVec Ideal S1024x1536 .bf16)) (m ((c : Thread nD τ).loc main_arg2)) := by
    show StableHlo.after hostOps0 _ (Proc.devRef .tc main_v1) = _
    after_results
    rfl
  rw [e]
  exact v1_at_pre _ k   j
/-- The pooling matrices: the preparation at one element. -/
theorem v3_at_pre (x : FVec Ideal S1x4x128x128 .f32) (g : Fin 4) (a : Fin 128) (d : Fin 128) :
    (truncf (F := Ideal) .bf16 (shapeCast S4x128x128 x shapeCasts_S1x4x128x128_S4x128x128 : FVec Ideal S4x128x128 .f32) bitsLt_bf16_f32 : FVec Ideal S4x128x128 .bf16) (ix3 g a d)
      = x (ix4 0 g a d) := by
  pointwise
/-- The pooling matrices as the kernel receives it. -/
theorem v3_at (c : Dev nD) (g : Fin 4) (a : Fin 128) (d : Fin 128) : V m c main_v3 (ix3 g a d) = m ((c : Thread nD τ).loc main_arg3) (ix4 0 g a d) := by
  have e : V m c main_v3 = (fun x : FVec Ideal S1x4x128x128 .f32 => (truncf (F := Ideal) .bf16 (shapeCast S4x128x128 x shapeCasts_S1x4x128x128_S4x128x128 : FVec Ideal S4x128x128 .f32) bitsLt_bf16_f32 : FVec Ideal S4x128x128 .bf16)) (m ((c : Thread nD τ).loc main_arg3)) := by
    show StableHlo.after hostOps0 _ (Proc.devRef .tc main_v3) = _
    after_results
    rfl
  rw [e]
  exact v3_at_pre _ g   a   d
/-- The gate's matrices: the preparation at one element. -/
theorem v4_at_pre (x : FVec Ideal S1x4x128x128 .f32) (g : Fin 4) (a : Fin 128) (d : Fin 128) :
    (shapeCast S4x128x128 x shapeCasts_S1x4x128x128_S4x128x128 : FVec Ideal S4x128x128 .f32) (ix3 g a d)
      = x (ix4 0 g a d) := by
  pointwise
/-- The gate's matrices as the kernel receives it. -/
theorem v4_at (c : Dev nD) (g : Fin 4) (a : Fin 128) (d : Fin 128) : V m c main_v4 (ix3 g a d) = m ((c : Thread nD τ).loc main_arg6) (ix4 0 g a d) := by
  have e : V m c main_v4 = (fun x : FVec Ideal S1x4x128x128 .f32 => (shapeCast S4x128x128 x shapeCasts_S1x4x128x128_S4x128x128 : FVec Ideal S4x128x128 .f32)) (m ((c : Thread nD τ).loc main_arg6)) := by
    show StableHlo.after hostOps0 _ (Proc.devRef .tc main_v4) = _
    after_results
    rfl
  rw [e]
  exact v4_at_pre _ g   a   d
/-- The gate's biases: the preparation at one element. -/
theorem v6_at_pre (x : FVec Ideal S1x4x128 .f32) (a : Fin 128) (g : Fin 4) :
    (transpose S128x4 [1, 0] (shapeCast S4x128 x shapeCasts_S1x4x128_S4x128 : FVec Ideal S4x128 .f32) transposes_S4x128_S128x4_1_0 : FVec Ideal S128x4 .f32) (ix2 a g)
      = x (ix3 0 g a) := by
  pointwise
/-- The gate's biases as the kernel receives it. -/
theorem v6_at (c : Dev nD) (a : Fin 128) (g : Fin 4) : V m c main_v6 (ix2 a g) = m ((c : Thread nD τ).loc main_arg7) (ix3 0 g a) := by
  have e : V m c main_v6 = (fun x : FVec Ideal S1x4x128 .f32 => (transpose S128x4 [1, 0] (shapeCast S4x128 x shapeCasts_S1x4x128_S4x128 : FVec Ideal S4x128 .f32) transposes_S4x128_S128x4_1_0 : FVec Ideal S128x4 .f32)) (m ((c : Thread nD τ).loc main_arg7)) := by
    show StableHlo.after hostOps0 _ (Proc.devRef .tc main_v6) = _
    after_results
    rfl
  rw [e]
  exact v6_at_pre _ a   g
/-- The output projection: the preparation at one element. -/
theorem v8_at_pre (x : FVec Ideal S1x1024x1024 .f32) (a : Fin 1024) (d : Fin 1024) :
    (truncf (F := Ideal) .bf16 (shapeCast S1024x1024 x shapeCasts_S1x1024x1024_S1024x1024 : FVec Ideal S1024x1024 .f32) bitsLt_bf16_f32 : FVec Ideal S1024x1024 .bf16) (ix2 a d)
      = x (ix3 0 a d) := by
  pointwise
/-- The output projection as the kernel receives it. -/
theorem v8_at (c : Dev nD) (a : Fin 1024) (d : Fin 1024) : V m c main_v8 (ix2 a d) = m ((c : Thread nD τ).loc main_arg8) (ix3 0 a d) := by
  have e : V m c main_v8 = (fun x : FVec Ideal S1x1024x1024 .f32 => (truncf (F := Ideal) .bf16 (shapeCast S1024x1024 x shapeCasts_S1x1024x1024_S1024x1024 : FVec Ideal S1024x1024 .f32) bitsLt_bf16_f32 : FVec Ideal S1024x1024 .bf16)) (m ((c : Thread nD τ).loc main_arg8)) := by
    show StableHlo.after hostOps0 _ (Proc.devRef .tc main_v8) = _
    after_results
    rfl
  rw [e]
  exact v8_at_pre _ a   d

/-! ### Where each block lies -/

/-- A grid point is four times its sequence plus its block. -/
theorem coords_at : ∀ t : Fin cfg0.N, (grid0.coords t (1 : Fin 2)).val = t.val % 4 :=
  (by decide +kernel : ∀ t : Fin grid0.N, (grid0.coords t (1 : Fin 2)).val = t.val % 4)
/-- The rows' block. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- The first gain is read whole. -/
theorem idx1 : ∀ t : Fin cfg0.N, win0_1.index t (0 : Fin 2) = 0 ∧ win0_1.index t (1 : Fin 2) = 0 := (by decide +kernel : ∀ t : Fin grid0.N, _)
/-- So is the input projection. -/
theorem idx2 : ∀ t : Fin cfg0.N, win0_2.index t (0 : Fin 2) = 0 ∧ win0_2.index t (1 : Fin 2) = 0 := (by decide +kernel : ∀ t : Fin grid0.N, _)
/-- So are the pooling matrices. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- So is the pooled half's scale. -/
theorem idx4 : ∀ t : Fin cfg0.N, win0_4.index t (0 : Fin 2) = 0 ∧ win0_4.index t (1 : Fin 2) = 0 := (by decide +kernel : ∀ t : Fin grid0.N, _)
/-- So is the gate's gain. -/
theorem idx5 : ∀ t : Fin cfg0.N, win0_5.index t (0 : Fin 2) = 0 ∧ win0_5.index t (1 : Fin 2) = 0 := (by decide +kernel : ∀ t : Fin grid0.N, _)
/-- So are the gate's matrices. -/
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
/-- So are the gate's biases. -/
theorem idx7 : ∀ t : Fin cfg0.N, win0_7.index t (0 : Fin 2) = 0 ∧ win0_7.index t (1 : Fin 2) = 0 := (by decide +kernel : ∀ t : Fin grid0.N, _)
/-- So is the output projection. -/
theorem idx8 : ∀ t : Fin cfg0.N, win0_8.index t (0 : Fin 2) = 0 ∧ win0_8.index t (1 : Fin 2) = 0 := (by decide +kernel : ∀ t : Fin grid0.N, _)
/-- So is the second gain. -/
theorem idx9 : ∀ t : Fin cfg0.N, win0_9.index t (0 : Fin 2) = 0 ∧ win0_9.index t (1 : Fin 2) = 0 := (by decide +kernel : ∀ t : Fin grid0.N, _)

/-- The rows of point `t` are rows `512 * (t % 4)` on of sequence `t / 4`. -/
theorem i0_at (c : Dev nD) (t : Fin cfg0.N) (b : Fin 16) (hb : t.val / 4 = b.val) (r : Fin 512) (k : Fin 1024) :
    iblk m c 0 t (ix3 0 r k) = m ((c : Thread nD τ).loc main_arg0) (ix3 b ⟨512 * (t.val % 4) + r.val, by omega⟩ k) := by
  obtain ⟨e0, e1, e2⟩ := idx0 t
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 512 + 1 * r.val = 512 * (t.val % 4) + r.val; omega
  | ⟨2, _⟩ => show win0_0.index t (2 : Fin 3) * 1024 + 1 * k.val = k.val; omega
/-- The first gain. -/
theorem i1_at (c : Dev nD) (t : Fin cfg0.N) (k : Fin 1024) : iblk m c 1 t (ix2 0 k) = m ((c : Thread nD τ).loc main_arg1) (ix2 0 k) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t (0 : Fin 2) * 1 + 1 * 0 = 0; omega
  | ⟨1, _⟩ => show win0_1.index t (1 : Fin 2) * 1024 + 1 * k.val = k.val; omega
/-- The input projection. -/
theorem i2_at (c : Dev nD) (t : Fin cfg0.N) (k : Fin 1024) (j : Fin 1536) : iblk m c 2 t (ix2 k j) = V m c main_v1 (ix2 k j) := by
  obtain ⟨e0, e1⟩ := idx2 t
  unfold iblk
  rw [View.read_apply]
  show V m c main_v1 _ = _
  congr 1
  funext a
  apply Fin.ext
  match a with
  | ⟨0, _⟩ => show win0_2.index t (0 : Fin 2) * 1024 + 1 * k.val = k.val; omega
  | ⟨1, _⟩ => show win0_2.index t (1 : Fin 2) * 1536 + 1 * j.val = j.val; omega
/-- The pooling matrices. -/
theorem i3_at (c : Dev nD) (t : Fin cfg0.N) (g : Fin 4) (r d : Fin 128) : iblk m c 3 t (ix3 g r d) = V m c main_v3 (ix3 g r d) := by
  obtain ⟨e0, e1, e2⟩ := idx3 t
  unfold iblk
  rw [View.read_apply]
  show V m c main_v3 _ = _
  congr 1
  funext a
  apply Fin.ext
  match a with
  | ⟨0, _⟩ => show win0_3.index t (0 : Fin 3) * 4 + 1 * g.val = g.val; omega
  | ⟨1, _⟩ => show win0_3.index t (1 : Fin 3) * 128 + 1 * r.val = r.val; omega
  | ⟨2, _⟩ => show win0_3.index t (2 : Fin 3) * 128 + 1 * d.val = d.val; omega
/-- The pooled half's scale. -/
theorem i4_at (c : Dev nD) (t : Fin cfg0.N) (k : Fin 512) : iblk m c 4 t (ix2 0 k) = m ((c : Thread nD τ).loc main_arg4) (ix2 0 k) := by
  obtain ⟨e0, e1⟩ := idx4 t
  unfold iblk
  rw [View.read_apply]
  show V m c main_arg4 _ = _
  rw [V_main_arg4]
  congr 1
  funext a
  apply Fin.ext
  match a with
  | ⟨0, _⟩ => show win0_4.index t (0 : Fin 2) * 1 + 1 * 0 = 0; omega
  | ⟨1, _⟩ => show win0_4.index t (1 : Fin 2) * 512 + 1 * k.val = k.val; omega
/-- The gate's gain. -/
theorem i5_at (c : Dev nD) (t : Fin cfg0.N) (k : Fin 512) : iblk m c 5 t (ix2 0 k) = m ((c : Thread nD τ).loc main_arg5) (ix2 0 k) := by
  obtain ⟨e0, e1⟩ := idx5 t
  unfold iblk
  rw [View.read_apply]
  show V m c main_arg5 _ = _
  rw [V_main_arg5]
  congr 1
  funext a
  apply Fin.ext
  match a with
  | ⟨0, _⟩ => show win0_5.index t (0 : Fin 2) * 1 + 1 * 0 = 0; omega
  | ⟨1, _⟩ => show win0_5.index t (1 : Fin 2) * 512 + 1 * k.val = k.val; omega
/-- The gate's matrices. -/
theorem i6_at (c : Dev nD) (t : Fin cfg0.N) (g : Fin 4) (r d : Fin 128) : iblk m c 6 t (ix3 g r d) = V m c main_v4 (ix3 g r d) := by
  obtain ⟨e0, e1, e2⟩ := idx6 t
  unfold iblk
  rw [View.read_apply]
  show V m c main_v4 _ = _
  congr 1
  funext a
  apply Fin.ext
  match a with
  | ⟨0, _⟩ => show win0_6.index t (0 : Fin 3) * 4 + 1 * g.val = g.val; omega
  | ⟨1, _⟩ => show win0_6.index t (1 : Fin 3) * 128 + 1 * r.val = r.val; omega
  | ⟨2, _⟩ => show win0_6.index t (2 : Fin 3) * 128 + 1 * d.val = d.val; omega
/-- The gate's biases. -/
theorem i7_at (c : Dev nD) (t : Fin cfg0.N) (r : Fin 128) (g : Fin 4) : iblk m c 7 t (ix2 r g) = V m c main_v6 (ix2 r g) := by
  obtain ⟨e0, e1⟩ := idx7 t
  unfold iblk
  rw [View.read_apply]
  show V m c main_v6 _ = _
  congr 1
  funext a
  apply Fin.ext
  match a with
  | ⟨0, _⟩ => show win0_7.index t (0 : Fin 2) * 128 + 1 * r.val = r.val; omega
  | ⟨1, _⟩ => show win0_7.index t (1 : Fin 2) * 4 + 1 * g.val = g.val; omega
/-- The output projection. -/
theorem i8_at (c : Dev nD) (t : Fin cfg0.N) (k j : Fin 1024) : iblk m c 8 t (ix2 k j) = V m c main_v8 (ix2 k j) := by
  obtain ⟨e0, e1⟩ := idx8 t
  unfold iblk
  rw [View.read_apply]
  show V m c main_v8 _ = _
  congr 1
  funext a
  apply Fin.ext
  match a with
  | ⟨0, _⟩ => show win0_8.index t (0 : Fin 2) * 1024 + 1 * k.val = k.val; omega
  | ⟨1, _⟩ => show win0_8.index t (1 : Fin 2) * 1024 + 1 * j.val = j.val; omega
/-- The second gain. -/
theorem i9_at (c : Dev nD) (t : Fin cfg0.N) (k : Fin 1024) : iblk m c 9 t (ix2 0 k) = m ((c : Thread nD τ).loc main_arg9) (ix2 0 k) := by
  obtain ⟨e0, e1⟩ := idx9 t
  unfold iblk
  rw [View.read_apply]
  show V m c main_arg9 _ = _
  rw [V_main_arg9]
  congr 1
  funext a
  apply Fin.ext
  match a with
  | ⟨0, _⟩ => show win0_9.index t (0 : Fin 2) * 1 + 1 * 0 = 0; omega
  | ⟨1, _⟩ => show win0_9.index t (1 : Fin 2) * 1024 + 1 * k.val = k.val; omega

section
variable {m} {P : Par} {b : Fin 16} {c : Dev nD} (A : KArr m P b c)
include A

/-- The blocks of a grid point are the mixer's arrays. -/
theorem blk_of (t : Fin cfg0.N) (hb : t.val / 4 = b.val) :
    Blk P (t.val % 4) (grid0.coords t) (iblk m c 0 t) (iblk m c 1 t) (iblk m c 2 t) (iblk m c 3 t) (iblk m c 4 t) (iblk m c 5 t) (iblk m c 6 t)
      (iblk m c 7 t) (iblk m c 8 t) (iblk m c 9 t) where
  hx r k := (i0_at m c t b hb r k).trans (A.hx _ k)
  hg k := (i1_at m c t k).trans (A.hg k)
  hw k j := (i2_at m c t k j).trans ((v1_at m c k j).trans (A.hw k j))
  hi := coords_at t
  h3 g a d := (i3_at m c t g a d).trans ((v3_at m c g a d).trans (A.hpw g a d))
  h4 k := (i4_at m c t k).trans (A.hps k)
  h5 k := (i5_at m c t k).trans (A.hsg k)
  h6 g a d := (i6_at m c t g a d).trans ((v4_at m c g a d).trans (A.hsw g a d))
  h7 a g := (i7_at m c t a g).trans ((v6_at m c a g).trans (A.hsb g a))
  h8 a d := (i8_at m c t a d).trans ((v8_at m c a d).trans (A.hwo a d))
  h9 k := (i9_at m c t k).trans (A.hg2 k)

omit A in
/-- A sequence starts with sixteen rows of zeros carried in. -/
theorem first_at (n : ℕ) (hn : n = 0) (r : Fin 16) (d : Fin 512) : (k0_pay5 (F := Ideal)) (ix2 r d) = zs P (512 * n + r) d := by
  subst hn
  have hr := r.isLt
  unfold zs
  rw [if_pos (by omega)]
  pointwise [k0_pay5]

/-- The rows carried out of a point are the last sixteen of its block. -/
theorem carried_at (t : Fin cfg0.N) (hb : t.val / 4 = b.val) (r : Fin 16) (d : Fin 512) :
    (outsAt0 m c t.val t.isLt).2.2 (ix2 r d) = zs P (512 * (t.val % 4 + 1) + r) d := by
  have B := blk_of A t hb
  by_cases h0 : t.val % 4 = 0
  · rw [outsAt0_A m c t h0]
    dsimp only
    rw [sout0_A_0_eq]
    exact carry_at B.toRows r d
  · rw [outsAt0_B m c t h0]
    dsimp only
    rw [sout0_B_0_eq]
    exact carry_at B.toRows r d

/-- The rows a later block of a sequence finds carried in. -/
theorem before_at (t : Fin cfg0.N) (hb : t.val / 4 = b.val) (h0 : ¬ t.val % 4 = 0) (r : Fin 16) (d : Fin 512) :
    (outsAt0 m c (t.val - 1) (Nat.lt_of_le_of_lt (Nat.sub_le _ _) t.isLt)).2.2 (ix2 r d) = zs P (512 * (t.val % 4) + r) d := by
  refine (carried_at A ⟨t.val - 1, Nat.lt_of_le_of_lt (Nat.sub_le _ _) t.isLt⟩ (by show (t.val - 1) / 4 = _; omega) r d).trans ?_
  show zs P (512 * ((t.val - 1) % 4 + 1) + r) d = _
  rw [show (t.val - 1) % 4 + 1 = t.val % 4 by omega]

/-- A point's first result. -/
theorem out10_at (t : Fin cfg0.N) (hb : t.val / 4 = b.val) (a : Fin 512) (k : Fin 1024) :
    (outsAt0 m c t.val t.isLt).1 (ix3 0 a k) = h P (512 * (t.val % 4) + a) k := by
  have B := blk_of A t hb
  by_cases h0 : t.val % 4 = 0
  · rw [outsAt0_A m c t h0]
    dsimp only
    rw [out0_A_10_eq]
    exact bH_at B (first_at _ h0) a k
  · rw [outsAt0_B m c t h0]
    dsimp only
    rw [out0_B_10_eq]
    exact bH_at B (before_at A t hb h0) a k

/-- A point's second result. -/
theorem out11_at (t : Fin cfg0.N) (hb : t.val / 4 = b.val) (a : Fin 512) (k : Fin 1024) :
    (outsAt0 m c t.val t.isLt).2.1 (ix3 0 a k) = hn P (512 * (t.val % 4) + a) k := by
  have B := blk_of A t hb
  by_cases h0 : t.val % 4 = 0
  · rw [outsAt0_A m c t h0]
    dsimp only
    rw [out0_A_11_eq]
    exact bHn_at B (first_at _ h0) a k
  · rw [outsAt0_B m c t h0]
    dsimp only
    rw [out0_B_11_eq]
    exact bHn_at B (before_at A t hb h0) a k
end

/-- The first result as an array. -/
def resH (P : Fin 16 → Par) : FVec Ideal S16x2048x1024 .f32 := fun i => h (P (i 0)) (i 1).val (i 2).val
/-- The second result as an array. -/
def resHn (P : Fin 16 → Par) : FVec Ideal S16x2048x1024 .f32 := fun i => hn (P (i 0)) (i 1).val (i 2).val
/-- The first array, read. -/
theorem resH_at (P : Fin 16 → Par) (b : Fin 16) (p : Fin 2048) (k : Fin 1024) : resH P (ix3 b p k) = h (P b) p k := rfl
/-- The second array, read. -/
theorem resHn_at (P : Fin 16 → Par) (b : Fin 16) (p : Fin 2048) (k : Fin 1024) : resHn P (ix3 b p k) = hn (P b) p k := rfl

section
variable {m} {P : Fin 16 → Par} {c : Dev nD} (A : ∀ b, KArr m (P b) b c)
include A

/-- What a point writes back to the first array. -/
theorem flush10 (t : Fin cfg0.N) : (dats m 0 c).flushed 10 t = ((cfg0.win 10).blk t).view.read (Elt Ideal) (resH P) := by
  rw [flushed10]
  obtain ⟨e0, e1, e2, e3, e4, e5, e6⟩ := idx_facts10 t
  funext y
  have hy0 : (y 0).val < 1 := (y 0).isLt
  have hy1 : (y 1).val < 512 := (y 1).isLt
  have hy2 : (y 2).val < 1024 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 512 + 1 * (y 1).val := rfl
  have hb2 : (((cfg0.win 10).blk t).view.emb y 2).val = win0_10.index t (2 : Fin 3) * 1024 + 1 * (y 2).val := rfl
  have hy : (cfg0.win 10).xinj (grid0.coords t) y = ix3 (0 : Fin 1) (⟨(y 1).val, hy1⟩ : Fin 512) (⟨(y 2).val, hy2⟩ : Fin 1024) := by
    funext a
    apply Fin.ext
    match a with
    | ⟨0, _⟩ => show (y 0).val = 0; omega
    | ⟨1, _⟩ => rfl
    | ⟨2, _⟩ => rfl
  have hi : ((cfg0.win 10).blk t).view.emb y = ix3 (⟨t.val / 4, by omega⟩ : Fin 16) (⟨512 * (t.val % 4) + (y 1).val, by omega⟩ : Fin 2048) (⟨(y 2).val, hy2⟩ : Fin 1024) := by
    funext a
    apply Fin.ext
    match a with
    | ⟨0, _⟩ => exact hb0.trans (by show _ = t.val / 4; omega)
    | ⟨1, _⟩ => exact hb1.trans (by show _ = 512 * (t.val % 4) + (y 1).val; omega)
    | ⟨2, _⟩ => exact hb2.trans (by show _ = (y 2).val; omega)
  show (outsAt0 m c t.val t.isLt).1 ((cfg0.win 10).xinj (grid0.coords t) y) = resH P (((cfg0.win 10).blk t).view.emb y)
  rw [hy, hi, resH_at]
  exact out10_at (A ⟨t.val / 4, by omega⟩) t rfl ⟨(y 1).val, hy1⟩ ⟨(y 2).val, hy2⟩

/-- The first array the run ends with. -/
theorem arr10 : (dats m 0 c).arrAt 10 cfg0.N = resH P :=
  (dats m 0 c).arrAt_eq_of_cover 10 _ (fun t _ => flush10 A t) (fun i => (covered_iff10 i).2 (by
    have h0 : (i 0).val < 16 := (i 0).isLt; have h1 : (i 1).val < 2048 := (i 1).isLt; have h2 : (i 2).val < 1024 := (i 2).isLt; omega))

/-- What a point writes back to the second array. -/
theorem flush11 (t : Fin cfg0.N) : (dats m 0 c).flushed 11 t = ((cfg0.win 11).blk t).view.read (Elt Ideal) (resHn P) := by
  rw [flushed11]
  obtain ⟨e0, e1, e2, e3, e4, e5, e6⟩ := idx_facts11 t
  funext y
  have hy0 : (y 0).val < 1 := (y 0).isLt
  have hy1 : (y 1).val < 512 := (y 1).isLt
  have hy2 : (y 2).val < 1024 := (y 2).isLt
  have hb0 : (((cfg0.win 11).blk t).view.emb y 0).val = win0_11.index t (0 : Fin 3) * 1 + 1 * (y 0).val := rfl
  have hb1 : (((cfg0.win 11).blk t).view.emb y 1).val = win0_11.index t (1 : Fin 3) * 512 + 1 * (y 1).val := rfl
  have hb2 : (((cfg0.win 11).blk t).view.emb y 2).val = win0_11.index t (2 : Fin 3) * 1024 + 1 * (y 2).val := rfl
  have hy : (cfg0.win 11).xinj (grid0.coords t) y = ix3 (0 : Fin 1) (⟨(y 1).val, hy1⟩ : Fin 512) (⟨(y 2).val, hy2⟩ : Fin 1024) := by
    funext a
    apply Fin.ext
    match a with
    | ⟨0, _⟩ => show (y 0).val = 0; omega
    | ⟨1, _⟩ => rfl
    | ⟨2, _⟩ => rfl
  have hi : ((cfg0.win 11).blk t).view.emb y = ix3 (⟨t.val / 4, by omega⟩ : Fin 16) (⟨512 * (t.val % 4) + (y 1).val, by omega⟩ : Fin 2048) (⟨(y 2).val, hy2⟩ : Fin 1024) := by
    funext a
    apply Fin.ext
    match a with
    | ⟨0, _⟩ => exact hb0.trans (by show _ = t.val / 4; omega)
    | ⟨1, _⟩ => exact hb1.trans (by show _ = 512 * (t.val % 4) + (y 1).val; omega)
    | ⟨2, _⟩ => exact hb2.trans (by show _ = (y 2).val; omega)
  show (outsAt0 m c t.val t.isLt).2.1 ((cfg0.win 11).xinj (grid0.coords t) y) = resHn P (((cfg0.win 11).blk t).view.emb y)
  rw [hy, hi, resHn_at]
  exact out11_at (A ⟨t.val / 4, by omega⟩) t rfl ⟨(y 1).val, hy1⟩ ⟨(y 2).val, hy2⟩

/-- The second array the run ends with. -/
theorem arr11 : (dats m 0 c).arrAt 11 cfg0.N = resHn P :=
  (dats m 0 c).arrAt_eq_of_cover 11 _ (fun t _ => flush11 A t) (fun i => (covered_iff11 i).2 (by
    have h0 : (i 0).val < 16 := (i 0).isLt; have h1 : (i 1).val < 2048 := (i 1).isLt; have h2 : (i 2).val < 1024 := (i 2).isLt; omega))

end

end Cert.Mixer

end
-- ==== Proof.Real.lean ====
module

public import proofs.«01_k».proof.Proof.Spec

/-! Which values of the mixer are real numbers, and the windowed sum as a difference of two prefix sums, which holds for real rows. -/

@[expose] public section

noncomputable section

open Idealize.ShloMosaic

namespace Cert.Mixer

/-- An extended real that is a real number. -/
def IsR (x : EReal) : Prop := ∃ r : ℝ, x = r

/-- Zero is real. -/
theorem IsR.zero : IsR 0 := ⟨0, rfl⟩
/-- Sums of reals are real. -/
theorem IsR.add {x y : EReal} (hx : IsR x) (hy : IsR y) : IsR (x + y) := by
  obtain ⟨r, rfl⟩ := hx; obtain ⟨q, rfl⟩ := hy
  exact ⟨r + q, (EReal.coe_add r q).symm⟩
/-- Products of reals are real. -/
theorem IsR.mul {x y : EReal} (hx : IsR x) (hy : IsR y) : IsR (x * y) := by
  obtain ⟨r, rfl⟩ := hx; obtain ⟨q, rfl⟩ := hy
  exact ⟨r * q, (EReal.coe_mul r q).symm⟩
/-- Finite sums of reals are real. -/
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))
/-- The square of a real is not negative. -/
theorem IsR.sq_nonneg {x : EReal} (hx : IsR x) : 0 ≤ x * x := by
  obtain ⟨r, rfl⟩ := hx
  rw [← EReal.coe_mul]
  exact EReal.coe_nonneg.2 (mul_self_nonneg r)
/-- The inverse of any extended real is real. -/
theorem IsR.inv (x : EReal) : IsR x⁻¹ := by
  induction x with
  | bot => exact ⟨0, by simp⟩
  | top => exact ⟨0, by simp⟩
  | coe r => exact ⟨r⁻¹, (EReal.coe_inv r).symm⟩
/-- The reciprocal square root of anything positive is real. -/
theorem IsR.rsqrt {x : EReal} (hx : 0 < x) : IsR (Ideal.rsqrt x) := by
  induction x with
  | bot => exact absurd hx (by simp)
  | top => exact ⟨0, rfl⟩
  | coe r =>
    have hr : 0 < r := EReal.coe_pos.1 hx
    refine ⟨(Real.sqrt r)⁻¹, ?_⟩
    show (if r < 0 then (⊥ : EReal) else if r = 0 then ⊤ else (((Real.sqrt r)⁻¹ : ℝ) : EReal)) = _
    rw [if_neg (not_lt.2 hr.le), if_neg hr.ne']

/-- The added small number is positive. -/
theorem eps_pos : 0 < eps := by
  unfold eps
  simp [Ideal.ofBits, Ideal.ieee, -EReal.coe_mul]
/-- The printed 1024 is positive. -/
theorem n1024_pos : 0 < n1024 := by
  unfold n1024
  simp [Ideal.ofBits, Ideal.ieee, -EReal.coe_mul]

variable (P : Par)

/-- The mean square plus the small number is positive. -/
theorem ms_pos (p : ℕ) (hX : ∀ i k, IsR (P.X i k)) : 0 < Ideal.div (∑ i : Fin 1024, P.X p i * P.X p i) n1024 + eps := by
  have h0 : 0 ≤ Ideal.div (∑ i : Fin 1024, P.X p i * P.X p i) n1024 := by
    unfold Ideal.div
    rw [if_neg n1024_pos.ne']
    exact mul_nonneg (Finset.sum_nonneg fun i _ => (hX p i).sq_nonneg) (EReal.inv_nonneg_of_nonneg n1024_pos.le)
  exact lt_of_lt_of_le eps_pos (le_add_of_nonneg_left h0)

/-- With real rows, gains and weights the projected rows are real. -/
theorem z_real (hX : ∀ i k, IsR (P.X i k)) (hg : ∀ k, IsR (P.g1 k)) (hw : ∀ k j, IsR (P.wi k j)) (p j : ℕ) : IsR (z P p j) := by
  unfold z
  exact IsR.sum _ _ fun k _ => (((hX p k).mul (IsR.rsqrt (ms_pos P p hX))).mul (hg k)).mul (hw k j)

/-- A real taken away again. -/
theorem add_sub_real {a b : EReal} (ha : IsR a) : a + b - a = b := by
  obtain ⟨r, rfl⟩ := ha
  exact EReal.add_sub_cancel_left

/-- The windowed sum is the prefix sum less the prefix sum that ends where the window starts. -/
theorem win_eq (hz : ∀ p j, IsR (z P p j)) (w p c : ℕ) (hw : w ≤ 16) :
    (∑ q ∈ Finset.range (p + 1), z P q c) - (if w ≤ p then ∑ q ∈ Finset.range (p - w + 1), z P q c else 0) = win P w p c := by
  unfold win
  split
  · next h =>
    rw [show p + 1 = (p - w + 1) + w by omega, Finset.sum_range_add, add_sub_real (IsR.sum _ _ fun q _ => hz q c)]
    refine Finset.sum_congr rfl fun i hi => ?_
    unfold zs
    rw [if_neg (by omega)]
    congr 1
    omega
  · next h =>
    rw [sub_zero]
    obtain ⟨d, rfl⟩ : ∃ d, w = d + (p + 1) := ⟨w - (p + 1), by omega⟩
    rw [Finset.sum_range_add _ d (p + 1), Finset.sum_eq_zero (s := Finset.range d), zero_add]
    · refine Finset.sum_congr rfl fun i hi => ?_
      unfold zs
      rw [if_neg (by omega)]
      congr 1
      omega
    · intro i hi
      have := Finset.mem_range.1 hi
      unfold zs
      rw [if_pos (by omega)]

end Cert.Mixer

end
-- ==== Proof.Cumsum.lean ====
module

public import Idealize.ShloMosaic.Lib.Pointwise
public import Mathlib.Algebra.BigOperators.Fin

/-! The running sum along the second of four axes, as it prints: a window of the axis' whole length, padded below by one less. -/

@[expose] public section

noncomputable section

open Idealize.ShloMosaic

namespace Cert.Mixer

/-- Adding up a list from a start. -/
theorem foldl_add_map {ι : Type} (t : ι → EReal) (l : List ι) (v : EReal) : l.foldl (fun r n => r + t n) v = v + (l.map t).sum := by
  induction l generalizing v with
  | nil => simp
  | cons a l ih => rw [List.foldl_cons, ih, List.map_cons, List.sum_cons, add_assoc]

/-- The terms of a full window that lie in the array are the first `p + 1`. -/
theorem sum_full_window (f : ℕ → EReal) (p N M : ℕ) (hN : N = M + 1) (hp : p < N) :
    ∑ n ∈ Finset.range N, (if M ≤ p + n then f (p + n - M) else 0) = ∑ q ∈ Finset.range (p + 1), f q := by
  obtain ⟨d, rfl⟩ : ∃ d, M = d + p := ⟨M - p, by omega⟩
  obtain rfl : N = d + (p + 1) := by omega
  rw [Finset.sum_range_add _ d (p + 1), Finset.sum_eq_zero (s := Finset.range d), zero_add]
  · refine Finset.sum_congr rfl fun i hi => ?_
    rw [if_pos (by omega)]
    congr 1
    omega
  · intro i hi
    have := Finset.mem_range.1 hi
    rw [if_neg (by omega)]

/-- The shape of the window. -/
abbrev SW : Shape := ⟨4, ![1, 2048, 1, 1]⟩
/-- The shape of the array. -/
abbrev SA : Shape := ⟨4, ![16, 2048, 4, 128]⟩

/-- The window holds 2048 places. -/
theorem numel_SW : SW.numel = 2048 := by
  first | rfl | simp [Shape.numel, Fin.prod_univ_succ]

/-- A place of the window is its number along the second axis and zero elsewhere. -/
theorem place (n : Fin SW.numel) : (SW.rowMajor.symm n 0).val = 0 ∧ (SW.rowMajor.symm n 1).val = n.val ∧ (SW.rowMajor.symm n 2).val = 0
    ∧ (SW.rowMajor.symm n 3).val = 0 := by
  have h0 : (SW.rowMajor.symm n 0).val < 1 := (SW.rowMajor.symm n 0).isLt
  have h2 : (SW.rowMajor.symm n 2).val < 1 := (SW.rowMajor.symm n 2).isLt
  have h3 : (SW.rowMajor.symm n 3).val < 1 := (SW.rowMajor.symm n 3).isLt
  have e : (SW.rowMajor (SW.rowMajor.symm n)).val = n.val := by rw [Equiv.apply_symm_apply]
  rw [Shape.rowMajor_val_four] at e
  change (((SW.rowMajor.symm n 0).val * 2048 + (SW.rowMajor.symm n 1).val) * 1 + (SW.rowMajor.symm n 2).val) * 1 + (SW.rowMajor.symm n 3).val = n.val at e
  omega

/-- The running sum at a position is the sum of the entries up to it. -/
theorem cumsum_at (x : SA.Idx → EReal) (v : EReal) (hv : v = 0)
    (hr : SA.ReduceWindows ![1, 2048, 1, 1] ![1, 1, 1, 1] ![0, 2047, 0, 0] ![0, 0, 0, 0] SA)
    (b : Fin 16) (p : Fin 2048) (g : Fin 4) (c : Fin 128) (f : ℕ → EReal) (hx : ∀ q : Fin 2048, x (ix4 b q g c) = f q) :
    Ideal.hostReduceWindowAdd ![1, 2048, 1, 1] ![1, 1, 1, 1] ![0, 2047, 0, 0] ![0, 0, 0, 0] hr x v (ix4 b p g c)
      = ∑ q ∈ Finset.range (p.val + 1), f q := by
  subst hv
  have hp := p.isLt
  have hb := b.isLt
  have hg := g.isLt
  have hc := c.isLt
  unfold Ideal.hostReduceWindowAdd Host.reduceWindow
  refine (foldl_add_map _ _ _).trans ?_
  rw [zero_add, ← Fin.sum_univ_def]
  refine (Finset.sum_congr (g := fun n : Fin SW.numel => if 2047 ≤ p.val + n.val then f (p.val + n.val - 2047) else 0) rfl fun n _ => ?_).trans ?_
  · obtain ⟨e0, e1, e2, e3⟩ := place n
    have hn : n.val < 2048 := lt_of_lt_of_eq n.isLt numel_SW
    dsimp only
    split
    · next hin =>
      have h1 := hin 1
      change 2047 ≤ p.val * 1 + (SW.rowMajor.symm n 1).val ∧ p.val * 1 + (SW.rowMajor.symm n 1).val - 2047 < 2048 at h1
      rw [e1] at h1
      rw [if_pos (by omega)]
      refine (congrArg x (funext fun a => Fin.ext ?_)).trans (hx ⟨p.val + n.val - 2047, by omega⟩)
      match a with
      | ⟨0, _⟩ => show b.val * 1 + (SW.rowMajor.symm n 0).val - 0 = b.val; omega
      | ⟨1, _⟩ => show p.val * 1 + (SW.rowMajor.symm n 1).val - 2047 = p.val + n.val - 2047; omega
      | ⟨2, _⟩ => show g.val * 1 + (SW.rowMajor.symm n 2).val - 0 = g.val; omega
      | ⟨3, _⟩ => show c.val * 1 + (SW.rowMajor.symm n 3).val - 0 = c.val; omega
    · next hin =>
      rw [if_neg fun hle => hin fun a => by
        match a with
        | ⟨0, _⟩ => show 0 ≤ b.val * 1 + (SW.rowMajor.symm n 0).val ∧ b.val * 1 + (SW.rowMajor.symm n 0).val - 0 < 16; omega
        | ⟨1, _⟩ => show 2047 ≤ p.val * 1 + (SW.rowMajor.symm n 1).val ∧ p.val * 1 + (SW.rowMajor.symm n 1).val - 2047 < 2048; omega
        | ⟨2, _⟩ => show 0 ≤ g.val * 1 + (SW.rowMajor.symm n 2).val ∧ g.val * 1 + (SW.rowMajor.symm n 2).val - 0 < 4; omega
        | ⟨3, _⟩ => show 0 ≤ c.val * 1 + (SW.rowMajor.symm n 3).val ∧ c.val * 1 + (SW.rowMajor.symm n 3).val - 0 < 128; omega]
  · rw [Fin.sum_univ_eq_sum_range (fun n : ℕ => if 2047 ≤ p.val + n then f (p.val + n - 2047) else 0), numel_SW]
    exact sum_full_window f p 2048 2047 rfl hp

end Cert.Mixer

end
-- ==== Proof.Ref.lean ====
module

public import proofs.«01_k».proof.Proof.Gen.ReferenceIdeal.Run
public import proofs.«01_k».proof.Proof.Real
public import proofs.«01_k».proof.Proof.Cumsum
public import Idealize.ShloMosaic.Lib.Pointwise
public import Idealize.ShloMosaic.Lib.Tactic
public import Idealize.ShloMosaic.Lib.StableHlo.Predicate

/-! The reference's values element by element, as the token mixer. -/

@[expose] public section

set_option maxRecDepth 16384

noncomputable section

open Idealize.ShloMosaic Idealize.ShloMosaic.TcCoe Idealize.SL.Sem Idealize.ShloMosaic.StableHlo.Predicate

namespace Cert.Mixer
open Cert.ReferenceIdeal Cert.ReferenceIdeal.Gen Cert.ReferenceIdeal.Value

/-- The reference's arguments are the arrays of the mixer, sequence `b`. -/
structure Arr (P : Par) (b : Fin 16) (V0 : Valuation τ sig (Elt Ideal)) : Prop where
  hx : ∀ (p : Fin 2048) (k : Fin 1024), V0 (Proc.devRef .tc main_arg0) (ix3 b p k) = P.X p k
  hg : ∀ k : Fin 1024, V0 (Proc.devRef .tc main_arg1) (ix2 0 k) = P.g1 k
  hw : ∀ (k : Fin 1024) (j : Fin 1536), V0 (Proc.devRef .tc main_arg2) (ix3 0 k j) = P.wi k j
  hpw : ∀ (g : Fin 4) (a c : Fin 128), V0 (Proc.devRef .tc main_arg3) (ix4 0 g a c) = P.pw g a c
  hps : ∀ c : Fin 512, V0 (Proc.devRef .tc main_arg4) (ix2 0 c) = P.ps c
  hsg : ∀ c : Fin 512, V0 (Proc.devRef .tc main_arg5) (ix2 0 c) = P.sg c
  hsw : ∀ (g : Fin 4) (a c : Fin 128), V0 (Proc.devRef .tc main_arg6) (ix4 0 g a c) = P.sw g a c
  hsb : ∀ (g : Fin 4) (a : Fin 128), V0 (Proc.devRef .tc main_arg7) (ix3 0 g a) = P.sb g a
  hwo : ∀ a c : Fin 1024, V0 (Proc.devRef .tc main_arg8) (ix3 0 a c) = P.wo a c
  hg2 : ∀ c : Fin 1024, V0 (Proc.devRef .tc main_arg9) (ix2 0 c) = P.g2 c

section
variable {P : Par} {b : Fin 16} {V0 : Valuation τ sig (Elt Ideal)} (A : Arr P b V0)
include A

/-- The projected rows. -/
theorem r15_at (p : Fin 2048) (c : Fin 1536) : res_main_v15 V0 (ix3 b p c) = z P p c := by
  have hx := A.hx
  have hg := A.hg
  have hw := A.hw
  unfold res_main_v15
  generalize V0 (Proc.devRef .tc main_arg0) = x at hx ⊢
  generalize V0 (Proc.devRef .tc main_arg1) = x1 at hg ⊢
  generalize V0 (Proc.devRef .tc main_arg2) = x2 at hw ⊢
  pointwise
  simp only [hx, hg, hw]
  rfl

/-- The projected rows' first 512 columns by head. -/
theorem r19_at (p : Fin 2048) (g : Fin 4) (c : Fin 128) : res_main_v19 V0 (ix4 b p g c) = z P p (128 * g + c) := by
  have h := r15_at A
  unfold res_main_v19
  generalize res_main_v15 V0 = x at h ⊢
  pointwise
  refine (h _ _).trans ?_
  show z P p (g.val * 128 + c.val) = _
  rw [Nat.mul_comm]

omit A in
/-- The window sum on the host, as the ideal one. -/
theorem hrw {S T S0 : Shape} (w s lo hi : Fin S.rank → ℕ) (x : FVec Ideal S .f32) (v : FVec Ideal S0 .f32) (h : S.ReduceWindows w s lo hi T) (h0 : 0 < S0.numel) :
    (Host.reduceWindowAdd w s lo hi x v h h0 : FVec Ideal T .f32) = Ideal.hostReduceWindowAdd w s lo hi h x (v (Shape.Idx.first h0)) := rfl

omit A in
/-- A window sum started at zero over an array with known entries. -/
theorem cums_pre (x : FVec Ideal S16x2048x4x128 .f32) (b : Fin 16) (p : Fin 2048) (g : Fin 4) (c : Fin 128) (f : ℕ → EReal)
    (hx : ∀ q : Fin 2048, x (ix4 b q g c) = f q) :
    (Host.reduceWindowAdd ![1, 2048, 1, 1] ![1, 1, 1, 1] ![0, 2047, 0, 0] ![0, 0, 0, 0] x (broadcastInDim S_ ![] bcast_S_S_ (constant S_ .f32 0x00000000#32)) reduceWindows_S16x2048x4x128_S16x2048x4x128_w1s1p0_0_w2048s1p2047_0_w1s1p0_0_w1s1p0_0 h_S_ : FVec Ideal S16x2048x4x128 .f32) (ix4 b p g c)
      = (∑ q ∈ Finset.range (p.val + 1), f q : EReal) := by
  rw [hrw]
  refine cumsum_at x _ ?_ reduceWindows_S16x2048x4x128_S16x2048x4x128_w1s1p0_0_w2048s1p2047_0_w1s1p0_0_w1s1p0_0 b p g c f hx
  show Ideal.ofBits .f32 0x00000000#32 = 0
  simp [Ideal.ofBits, Ideal.ieee]

/-- Their running sums. -/
theorem r20_at (p : Fin 2048) (g : Fin 4) (c : Fin 128) :
    res_main_v20 V0 (ix4 b p g c) = (∑ q ∈ Finset.range (p.val + 1), z P q (128 * g + c) : EReal) := by
  have h := r19_at A
  unfold res_main_v20
  generalize res_main_v19 V0 = x at h ⊢
  exact cums_pre x b p g c (fun q => z P q (128 * g + c)) (fun q => h q g c)

/-- The running sums of head 0. -/
theorem r24_at (p : Fin 2048) (c : Fin 128) : res_main_v24 V0 (ix3 b p c) = (∑ q ∈ Finset.range (p.val + 1), z P q (128 * 0 + c) : EReal) := by
  have h := r20_at A
  unfold res_main_v24
  generalize res_main_v20 V0 = x at h ⊢
  refine Eq.trans (b := x (ix4 b p 0 c)) ?_ (h p 0 c)
  clear h
  pointwise
/-- The running sums of head 1. -/
theorem r38_at (p : Fin 2048) (c : Fin 128) : res_main_v38 V0 (ix3 b p c) = (∑ q ∈ Finset.range (p.val + 1), z P q (128 * 1 + c) : EReal) := by
  have h := r20_at A
  unfold res_main_v38
  generalize res_main_v20 V0 = x at h ⊢
  refine Eq.trans (b := x (ix4 b p 1 c)) ?_ (h p 1 c)
  clear h
  pointwise
/-- The running sums of head 2. -/
theorem r52_at (p : Fin 2048) (c : Fin 128) : res_main_v52 V0 (ix3 b p c) = (∑ q ∈ Finset.range (p.val + 1), z P q (128 * 2 + c) : EReal) := by
  have h := r20_at A
  unfold res_main_v52
  generalize res_main_v20 V0 = x at h ⊢
  refine Eq.trans (b := x (ix4 b p 2 c)) ?_ (h p 2 c)
  clear h
  pointwise
/-- The running sums of head 3. -/
theorem r66_at (p : Fin 2048) (c : Fin 128) : res_main_v66 V0 (ix3 b p c) = (∑ q ∈ Finset.range (p.val + 1), z P q (128 * 3 + c) : EReal) := by
  have h := r20_at A
  unfold res_main_v66
  generalize res_main_v20 V0 = x at h ⊢
  refine Eq.trans (b := x (ix4 b p 3 c)) ?_ (h p 3 c)
  clear h
  pointwise

omit A in
/-- The positions as floats. -/
theorem r22_at (p : Fin 2048) : res_main_v22 V0 (ix3 0 p 0) = pos p := by
  unfold res_main_v22
  pointwise
  rfl

/-- The second part of the projection, activated. -/
theorem r106_at (p : Fin 2048) (c : Fin 1024) : res_main_v106 V0 (ix3 b p c) = ge P p c := by
  have h := r15_at A
  unfold res_main_v106 res_main_v90
  generalize res_main_v15 V0 = x at h ⊢
  pointwise
  simp only [h]
  rfl

/-- The half that drives the gate. -/
theorem r108_at (p : Fin 2048) (c : Fin 512) : res_main_v108 V0 (ix3 b p c) = ge P p (512 + c) := by
  have h := r106_at A
  unfold res_main_v108
  generalize res_main_v106 V0 = x at h ⊢
  pointwise
  exact h _ _

/-- Its mean. -/
theorem r112_at (p : Fin 2048) : res_main_v112 V0 (ix3 b p 0) = mu P p := by
  have h := r108_at A
  unfold res_main_v112
  generalize res_main_v108 V0 = x at h ⊢
  pointwise
  simp only [h]
  rfl

/-- Its distance from the mean. -/
theorem r114_at (p : Fin 2048) (c : Fin 512) : res_main_v114 V0 (ix3 b p c) = ge P p (512 + c) - mu P p := by
  have h := r108_at A
  have h2 := r112_at A
  unfold res_main_v114
  generalize res_main_v108 V0 = x at h ⊢
  generalize res_main_v112 V0 = y at h2 ⊢
  pointwise
  rw [h, h2]

omit A in
/-- The 64-block of a position inside its chunk, the way the reference computes it. -/
theorem r131_at (p : Fin 128) : res_main_v131 V0 (ix1 p) = BitVec.ofNat 32 (p / 64) := by
  unfold res_main_v131 res_main_call5_v2 res_main_call5_v0 res_main_v130
  pointwise
  revert p
  decide

omit A in
/-- The reference's mask. -/
theorem rmask_at (i j : Fin 128) (v : EReal) : Scalar.select (IntOp.cmpi .sle (res_main_v131 V0 (ix1 j)) (res_main_v131 V0 (ix1 i))) v 0
    = if j.val / 64 ≤ i.val / 64 then v else 0 := by
  have hi := i.isLt
  have hj := j.isLt
  rw [r131_at, r131_at]
  split
  · next hle =>
    have e : IntOp.cmpi .sle (BitVec.ofNat 32 (j.val / 64)) (BitVec.ofNat 32 (i.val / 64)) = 1#1 := (sle_ofNat_iff _ _ (by omega) (by omega)).2 hle
    rw [e]; rfl
  · next hle =>
    rcases BitVec.eq_zero_or_eq_one (IntOp.cmpi .sle (BitVec.ofNat 32 (j.val / 64)) (BitVec.ofNat 32 (i.val / 64))) with e | e
    · rw [e]; rfl
    · exact absurd ((sle_ofNat_iff _ _ (by omega) (by omega)).1 e) hle

variable (hz : ∀ p j, IsR (z P p j))

omit A in
/-- The zero that pads. -/
theorem pad_zero : (FloatOps.sitofp FTy.f32 0#32 : Ideal .f32) = (0 : EReal) := by
  show (((0#32 : BitVec 32).toInt : ℝ) : EReal) = 0
  simp

include hz in
omit A in
/-- The windowed mean of head `g`, as a difference of two prefix sums. -/
theorem mean_eq (g w p k : ℕ) (hw : w = 2 ^ (g + 1)) (hg : g < 4) (m : EReal) (hm : m = wl g) (a d e n : EReal)
    (ha : a = ∑ q ∈ Finset.range (p + 1), z P q (128 * g + k))
    (hd : d = if w ≤ p then ∑ q ∈ Finset.range (p - w + 1), z P q (128 * g + k) else 0) (he : e = z P p (128 * g + k)) (hn : n = pos p) :
    Ideal.div (a - d) (min (n + 1) m) - e = mean P g p k := by
  subst hw ha hd he hn hm
  have h16 : 2 ^ (g + 1) ≤ 16 := by
    have : g = 0 ∨ g = 1 ∨ g = 2 ∨ g = 3 := by omega
    rcases this with rfl | rfl | rfl | rfl <;> decide
  rw [win_eq P hz _ p _ h16]
  rfl

omit A in
include hz in
/-- The pooled half before its scale. -/
theorem pool_pre (x24 x38 x52 x66 : FVec Ideal S16x2048x128 .f32) (x22 : FVec Ideal S1x2048x1 .f32) (x19 : FVec Ideal S16x2048x4x128 .f32) (x3 : FVec Ideal S1x4x128x128 .f32)
    (h24 : ∀ (p : Fin 2048) (c : Fin 128), x24 (ix3 b p c) = (∑ q ∈ Finset.range (p.val + 1), z P q (128 * 0 + c) : EReal))
    (h38 : ∀ (p : Fin 2048) (c : Fin 128), x38 (ix3 b p c) = (∑ q ∈ Finset.range (p.val + 1), z P q (128 * 1 + c) : EReal))
    (h52 : ∀ (p : Fin 2048) (c : Fin 128), x52 (ix3 b p c) = (∑ q ∈ Finset.range (p.val + 1), z P q (128 * 2 + c) : EReal))
    (h66 : ∀ (p : Fin 2048) (c : Fin 128), x66 (ix3 b p c) = (∑ q ∈ Finset.range (p.val + 1), z P q (128 * 3 + c) : EReal))
    (h22 : ∀ p : Fin 2048, x22 (ix3 0 p 0) = pos p)
    (h19 : ∀ (p : Fin 2048) (g : Fin 4) (c : Fin 128), x19 (ix4 b p g c) = z P p (128 * g + c))
    (h3 : ∀ (g : Fin 4) (a c : Fin 128), x3 (ix4 0 g a c) = P.pw g a c)
    (p : Fin 2048) (c : Fin 512) :
    (shapeCast _ (transpose S16x2048x4x128 [2, 3, 0, 1] (Host.dotGeneral (φ₂ := .f32) dot_S4x128x128_S16x2048x4x128_S4x128x16x2048_1_3_2_01_0_2 none (shapeCast _ x3 shapeCasts_S1x4x128x128_S4x128x128) ((concatenate S16x2048x4x128 2 [⟨S16x2048x1x128, ((broadcastInDim S16x2048x1x128 ![0, 1, 3] bcast_S16x2048x128_S16x2048x1x128_0_1_3 (subf (Host.divf (subf x24 (extractStridedSlice S16x2048x128 ![0, 0, 0] (pad S16x2050x128 ![0, 2, 0] ![0, 0, 0] ![0, 0, 0] x24 (sitofp .f32 (constantI S_ 32 0#32)) pads_S16x2048x128_S16x2050x128_000_200_000 h_S_) slices_S16x2050x128_S16x2048x128_0_0_0)) (broadcastInDim S16x2048x128 ![0, 1, 2] bcast_S1x2048x1_S16x2048x128_0_1_2 (minimumf (addf x22 (broadcastInDim S1x2048x1 ![] bcast_S_S1x2048x1 (constant S_ .f32 0x3F800000#32))) (broadcastInDim S1x2048x1 ![] bcast_S_S1x2048x1 (constant S_ .f32 0x40000000#32))))) (shapeCast _ (extractStridedSlice S16x2048x1x128 ![0, 0, 0, 0] x19 slices_S16x2048x4x128_S16x2048x1x128_0_0_0_0) shapeCasts_S16x2048x1x128_S16x2048x128))) : (⟨S16x2048x1x128, .f32⟩ : BufTy).Contents (Elt Ideal))⟩, ⟨S16x2048x1x128, ((broadcastInDim S16x2048x1x128 ![0, 1, 3] bcast_S16x2048x128_S16x2048x1x128_0_1_3 (subf (Host.divf (subf x38 (extractStridedSlice S16x2048x128 ![0, 0, 0] (pad S16x2052x128 ![0, 4, 0] ![0, 0, 0] ![0, 0, 0] x38 (sitofp .f32 (constantI S_ 32 0#32)) pads_S16x2048x128_S16x2052x128_000_400_000 h_S_) slices_S16x2052x128_S16x2048x128_0_0_0)) (broadcastInDim S16x2048x128 ![0, 1, 2] bcast_S1x2048x1_S16x2048x128_0_1_2 (minimumf (addf x22 (broadcastInDim S1x2048x1 ![] bcast_S_S1x2048x1 (constant S_ .f32 0x3F800000#32))) (broadcastInDim S1x2048x1 ![] bcast_S_S1x2048x1 (constant S_ .f32 0x40800000#32))))) (shapeCast _ (extractStridedSlice S16x2048x1x128 ![0, 0, 1, 0] x19 slices_S16x2048x4x128_S16x2048x1x128_0_0_1_0) shapeCasts_S16x2048x1x128_S16x2048x128))) : (⟨S16x2048x1x128, .f32⟩ : BufTy).Contents (Elt Ideal))⟩, ⟨S16x2048x1x128, ((broadcastInDim S16x2048x1x128 ![0, 1, 3] bcast_S16x2048x128_S16x2048x1x128_0_1_3 (subf (Host.divf (subf x52 (extractStridedSlice S16x2048x128 ![0, 0, 0] (pad S16x2056x128 ![0, 8, 0] ![0, 0, 0] ![0, 0, 0] x52 (sitofp .f32 (constantI S_ 32 0#32)) pads_S16x2048x128_S16x2056x128_000_800_000 h_S_) slices_S16x2056x128_S16x2048x128_0_0_0)) (broadcastInDim S16x2048x128 ![0, 1, 2] bcast_S1x2048x1_S16x2048x128_0_1_2 (minimumf (addf x22 (broadcastInDim S1x2048x1 ![] bcast_S_S1x2048x1 (constant S_ .f32 0x3F800000#32))) (broadcastInDim S1x2048x1 ![] bcast_S_S1x2048x1 (constant S_ .f32 0x41000000#32))))) (shapeCast _ (extractStridedSlice S16x2048x1x128 ![0, 0, 2, 0] x19 slices_S16x2048x4x128_S16x2048x1x128_0_0_2_0) shapeCasts_S16x2048x1x128_S16x2048x128))) : (⟨S16x2048x1x128, .f32⟩ : BufTy).Contents (Elt Ideal))⟩, ⟨S16x2048x1x128, ((broadcastInDim S16x2048x1x128 ![0, 1, 3] bcast_S16x2048x128_S16x2048x1x128_0_1_3 (subf (Host.divf (subf x66 (extractStridedSlice S16x2048x128 ![0, 0, 0] (pad S16x2064x128 ![0, 16, 0] ![0, 0, 0] ![0, 0, 0] x66 (sitofp .f32 (constantI S_ 32 0#32)) pads_S16x2048x128_S16x2064x128_000_1600_000 h_S_) slices_S16x2064x128_S16x2048x128_0_0_0)) (broadcastInDim S16x2048x128 ![0, 1, 2] bcast_S1x2048x1_S16x2048x128_0_1_2 (minimumf (addf x22 (broadcastInDim S1x2048x1 ![] bcast_S_S1x2048x1 (constant S_ .f32 0x3F800000#32))) (broadcastInDim S1x2048x1 ![] bcast_S_S1x2048x1 (constant S_ .f32 0x41800000#32))))) (shapeCast _ (extractStridedSlice S16x2048x1x128 ![0, 0, 3, 0] x19 slices_S16x2048x4x128_S16x2048x1x128_0_0_3_0) shapeCasts_S16x2048x1x128_S16x2048x128))) : (⟨S16x2048x1x128, .f32⟩ : BufTy).Contents (Elt Ideal))⟩] concatenates_S16x2048x1x128_S16x2048x1x128_S16x2048x1x128_S16x2048x1x128_S16x2048x4x128_d2 : (⟨S16x2048x4x128, .f32⟩ : BufTy).Contents (Elt Ideal)))) transposes_S4x128x16x2048_S16x2048x4x128_2_3_0_1) shapeCasts_S16x2048x4x128_S16x2048x512 : FVec Ideal S16x2048x512 .f32) (ix3 b p c)
      = pool P (c / 128) p (c % 128) := by
  have hp := p.isLt
  have hc := c.isLt
  pointwise
  show @Eq EReal _ _
  unfold pool
  refine Finset.sum_congr rfl fun x _ => ?_
  have hx := x.isLt
  rw [mul_comm]
  refine congrArg₂ (· * ·) ?_ (h3 _ _ _)
  show _ = mean P (c.val / 128) p x
  have hpad : ∀ (w : ℕ) (i : Fin 3 → ℕ), i 0 = b.val → i 1 = p.val → i 2 = x.val →
      ((∀ a : Fin 3, ![0, w, 0] a ≤ i a ∧ (i a - ![0, w, 0] a) % (![0, 0, 0] a + 1) = 0 ∧ (i a - ![0, w, 0] a) / (![0, 0, 0] a + 1) < ![16, 2048, 128] a)
        ↔ w ≤ p.val) := by
    intro w i i0 i1 i2
    constructor
    · intro h
      have := (h 1).1
      rw [i1] at this
      exact this
    · intro h a
      have hb := b.isLt
      match a with
      | ⟨0, _⟩ => show 0 ≤ i 0 ∧ (i 0 - 0) % 1 = 0 ∧ (i 0 - 0) / 1 < 16; omega
      | ⟨1, _⟩ => show w ≤ i 1 ∧ (i 1 - w) % 1 = 0 ∧ (i 1 - w) / 1 < 2048; omega
      | ⟨2, _⟩ => show 0 ≤ i 2 ∧ (i 2 - 0) % 1 = 0 ∧ (i 2 - 0) / 1 < 128; omega
  split
  · next h0 =>
    rw [show c.val / 128 = 0 by omega]
    refine mean_eq hz 0 2 p x rfl (by omega) _ rfl _ _ _ _ (h24 _ _) ?_ (h19 p 0 x) (h22 p)
    split
    · next h => rw [if_pos (by first | omega | exact (hpad 2 _ rfl rfl rfl).1 h)]; exact h24 _ _
    · next h => rw [if_neg (by first | omega | exact fun h' => h ((hpad 2 _ rfl rfl rfl).2 h'))]; exact pad_zero
  split
  · next h0 h1 =>
    rw [show c.val / 128 = 1 by omega]
    refine mean_eq hz 1 4 p x rfl (by omega) _ rfl _ _ _ _ (h38 _ _) ?_ (h19 p 1 x) (h22 p)
    split
    · next h => rw [if_pos (by first | omega | exact (hpad 4 _ rfl rfl rfl).1 h)]; exact h38 _ _
    · next h => rw [if_neg (by first | omega | exact fun h' => h ((hpad 4 _ rfl rfl rfl).2 h'))]; exact pad_zero
  split
  · next h0 h1 h2 =>
    rw [show c.val / 128 = 2 by omega]
    refine mean_eq hz 2 8 p x rfl (by omega) _ rfl _ _ _ _ (h52 _ _) ?_ (h19 p 2 x) (h22 p)
    split
    · next h => rw [if_pos (by first | omega | exact (hpad 8 _ rfl rfl rfl).1 h)]; exact h52 _ _
    · next h => rw [if_neg (by first | omega | exact fun h' => h ((hpad 8 _ rfl rfl rfl).2 h'))]; exact pad_zero
  · next h0 h1 h2 =>
    rw [show c.val / 128 = 3 by omega]
    refine mean_eq hz 3 16 p x rfl (by omega) _ rfl _ _ _ _ (h66 _ _) ?_ (h19 p 3 x) (h22 p)
    split
    · next h => rw [if_pos (by first | omega | exact (hpad 16 _ rfl rfl rfl).1 h)]; exact h66 _ _
    · next h => rw [if_neg (by first | omega | exact fun h' => h ((hpad 16 _ rfl rfl rfl).2 h'))]; exact pad_zero

include hz in
/-- The pooled half is the mixer's. -/
theorem r86_at (p : Fin 2048) (c : Fin 512) : res_main_v86 V0 (ix3 b p c) = pool P (c / 128) p (c % 128) :=
  pool_pre hz _ _ _ _ _ _ _ (r24_at A) (r38_at A) (r52_at A) (r66_at A) (r22_at (V0 := V0)) (r19_at A) A.hpw p c

omit A in
/-- The first result's expression over arrays with known entries. -/
theorem res_pre (x0 : FVec Ideal S16x2048x1024 .f32) (x4 x5 : FVec Ideal S1x512 .f32) (x6 : FVec Ideal S1x4x128x128 .f32) (x7 : FVec Ideal S1x4x128 .f32) (x8 : FVec Ideal S1x1024x1024 .f32)
    (x108 x114 : FVec Ideal S16x2048x512 .f32) (x112 : FVec Ideal S16x2048x1 .f32) (x106 : FVec Ideal S16x2048x1024 .f32) (x86 : FVec Ideal S16x2048x512 .f32) (x131 : IVec S128 32)
    (h108 : ∀ (p : Fin 2048) (c : Fin 512), x108 (ix3 b p c) = ge P p (512 + c))
    (h112 : ∀ p : Fin 2048, x112 (ix3 b p 0) = mu P p)
    (h114 : ∀ (p : Fin 2048) (c : Fin 512), x114 (ix3 b p c) = ge P p (512 + c) - mu P p)
    (h106 : ∀ (p : Fin 2048) (c : Fin 1024), x106 (ix3 b p c) = ge P p c)
    (h86 : ∀ (p : Fin 2048) (c : Fin 512), x86 (ix3 b p c) = pool P (c / 128) p (c % 128))
    (hm : ∀ (i j : Fin 128) (v : EReal), Scalar.select (IntOp.cmpi .sle (x131 (ix1 j)) (x131 (ix1 i))) v 0 = if j.val / 64 ≤ i.val / 64 then v else 0)
    (h0 : ∀ (p : Fin 2048) (k : Fin 1024), x0 (ix3 b p k) = P.X p k)
    (h4 : ∀ c : Fin 512, x4 (ix2 0 c) = P.ps c)
    (h5 : ∀ c : Fin 512, x5 (ix2 0 c) = P.sg c)
    (h6 : ∀ (g : Fin 4) (a c : Fin 128), x6 (ix4 0 g a c) = P.sw g a c)
    (h7 : ∀ (g : Fin 4) (a : Fin 128), x7 (ix3 0 g a) = P.sb g a)
    (h8 : ∀ a c : Fin 1024, x8 (ix3 0 a c) = P.wo a c)
    (p : Fin 2048) (c : Fin 1024) :
    (addf x0 (Host.dotGeneral (φ₁ := .f32) dot_S16x2048x1024_S1024x1024_S16x2048x1024_2_0_01_1_n_n none (concatenate S16x2048x1024 2 [⟨S16x2048x512, (mulf x86 (broadcastInDim S16x2048x512 ![0, 1, 2] bcast_S1x1x512_S16x2048x512_0_1_2 (broadcastInDim S1x1x512 ![2] bcast_S512_S1x1x512_2 (shapeCast _ x4 shapeCasts_S1x512_S512))))⟩, ⟨S16x2048x512, (mulf (extractStridedSlice S16x2048x512 ![0, 0, 0] x106 slices_S16x2048x1024_S16x2048x512_0_0_0) (shapeCast _ (addf (transpose S16x16x128x4x128 [1, 2, 4, 0, 3] (Host.dotGeneral dot_S16x16x128x4x128_S4x128x128_S4x16x16x128x128_2_2_014_1_3_0 none (shapeCast _ (mulf (mulf (subf x108 (broadcastInDim S16x2048x512 ![0, 1, 2] bcast_S16x2048x1_S16x2048x512_0_1_2 x112)) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf x114 x114) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 (shapeCast _ x5 shapeCasts_S1x512_S512)))) shapeCasts_S16x2048x512_S16x16x128x4x128) (select (broadcastInDim S4x128x128 ![0, 1, 2] bcast_S1x128x128_S4x128x128_0_1_2 (broadcastInDim S1x128x128 ![1, 2] bcast_S128x128_S1x128x128_1_2 (cmpi .sle (broadcastInDim S128x128 ![0, 1] bcast_S1x128_S128x128_0_1 (broadcastInDim S1x128 ![1] bcast_S128_S1x128_1 x131)) (broadcastInDim S128x128 ![0, 1] bcast_S128x1_S128x128_0_1 (broadcastInDim S128x1 ![0] bcast_S128_S128x1_0 x131))))) (shapeCast _ x6 shapeCasts_S1x4x128x128_S4x128x128) (broadcastInDim S4x128x128 ![] bcast_S_S4x128x128 (constant S_ .f32 0x00000000#32)))) transposes_S4x16x16x128x128_S16x16x128x4x128_1_2_4_0_3) (broadcastInDim S16x16x128x4x128 ![0, 1, 2, 3, 4] bcast_S1x1x128x4x1_S16x16x128x4x128_0_1_2_3_4 (broadcastInDim S1x1x128x4x1 ![2, 3] bcast_S128x4_S1x1x128x4x1_2_3 (transpose S128x4 [1, 0] (shapeCast _ x7 shapeCasts_S1x4x128_S4x128) transposes_S4x128_S128x4_1_0)))) shapeCasts_S16x16x128x4x128_S16x2048x512))⟩] concatenates_S16x2048x512_S16x2048x512_S16x2048x1024_d2) (shapeCast _ x8 shapeCasts_S1x1024x1024_S1024x1024)) : FVec Ideal S16x2048x1024 .f32) (ix3 b p c) = h P p c := by
  have hp := p.isLt
  pointwise
  unfold h
  refine congrArg₂ (· + ·) (h0 p c) (congrArg₂ (· + ·) (Finset.sum_congr rfl fun x _ => ?_) (Finset.sum_congr rfl fun x _ => ?_))
  · exact congrArg₂ (· * ·) (congrArg₂ (· * ·) (h86 p x) (h4 x)) (h8 _ _)
  · have hx := x.isLt
    refine congrArg₂ (· * ·) (congrArg₂ (· * ·) (h106 _ _) (congrArg₂ (· + ·) (Finset.sum_congr rfl fun j _ => ?_) (h7 _ _))) (h8 _ _)
    have hj := j.isLt
    refine (hm ⟨p.val % 128, _⟩ j _).trans ?_
    unfold msk
    refine Eq.trans ?_ (ite_mul _ _ _ _).symm
    refine if_congr Iff.rfl ?_ (zero_mul _).symm
    refine (mul_comm _ _).trans (congrArg₂ (· * ·) (h6 _ _ _) ?_)
    have ex : x.val / 128 * 128 + x.val % 128 = x.val := Nat.div_add_mod' _ _
    refine congrArg₂ (· * ·) (congrArg₂ (· * ·) (congrArg₂ (· - ·) ((h108 _ _).trans (congrArg (fun y => ge P _ (512 + y)) ex)) (h112 _)) (congrArg Ideal.rsqrt (congrArg₂ (· + ·) (congrArg₂ Ideal.div (Finset.sum_congr rfl fun y _ => congrArg₂ (· * ·) (h114 _ _) (h114 _ _)) rfl) rfl))) ((h5 _).trans (congrArg P.sg ex))

include hz in
/-- The reference's first result is the mixer's. -/
theorem r152_at (p : Fin 2048) (c : Fin 1024) : res_main_v152 V0 (ix3 b p c) = h P p c :=
  res_pre _ _ _ _ _ _ _ _ _ _ _ _ (r108_at A) (r112_at A) (r114_at A) (r106_at A) (r86_at A hz) (rmask_at (V0 := V0)) A.hx A.hps A.hsg A.hsw A.hsb A.hwo p c

omit A in
/-- The second result's expression over arrays with known entries. -/
theorem norm_pre (x : FVec Ideal S16x2048x1024 .f32) (x9 : FVec Ideal S1x1024 .f32)
    (h152 : ∀ (p : Fin 2048) (c : Fin 1024), x (ix3 b p c) = h P p c) (h9 : ∀ c : Fin 1024, x9 (ix2 0 c) = P.g2 c) (p : Fin 2048) (c : Fin 1024) :
    (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ x9 shapeCasts_S1x1024_S1024))) : FVec Ideal S16x2048x1024 .f32) (ix3 b p c) = hn P p c := by
  pointwise
  exact congrArg₂ (· * ·) (congrArg₂ (· * ·) (h152 _ _) (congrArg Ideal.rsqrt (congrArg₂ (· + ·) (congrArg₂ Ideal.div (Finset.sum_congr rfl fun y _ => congrArg₂ (· * ·) (h152 _ _) (h152 _ _)) rfl) rfl))) (h9 _)

include hz in
/-- The reference's second result is the mixer's. -/
theorem r166_at (p : Fin 2048) (c : Fin 1024) :
    (mulf (mulf (res_main_v152 V0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (res_main_v152 V0) (res_main_v152 V0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (V0 (Proc.devRef .tc main_arg9)) shapeCasts_S1x1024_S1024))) : FVec Ideal S16x2048x1024 .f32) (ix3 b p c)
      = hn P p c := by
  exact norm_pre _ _ (r152_at A hz) A.hg2 p c

end

end Cert.Mixer

end
-- ==== Proof.Finite.lean ====
module

public import proofs.«01_k».proof.Pre_finite
public import proofs.«01_k».proof.Proof.Gen.Pre_finite
public import proofs.«01_k».proof.Proof.Real
public import Idealize.ShloMosaic.Lib.ReduceAll
public import Idealize.ShloMosaic.Lib.StableHlo.Predicate

/-! The precondition read: the rows, the first gain and the input projection are real. -/

@[expose] public section

noncomputable section

open Idealize.ShloMosaic Idealize.ShloMosaic.StableHlo.Predicate

namespace Cert.Mixer
open Cert.Pre_finite Cert.Pre_finite.Gen

/-- Both bits of a conjunction that is one are one. -/
theorem and_bits : ∀ a b : BitVec 1, IntOp.andi a b = 1#1 → a = 1#1 ∧ b = 1#1 := by decide

/-- A number whose absolute value is below infinity is real. -/
theorem real_of_lt (x : EReal) (h : max x (-x) < ⊤) : IsR x := by
  induction x with
  | bot => simp at h
  | top => simp at h
  | coe r => exact ⟨r, rfl⟩

/-- The printed infinity. -/
theorem inf_eq : Ideal.ofBits .f32 0x7F800000#32 = ⊤ := by
  simp [Ideal.ofBits, Ideal.ieee]

/-- One comparison of the precondition. -/
theorem real_of_cmp (x : EReal) (h : Ideal.cmp .olt (max x (-x)) (Ideal.ofBits .f32 0x7F800000#32) = 1#1) : IsR x := by
  rw [inf_eq] at h
  refine real_of_lt x ?_
  simpa [Ideal.cmp, ofBool_eq_one_iff] using h

/-- The precondition gives real entries. -/
theorem finite_at (x0 : FVec Ideal S16x2048x1024 .f32) (x1 : FVec Ideal S1x1024 .f32) (x2 : FVec Ideal S1x1024x1536 .f32) (x3 : FVec Ideal S1x4x128x128 .f32)
    (x4 : FVec Ideal S1x512 .f32) (x5 : FVec Ideal S1x512 .f32) (x6 : FVec Ideal S1x4x128x128 .f32) (x7 : FVec Ideal S1x4x128 .f32)
    (x8 : FVec Ideal S1x1024x1024 .f32) (x9 : FVec Ideal S1x1024 .f32)
    (e : Cert.Pre_finite.fn (F := Ideal) x0 x1 x2 x3 x4 x5 x6 x7 x8 x9 = fun _ => 1#1) :
    (∀ i, IsR (x0 i)) ∧ (∀ i, IsR (x1 i)) ∧ (∀ i, IsR (x2 i)) := by
  have ss : Subsingleton S_.Idx := ⟨fun a b => funext fun x => x.elim0⟩
  have e0 := congrFun e ix0
  unfold Cert.Pre_finite.fn at e0
  obtain ⟨e01, e2⟩ := and_bits _ _ e0
  obtain ⟨e00, e1⟩ := and_bits _ _ e01
  refine ⟨fun i => ?_, fun i => ?_, fun i => ?_⟩
  · exact real_of_cmp _ (Host.reduce_andi_all _ _ _ _ _ e00 i)
  · exact real_of_cmp _ (Host.reduce_andi_all _ _ _ _ _ e1 i)
  · exact real_of_cmp _ (Host.reduce_andi_all _ _ _ _ _ e2 i)

end Cert.Mixer

end
-- ==== Proof.Tables.lean ====
module

public import proofs.«01_k».proof.Proof.Real

/-! Arrays read at natural-number positions: zero outside the array. -/

@[expose] public section

noncomputable section

namespace Cert.Mixer

/-- A vector as a table. -/
def tab1 {n : ℕ} (f : Fin n → EReal) (i : ℕ) : EReal := if h : i < n then f ⟨i, h⟩ else 0
/-- A matrix as a table. -/
def tab2 {n k : ℕ} (f : Fin n → Fin k → EReal) (i j : ℕ) : EReal := if h : i < n then tab1 (f ⟨i, h⟩) j else 0
/-- A rank-three array as a table. -/
def tab3 {n k l : ℕ} (f : Fin n → Fin k → Fin l → EReal) (i j q : ℕ) : EReal := if h : i < n then tab2 (f ⟨i, h⟩) j q else 0

/-- A vector's table holds its entries. -/
theorem tab1_at {n : ℕ} (f : Fin n → EReal) (i : Fin n) : f i = tab1 f i := by
  unfold tab1
  rw [dif_pos i.isLt]
/-- A matrix's table holds its entries. -/
theorem tab2_at {n k : ℕ} (f : Fin n → Fin k → EReal) (i : Fin n) (j : Fin k) : f i j = tab2 f i j := by
  unfold tab2
  rw [dif_pos i.isLt]
  exact tab1_at (f i) j
/-- A rank-three array's table holds its entries. -/
theorem tab3_at {n k l : ℕ} (f : Fin n → Fin k → Fin l → EReal) (i : Fin n) (j : Fin k) (q : Fin l) : f i j q = tab3 f i j q := by
  unfold tab3
  rw [dif_pos i.isLt]
  exact tab2_at (f i) j q
/-- A real vector's table is real. -/
theorem tab1_real {n : ℕ} (f : Fin n → EReal) (h : ∀ i, IsR (f i)) (i : ℕ) : IsR (tab1 f i) := by
  unfold tab1
  split
  · exact h _
  · exact IsR.zero
/-- A real matrix's table is real. -/
theorem tab2_real {n k : ℕ} (f : Fin n → Fin k → EReal) (h : ∀ i j, IsR (f i j)) (i j : ℕ) : IsR (tab2 f i j) := by
  unfold tab2
  split
  · exact tab1_real _ (h _) j
  · exact IsR.zero

end Cert.Mixer

end
-- ==== Proof.Equal.lean ====
module

public import proofs.«01_k».proof.Defs
public import proofs.«01_k».proof.Proof.Array
public import proofs.«01_k».proof.Proof.Ref
public import proofs.«01_k».proof.Proof.Finite
public import proofs.«01_k».proof.Proof.Tables

/-! The kernel's two results are the reference's: both are the token mixer of the arguments. -/

@[expose] public section

set_option maxRecDepth 16384

noncomputable section

open Idealize.ShloMosaic Idealize.ShloMosaic.TcCoe Idealize.SL.Sem

namespace Cert.Mixer

section
open Cert.KernelIdeal
variable (m : (ℓ : Loc nD τ sig) → Buf (Elt Ideal) ℓ)

/-- The mixer's arrays for sequence `b` of device `c`, taken from the kernel's arguments. -/
def parOf (c : Dev nD) (b : Fin 16) : Par where
  X := tab2 fun (p : Fin 2048) (k : Fin 1024) => m ((c : Thread nD τ).loc main_arg0) (ix3 b p k)
  g1 := tab1 fun k : Fin 1024 => m ((c : Thread nD τ).loc main_arg1) (ix2 0 k)
  wi := tab2 fun (k : Fin 1024) (j : Fin 1536) => m ((c : Thread nD τ).loc main_arg2) (ix3 0 k j)
  pw := tab3 fun (g : Fin 4) (a d : Fin 128) => m ((c : Thread nD τ).loc main_arg3) (ix4 0 g a d)
  ps := tab1 fun d : Fin 512 => m ((c : Thread nD τ).loc main_arg4) (ix2 0 d)
  sg := tab1 fun d : Fin 512 => m ((c : Thread nD τ).loc main_arg5) (ix2 0 d)
  sw := tab3 fun (g : Fin 4) (a d : Fin 128) => m ((c : Thread nD τ).loc main_arg6) (ix4 0 g a d)
  sb := tab2 fun (g : Fin 4) (a : Fin 128) => m ((c : Thread nD τ).loc main_arg7) (ix3 0 g a)
  wo := tab2 fun a d : Fin 1024 => m ((c : Thread nD τ).loc main_arg8) (ix3 0 a d)
  g2 := tab1 fun d : Fin 1024 => m ((c : Thread nD τ).loc main_arg9) (ix2 0 d)

/-- They are the kernel's arguments. -/
theorem karr (c : Dev nD) (b : Fin 16) : KArr m (parOf m c b) b c where
  hx p k := tab2_at (fun (p : Fin 2048) (k : Fin 1024) => m ((c : Thread nD τ).loc main_arg0) (ix3 b p k)) p k
  hg k := tab1_at (fun k : Fin 1024 => m ((c : Thread nD τ).loc main_arg1) (ix2 0 k)) k
  hw k j := tab2_at (fun (k : Fin 1024) (j : Fin 1536) => m ((c : Thread nD τ).loc main_arg2) (ix3 0 k j)) k j
  hpw g a d := tab3_at (fun (g : Fin 4) (a d : Fin 128) => m ((c : Thread nD τ).loc main_arg3) (ix4 0 g a d)) g a d
  hps d := tab1_at (fun d : Fin 512 => m ((c : Thread nD τ).loc main_arg4) (ix2 0 d)) d
  hsg d := tab1_at (fun d : Fin 512 => m ((c : Thread nD τ).loc main_arg5) (ix2 0 d)) d
  hsw g a d := tab3_at (fun (g : Fin 4) (a d : Fin 128) => m ((c : Thread nD τ).loc main_arg6) (ix4 0 g a d)) g a d
  hsb g a := tab2_at (fun (g : Fin 4) (a : Fin 128) => m ((c : Thread nD τ).loc main_arg7) (ix3 0 g a)) g a
  hwo a d := tab2_at (fun a d : Fin 1024 => m ((c : Thread nD τ).loc main_arg8) (ix3 0 a d)) a d
  hg2 d := tab1_at (fun d : Fin 1024 => m ((c : Thread nD τ).loc main_arg9) (ix2 0 d)) d

/-- Under the precondition the projected rows are real. -/
theorem z_finite [hPre_finite : Cert.Pre_finite.Facts] (hp : Cert.Pre_KernelIdeal_finite m) (c : Dev nD) (b : Fin 16) (p j : ℕ) :
    IsR (z (parOf m c b) p j) := by
  obtain ⟨h0, h1, h2⟩ := finite_at _ _ _ _ _ _ _ _ _ _ (hp c)
  exact z_real _ (tab2_real _ fun _ _ => h0 _) (tab1_real _ fun _ => h1 _) (tab2_real _ fun _ _ => h2 _) p j
end

/-- An array is known from its entries. -/
theorem ext3 (x y : FVec Ideal Cert.KernelIdeal.S16x2048x1024 .f32) (h : ∀ (b : Fin 16) (p : Fin 2048) (k : Fin 1024), x (ix3 b p k) = y (ix3 b p k)) :
    x = y := by
  funext i
  have e : i = ix3 (i 0 : Fin 16) (i 1 : Fin 2048) (i 2 : Fin 1024) := by
    funext a
    match a with
    | ⟨0, _⟩ => rfl
    | ⟨1, _⟩ => rfl
    | ⟨2, _⟩ => rfl
  rw [e]
  exact h _ _ _

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hag
  refine ⟨fun c => resH (parOf m c), fun c => resHn (parOf m c), ?_, ?_⟩
  · exact (θ_run _ _ _).mono (fun r h c => ⟨(h c).1.trans (arr10 (karr m c)), (h c).2.1.trans (arr11 (karr m c)), (h c).2.2⟩)
      (Cert.KernelIdeal.Value.run_blocks m g)
  · have A : ∀ c b, Arr (parOf m c b) b (StableHlo.launchContents m' c) := fun c b =>
      have K := karr m c b
      have e := hag c
      { hx := fun p k => (congrFun e.1 _).trans (K.hx p k)
        hg := fun k => (congrFun e.2.1 _).trans (K.hg k)
        hw := fun k j => (congrFun e.2.2.1 _).trans (K.hw k j)
        hpw := fun g a d => (congrFun e.2.2.2.1 _).trans (K.hpw g a d)
        hps := fun d => (congrFun e.2.2.2.2.1 _).trans (K.hps d)
        hsg := fun d => (congrFun e.2.2.2.2.2.1 _).trans (K.hsg d)
        hsw := fun g a d => (congrFun e.2.2.2.2.2.2.1 _).trans (K.hsw g a d)
        hsb := fun g a => (congrFun e.2.2.2.2.2.2.2.1 _).trans (K.hsb g a)
        hwo := fun a d => (congrFun e.2.2.2.2.2.2.2.2.1 _).trans (K.hwo a d)
        hg2 := fun d => (congrFun e.2.2.2.2.2.2.2.2.2 _).trans (K.hg2 d) }
    exact (θ_run _ _ _).mono (fun r h c => ⟨(h c).1.trans (ext3 _ _ fun b p k => (r152_at (A c b) (z_finite m hp c b) p k).trans (resH_at _ b p k).symm),
        (h c).2.1.trans (ext3 _ _ fun b p k => (r166_at (A c b) (z_finite m hp c b) p k).trans (resHn_at _ b p k).symm), (h c).2.2⟩)
      (Cert.ReferenceIdeal.Value.run m' g')

end Cert.Mixer

end
-- ==== Proof.Frames.lean ====
module

public import proofs.«01_k».proof.Defs
public import proofs.«01_k».proof.Proof.Gen.ReferenceIdeal.Run
public import proofs.«01_k».proof.Proof.Gen.ReferenceIdeal
public import proofs.«01_k».proof.Proof.Gen.Pre_finite
public import Idealize.ShloMosaic.Lib.Quiescent
public import Idealize.ShloMosaic.Adequacy
public import Idealize.ShloMosaic.Init
public import Idealize.ShloMosaic.Lib.Tactic
public import Idealize.ShloMosaic.Lib.Claim

/-! The reference ends with its arguments unchanged and every counter at zero. -/

@[expose] public section

noncomputable section

open Idealize.ShloMosaic Idealize.SL.Sem

namespace Cert.Mixer

/-- The reference runs to its end, leaves its arguments as they were and, having no semaphores, every counter at zero. -/
theorem ref_frame :
    Cert.quiescent_ReferenceIdeal (hReferenceIdeal := Cert.ReferenceIdeal.Gen.facts) := by
  intro m g _
  exact (θ_run _ _ _).mono (fun r h => ⟨fun c => (h c).2.2, sem_eq_zero_of_no_sems rfl _⟩) (Cert.ReferenceIdeal.Value.run m g)

/-- The same under the precondition. -/
theorem ref_frame_finite :
    Cert.quiescent_ReferenceIdeal_pre_finite (hReferenceIdeal := Cert.ReferenceIdeal.Gen.facts) (hPre_finite := Cert.Pre_finite.Gen.facts) := by
  intro m g _
  exact (θ_run _ _ _).mono (fun r h => ⟨fun c => (h c).2.2, sem_eq_zero_of_no_sems rfl _⟩) (Cert.ReferenceIdeal.Value.run m g)

end Cert.Mixer

end
-- ==== Proof.Chosen.lean ====
module

public import proofs.«01_k».proof.Defs
public import proofs.«01_k».proof.Proof.Gen.Pre_chosen
public import Idealize.ShloMosaic.Lib.Pointwise
public import Idealize.ShloMosaic.Lib.Tactic
public import Idealize.ShloMosaic.Lib.StableHlo.Predicate

/-! What the precondition on the expert numbers says of one of them, and the row addresses made of them. -/

@[expose] public section

noncomputable section

open Idealize.ShloMosaic

namespace Cert.Mixer

/-- The precondition says of every expert number that it is below the number of experts. -/
theorem chosen_lt {F : FTy → Type} [FloatOps F] (x : IVec Cert.Pre_chosen.S32768x128 32) (w : FVec F Cert.Pre_chosen.S32768x128 .f32) (T : IVec Cert.Pre_chosen.S65544x128 32)
    (h : Cert.Pre_chosen.fn (F := F) x w T = fun _ => 1#1) (p : Fin 32768) (j : Fin 128) : (x (ix2 p j)).toNat < 16384 := by
  have andi_one (a b : BitVec 1) : IntOp.andi a b = 1#1 ↔ a = 1#1 ∧ b = 1#1 := by revert a b; decide
  have pre := congrFun h (ix2 p j)
  simp only [Cert.Pre_chosen.fn, constantI, broadcastInDim, cmpi, andi, andi_one] at pre
  obtain ⟨h1, h2⟩ := pre
  generalize x (ix2 p j) = v at h1 h2 ⊢
  have ofBool_one (b : Bool) (h : BitVec.ofBool b = 1#1) : b = true := by revert b; decide
  have g1 : (0#32).sle v = true := ofBool_one _ (by simpa [IntOp.cmpi] using h1)
  have g2 : v.slt 16384#32 = true := ofBool_one _ (by simpa [IntOp.cmpi] using h2)
  rw [BitVec.sle_eq_decide, decide_eq_true_eq] at g1
  rw [BitVec.slt_eq_decide, decide_eq_true_eq] at g2
  have z : (0#32).toInt = 0 := by decide
  have q : (16384#32).toInt = 16384 := by decide
  rw [z] at g1
  rw [q] at g2
  rw [BitVec.toInt_eq_toNat_cond] at g1 g2
  split at g1 <;> omega

/-- The row address of an expert in a slot: four rows an expert, and four further rows in the slots whose upper half is read. -/
def rowWord (e : BitVec 32) (j : Fin 128) : BitVec 32 := e * 4#32 + (if j.val % 8 < 4 then 4#32 else 0#32)

/-- An address as a number. -/
theorem rowWord_toNat (e : BitVec 32) (j : Fin 128) (h : e.toNat < 16384) : (rowWord e j).toNat = 4 * e.toNat + (if j.val % 8 < 4 then 4 else 0) := by
  unfold rowWord
  rw [BitVec.toNat_add, BitVec.toNat_mul]
  split <;> simp only [BitVec.toNat_ofNat] <;> omega
/-- An address leaves eight rows. -/
theorem rowWord_le (e : BitVec 32) (j : Fin 128) (h : e.toNat < 16384) : (rowWord e j).toNat ≤ 65536 := by
  rw [rowWord_toNat e j h]
  split <;> omega
/-- A small word read as an index is its number. -/
theorem idx_toNat (w : BitVec 32) (h : w.toNat ≤ 65536) : (Scalar.indexCast w : Index).toNat = w.toNat := by
  have g : w.toInt = w.toNat := by
    rw [BitVec.toInt_eq_toNat_cond]
    split <;> omega
  simp [Scalar.indexCast, g]

/-- A feature's value: row `r` of four of expert `e`, lane `l`, the half `q` of the word. -/
def feat (T : IVec Cert.Pre_chosen.S65544x128 32) (e : Fin 16384) (q : ℕ) (r : Fin 4) (l : Fin 128) : EReal :=
  Ideal.ofBits .bf16 ((T (ix2 (⟨4 + 4 * e.val + r.val, by omega⟩ : Fin 65544) l)).extractLsb' (q * 16) 16)

/-- What the expert in slot `j` of token `p` adds to a feature. -/
def peerTerm (x : IVec Cert.Pre_chosen.S32768x128 32) (w : FVec Ideal Cert.Pre_chosen.S32768x128 .f32) (T : IVec Cert.Pre_chosen.S65544x128 32) (p : Fin 32768) (l : Fin 128) (q : ℕ) (j : Fin 128) (r : Fin 4) : EReal :=
  w (ix2 p j) * feat T (⟨(x (ix2 p j)).toNat % 16384, Nat.mod_lt _ (by decide)⟩ : Fin 16384) q r l
/-- The expert sum's result: a row holds eighth `s` of its token's features, each the weighted sum of the token's experts' values. -/
def peerRes (x : IVec Cert.Pre_chosen.S32768x128 32) (w : FVec Ideal Cert.Pre_chosen.S32768x128 .f32) (T : IVec Cert.Pre_chosen.S65544x128 32) (p : Fin 32768) (s : Fin 8) (l : Fin 128) : EReal :=
  ∑ j : Fin 128, peerTerm x w T p l (s.val / 4) j (⟨s.val % 4, Nat.mod_lt _ (by decide)⟩ : Fin 4)

/-- The result's rows, eight a token. -/
def peerArr (x : IVec Cert.Pre_chosen.S32768x128 32) (w : FVec Ideal Cert.Pre_chosen.S32768x128 .f32) (T : IVec Cert.Pre_chosen.S65544x128 32) : FVec Ideal (⟨2, ![262144, 128]⟩ : Shape) .f32 :=
  fun i => peerRes x w T (⟨(i 0).val / 8, by have : (i 0).val < 262144 := (i 0).isLt; omega⟩ : Fin 32768) (⟨(i 0).val % 8, Nat.mod_lt _ (by decide)⟩ : Fin 8) (⟨(i 1).val, (i 1).isLt⟩ : Fin 128)

end Cert.Mixer

end
-- ==== Proof.Experts.lean ====
module

public import proofs.«01_k».proof.Defs
public import proofs.«01_k».proof.Proof.Gen.Reference2Ideal.Run
public import proofs.«01_k».proof.Proof.Gen.Reference2Ideal
public import Idealize.ShloMosaic.Lib.Quiescent
public import Idealize.ShloMosaic.Lib.Claim
public import Idealize.ShloMosaic.Lib.Pointwise
public import Idealize.ShloMosaic.Lib.BitcastConvert
public import Idealize.ShloMosaic.Lib.Tactic
public import Idealize.ShloMosaic.Lib.StableHlo.Predicate
public import proofs.«01_k».proof.Proof.Chosen

/-! The reference of the expert sum: each token's rows of the table, weighted and summed. -/

@[expose] public section

set_option maxRecDepth 16384

noncomputable section

open Idealize.ShloMosaic Idealize.ShloMosaic.TcCoe Idealize.SL.Sem

namespace Cert.Mixer

open Cert.Reference2Ideal Cert.Reference2Ideal.Gen Cert.Reference2Ideal.Value Idealize.ShloMosaic.StableHlo

/-- One half of every word of the table, four rows from its start. -/
def halves0 (T : IVec S65544x128 32) : FVec Ideal S16384x512 .bf16 := shapeCast _ (extractStridedSlice S16384x512x1 ![0, 0, 0] (bitcastToFloat (F := Ideal) .bf16 (Host.bitcastConvertNarrow S16384x512x2 16 (shapeCast _ (extractStridedSlice S65536x128 ![4, 0] T slices_S65544x128_S65536x128_4_0) shapeCasts_S65536x128_S16384x512) splits_S16384x512_w32_S16384x512x2_w16)) slices_S16384x512x2_S16384x512x1_0_0_0) shapeCasts_S16384x512x1_S16384x512
/-- The other half of every word. -/
def halves1 (T : IVec S65544x128 32) : FVec Ideal S16384x512 .bf16 := shapeCast _ (extractStridedSlice S16384x512x1 ![0, 0, 1] (bitcastToFloat (F := Ideal) .bf16 (Host.bitcastConvertNarrow S16384x512x2 16 (shapeCast _ (extractStridedSlice S65536x128 ![4, 0] T slices_S65544x128_S65536x128_4_0) shapeCasts_S65536x128_S16384x512) splits_S16384x512_w32_S16384x512x2_w16)) slices_S16384x512x2_S16384x512x1_0_0_1) shapeCasts_S16384x512x1_S16384x512
/-- The experts' rows. -/
def expertRows (T : IVec S65544x128 32) : FVec Ideal S16384x1024 .f32 :=
  extf .f32 (concatenate S16384x1024 1 [⟨S16384x512, halves0 T⟩, ⟨S16384x512, halves1 T⟩] concatenates_S16384x512_S16384x512_S16384x1024_d1) bitsLt_bf16_f32

/-- One entry of the first halves. -/
theorem halves0_at (T : IVec S65544x128 32) (e : Fin 16384) (r : Fin 4) (l : Fin 128) :
    halves0 T (ix2 e (⟨128 * r.val + l.val, by omega⟩ : Fin 512)) = feat T e 0 r l := by
  have e1 : (⟨4 + (e.val * 4 + (128 * r.val + l.val) / 128), by omega⟩ : Fin 65544) = ⟨4 + 4 * e.val + r.val, by omega⟩ := Fin.ext (by show 4 + (e.val * 4 + (128 * r.val + l.val) / 128) = 4 + 4 * e.val + r.val; omega)
  have e2 : (⟨(128 * r.val + l.val) % 128, by omega⟩ : Fin 128) = l := Fin.ext (by show (128 * r.val + l.val) % 128 = l.val; omega)
  unfold halves0 feat
  pointwise
  rw [e1, e2]
/-- One entry of the other halves. -/
theorem halves1_at (T : IVec S65544x128 32) (e : Fin 16384) (r : Fin 4) (l : Fin 128) :
    halves1 T (ix2 e (⟨128 * r.val + l.val, by omega⟩ : Fin 512)) = feat T e 1 r l := by
  have e1 : (⟨4 + (e.val * 4 + (128 * r.val + l.val) / 128), by omega⟩ : Fin 65544) = ⟨4 + 4 * e.val + r.val, by omega⟩ := Fin.ext (by show 4 + (e.val * 4 + (128 * r.val + l.val) / 128) = 4 + 4 * e.val + r.val; omega)
  have e2 : (⟨(128 * r.val + l.val) % 128, by omega⟩ : Fin 128) = l := Fin.ext (by show (128 * r.val + l.val) % 128 = l.val; omega)
  unfold halves1 feat
  pointwise
  rw [e1, e2]

/-- One entry of an expert's row. -/
theorem expertRows_at (T : IVec S65544x128 32) (e : Fin 16384) (q : Fin 2) (r : Fin 4) (l : Fin 128) :
    expertRows T (ix2 e (⟨512 * q.val + 128 * r.val + l.val, by omega⟩ : Fin 1024)) = feat T e q.val r l := by
  match q with
  | ⟨0, _⟩ =>
    show _ = feat T e 0 r l
    rw [← halves0_at]
    unfold expertRows
    pointwise
    rw [dif_pos (by omega)]
  | ⟨1, _⟩ =>
    show _ = feat T e 1 r l
    rw [← halves1_at]
    unfold expertRows
    pointwise
    rw [dif_neg (by omega)]
    congr 2
    exact Fin.ext (by show 512 + 128 * r.val + l.val - 512 = 128 * r.val + l.val; omega)

/-- The expert numbers as the reference reads them. -/
def ids (x : IVec S32768x128 32) : IVec S32768x128x1 32 :=
  broadcastInDim S32768x128x1 ![0, 1] bcast_S32768x128_S32768x128x1_0_1 (select (cmpi .slt x (broadcastInDim S32768x128 ![] bcast_S_S32768x128 (constantI S_ 32 0#32))) (addi x (broadcastInDim S32768x128 ![] bcast_S_S32768x128 (constantI S_ 32 16384#32))) x)

/-- An expert number in range is read as it is. -/
theorem ids_at (x : IVec S32768x128 32) (p : Fin 32768) (j : Fin 128) (h : (x (ix2 p j)).toNat < 16384) : ids x (ix3 p j 0) = x (ix2 p j) := by
  have e : ids x (ix3 p j 0) = if (x (ix2 p j)).slt 0#32 then x (ix2 p j) + 16384#32 else x (ix2 p j) := by
    unfold ids
    pointwise
    show (if BitVec.ofBool _ = 1#1 then _ else _) = _
    generalize (x (ix2 p j)).slt 0#32 = b
    cases b <;> rfl
  rw [e, if_neg]
  rw [BitVec.slt_eq_decide, decide_eq_true_eq, BitVec.toInt_eq_toNat_cond]
  have z : (0#32).toInt = 0 := by decide
  rw [z]
  split <;> omega

/-- One entry of the rows taken: the row of the expert whose number stands there. -/
theorem taken_at (A : FVec Ideal S16384x1024 .f32) (I : IVec S32768x128x1 32) (p : Fin 32768) (j : Fin 128) (d : Fin 1024) (h : (I (ix3 p j 0)).toNat < 16384) :
    Host.gather gather_S16384x1024_S32768x128x1_S32768x128x1024_2_0_n_n_0_2_11024 A I (ix3 p j d) = A (ix2 (⟨(I (ix3 p j 0)).toNat, h⟩ : Fin 16384) d) := by
  unfold Host.gather
  congr 1
  funext a
  refine Fin.ext ?_
  show gather_S16384x1024_S32768x128x1_S32768x128x1024_2_0_n_n_0_2_11024.start (ix3 p j d) I a + gather_S16384x1024_S32768x128x1_S32768x128x1024_2_0_n_n_0_2_11024.batchCoord (ix3 p j d) a + gather_S16384x1024_S32768x128x1_S32768x128x1024_2_0_n_n_0_2_11024.offCoord (ix3 p j d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S32768x128x1_S32768x128x1024_2_0_n_n_0_2_11024.startIndexMap from List.mem_singleton.mpr rfl)]
    have hsi : gather_S16384x1024_S32768x128x1_S32768x128x1024_2_0_n_n_0_2_11024.siIdx (ix3 p j d) ⟨List.idxOf (0 : Fin 2) gather_S16384x1024_S32768x128x1_S32768x128x1024_2_0_n_n_0_2_11024.startIndexMap,
        List.idxOf_lt_length_iff.2 (List.mem_singleton.mpr rfl)⟩ = ix3 p j 0 := by
      funext b; refine Fin.ext ?_
      match b with
      | ⟨0, _⟩ => rfl
      | ⟨1, _⟩ => rfl
      | ⟨2, _⟩ => rfl
    rw [hsi]
    show min (I (ix3 p j 0)).toInt.toNat (16384 - 1) = (I (ix3 p j 0)).toNat
    rw [BitVec.toInt_eq_toNat_cond]
    split <;> omega
  · have hs : gather_S16384x1024_S32768x128x1_S32768x128x1024_2_0_n_n_0_2_11024.start (ix3 p j d) I 1 = 0 := by
      unfold GatherDims.start
      rw [dif_neg (by decide)]
    rw [hs]
    simp only [Nat.zero_add, Nat.add_zero]
    rfl

/-- One entry of the weighted sum. -/
theorem summed_at (w : FVec Ideal S32768x128 .f32) (B : FVec Ideal S32768x128x1024 .f32) (p : Fin 32768) (d : Fin 1024) :
    Host.dotGeneral dot_S32768x128_S32768x128x1024_S32768x1024_1_1_n_2_0_0 none w B (ix2 p d) = ∑ j : Fin 128, w (ix2 p j) * B (ix3 p j d) := by
  pointwise

/-- The flattened rows. -/
theorem flat_at (Y : FVec Ideal S32768x1024 .f32) (p : Fin 32768) (s : Fin 8) (l : Fin 128) :
    shapeCast S262144x128 Y shapeCasts_S32768x1024_S262144x128 (ix2 (⟨8 * p.val + s.val, by omega⟩ : Fin 262144) l) = Y (ix2 p (⟨128 * s.val + l.val, by omega⟩ : Fin 1024)) := by
  have e : (⟨(8 * p.val + s.val) % 8 * 128 + l.val, by omega⟩ : Fin 1024) = ⟨128 * s.val + l.val, by omega⟩ := Fin.ext (by show (8 * p.val + s.val) % 8 * 128 + l.val = 128 * s.val + l.val; omega)
  pointwise
  rw [e]

/-- The reference's result. -/
theorem ref2_eq (x : IVec S32768x128 32) (w : FVec Ideal S32768x128 .f32) (T : IVec S65544x128 32) (hx : ∀ (p : Fin 32768) (j : Fin 128), (x (ix2 p j)).toNat < 16384) :
    (shapeCast S262144x128 (Host.dotGeneral dot_S32768x128_S32768x128x1024_S32768x1024_1_1_n_2_0_0 none w (Host.gather gather_S16384x1024_S32768x128x1_S32768x128x1024_2_0_n_n_0_2_11024 (extf .f32 (concatenate S16384x1024 1 [⟨S16384x512, (shapeCast _ (extractStridedSlice S16384x512x1 ![0, 0, 0] (bitcastToFloat (F := Ideal) .bf16 (Host.bitcastConvertNarrow S16384x512x2 16 (shapeCast _ (extractStridedSlice S65536x128 ![4, 0] T slices_S65544x128_S65536x128_4_0) shapeCasts_S65536x128_S16384x512) splits_S16384x512_w32_S16384x512x2_w16)) slices_S16384x512x2_S16384x512x1_0_0_0) shapeCasts_S16384x512x1_S16384x512)⟩, ⟨S16384x512, (shapeCast _ (extractStridedSlice S16384x512x1 ![0, 0, 1] (bitcastToFloat (F := Ideal) .bf16 (Host.bitcastConvertNarrow S16384x512x2 16 (shapeCast _ (extractStridedSlice S65536x128 ![4, 0] T slices_S65544x128_S65536x128_4_0) shapeCasts_S65536x128_S16384x512) splits_S16384x512_w32_S16384x512x2_w16)) slices_S16384x512x2_S16384x512x1_0_0_1) shapeCasts_S16384x512x1_S16384x512)⟩] concatenates_S16384x512_S16384x512_S16384x1024_d1) bitsLt_bf16_f32) (broadcastInDim S32768x128x1 ![0, 1] bcast_S32768x128_S32768x128x1_0_1 (select (cmpi .slt x (broadcastInDim S32768x128 ![] bcast_S_S32768x128 (constantI S_ 32 0#32))) (addi x (broadcastInDim S32768x128 ![] bcast_S_S32768x128 (constantI S_ 32 16384#32))) x)))) shapeCasts_S32768x1024_S262144x128 : FVec Ideal S262144x128 .f32) = peerArr x w T := by
  funext i
  have h0 : (i 0).val < 262144 := (i 0).isLt
  have h1 : (i 1).val < 128 := (i 1).isLt
  have e : i = ix2 (⟨8 * ((i 0).val / 8) + (i 0).val % 8, by omega⟩ : Fin 262144) (⟨(i 1).val, h1⟩ : Fin 128) := by
    funext a
    apply Fin.ext
    match a with
    | ⟨0, _⟩ => show (i 0).val = 8 * ((i 0).val / 8) + (i 0).val % 8; omega
    | ⟨1, _⟩ => rfl
  show shapeCast S262144x128 (Host.dotGeneral dot_S32768x128_S32768x128x1024_S32768x1024_1_1_n_2_0_0 none w (Host.gather gather_S16384x1024_S32768x128x1_S32768x128x1024_2_0_n_n_0_2_11024 (expertRows T) (ids x))) shapeCasts_S32768x1024_S262144x128 i = peerRes x w T (⟨(i 0).val / 8, by omega⟩ : Fin 32768) (⟨(i 0).val % 8, by omega⟩ : Fin 8) (⟨(i 1).val, h1⟩ : Fin 128)
  refine (congrArg _ e).trans ?_
  generalize hp : (⟨(i 0).val / 8, by omega⟩ : Fin 32768) = p
  generalize hs : (⟨(i 0).val % 8, by omega⟩ : Fin 8) = s
  generalize hl : (⟨(i 1).val, h1⟩ : Fin 128) = l
  have ei : (⟨8 * ((i 0).val / 8) + (i 0).val % 8, by omega⟩ : Fin 262144) = ⟨8 * p.val + s.val, by omega⟩ := by
    subst hp hs
    rfl
  rw [ei, flat_at, summed_at]
  unfold peerRes
  refine Finset.sum_congr rfl fun j _ => ?_
  have hid : (ids x (ix3 p j 0)).toNat < 16384 := by
    rw [ids_at x p j (hx p j)]
    exact hx p j
  rw [taken_at _ _ p j _ hid]
  have ed : (⟨128 * s.val + l.val, by omega⟩ : Fin 1024) = ⟨512 * (⟨s.val / 4, by omega⟩ : Fin 2).val + 128 * (⟨s.val % 4, by omega⟩ : Fin 4).val + l.val, by show 512 * (s.val / 4) + 128 * (s.val % 4) + l.val < 1024; omega⟩ :=
    Fin.ext (by show 128 * s.val + l.val = 512 * (s.val / 4) + 128 * (s.val % 4) + l.val; omega)
  have ee : (⟨(ids x (ix3 p j 0)).toNat, hid⟩ : Fin 16384) = ⟨(x (ix2 p j)).toNat % 16384, Nat.mod_lt _ (by decide)⟩ :=
    Fin.ext (by show (ids x (ix3 p j 0)).toNat = (x (ix2 p j)).toNat % 16384; rw [ids_at x p j (hx p j)]; exact (Nat.mod_eq_of_lt (hx p j)).symm)
  rw [ed, expertRows_at, ee]
  rfl

/-- The expert sum's reference runs to its end, leaves its arguments as they were and every counter at zero. -/
theorem ref2_frame : Cert.quiescent_Reference2Ideal (hReference2Ideal := Cert.Reference2Ideal.Gen.facts) := by
  intro m g _
  exact (θ_run _ _ _).mono (fun r h => ⟨fun c => (h c).2, sem_eq_zero_of_no_sems rfl _⟩) (Cert.Reference2Ideal.Value.run m g)

/-- It does so under the precondition too. -/
theorem ref2_frame_chosen : Cert.quiescent_Reference2Ideal_pre_chosen (hReference2Ideal := Cert.Reference2Ideal.Gen.facts) (hPre_chosen := Cert.Pre_chosen.Gen.facts) := by
  intro m g _
  exact (θ_run _ _ _).mono (fun r h => ⟨fun c => (h c).2, sem_eq_zero_of_no_sems rfl _⟩) (Cert.Reference2Ideal.Value.run m g)

end Cert.Mixer

end
-- ==== Proof.Peer.lean ====
module

public import proofs.«01_k».proof.Defs
public import proofs.«01_k».proof.Proof.Gen.Kernel2Ideal.Frame
public import proofs.«01_k».proof.Proof.Gen.Kernel2Ideal
public import proofs.«01_k».proof.Proof.Chosen
public import Idealize.ShloMosaic.Lib.WholeRead
public import Idealize.ShloMosaic.Lib.Pointwise
public import Idealize.ShloMosaic.Lib.Tactic
public import Idealize.ShloMosaic.Lib.StableHlo.Predicate

/-! The expert-sum call's row addresses. -/

@[expose] public section

set_option maxRecDepth 16384

noncomputable section

open Idealize.ShloMosaic Idealize.ShloMosaic.TcCoe Idealize.SL.Sem

namespace Cert.Mixer.Peer

open Cert.Kernel2Ideal Cert.Kernel2Ideal.Gen

variable {F : FTy → Type} [FloatOps F] (m : (ℓ : Loc nD τ sig) → Buf (Elt F) ℓ)

/-- The row added in every slot, as the host computes it from the slot's number. -/
def slotRow : IVec S1x128 32 :=
  let b : IVec S_ 32 := select (cmpi .eq (constantI S_ 32 8#32) (constantI S_ 32 0#32)) (constantI S_ 32 1#32) (constantI S_ 32 8#32)
  let r : IVec S1x128 32 := Host.remsi (iotaInDim S1x128 32 1) (broadcastInDim S1x128 ![] bcast_S_S1x128 b)
  let n : IVec S1x128 1 := andi (cmpi .ne (cmpi .slt r (broadcastInDim S1x128 ![] bcast_S_S1x128 (constantI S_ 32 0#32))) (broadcastInDim S1x128 ![] bcast_S_S1x128 (cmpi .slt b (constantI S_ 32 0#32)))) (cmpi .ne r (broadcastInDim S1x128 ![] bcast_S_S1x128 (constantI S_ 32 0#32)))
  let q : IVec S1x128 32 := select n (addi r (broadcastInDim S1x128 ![] bcast_S_S1x128 b)) r
  select (cmpi .slt q (broadcastInDim S1x128 ![] bcast_S_S1x128 (constantI S_ 32 4#32))) (broadcastInDim S1x128 ![] bcast_S_S1x128 (constantI S_ 32 4#32)) (broadcastInDim S1x128 ![] bcast_S_S1x128 (constantI S_ 32 0#32))

set_option maxHeartbeats 2000000 in
/-- The array of row addresses the host prepares, from the expert numbers and a row that depends on the slot alone. -/
theorem rows_eq (c : Dev nD) : ∃ X : IVec S1x128 32, V m c main_v9 = addi (muli (m ((c : Thread nD τ).loc main_arg0)) (broadcastInDim S32768x128 ![] bcast_S_S32768x128 (constantI S_ 32 4#32))) (broadcastInDim S32768x128 ![0, 1] bcast_S1x128_S32768x128_0_1 X)
    ∧ ∀ j : Fin 128, X (ix2 0 j) = if j.val % 8 < 4 then 4#32 else 0#32 := by
  refine ⟨slotRow, ?a, ?b⟩
  case a =>
    show StableHlo.after (List.flatten [hostOps0, hostOps0_1, hostOps0_2, hostOps0_3, hostOps0_4]) _ (Proc.devRef .tc main_v9) = _
    simp only [hostOps0, hostOps0_1, hostOps0_2, hostOps0_3, hostOps0_4, List.flatten_cons, List.flatten_nil, List.append_nil, List.cons_append, List.nil_append]
    after_results_simp
    rfl
  case b => decide +kernel

/-- One row address. -/
theorem row_at (c : Dev nD) (p : Fin 32768) (j : Fin 128) : V m c main_v9 (ix2 p j) = rowWord (m ((c : Thread nD τ).loc main_arg0) (ix2 p j)) j := by
  obtain ⟨X, e, hX⟩ := rows_eq m c
  rw [e]
  have h : ∀ (x : IVec S32768x128 32) (X : IVec S1x128 32), addi (muli x (broadcastInDim S32768x128 ![] bcast_S_S32768x128 (constantI S_ 32 4#32))) (broadcastInDim S32768x128 ![0, 1] bcast_S1x128_S32768x128_0_1 X) (ix2 p j) = x (ix2 p j) * 4#32 + X (ix2 0 j) := by
    intro x X
    pointwise
    rfl
  rw [h, hX]
  rfl

/-- A point's blocks: its rows of the addresses. -/
theorem idx0 : ∀ t : Fin cfg0.N, win0_0.index t (0 : Fin 2) = t.val ∧ win0_0.index t (1 : Fin 2) = 0 :=
  (by decide +kernel : ∀ t : Fin grid0.N, _)

/-- One row address in a point's block. -/
theorem blk0 (c : Dev nD) (t : Fin cfg0.N) (ht : t.val < 512) (k : Fin 64) (j : Fin 128) :
    iblk m c 0 t (ix2 k j) = rowWord (m ((c : Thread nD τ).loc main_arg0) (ix2 (⟨64 * t.val + k.val, by omega⟩ : Fin 32768) j)) j := by
  obtain ⟨e0, e1⟩ := idx0 t
  rw [← row_at m c]
  unfold iblk
  rw [View.read_apply]
  show V m c main_v9 _ = _
  congr 1
  funext a
  apply Fin.ext
  match a with
  | ⟨0, _⟩ => show win0_0.index t (0 : Fin 2) * 64 + 1 * k.val = 64 * t.val + k.val; omega
  | ⟨1, _⟩ => show win0_0.index t (1 : Fin 2) * 128 + 1 * j.val = j.val; omega

/-- Where token `k`'s slot `j` lies. -/
abbrev wordOff (k : Fin k0_t1_loop.trips) (j : Fin 128) : Fin 2 → ℕ := ![(Scalar.indexCast (Scf.iv 0#32 1#32 k)).toNat, j.val]
/-- It lies in the block. -/
theorem wordOff_inb (k : Fin k0_t1_loop.trips) (j : Fin 128) (a) : wordOff k j a + S1x1.size a ≤ S64x128.size a := by
  have h0 := k0_off1_inb k 0
  match a with
  | ⟨0, _⟩ => exact h0
  | ⟨1, _⟩ => show j.val + 1 ≤ 128; omega
/-- The word at slot `j` of token `k`. -/
abbrev wordOf {e : EltTy} (arg1 : Memref sig .tc .smem S64x128 e) (X1 : BufTy.Contents (Elt F) arg1.view.ty) (k : Fin k0_t1_loop.trips) (j : Fin 128) : Elt F e :=
  arg1.view.readAt (Elt F) (Rect.unit (s := S64x128) (wordOff k j) S1x1.size (wordOff_inb k j)).toLoadRect X1 (Shape.Idx.first (numel1_S1x1.symm ▸ Nat.one_pos))
/-- The trip's number. -/
theorem trip_val : ∀ k : Fin k0_t1_loop.trips, k.val < 64 ∧ (Scalar.indexCast (Scf.iv 0#32 1#32 k) : Index).toNat = k.val := by decide +kernel
/-- The word at slot `j` of token `k` is the block's entry. -/
theorem wordOf_eq {e : EltTy} (M : Memref sig .tc .smem S64x128 e) (hM : M.IsWhole) (X : S64x128.Idx → Elt F e) (k : Fin k0_t1_loop.trips) (j : Fin 128) :
    wordOf M (hM.unread X) k j = X (ix2 (⟨k.val, (trip_val k).1⟩ : Fin 64) j) := by
  obtain ⟨h1, h2⟩ := trip_val k
  refine (Memref.IsWhole.readAt_unread hM X _ _).trans (congrArg X (funext fun a => Fin.ext ?_))
  match a with
  | ⟨0, _⟩ => show (Scalar.indexCast (Scf.iv 0#32 1#32 k) : Index).toNat + 1 * 0 = k.val; omega
  | ⟨1, _⟩ => show j.val + 1 * 0 = j.val; omega
/-- The rows a word starts at are in the table. -/
abbrev RowIn (w : BitVec 32) : Prop := ∀ a, (![(Scalar.indexCast w : Index).toNat, 0] : Fin 2 → ℕ) a + S8x128.size a ≤ S65544x128.size a
/-- A small word's rows are in the table. -/
theorem rowIn_of_le (w : BitVec 32) (h : w.toNat ≤ 65536) : RowIn w := by
  intro a
  have e := idx_toNat w h
  match a with
  | ⟨0, _⟩ => show (Scalar.indexCast w : Index).toNat + 8 ≤ 65544; omega
  | ⟨1, _⟩ => show 0 + 128 ≤ 128; omega

/-- The precondition bounds every expert number. -/
theorem id_lt (hp : ∀ c : Dev nD, Cert.Pre_chosen.fn (F := F) (m ((c : Thread nD τ).loc main_arg0)) (m ((c : Thread nD τ).loc main_arg1)) (m ((c : Thread nD τ).loc main_arg2)) = fun _ => 1#1)
    (c : Dev nD) (p : Fin 32768) (j : Fin 128) : (m ((c : Thread nD τ).loc main_arg0) (ix2 p j)).toNat < 16384 := chosen_lt _ _ _ (hp c) p j

/-- Under the precondition every word's rows are in the table. -/
theorem rowIn (hp : ∀ c : Dev nD, Cert.Pre_chosen.fn (F := F) (m ((c : Thread nD τ).loc main_arg0)) (m ((c : Thread nD τ).loc main_arg1)) (m ((c : Thread nD τ).loc main_arg2)) = fun _ => 1#1)
    (c : Dev nD) (t : Fin cfg0.N) (k : Fin k0_t1_loop.trips) (j : Fin 128) : RowIn (wordOf (F := F) (ms0_0 t) ((hs0_0 t).unread (iblk m c 0 t)) k j) := by
  have ht : t.val < 512 := t.isLt
  rw [wordOf_eq, blk0 m c t ht]
  exact rowIn_of_le _ (rowWord_le _ j (id_lt m hp c _ j))

/-- Under the precondition every condition the body assumes of its words holds. -/
theorem hyps (hp : ∀ c : Dev nD, Cert.Pre_chosen.fn (F := F) (m ((c : Thread nD τ).loc main_arg0)) (m ((c : Thread nD τ).loc main_arg1)) (m ((c : Thread nD τ).loc main_arg2)) = fun _ => 1#1) : Hyps m :=
  Hyps.of
    (fun c t kq hkq => rowIn m hp c t ⟨kq, hkq⟩ 0)
    (fun c t kq hkq => rowIn m hp c t ⟨kq, hkq⟩ 4)
    (fun c t kq hkq => rowIn m hp c t ⟨kq, hkq⟩ 1)
    (fun c t kq hkq => rowIn m hp c t ⟨kq, hkq⟩ 5)
    (fun c t kq hkq => rowIn m hp c t ⟨kq, hkq⟩ 2)
    (fun c t kq hkq => rowIn m hp c t ⟨kq, hkq⟩ 6)
    (fun c t kq hkq => rowIn m hp c t ⟨kq, hkq⟩ 3)
    (fun c t kq hkq => rowIn m hp c t ⟨kq, hkq⟩ 7)
    (fun c t kq hkq => rowIn m hp c t ⟨kq, hkq⟩ 8)
    (fun c t kq hkq => rowIn m hp c t ⟨kq, hkq⟩ 12)
    (fun c t kq hkq => rowIn m hp c t ⟨kq, hkq⟩ 9)
    (fun c t kq hkq => rowIn m hp c t ⟨kq, hkq⟩ 13)
    (fun c t kq hkq => rowIn m hp c t ⟨kq, hkq⟩ 10)
    (fun c t kq hkq => rowIn m hp c t ⟨kq, hkq⟩ 14)
    (fun c t kq hkq => rowIn m hp c t ⟨kq, hkq⟩ 11)
    (fun c t kq hkq => rowIn m hp c t ⟨kq, hkq⟩ 15)
    (fun c t kq hkq => rowIn m hp c t ⟨kq, hkq⟩ 16)
    (fun c t kq hkq => rowIn m hp c t ⟨kq, hkq⟩ 20)
    (fun c t kq hkq => rowIn m hp c t ⟨kq, hkq⟩ 17)
    (fun c t kq hkq => rowIn m hp c t ⟨kq, hkq⟩ 21)
    (fun c t kq hkq => rowIn m hp c t ⟨kq, hkq⟩ 18)
    (fun c t kq hkq => rowIn m hp c t ⟨kq, hkq⟩ 22)
    (fun c t kq hkq => rowIn m hp c t ⟨kq, hkq⟩ 19)
    (fun c t kq hkq => rowIn m hp c t ⟨kq, hkq⟩ 23)
    (fun c t kq hkq => rowIn m hp c t ⟨kq, hkq⟩ 24)
    (fun c t kq hkq => rowIn m hp c t ⟨kq, hkq⟩ 28)
    (fun c t kq hkq => rowIn m hp c t ⟨kq, hkq⟩ 25)
    (fun c t kq hkq => rowIn m hp c t ⟨kq, hkq⟩ 29)
    (fun c t kq hkq => rowIn m hp c t ⟨kq, hkq⟩ 26)
    (fun c t kq hkq => rowIn m hp c t ⟨kq, hkq⟩ 30)
    (fun c t kq hkq => rowIn m hp c t ⟨kq, hkq⟩ 27)
    (fun c t kq hkq => rowIn m hp c t ⟨kq, hkq⟩ 31)
    (fun c t kq hkq => rowIn m hp c t ⟨kq, hkq⟩ 32)
    (fun c t kq hkq => rowIn m hp c t ⟨kq, hkq⟩ 36)
    (fun c t kq hkq => rowIn m hp c t ⟨kq, hkq⟩ 33)
    (fun c t kq hkq => rowIn m hp c t ⟨kq, hkq⟩ 37)
    (fun c t kq hkq => rowIn m hp c t ⟨kq, hkq⟩ 34)
    (fun c t kq hkq => rowIn m hp c t ⟨kq, hkq⟩ 38)
    (fun c t kq hkq => rowIn m hp c t ⟨kq, hkq⟩ 35)
    (fun c t kq hkq => rowIn m hp c t ⟨kq, hkq⟩ 39)
    (fun c t kq hkq => rowIn m hp c t ⟨kq, hkq⟩ 40)
    (fun c t kq hkq => rowIn m hp c t ⟨kq, hkq⟩ 44)
    (fun c t kq hkq => rowIn m hp c t ⟨kq, hkq⟩ 41)
    (fun c t kq hkq => rowIn m hp c t ⟨kq, hkq⟩ 45)
    (fun c t kq hkq => rowIn m hp c t ⟨kq, hkq⟩ 42)
    (fun c t kq hkq => rowIn m hp c t ⟨kq, hkq⟩ 46)
    (fun c t kq hkq => rowIn m hp c t ⟨kq, hkq⟩ 43)
    (fun c t kq hkq => rowIn m hp c t ⟨kq, hkq⟩ 47)
    (fun c t kq hkq => rowIn m hp c t ⟨kq, hkq⟩ 48)
    (fun c t kq hkq => rowIn m hp c t ⟨kq, hkq⟩ 52)
    (fun c t kq hkq => rowIn m hp c t ⟨kq, hkq⟩ 49)
    (fun c t kq hkq => rowIn m hp c t ⟨kq, hkq⟩ 53)
    (fun c t kq hkq => rowIn m hp c t ⟨kq, hkq⟩ 50)
    (fun c t kq hkq => rowIn m hp c t ⟨kq, hkq⟩ 54)
    (fun c t kq hkq => rowIn m hp c t ⟨kq, hkq⟩ 51)
    (fun c t kq hkq => rowIn m hp c t ⟨kq, hkq⟩ 55)
    (fun c t kq hkq => rowIn m hp c t ⟨kq, hkq⟩ 56)
    (fun c t kq hkq => rowIn m hp c t ⟨kq, hkq⟩ 60)
    (fun c t kq hkq => rowIn m hp c t ⟨kq, hkq⟩ 57)
    (fun c t kq hkq => rowIn m hp c t ⟨kq, hkq⟩ 61)
    (fun c t kq hkq => rowIn m hp c t ⟨kq, hkq⟩ 58)
    (fun c t kq hkq => rowIn m hp c t ⟨kq, hkq⟩ 62)
    (fun c t kq hkq => rowIn m hp c t ⟨kq, hkq⟩ 59)
    (fun c t kq hkq => rowIn m hp c t ⟨kq, hkq⟩ 63)
    (fun c t kq hkq => rowIn m hp c t ⟨kq, hkq⟩ 64)
    (fun c t kq hkq => rowIn m hp c t ⟨kq, hkq⟩ 68)
    (fun c t kq hkq => rowIn m hp c t ⟨kq, hkq⟩ 65)
    (fun c t kq hkq => rowIn m hp c t ⟨kq, hkq⟩ 69)
    (fun c t kq hkq => rowIn m hp c t ⟨kq, hkq⟩ 66)
    (fun c t kq hkq => rowIn m hp c t ⟨kq, hkq⟩ 70)
    (fun c t kq hkq => rowIn m hp c t ⟨kq, hkq⟩ 67)
    (fun c t kq hkq => rowIn m hp c t ⟨kq, hkq⟩ 71)
    (fun c t kq hkq => rowIn m hp c t ⟨kq, hkq⟩ 72)
    (fun c t kq hkq => rowIn m hp c t ⟨kq, hkq⟩ 76)
    (fun c t kq hkq => rowIn m hp c t ⟨kq, hkq⟩ 73)
    (fun c t kq hkq => rowIn m hp c t ⟨kq, hkq⟩ 77)
    (fun c t kq hkq => rowIn m hp c t ⟨kq, hkq⟩ 74)
    (fun c t kq hkq => rowIn m hp c t ⟨kq, hkq⟩ 78)
    (fun c t kq hkq => rowIn m hp c t ⟨kq, hkq⟩ 75)
    (fun c t kq hkq => rowIn m hp c t ⟨kq, hkq⟩ 79)
    (fun c t kq hkq => rowIn m hp c t ⟨kq, hkq⟩ 80)
    (fun c t kq hkq => rowIn m hp c t ⟨kq, hkq⟩ 84)
    (fun c t kq hkq => rowIn m hp c t ⟨kq, hkq⟩ 81)
    (fun c t kq hkq => rowIn m hp c t ⟨kq, hkq⟩ 85)
    (fun c t kq hkq => rowIn m hp c t ⟨kq, hkq⟩ 82)
    (fun c t kq hkq => rowIn m hp c t ⟨kq, hkq⟩ 86)
    (fun c t kq hkq => rowIn m hp c t ⟨kq, hkq⟩ 83)
    (fun c t kq hkq => rowIn m hp c t ⟨kq, hkq⟩ 87)
    (fun c t kq hkq => rowIn m hp c t ⟨kq, hkq⟩ 88)
    (fun c t kq hkq => rowIn m hp c t ⟨kq, hkq⟩ 92)
    (fun c t kq hkq => rowIn m hp c t ⟨kq, hkq⟩ 89)
    (fun c t kq hkq => rowIn m hp c t ⟨kq, hkq⟩ 93)
    (fun c t kq hkq => rowIn m hp c t ⟨kq, hkq⟩ 90)
    (fun c t kq hkq => rowIn m hp c t ⟨kq, hkq⟩ 94)
    (fun c t kq hkq => rowIn m hp c t ⟨kq, hkq⟩ 91)
    (fun c t kq hkq => rowIn m hp c t ⟨kq, hkq⟩ 95)
    (fun c t kq hkq => rowIn m hp c t ⟨kq, hkq⟩ 96)
    (fun c t kq hkq => rowIn m hp c t ⟨kq, hkq⟩ 100)
    (fun c t kq hkq => rowIn m hp c t ⟨kq, hkq⟩ 97)
    (fun c t kq hkq => rowIn m hp c t ⟨kq, hkq⟩ 101)
    (fun c t kq hkq => rowIn m hp c t ⟨kq, hkq⟩ 98)
    (fun c t kq hkq => rowIn m hp c t ⟨kq, hkq⟩ 102)
    (fun c t kq hkq => rowIn m hp c t ⟨kq, hkq⟩ 99)
    (fun c t kq hkq => rowIn m hp c t ⟨kq, hkq⟩ 103)
    (fun c t kq hkq => rowIn m hp c t ⟨kq, hkq⟩ 104)
    (fun c t kq hkq => rowIn m hp c t ⟨kq, hkq⟩ 108)
    (fun c t kq hkq => rowIn m hp c t ⟨kq, hkq⟩ 105)
    (fun c t kq hkq => rowIn m hp c t ⟨kq, hkq⟩ 109)
    (fun c t kq hkq => rowIn m hp c t ⟨kq, hkq⟩ 106)
    (fun c t kq hkq => rowIn m hp c t ⟨kq, hkq⟩ 110)
    (fun c t kq hkq => rowIn m hp c t ⟨kq, hkq⟩ 107)
    (fun c t kq hkq => rowIn m hp c t ⟨kq, hkq⟩ 111)
    (fun c t kq hkq => rowIn m hp c t ⟨kq, hkq⟩ 112)
    (fun c t kq hkq => rowIn m hp c t ⟨kq, hkq⟩ 116)
    (fun c t kq hkq => rowIn m hp c t ⟨kq, hkq⟩ 113)
    (fun c t kq hkq => rowIn m hp c t ⟨kq, hkq⟩ 117)
    (fun c t kq hkq => rowIn m hp c t ⟨kq, hkq⟩ 114)
    (fun c t kq hkq => rowIn m hp c t ⟨kq, hkq⟩ 118)
    (fun c t kq hkq => rowIn m hp c t ⟨kq, hkq⟩ 115)
    (fun c t kq hkq => rowIn m hp c t ⟨kq, hkq⟩ 119)
    (fun c t kq hkq => rowIn m hp c t ⟨kq, hkq⟩ 120)
    (fun c t kq hkq => rowIn m hp c t ⟨kq, hkq⟩ 124)
    (fun c t kq hkq => rowIn m hp c t ⟨kq, hkq⟩ 121)
    (fun c t kq hkq => rowIn m hp c t ⟨kq, hkq⟩ 125)
    (fun c t kq hkq => rowIn m hp c t ⟨kq, hkq⟩ 122)
    (fun c t kq hkq => rowIn m hp c t ⟨kq, hkq⟩ 126)
    (fun c t kq hkq => rowIn m hp c t ⟨kq, hkq⟩ 123)
    (fun c t kq hkq => rowIn m hp c t ⟨kq, hkq⟩ 127)

end Cert.Mixer.Peer

end
-- ==== Proof.Words.lean ====
module

public import Idealize.ShloMosaic.PureOps.Ideal
public import Idealize.ShloMosaic.Lib.Tactic
public import Idealize.ShloMosaic.Lib.Pointwise

/-! The two halves of a word, read as floats. -/

@[expose] public section

noncomputable section

open Idealize.ShloMosaic

namespace Cert.Mixer

/-- A long word whose lower half is zero denotes what its upper half does. -/
theorem ofBits_of_toNat (v : BitVec 32) (x : BitVec 16) (h : v.toNat = x.toNat * 65536) : Ideal.ofBits .f32 v = Ideal.ofBits .bf16 x := by
  have hx := x.isLt
  have hs : (v.extractLsb' (8 + 23) 1) = (x.extractLsb' (8 + 7) 1) := by
    apply BitVec.eq_of_toNat_eq
    simp only [BitVec.extractLsb'_toNat, Nat.shiftRight_eq_div_pow]
    omega
  have he : (v.extractLsb' 23 8).toNat = (x.extractLsb' 7 8).toNat := by
    simp only [BitVec.extractLsb'_toNat, Nat.shiftRight_eq_div_pow]
    omega
  have hf : (v.extractLsb' 0 23).toNat = (x.extractLsb' 0 7).toNat * 65536 := by
    simp only [BitVec.extractLsb'_toNat, Nat.shiftRight_eq_div_pow]
    omega
  have p1 : (2 : ℝ) ^ (-133 : ℤ) = 65536 * (2 : ℝ) ^ (-149 : ℤ) := by
    norm_num
  have p2 : ∀ n : ℤ, (2 : ℝ) ^ (n - 127 - 7 : ℤ) = 65536 * (2 : ℝ) ^ (n - 127 - 23 : ℤ) := by
    intro n
    rw [show (n - 127 - 7 : ℤ) = 16 + (n - 127 - 23) by ring, zpow_add₀ (by norm_num : (2 : ℝ) ≠ 0)]
    norm_num
  show Ideal.ieee 8 23 v = Ideal.ieee 8 7 x
  unfold Ideal.ieee
  simp only [hs, he, hf]
  generalize (x.extractLsb' 7 8).toNat = ex
  generalize (x.extractLsb' 0 7).toNat = fr
  have c1 : (fr * 65536 = 0) = (fr = 0) := by simp
  simp only [c1]
  have b : (2 ^ (8 - 1) - 1 : ℤ) = 127 := by norm_num
  simp only [b]
  congr 2
  · congr 1
    push_cast
    rw [p1]
    ring
  · congr 1
    push_cast
    have := p2 (ex : ℤ)
    rw [this]
    ring

/-- A word shifted up denotes what its lower half does. -/
theorem ofBits_low (w : BitVec 32) : Ideal.ofBits .f32 (IntOp.shli .vector w 16#32) = Ideal.ofBits .bf16 (w.extractLsb' (0 * 16) 16) := by
  apply ofBits_of_toNat
  have e : IntOp.shli .vector w 16#32 = w <<< 16 := by
    simp [IntOp.shli]
  rw [e, BitVec.toNat_shiftLeft, BitVec.extractLsb'_toNat]
  simp only [Nat.shiftLeft_eq, Nat.shiftRight_eq_div_pow]
  omega

/-- A word with its lower half cleared denotes what its upper half does. -/
theorem ofBits_high (w : BitVec 32) : Ideal.ofBits .f32 (IntOp.andi w 4294901760#32) = Ideal.ofBits .bf16 (w.extractLsb' (1 * 16) 16) := by
  apply ofBits_of_toNat
  have e : IntOp.andi w 4294901760#32 = (w >>> 16) <<< 16 := by
    show w &&& 4294901760#32 = _
    ext i hi
    have key : ∀ i : Fin 32, (4294901760#32).getLsbD i.val = decide (16 ≤ i.val) := by decide
    have k := key ⟨i, hi⟩
    rw [BitVec.getElem_eq_testBit_toNat, BitVec.getElem_eq_testBit_toNat]
    show (w &&& 4294901760#32).getLsbD i = ((w >>> 16) <<< 16).getLsbD i
    rw [BitVec.getLsbD_and, BitVec.getLsbD_shiftLeft, BitVec.getLsbD_ushiftRight, k]
    by_cases h : 16 ≤ i
    · simp [h, hi, Nat.not_lt.mpr h]
    · simp [h, Nat.lt_of_not_le h]
  have hw := w.isLt
  rw [e, BitVec.toNat_shiftLeft, BitVec.toNat_ushiftRight, BitVec.extractLsb'_toNat]
  simp only [Nat.shiftLeft_eq, Nat.shiftRight_eq_div_pow]
  omega

end Cert.Mixer

end
-- ==== Proof.Sum.lean ====
module

public import proofs.«01_k».proof.Proof.Peer
public import proofs.«01_k».proof.Proof.Words
public import proofs.«01_k».proof.Proof.Experts
public import proofs.«01_k».proof.Proof.Gen.Kernel2Ideal.Value
public import Idealize.ShloMosaic.Lib.Pipeline.ReadBack
public import Idealize.ShloMosaic.Lib.Claim
public import Idealize.ShloMosaic.Lib.Pointwise
public import Idealize.ShloMosaic.Lib.Tactic
public import Idealize.ShloMosaic.Lib.StableHlo.Predicate

/-! The expert-sum call: what a point's loop stores, and the array the call ends with. -/

@[expose] public section

set_option maxRecDepth 131072

noncomputable section

open Idealize.ShloMosaic Idealize.ShloMosaic.TcCoe Idealize.SL.Sem

namespace Cert.Mixer.Peer

/-- Pieces collected trip by trip are blocks of one array when every trip's are. -/
theorem pieces_trips {s : Shape} {e : EltTy} {Val : EltTy → Type} (G : s.Idx → Val e) (N : ℕ) (L : ℕ → List (View.Piece Val s e)) (T : Fin N → List (View.Piece Val s e))
    (h0 : L 0 = []) (hs : ∀ k : Fin N, L (k.val + 1) = T k ++ L k.val) (hT : ∀ k, View.PiecesOf G (T k)) : ∀ n, n ≤ N → View.PiecesOf G (L n)
  | 0, _ => by rw [h0]; trivial
  | n + 1, h => by
    rw [hs ⟨n, h⟩]
    have ih := pieces_trips G N L T h0 hs hT n (by omega)
    have ht := hT ⟨n, h⟩
    generalize T ⟨n, h⟩ = A at ht ⊢
    induction A with
    | nil => exact ih
    | cons p A iA => exact ⟨ht.1, iA ht.2⟩

open Cert.Kernel2Ideal Cert.Kernel2Ideal.Gen Cert.Kernel2Ideal.Value

/-- The slot of pair `i`'s first expert. -/
abbrev slot (i : ℕ) : ℕ := 8 * (i / 4) + i % 4

section
variable {F : FTy → Type} [FloatOps F] (B : Fin 128 → Vec F S8x128 .i32) (C : Fin 128 → F .f32)

/-- Slot `j`'s rows of the table. -/
abbrev rowsAt (j : ℕ) : Vec F S8x128 .i32 := B ⟨j % 128, Nat.mod_lt _ (by decide)⟩
/-- Slot `j`'s weight. -/
abbrev wtAt (j : ℕ) : F .f32 := C ⟨j % 128, Nat.mod_lt _ (by decide)⟩
/-- The words of pair `i`: the upper half of the block from its first expert, the lower half from its second. -/
def pairW (i : ℕ) : Vec F S8x128 .i32 := select k0_pay1 (rowsAt B (slot i)) (rowsAt B (slot i + 4))
/-- The weights of pair `i`, laid out as its words. -/
def pairC (i : ℕ) : FVec F S8x128 .f32 := select k0_pay1 (broadcast S8x128 (wtAt C (slot i))) (broadcast S8x128 (wtAt C (slot i + 4)))
/-- The words' low halves as floats. -/
def pairLo (i : ℕ) : FVec F S8x128 .f32 := bitcastToFloat .f32 (shli (pairW B i) (broadcast S8x128 16#32))
/-- The words' high halves as floats. -/
def pairHi (i : ℕ) : FVec F S8x128 .f32 := bitcastToFloat .f32 (andi (pairW B i) (broadcast S8x128 4294901760#32))
/-- The low halves of every second pair from `p` on, weighted and summed. -/
def accLo (p : ℕ) : ℕ → FVec F S8x128 .f32
  | 0 => broadcast S8x128 (Scalar.ofBits .f32 0x00000000#32)
  | n + 1 => addf (accLo p n) (mulf (pairLo B (2 * n + p)) (pairC C (2 * n + p)))
/-- The high halves of every second pair from `p` on, weighted and summed. -/
def accHi (p : ℕ) : ℕ → FVec F S8x128 .f32
  | 0 => broadcast S8x128 (Scalar.ofBits .f32 0x00000000#32)
  | n + 1 => addf (accHi p n) (mulf (pairHi B (2 * n + p)) (pairC C (2 * n + p)))
/-- The low halves' sum over all pairs. -/
def sumLo : FVec F S8x128 .f32 := addf (accLo B C 0 32) (accLo B C 1 32)
/-- The high halves' sum over all pairs. -/
def sumHi : FVec F S8x128 .f32 := addf (accHi B C 0 32) (accHi B C 1 32)
/-- A token's block of the result. -/
def tokenBlock : FVec F S8x128 .f32 :=
  select k0_pay1 (addf (sumLo B C) (dynamicRotate 0 4#32 none (sumLo B C) rotates_S8x128_d0)) (addf (sumHi B C) (dynamicRotate 0 4#32 none (sumHi B C) rotates_S8x128_d0))
end

/-- The rows a word starts at. -/
abbrev rowsOf {F : FTy → Type} (arg3 : Memref sig .tc .vmem S65544x128 .i32) (X3 : BufTy.Contents (Elt F) arg3.view.ty) (w : BitVec 32) (h : RowIn w) : Vec F S8x128 .i32 :=
  arg3.view.readAt (Elt F) (Rect.unit (s := S65544x128) ![(Scalar.indexCast w : Index).toNat, 0] S8x128.size h).toLoadRect X3

/-! ### One entry of a token's block -/

/-- A choice between the upper and the lower half of a block. -/
theorem sel_at {e : EltTy} (X Y : Vec Ideal S8x128 e) (s : Fin 8) (l : Fin 128) : select k0_pay1 X Y (ix2 s l) = if s.val < 4 then X (ix2 s l) else Y (ix2 s l) := by
  have h : ∀ (s : Fin 8) (l : Fin 128), k0_pay1 (ix2 s l) = if s.val < 4 then 1#1 else 0#1 := by decide +kernel
  show Scalar.select (k0_pay1 (ix2 s l)) _ _ = _
  rw [h s l]
  split
  · rfl
  · rfl

/-- The block turned by half its rows. -/
theorem rot_at (X : FVec Ideal S8x128 .f32) (s : Fin 8) (l : Fin 128) : dynamicRotate 0 4#32 none X rotates_S8x128_d0 (ix2 s l) = X (ix2 (⟨(s.val + 4) % 8, Nat.mod_lt _ (by decide)⟩ : Fin 8) l) := by
  have e : (⟨(s.val + 8 - 4) % 8, Nat.mod_lt _ (by decide)⟩ : Fin 8) = ⟨(s.val + 4) % 8, Nat.mod_lt _ (by decide)⟩ := Fin.ext (by show (s.val + 8 - 4) % 8 = (s.val + 4) % 8; omega)
  pointwise
  rw [e]

section
variable (B : Fin 128 → Vec Ideal S8x128 .i32) (C : Fin 128 → EReal)

/-- A term of the sums: half `q` of the word in row `s`, lane `l` of slot `j`, weighted. -/
def term (q j : ℕ) (s : Fin 8) (l : Fin 128) : EReal := Ideal.ofBits .bf16 ((rowsAt (F := Ideal) B j (ix2 s l)).extractLsb' (q * 16) 16) * wtAt (F := Ideal) C j
/-- The slot pair `i` reads in row `s`. -/
abbrev slotOf (i : ℕ) (s : Fin 8) : ℕ := if s.val < 4 then slot i else slot i + 4

/-- One product of the low halves. -/
theorem lo_at (i : ℕ) (s : Fin 8) (l : Fin 128) : mulf (pairLo (F := Ideal) B i) (pairC (F := Ideal) C i) (ix2 s l) = term B C 0 (slotOf i s) s l := by
  have e : mulf (pairLo (F := Ideal) B i) (pairC (F := Ideal) C i) (ix2 s l) = Ideal.ofBits .f32 (IntOp.shli .vector (pairW (F := Ideal) B i (ix2 s l)) 16#32) * pairC (F := Ideal) C i (ix2 s l) := rfl
  rw [e, ofBits_low]
  have hc : pairC (F := Ideal) C i (ix2 s l) = if s.val < 4 then wtAt (F := Ideal) C (slot i) else wtAt (F := Ideal) C (slot i + 4) := sel_at (e := .f32) _ _ s l
  rw [hc]
  unfold pairW term slotOf
  rw [sel_at]
  split <;> rfl
/-- One product of the high halves. -/
theorem hi_at (i : ℕ) (s : Fin 8) (l : Fin 128) : mulf (pairHi (F := Ideal) B i) (pairC (F := Ideal) C i) (ix2 s l) = term B C 1 (slotOf i s) s l := by
  have e : mulf (pairHi (F := Ideal) B i) (pairC (F := Ideal) C i) (ix2 s l) = Ideal.ofBits .f32 (IntOp.andi (pairW (F := Ideal) B i (ix2 s l)) 4294901760#32) * pairC (F := Ideal) C i (ix2 s l) := rfl
  rw [e, ofBits_high]
  have hc : pairC (F := Ideal) C i (ix2 s l) = if s.val < 4 then wtAt (F := Ideal) C (slot i) else wtAt (F := Ideal) C (slot i + 4) := sel_at (e := .f32) _ _ s l
  rw [hc]
  unfold pairW term slotOf
  rw [sel_at]
  split <;> rfl

/-- The low halves' partial sums. -/
theorem accLo_at (p : ℕ) (s : Fin 8) (l : Fin 128) : ∀ n, accLo (F := Ideal) B C p n (ix2 s l) = ∑ i ∈ Finset.range n, term B C 0 (slotOf (2 * i + p) s) s l
  | 0 => Ideal.ofBits_zero_f32
  | n + 1 => by
    rw [Finset.sum_range_succ, ← accLo_at p s l n, ← lo_at]
    rfl
/-- The high halves' partial sums. -/
theorem accHi_at (p : ℕ) (s : Fin 8) (l : Fin 128) : ∀ n, accHi (F := Ideal) B C p n (ix2 s l) = ∑ i ∈ Finset.range n, term B C 1 (slotOf (2 * i + p) s) s l
  | 0 => Ideal.ofBits_zero_f32
  | n + 1 => by
    rw [Finset.sum_range_succ, ← accHi_at p s l n, ← hi_at]
    rfl

/-- The even pairs' and the odd pairs' sums are the sum of all. -/
theorem sum_parity (f : ℕ → EReal) : ∀ n, (∑ i ∈ Finset.range n, f (2 * i + 0)) + (∑ i ∈ Finset.range n, f (2 * i + 1)) = ∑ i ∈ Finset.range (2 * n), f i
  | 0 => by simp
  | n + 1 => by
    rw [Finset.sum_range_succ, Finset.sum_range_succ, show 2 * (n + 1) = 2 * n + 1 + 1 by ring, Finset.sum_range_succ, Finset.sum_range_succ, ← sum_parity f n]
    show _ + f (2 * n) + _ = _
    abel
/-- The pairs' slots are all slots. -/
theorem sum_slots (f : ℕ → EReal) : ∀ n, (∑ i ∈ Finset.range (4 * n), f (slot i)) + (∑ i ∈ Finset.range (4 * n), f (slot i + 4)) = ∑ j ∈ Finset.range (8 * n), f j
  | 0 => by simp
  | n + 1 => by
    have h : ∀ r, r < 4 → slot (4 * n + r) = 8 * n + r := fun r hr => by unfold slot; omega
    have h0 := h 0 (by omega)
    have h1 := h 1 (by omega)
    have h2 := h 2 (by omega)
    have h3 := h 3 (by omega)
    rw [show 4 * (n + 1) = 4 * n + 1 + 1 + 1 + 1 by ring, show 8 * (n + 1) = 8 * n + 1 + 1 + 1 + 1 + 1 + 1 + 1 + 1 by ring]
    simp only [Finset.sum_range_succ, add_assoc (4 * n), add_assoc (8 * n), Nat.reduceAdd]
    rw [h1, h2, h3, show slot (4 * n) = 8 * n from h0, ← sum_slots f n]
    simp only [add_assoc (8 * n), Nat.reduceAdd]
    abel

/-- The low halves' sum. -/
theorem sumLo_at (s : Fin 8) (l : Fin 128) : sumLo (F := Ideal) B C (ix2 s l) = ∑ i ∈ Finset.range 64, term B C 0 (slotOf i s) s l := by
  have e : sumLo (F := Ideal) B C (ix2 s l) = accLo (F := Ideal) B C 0 32 (ix2 s l) + accLo (F := Ideal) B C 1 32 (ix2 s l) := rfl
  rw [e, accLo_at, accLo_at]
  exact sum_parity (fun i => term B C 0 (slotOf i s) s l) 32
/-- The high halves' sum. -/
theorem sumHi_at (s : Fin 8) (l : Fin 128) : sumHi (F := Ideal) B C (ix2 s l) = ∑ i ∈ Finset.range 64, term B C 1 (slotOf i s) s l := by
  have e : sumHi (F := Ideal) B C (ix2 s l) = accHi (F := Ideal) B C 0 32 (ix2 s l) + accHi (F := Ideal) B C 1 32 (ix2 s l) := rfl
  rw [e, accHi_at, accHi_at]
  exact sum_parity (fun i => term B C 1 (slotOf i s) s l) 32

/-- A token's block, where every slot's rows hold its expert's four rows in the half that is read. -/
theorem tokenBlock_at (f : ℕ → ℕ → Fin 4 → EReal) (s : Fin 8) (l : Fin 128)
    (hf : ∀ (q j : ℕ) (r : Fin 4), term B C q j (⟨if j % 8 < 4 then r.val else r.val + 4, by split <;> omega⟩ : Fin 8) l = f q j r) :
    tokenBlock (F := Ideal) B C (ix2 s l) = ∑ j ∈ Finset.range 128, f (s.val / 4) j (⟨s.val % 4, Nat.mod_lt _ (by decide)⟩ : Fin 4) := by
  have up : ∀ (q i : ℕ) (r : Fin 4), term B C q (slotOf i (⟨r.val, by omega⟩ : Fin 8)) (⟨r.val, by omega⟩ : Fin 8) l = f q (slot i) r := by
    intro q i r
    have g : slotOf i (⟨r.val, by omega⟩ : Fin 8) = slot i := if_pos r.isLt
    rw [g, ← hf]
    congr 1
    exact Fin.ext (by show r.val = if slot i % 8 < 4 then _ else _; rw [if_pos (by unfold slot; omega)])
  have dn : ∀ (q i : ℕ) (r : Fin 4), term B C q (slotOf i (⟨r.val + 4, by omega⟩ : Fin 8)) (⟨r.val + 4, by omega⟩ : Fin 8) l = f q (slot i + 4) r := by
    intro q i r
    have g : slotOf i (⟨r.val + 4, by omega⟩ : Fin 8) = slot i + 4 := if_neg (by show ¬ (r.val + 4 < 4); omega)
    rw [g, ← hf]
    congr 1
    exact Fin.ext (by show r.val + 4 = if (slot i + 4) % 8 < 4 then _ else _; rw [if_neg (by unfold slot; omega)])
  have e : tokenBlock (F := Ideal) B C (ix2 s l) = if s.val < 4 then addf (sumLo (F := Ideal) B C) (dynamicRotate 0 4#32 none (sumLo (F := Ideal) B C) rotates_S8x128_d0) (ix2 s l)
      else addf (sumHi (F := Ideal) B C) (dynamicRotate 0 4#32 none (sumHi (F := Ideal) B C) rotates_S8x128_d0) (ix2 s l) := sel_at (e := .f32) _ _ s l
  have a1 : addf (sumLo (F := Ideal) B C) (dynamicRotate 0 4#32 none (sumLo (F := Ideal) B C) rotates_S8x128_d0) (ix2 s l) = sumLo (F := Ideal) B C (ix2 s l) + dynamicRotate 0 4#32 none (sumLo (F := Ideal) B C) rotates_S8x128_d0 (ix2 s l) := rfl
  have a2 : addf (sumHi (F := Ideal) B C) (dynamicRotate 0 4#32 none (sumHi (F := Ideal) B C) rotates_S8x128_d0) (ix2 s l) = sumHi (F := Ideal) B C (ix2 s l) + dynamicRotate 0 4#32 none (sumHi (F := Ideal) B C) rotates_S8x128_d0 (ix2 s l) := rfl
  rw [e, a1, a2, rot_at, rot_at]
  by_cases h : s.val < 4
  · rw [if_pos h, sumLo_at, sumLo_at]
    have s1 : s = (⟨(⟨s.val % 4, Nat.mod_lt _ (by decide)⟩ : Fin 4).val, by show s.val % 4 < 8; omega⟩ : Fin 8) := Fin.ext (by show s.val = s.val % 4; omega)
    have s2 : (⟨(s.val + 4) % 8, Nat.mod_lt _ (by decide)⟩ : Fin 8) = (⟨(⟨s.val % 4, Nat.mod_lt _ (by decide)⟩ : Fin 4).val + 4, by show s.val % 4 + 4 < 8; omega⟩ : Fin 8) := Fin.ext (by show (s.val + 4) % 8 = s.val % 4 + 4; omega)
    have q0 : s.val / 4 = 0 := by omega
    rw [s2, q0, ← sum_slots (fun j => f 0 j _) 16]
    refine congrArg₂ (· + ·) (Finset.sum_congr rfl fun i _ => ?_) (Finset.sum_congr rfl fun i _ => dn 0 i _)
    conv_lhs => rw [s1]
    exact up 0 i _
  · rw [if_neg h, sumHi_at, sumHi_at]
    have s1 : s = (⟨(⟨s.val % 4, Nat.mod_lt _ (by decide)⟩ : Fin 4).val + 4, by show s.val % 4 + 4 < 8; omega⟩ : Fin 8) := Fin.ext (by show s.val = s.val % 4 + 4; omega)
    have s2 : (⟨(s.val + 4) % 8, Nat.mod_lt _ (by decide)⟩ : Fin 8) = (⟨(⟨s.val % 4, Nat.mod_lt _ (by decide)⟩ : Fin 4).val, by show s.val % 4 < 8; omega⟩ : Fin 8) := Fin.ext (by show (s.val + 4) % 8 = s.val % 4; omega)
    have q1 : s.val / 4 = 1 := by omega
    rw [s2, q1, ← sum_slots (fun j => f 1 j _) 16, add_comm]
    refine congrArg₂ (· + ·) (Finset.sum_congr rfl fun i _ => up 1 i _) (Finset.sum_congr rfl fun i _ => ?_)
    conv_lhs => rw [s1]
    exact dn 1 i _
end

variable (m : (ℓ : Loc nD τ sig) → Buf (Elt Ideal) ℓ)

/-- A point's blocks: its rows of the weights, all of the table, and its rows of the result. -/
theorem idx123 : ∀ t : Fin cfg0.N, win0_1.index t (0 : Fin 2) = t.val ∧ win0_1.index t (1 : Fin 2) = 0 ∧ win0_2.index t (0 : Fin 2) = 0 ∧ win0_2.index t (1 : Fin 2) = 0
      ∧ win0_3.index t (0 : Fin 2) = t.val ∧ win0_3.index t (1 : Fin 2) = 0 :=
  (by decide +kernel : ∀ t : Fin grid0.N, _)

/-- One weight in a point's block. -/
theorem blk1 (c : Dev nD) (t : Fin cfg0.N) (ht : t.val < 512) (k : Fin 64) (j : Fin 128) :
    iblk m c 1 t (ix2 k j) = m ((c : Thread nD τ).loc main_arg1) (ix2 (⟨64 * t.val + k.val, by omega⟩ : Fin 32768) j) := by
  obtain ⟨e0, e1, e2, e3, e4, e5⟩ := idx123 t
  unfold iblk
  rw [View.read_apply]
  show V m c main_arg1 _ = _
  rw [V_main_arg1]
  congr 1
  funext a
  apply Fin.ext
  match a with
  | ⟨0, _⟩ => show win0_1.index t (0 : Fin 2) * 64 + 1 * k.val = 64 * t.val + k.val; omega
  | ⟨1, _⟩ => show win0_1.index t (1 : Fin 2) * 128 + 1 * j.val = j.val; omega
/-- One word of the table. -/
theorem blk2 (c : Dev nD) (t : Fin cfg0.N) (k : Fin 65544) (j : Fin 128) :
    iblk m c 2 t (ix2 k j) = m ((c : Thread nD τ).loc main_arg2) (ix2 k j) := by
  obtain ⟨e0, e1, e2, e3, e4, e5⟩ := idx123 t
  unfold iblk
  rw [View.read_apply]
  show V m c main_arg2 _ = _
  rw [V_main_arg2]
  congr 1
  funext a
  apply Fin.ext
  match a with
  | ⟨0, _⟩ => show win0_2.index t (0 : Fin 2) * 65544 + 1 * k.val = k.val; omega
  | ⟨1, _⟩ => show win0_2.index t (1 : Fin 2) * 128 + 1 * j.val = j.val; omega

/-- One word of the rows a word starts at. -/
theorem rowsOf_at (M : Memref sig .tc .vmem S65544x128 .i32) (hM : M.IsWhole) (X : S65544x128.Idx → Elt Ideal .i32) (w : BitVec 32) (h : RowIn w) (hw : w.toNat ≤ 65536) (s : Fin 8) (l : Fin 128) :
    rowsOf (F := Ideal) M (hM.unread X) w h (ix2 s l) = X (ix2 (⟨w.toNat + s.val, by omega⟩ : Fin 65544) l) := by
  have e := idx_toNat w hw
  refine (Memref.IsWhole.readAt_unread hM X _ _).trans (congrArg X (funext fun a => Fin.ext ?_))
  match a with
  | ⟨0, _⟩ => show (Scalar.indexCast w : Index).toNat + 1 * s.val = w.toNat + s.val; omega
  | ⟨1, _⟩ => show 0 + 1 * l.val = l.val; omega

/-- The precondition on the arguments. -/
abbrev Chosen : Prop := ∀ c : Dev nD, Cert.Pre_chosen.fn (F := Ideal) (m ((c : Thread nD τ).loc main_arg0)) (m ((c : Thread nD τ).loc main_arg1)) (m ((c : Thread nD τ).loc main_arg2)) = fun _ => 1#1

/-- One entry of what a trip stores. -/
theorem token_eq (hp : Chosen m) (c : Dev nD) (t : Fin cfg0.N) (ht : t.val < 512) (k : Fin k0_t1_loop.trips) (s : Fin 8) (l : Fin 128) :
    tokenBlock (F := Ideal) (fun j => rowsOf (F := Ideal) (ms0_2 t) ((hs0_2 t).unread (iblk m c 2 t)) (wordOf (F := Ideal) (ms0_0 t) ((hs0_0 t).unread (iblk m c 0 t)) k j) (rowIn m hp c t k j)) (fun j => wordOf (F := Ideal) (ms0_1 t) ((hs0_1 t).unread (iblk m c 1 t)) k j) (ix2 s l)
      = peerRes (m ((c : Thread nD τ).loc main_arg0)) (m ((c : Thread nD τ).loc main_arg1)) (m ((c : Thread nD τ).loc main_arg2)) (⟨64 * t.val + k.val, by have := (trip_val k).1; omega⟩ : Fin 32768) s l := by
  have hk := (trip_val k).1
  rw [tokenBlock_at _ _ (fun q j r => peerTerm (m ((c : Thread nD τ).loc main_arg0)) (m ((c : Thread nD τ).loc main_arg1)) (m ((c : Thread nD τ).loc main_arg2)) (⟨64 * t.val + k.val, by omega⟩ : Fin 32768) l q (⟨j % 128, Nat.mod_lt _ (by decide)⟩ : Fin 128) r) s l ?_]
  · rw [Finset.sum_range]
    unfold peerRes
    refine Finset.sum_congr rfl fun j _ => ?_
    have ej : (⟨j.val % 128, Nat.mod_lt _ (by decide)⟩ : Fin 128) = j := Fin.ext (Nat.mod_eq_of_lt j.isLt)
    simp only [ej]
  · intro q j r
    unfold term rowsAt wtAt peerTerm
    generalize hj : (⟨j % 128, Nat.mod_lt _ (by decide)⟩ : Fin 128) = J
    have h8 : j % 8 = J.val % 8 := by
      subst hj
      show j % 8 = j % 128 % 8
      omega
    have hid := id_lt m hp c (⟨64 * t.val + k.val, by omega⟩ : Fin 32768) J
    have hw : wordOf (F := Ideal) (e := .i32) (ms0_0 t) ((hs0_0 t).unread (iblk m c 0 t)) k J = rowWord (m ((c : Thread nD τ).loc main_arg0) (ix2 (⟨64 * t.val + k.val, by omega⟩ : Fin 32768) J)) J :=
      (wordOf_eq _ _ _ k J).trans (blk0 m c t ht _ J)
    have hc : wordOf (F := Ideal) (e := .f32) (ms0_1 t) ((hs0_1 t).unread (iblk m c 1 t)) k J = m ((c : Thread nD τ).loc main_arg1) (ix2 (⟨64 * t.val + k.val, by omega⟩ : Fin 32768) J) :=
      (wordOf_eq _ _ _ k J).trans (blk1 m c t ht _ J)
    have hn := rowWord_toNat _ J hid
    rw [← hw] at hn
    have hle : (wordOf (F := Ideal) (e := .i32) (ms0_0 t) ((hs0_0 t).unread (iblk m c 0 t)) k J).toNat ≤ 65536 := by
      rw [hw]
      exact rowWord_le _ J hid
    beta_reduce
    rw [hc, mul_comm]
    congr 1
    unfold feat
    refine congrArg (fun v : BitVec 32 => Ideal.ofBits .bf16 (v.extractLsb' (q * 16) 16)) ?_
    refine (rowsOf_at (ms0_2 t) (hs0_2 t) (iblk m c 2 t) _ _ hle _ l).trans ((blk2 m c t _ l).trans (congrArg (m ((c : Thread nD τ).loc main_arg2)) (congrArg (fun a : Fin 65544 => (ix2 a l : S65544x128.Idx)) (Fin.ext ?_))))
    show _ + (if j % 8 < 4 then r.val else r.val + 4) = 4 + 4 * ((m ((c : Thread nD τ).loc main_arg0) (ix2 (⟨64 * t.val + k.val, by omega⟩ : Fin 32768) J)).toNat % 16384) + r.val
    rw [hn, h8, Nat.mod_eq_of_lt hid]
    split <;> omega

/-- Where a trip stores. -/
theorem off385_val : ∀ k : Fin k0_t1_loop.trips, k0_off385 k 0 = 8 * k.val ∧ k0_off385 k 1 = 0 := by decide +kernel

/-- A point's block of the result. -/
def blockRes (c : Dev nD) (t : Fin cfg0.N) (ht : t.val < 512) : S512x128.Idx → EReal := fun y =>
  peerRes (m ((c : Thread nD τ).loc main_arg0)) (m ((c : Thread nD τ).loc main_arg1)) (m ((c : Thread nD τ).loc main_arg2)) (⟨64 * t.val + (y 0).val / 8, by have : (y 0).val < 512 := (y 0).isLt; omega⟩ : Fin 32768) (⟨(y 0).val % 8, Nat.mod_lt _ (by decide)⟩ : Fin 8) (⟨(y 1).val, (y 1).isLt⟩ : Fin 128)

/-- An entry a trip stores is that entry of the point's block. -/
theorem stored_eq (hp : Chosen m) (c : Dev nD) (t : Fin cfg0.N) (ht : t.val < 512) (k : Fin k0_t1_loop.trips) (x : S8x128.Idx) :
    tokenBlock (F := Ideal) (fun j => rowsOf (F := Ideal) (ms0_2 t) ((hs0_2 t).unread (iblk m c 2 t)) (wordOf (F := Ideal) (ms0_0 t) ((hs0_0 t).unread (iblk m c 0 t)) k j) (rowIn m hp c t k j)) (fun j => wordOf (F := Ideal) (ms0_1 t) ((hs0_1 t).unread (iblk m c 1 t)) k j) x
      = blockRes m c t ht ((Rect.unit (s := S512x128) (k0_off385 k) S8x128.size (k0_off385_inb k)).emb x) := by
  obtain ⟨e0, e1⟩ := off385_val k
  have hk := (trip_val k).1
  have h0 : (x 0).val < 8 := (x 0).isLt
  have h1 : (x 1).val < 128 := (x 1).isLt
  have ex : x = ix2 (⟨(x 0).val, h0⟩ : Fin 8) (⟨(x 1).val, h1⟩ : Fin 128) := by
    funext a
    match a with
    | ⟨0, _⟩ => rfl
    | ⟨1, _⟩ => rfl
  refine (congrArg _ ex).trans ((token_eq m hp c t ht k _ _).trans ?_)
  have b0 : ((Rect.unit (s := S512x128) (k0_off385 k) S8x128.size (k0_off385_inb k)).emb x 0).val = k0_off385 k 0 + 1 * (x 0).val := rfl
  have b1 : ((Rect.unit (s := S512x128) (k0_off385 k) S8x128.size (k0_off385_inb k)).emb x 1).val = k0_off385 k 1 + 1 * (x 1).val := rfl
  rw [e0] at b0
  rw [e1] at b1
  unfold blockRes
  congr 1
  · exact Fin.ext (by show 64 * t.val + k.val = 64 * t.val + _ / 8; rw [b0]; omega)
  · exact Fin.ext (by show (x 0).val = _ % 8; rw [b0]; omega)
  · exact Fin.ext (by show (x 1).val = _; rw [b1]; omega)

set_option maxHeartbeats 4000000 in
/-- What a point leaves in its block. -/
theorem outs_eq (hp : Chosen m) (hH : Hyps m) (c : Dev nD) (t : Fin cfg0.N) (ht : t.val < 512) (y : S512x128.Idx) : outsAt0 m hH c t y = blockRes m c t ht y := by
  unfold outsAt0 out0_A_3
  have hc := cover0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t) (Hyps.c72 hH c t) (Hyps.c73 hH c t) (Hyps.c74 hH c t) (Hyps.c75 hH c t) (Hyps.c76 hH c t) (Hyps.c77 hH c t) (Hyps.c78 hH c t) (Hyps.c79 hH c t) (Hyps.c80 hH c t) (Hyps.c81 hH c t) (Hyps.c82 hH c t) (Hyps.c83 hH c t) (Hyps.c84 hH c t) (Hyps.c85 hH c t) (Hyps.c86 hH c t) (Hyps.c87 hH c t) (Hyps.c88 hH c t) (Hyps.c89 hH c t) (Hyps.c90 hH c t) (Hyps.c91 hH c t) (Hyps.c92 hH c t) (Hyps.c93 hH c t) (Hyps.c94 hH c t) (Hyps.c95 hH c t) (Hyps.c96 hH c t) (Hyps.c97 hH c t) (Hyps.c98 hH c t) (Hyps.c99 hH c t) (Hyps.c100 hH c t) (Hyps.c101 hH c t) (Hyps.c102 hH c t) (Hyps.c103 hH c t) (Hyps.c104 hH c t) (Hyps.c105 hH c t) (Hyps.c106 hH c t) (Hyps.c107 hH c t) (Hyps.c108 hH c t) (Hyps.c109 hH c t) (Hyps.c110 hH c t) (Hyps.c111 hH c t) (Hyps.c112 hH c t) (Hyps.c113 hH c t) (Hyps.c114 hH c t) (Hyps.c115 hH c t) (Hyps.c116 hH c t) (Hyps.c117 hH c t) (Hyps.c118 hH c t) (Hyps.c119 hH c t) (Hyps.c120 hH c t) (Hyps.c121 hH c t) (Hyps.c122 hH c t) (Hyps.c123 hH c t) (Hyps.c124 hH c t) (Hyps.c125 hH c t) (Hyps.c126 hH c t) (Hyps.c127 hH c t)
  generalize hL : kernelRun0_A (F := Ideal) c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = R at hc ⊢
  have hpc : View.PiecesOf (blockRes m c t ht) R.1 := by
    subst hL
    unfold kernelRun0_A
    refine pieces_trips (blockRes m c t ht) 64 _ _ ?_ (fun k => pb_k0_t1_succ (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ k) (fun k => ?_) 64 (le_refl _)
    · rfl
    · unfold tripL_k0_t1
      unfold trip_k0_t1
      refine ⟨fun x => ?_, trivial⟩
      exact stored_eq m hp c t ht k x
  refine (congrFun (View.read_writes_eq_canon _ _ _ hc) y).trans ?_
  exact View.canon_apply_of_pieces _ R.1 hpc.mem y (hc y)

/-- What a point writes back. -/
theorem flush_eq (hp : Chosen m) (hH : Hyps m) (c : Dev nD) (t : Fin cfg0.N) : (dats m hH 0 c).flushed 3 t
    = ((cfg0.win 3).blk t).view.read (Elt Ideal) (peerArr (m ((c : Thread nD τ).loc main_arg0)) (m ((c : Thread nD τ).loc main_arg1)) (m ((c : Thread nD τ).loc main_arg2))) := by
  rw [flushed3]
  have ht : t.val < 512 := t.isLt
  obtain ⟨e0, e1, e2, e3, e4, e5⟩ := idx123 t
  funext y
  have hy0 : (y 0).val < 512 := (y 0).isLt
  have hy1 : (y 1).val < 128 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 128 + 1 * (y 1).val := rfl
  show outsAt0 m hH c t ((cfg0.win 3).xinj (grid0.coords t) y) = peerArr _ _ _ (((cfg0.win 3).blk t).view.emb y)
  rw [outs_eq m hp hH c t ht]
  unfold blockRes peerArr
  have c0 : ((cfg0.win 3).xinj (grid0.coords t) y 0).val = (y 0).val := rfl
  have c1 : ((cfg0.win 3).xinj (grid0.coords t) y 1).val = (y 1).val := rfl
  congr 1
  · exact Fin.ext (by show 64 * t.val + _ / 8 = _ / 8; rw [hb0, c0]; omega)
  · exact Fin.ext (by show _ % 8 = _ % 8; rw [hb0, c0]; omega)
  · exact Fin.ext (by show _ = _; rw [hb1, c1]; omega)

/-- Every entry is in some point's block. -/
theorem cover (i : S262144x128.Idx) : ∃ t : Fin cfg0.N, (cfg0.win 3).flush t = true ∧ i ∈ ((cfg0.win 3).blk t).view.set := by
  have h0 : (i 0).val < 262144 := (i 0).isLt
  have h1 : (i 1).val < 128 := (i 1).isLt
  have hN : cfg0.N = 512 := by decide +kernel
  have hlt : (i 0).val / 512 < cfg0.N := by omega
  obtain ⟨e0, e1, e2, e3, e4, e5⟩ := idx123 ⟨(i 0).val / 512, hlt⟩
  refine ⟨⟨(i 0).val / 512, hlt⟩, flush0_3 _, ?_⟩
  show i ∈ ((View.whole main_v10).slice (win0_3.rect ⟨(i 0).val / 512, hlt⟩)).set
  rw [View.set_slice_whole, Rect.mem_set_unit]
  intro a
  match a with
  | ⟨0, _⟩ => show win0_3.index _ (0 : Fin 2) * 512 ≤ (i 0).val ∧ (i 0).val < win0_3.index _ (0 : Fin 2) * 512 + 512; rw [e4]; show (i 0).val / 512 * 512 ≤ _ ∧ _ < (i 0).val / 512 * 512 + 512; omega
  | ⟨1, _⟩ => show win0_3.index _ (1 : Fin 2) * 128 ≤ (i 1).val ∧ (i 1).val < win0_3.index _ (1 : Fin 2) * 128 + 128; rw [e5]; omega

/-- The array the call ends with. -/
theorem arr_eq (hp : Chosen m) (hH : Hyps m) (c : Dev nD) : (dats m hH 0 c).arrAt 3 cfg0.N
    = peerArr (m ((c : Thread nD τ).loc main_arg0)) (m ((c : Thread nD τ).loc main_arg1)) (m ((c : Thread nD τ).loc main_arg2)) :=
  (dats m hH 0 c).arrAt_eq_of_cover 3 _ (fun t _ => flush_eq m hp hH c t) cover

/-- The expert-sum call runs to its end, leaves its arguments as they were and every counter at zero. -/
theorem frame : Cert.quiescent_Kernel2Ideal (hKernel2Ideal := Cert.Kernel2Ideal.Gen.facts) (hPre_chosen := Cert.Pre_chosen.Gen.facts) :=
  fun m g hp => Cert.Kernel2Ideal.Gen.frame m g (hyps m hp)

/-- The expert-sum call and its reference end with equal results. -/
theorem algebraic : Cert.algebraic_Kernel2Ideal_Reference2Ideal (hKernel2Ideal := Cert.Kernel2Ideal.Gen.facts)
    (hReference2Ideal := Cert.Reference2Ideal.Gen.facts) (hPre_chosen := Cert.Pre_chosen.Gen.facts) := by
  intro m g m' g' hp hag
  have hH : Hyps m := hyps m hp
  refine ⟨fun c => peerArr (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run _ _ _).mono (fun r h c => ⟨(h c).1.trans (arr_eq m hp hH c), (h c).2⟩) (Cert.Kernel2Ideal.Value.run_blocks m g hH)
  · refine (θ_run _ _ _).mono (fun r h c => ⟨(h c).1.trans ?_, (h c).2⟩) (Cert.Reference2Ideal.Value.run m' g')
    obtain ⟨e0, e1, e2⟩ := hag c
    rw [e0, e1, e2]
    exact ref2_eq _ _ _ (fun p j => id_lt m hp c p j)

end Cert.Mixer.Peer

end
-- ==== Proof.Final.lean ====
module

public import proofs.«01_k».proof.Defs
public import proofs.«01_k».proof.Proof.Gen.Kernel3Ideal.Value
public import proofs.«01_k».proof.Proof.Gen.Kernel3Ideal
public import proofs.«01_k».proof.Proof.Gen.Reference3Ideal.Run
public import proofs.«01_k».proof.Proof.Gen.Reference3Ideal
public import Idealize.ShloMosaic.Lib.Quiescent
public import Idealize.ShloMosaic.Lib.Claim
public import Idealize.ShloMosaic.Lib.Pointwise
public import Idealize.ShloMosaic.Lib.Tactic
public import Idealize.ShloMosaic.Lib.StableHlo.Predicate

/-! The last call normalises the rows of a sum of two arrays, each read as a matrix, as the reference does. -/

@[expose] public section

set_option maxRecDepth 16384

noncomputable section

open Idealize.ShloMosaic Idealize.ShloMosaic.TcCoe Idealize.SL.Sem
open Idealize.ShloMosaic.Pipeline (Dat)

namespace Cert.Mixer

/-- Entry `d` of the normalised row `x`, scaled by the gain `g`. -/
def nrm (x g : Fin 1024 → EReal) (d : Fin 1024) : EReal :=
  x d * Ideal.rsqrt (Ideal.div (∑ k, x k * x k) (Ideal.ofBits .f32 0x44800000#32) + Ideal.ofBits .f32 0x358637BD#32) * g d

section
open Cert.KernelIdeal Cert.Kernel3Ideal Cert.Kernel3Ideal.Gen Cert.Kernel3Ideal.Value

/-- What the last call ends with: the rows of `h + y`, normalised. -/
def resF (h y : FVec Ideal Cert.Kernel3Ideal.S32768x1024 .f32) (g : FVec Ideal Cert.Kernel3Ideal.S1024 .f32) : FVec Ideal Cert.Kernel3Ideal.S32768x1024 .f32 :=
  fun i => nrm (fun k => h (ix2 (i 0 : Fin 32768) k) + y (ix2 (i 0 : Fin 32768) k)) (fun k => g (ix1 k)) (i 1 : Fin 1024)

end

section
open Cert.Kernel3Ideal Cert.Kernel3Ideal.Gen Cert.Kernel3Ideal.Value

/-- One entry of what a block stores. -/
theorem pay3_at (P0 P1 : Vec Ideal S1024x1024 .f32) (P2 : Vec Ideal S1x1024 .f32) (r d : Fin 1024) :
    k0_pay1 (F := Ideal) P0 P1 P2 (ix2 r d) = nrm (fun k => P0 (ix2 r k) + P1 (ix2 r k)) (fun k => P2 (ix2 0 k)) d := by
  rw [lay3_0_eq]
  unfold nrm
  pointwise

variable (m : (ℓ : Loc nD τ sig) → Buf (Elt Ideal) ℓ)

/-- The gain's preparation at one element. -/
theorem fin_v0_pre (x : FVec Ideal S1024 .f32) (k : Fin 1024) : (shapeCast S1x1024 x shapeCasts_S1024_S1x1024 : FVec Ideal S1x1024 .f32) (ix2 0 k) = x (ix1 k) := by
  pointwise
/-- The gain as the last call receives it. -/
theorem fin_v0 (c : Dev nD) (k : Fin 1024) : V m c main_v2 (ix2 0 k) = m ((c : Thread nD τ).loc main_arg2) (ix1 k) := by
  have e : V m c main_v2 = (fun x : FVec Ideal S1024 .f32 => (shapeCast S1x1024 x shapeCasts_S1024_S1x1024 : FVec Ideal S1x1024 .f32)) (m ((c : Thread nD τ).loc main_arg2)) := by
    show StableHlo.after hostOps0 _ (Proc.devRef .tc main_v2) = _
    after_results
    rfl
  rw [e]
  exact fin_v0_pre _ k

/-- The first array as a matrix. -/
@[irreducible] def finH (c : Dev nD) : FVec Ideal S32768x1024 .f32 := shapeCast S32768x1024 (m ((c : Thread nD τ).loc main_arg0) : FVec Ideal S16x2048x1024 .f32) shapeCasts_S16x2048x1024_S32768x1024
/-- The second array as a matrix. -/
@[irreducible] def finY (c : Dev nD) : FVec Ideal S32768x1024 .f32 := shapeCast S32768x1024 (m ((c : Thread nD τ).loc main_arg1) : FVec Ideal S262144x128 .f32) shapeCasts_S262144x128_S32768x1024
/-- The first array as the last call receives it. -/
theorem fin_h (c : Dev nD) : V m c main_v0 = finH m c := by
  unfold finH
  show StableHlo.after hostOps0 _ (Proc.devRef .tc main_v0) = _
  after_results
  rfl
/-- The second array as the last call receives it. -/
theorem fin_y (c : Dev nD) : V m c main_v1 = finY m c := by
  unfold finY
  show StableHlo.after hostOps0 _ (Proc.devRef .tc main_v1) = _
  after_results
  rfl

/-- A point's blocks: which rows, and all of the gain. -/
theorem fin_idx : ∀ t : Fin cfg0.N, win0_0.index t (0 : Fin 2) = t.val ∧ win0_0.index t (1 : Fin 2) = 0 ∧ win0_1.index t (0 : Fin 2) = t.val ∧ win0_1.index t (1 : Fin 2) = 0
      ∧ win0_2.index t (0 : Fin 2) = 0 ∧ win0_2.index t (1 : Fin 2) = 0 ∧ win0_3.index t (0 : Fin 2) = t.val ∧ win0_3.index t (1 : Fin 2) = 0 :=
  (by decide +kernel : ∀ t : Fin grid0.N, _)

/-- A point's rows of the first matrix. -/
theorem fin_i0 (c : Dev nD) (t : Fin cfg0.N) (ht : t.val < 32) (r k : Fin 1024) :
    iblk m c 0 t (ix2 r k) = finH m c (ix2 (⟨1024 * t.val + r.val, by omega⟩ : Fin 32768) k) := by
  obtain ⟨e0, e1, e2, e3, e4, e5, e6, e7⟩ := fin_idx t
  unfold iblk
  rw [View.read_apply]
  show V m c main_v0 _ = _
  rw [fin_h]
  congr 1
  funext a
  apply Fin.ext
  match a with
  | ⟨0, _⟩ => show win0_0.index t (0 : Fin 2) * 1024 + 1 * r.val = 1024 * t.val + r.val; omega
  | ⟨1, _⟩ => show win0_0.index t (1 : Fin 2) * 1024 + 1 * k.val = k.val; omega
/-- A point's rows of the second matrix. -/
theorem fin_i1 (c : Dev nD) (t : Fin cfg0.N) (ht : t.val < 32) (r k : Fin 1024) :
    iblk m c 1 t (ix2 r k) = finY m c (ix2 (⟨1024 * t.val + r.val, by omega⟩ : Fin 32768) k) := by
  obtain ⟨e0, e1, e2, e3, e4, e5, e6, e7⟩ := fin_idx t
  unfold iblk
  rw [View.read_apply]
  show V m c main_v1 _ = _
  rw [fin_y]
  congr 1
  funext a
  apply Fin.ext
  match a with
  | ⟨0, _⟩ => show win0_1.index t (0 : Fin 2) * 1024 + 1 * r.val = 1024 * t.val + r.val; omega
  | ⟨1, _⟩ => show win0_1.index t (1 : Fin 2) * 1024 + 1 * k.val = k.val; omega
/-- A point's gain. -/
theorem fin_i2 (c : Dev nD) (t : Fin cfg0.N) (k : Fin 1024) :
    iblk m c 2 t (ix2 0 k) = m ((c : Thread nD τ).loc main_arg2) (ix1 k) := by
  obtain ⟨e0, e1, e2, e3, e4, e5, e6, e7⟩ := fin_idx t
  rw [← fin_v0 m c k]
  unfold iblk
  rw [View.read_apply]
  show V m c main_v2 _ = _
  congr 1
  funext a
  apply Fin.ext
  match a with
  | ⟨0, _⟩ => show win0_2.index t (0 : Fin 2) * 1 + 1 * 0 = 0; omega
  | ⟨1, _⟩ => show win0_2.index t (1 : Fin 2) * 1024 + 1 * k.val = k.val; omega

/-- What a point leaves in its block. -/
theorem fin_out (P0 P1 : Vec Ideal S1024x1024 .f32) (P2 : Vec Ideal S1x1024 .f32) (r d : Fin 1024) :
    out0_3 (F := Ideal) P0 P1 P2 (ix2 r d) = nrm (fun k => P0 (ix2 r k) + P1 (ix2 r k)) (fun k => P2 (ix2 0 k)) d := by
  have l0 : View.ld P0 r0_0 = P0 := by
    funext x
    refine congrArg P0 (funext fun a => Fin.ext ?_)
    match a with
    | ⟨0, _⟩ => show 0 + 1 * (x 0).val = (x 0).val; omega
    | ⟨1, _⟩ => show 0 + 1 * (x 1).val = (x 1).val; omega
  have l1 : View.ld P1 r0_0 = P1 := by
    funext x
    refine congrArg P1 (funext fun a => Fin.ext ?_)
    match a with
    | ⟨0, _⟩ => show 0 + 1 * (x 0).val = (x 0).val; omega
    | ⟨1, _⟩ => show 0 + 1 * (x 1).val = (x 1).val; omega
  have l2 : View.ld P2 r0_1 = P2 := by
    funext x
    refine congrArg P2 (funext fun a => Fin.ext ?_)
    match a with
    | ⟨0, _⟩ => show 0 + 1 * (x 0).val = (x 0).val; omega
    | ⟨1, _⟩ => show 0 + 1 * (x 1).val = (x 1).val; omega
  have h : out0_3 (F := Ideal) P0 P1 P2 (ix2 r d) = E3 P0 P1 P2 (ix2 r d) := by
    unfold out0_3
    rw [l0, l1, l2]
    exact canon3_eq P0 P1 P2 (ix2 r d)
  have hr : r0_0.idx (ix2 r d) = ix2 r d := by
    funext a
    apply Fin.ext
    match a with
    | ⟨0, _⟩ => show 0 + 1 * r.val = r.val; omega
    | ⟨1, _⟩ => show 0 + 1 * d.val = d.val; omega
  have h2 := piece3_0 (F := Ideal) P0 P1 P2 (ix2 r d)
  rw [hr] at h2
  rw [h, ← h2, pay3_at]

/-- What a point writes back. -/
theorem fin_flush (c : Dev nD) (t : Fin cfg0.N) : (dats m 0 c).flushed 3 t
    = ((cfg0.win 3).blk t).view.read (Elt Ideal) (resF (finH m c) (finY m c) (m ((c : Thread nD τ).loc main_arg2))) := by
  rw [flushed3]
  have ht : t.val < 32 := t.isLt
  obtain ⟨e0, e1, e2, e3, e4, e5, e6, e7⟩ := fin_idx t
  funext y
  have hy0 : (y 0).val < 1024 := (y 0).isLt
  have hy1 : (y 1).val < 1024 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 1024 + 1 * (y 1).val := rfl
  have hy : (cfg0.win 3).xinj (grid0.coords t) y = ix2 (⟨(y 0).val, hy0⟩ : Fin 1024) (⟨(y 1).val, hy1⟩ : Fin 1024) := by
    funext a
    apply Fin.ext
    match a with
    | ⟨0, _⟩ => rfl
    | ⟨1, _⟩ => rfl
  have hi : ((cfg0.win 3).blk t).view.emb y = ix2 (⟨1024 * t.val + (y 0).val, by omega⟩ : Fin 32768) (⟨(y 1).val, hy1⟩ : Fin 1024) := by
    funext a
    apply Fin.ext
    match a with
    | ⟨0, _⟩ => exact hb0.trans (by show _ = 1024 * t.val + (y 0).val; omega)
    | ⟨1, _⟩ => exact hb1.trans (by show _ = (y 1).val; omega)
  show out0_3 (iblk m c 0 t) (iblk m c 1 t) (iblk m c 2 t) ((cfg0.win 3).xinj (grid0.coords t) y) = resF _ _ _ (((cfg0.win 3).blk t).view.emb y)
  rw [hy, hi, fin_out]
  show nrm _ _ _ = nrm _ _ _
  congr 1
  · funext k
    rw [fin_i0 m c t ht, fin_i1 m c t ht]
    rfl
  · funext k
    exact fin_i2 m c t k

/-- Every point writes its block back. -/
theorem fin_flush_all : ∀ t : Fin cfg0.N, (cfg0.win 3).flush t = true := (by decide +kernel : ∀ t : Fin grid0.N, _)

/-- Every entry is in some point's block. -/
theorem fin_cover (i : S32768x1024.Idx) : ∃ t : Fin cfg0.N, (cfg0.win 3).flush t = true ∧ i ∈ ((cfg0.win 3).blk t).view.set := by
  have h0 : (i 0).val < 32768 := (i 0).isLt
  have h1 : (i 1).val < 1024 := (i 1).isLt
  have hN : cfg0.N = 32 := by decide +kernel
  have hlt : (i 0).val / 1024 < cfg0.N := by omega
  obtain ⟨e0, e1, e2, e3, e4, e5, e6, e7⟩ := fin_idx ⟨(i 0).val / 1024, hlt⟩
  refine ⟨⟨(i 0).val / 1024, hlt⟩, fin_flush_all _, ?_⟩
  show i ∈ ((View.whole main_v3).slice (win0_3.rect ⟨(i 0).val / 1024, hlt⟩)).set
  rw [View.set_slice_whole, Rect.mem_set_unit]
  intro a
  match a with
  | ⟨0, _⟩ => show win0_3.index _ (0 : Fin 2) * 1024 ≤ (i 0).val ∧ (i 0).val < win0_3.index _ (0 : Fin 2) * 1024 + 1024; rw [e6]; show (i 0).val / 1024 * 1024 ≤ _ ∧ _ < (i 0).val / 1024 * 1024 + 1024; omega
  | ⟨1, _⟩ => show win0_3.index _ (1 : Fin 2) * 1024 ≤ (i 1).val ∧ (i 1).val < win0_3.index _ (1 : Fin 2) * 1024 + 1024; rw [e7]; omega

/-- The array the last call ends with. -/
theorem fin_arr (c : Dev nD) : (dats m 0 c).arrAt 3 cfg0.N
    = resF (finH m c) (finY m c) (m ((c : Thread nD τ).loc main_arg2)) :=
  (dats m 0 c).arrAt_eq_of_cover 3 _ (fun t _ => fin_flush m c t) fin_cover

end

section
open Cert.Reference3Ideal Cert.Reference3Ideal.Gen Cert.Reference3Ideal.Value Idealize.ShloMosaic.StableHlo

/-- One entry of the reference's result. -/
theorem fin_ref (h y : FVec Ideal S32768x1024 .f32) (g : FVec Ideal S1024 .f32) (p : Fin 32768) (d : Fin 1024) :
    (mulf (mulf (addf h y) (broadcastInDim S32768x1024 ![0, 1] bcast_S32768x1_S32768x1024_0_1 (Host.rsqrt (addf (Host.divf (broadcastInDim S32768x1 ![0] bcast_S32768_S32768x1_0 (Host.reduceAdd (mulf (addf h y) (addf h y)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)) : FVec Ideal S32768x1024 .f32) (ix2 p d)
      = nrm (fun k => h (ix2 p k) + y (ix2 p k)) (fun k => g (ix1 k)) d := by
  unfold nrm
  pointwise

/-- The reference's result is the normalised sum. -/
theorem fin_ref_eq (h y : FVec Ideal S32768x1024 .f32) (g : FVec Ideal S1024 .f32) :
    (mulf (mulf (addf h y) (broadcastInDim S32768x1024 ![0, 1] bcast_S32768x1_S32768x1024_0_1 (Host.rsqrt (addf (Host.divf (broadcastInDim S32768x1 ![0] bcast_S32768_S32768x1_0 (Host.reduceAdd (mulf (addf h y) (addf h y)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)) : FVec Ideal S32768x1024 .f32)
      = resF h y g := by
  funext i
  have e : i = ix2 (i 0 : Fin 32768) (i 1 : Fin 1024) := by
    funext a
    match a with
    | ⟨0, _⟩ => rfl
    | ⟨1, _⟩ => rfl
  rw [e]
  exact fin_ref h y g _ _

end

/-- The last reference runs to its end, leaves its arguments as they were and every counter at zero. -/
theorem fin_ref_frame : Cert.quiescent_Reference3Ideal (hReference3Ideal := Cert.Reference3Ideal.Gen.facts) := by
  intro m g _
  exact (θ_run _ _ _).mono (fun r h => ⟨fun c => (h c).2, sem_eq_zero_of_no_sems rfl _⟩) (Cert.Reference3Ideal.Value.run m g)

/-- The last call and the last reference end with equal results. -/
theorem fin_algebraic : Cert.algebraic_Kernel3Ideal_Reference3Ideal (hKernel3Ideal := Cert.Kernel3Ideal.Gen.facts)
    (hReference3Ideal := Cert.Reference3Ideal.Gen.facts) := by
  intro m g m' g' hp hag
  refine ⟨fun c => resF (finH m c) (finY m c) (m ((c.tc : Thread Cert.Kernel3Ideal.nD Cert.Kernel3Ideal.τ).loc Cert.Kernel3Ideal.main_arg2)), ?_, ?_⟩
  · exact (θ_run _ _ _).mono (fun r h c => ⟨(h c).1.trans (fin_arr m c), (h c).2⟩) (Cert.Kernel3Ideal.Value.run_blocks m g)
  · refine (θ_run _ _ _).mono (fun r h c => ⟨(h c).1.trans ?_, (h c).2⟩) (Cert.Reference3Ideal.Value.run m' g')
    obtain ⟨e0, e1, e2⟩ := hag c
    refine (fin_ref_eq _ _ _).trans ?_
    unfold finH finY
    rw [e0, e1, e2]

end Cert.Mixer

end
-- ==== Proof.Scores.lean ====
module

public import proofs.«01_k».proof.Proof.Experts
public import proofs.«01_k».proof.Proof.Real
public import proofs.«01_k».proof.Proof.Finite
public import proofs.«01_k».proof.Proof.Gen.Pre_chosen4
public import proofs.«01_k».proof.Proof.Gen.Pre_chosen_finite
public import proofs.«01_k».proof.Proof.Gen.Reference4Ideal
public import proofs.«01_k».proof.Proof.Gen.Reference4Ideal.Run

/-! The first expert call's result, and its reference: for every token and slot the expert's inner product with the token's features, through the activation, times the gate. -/

@[expose] public section

set_option maxRecDepth 16384

noncomputable section

open Idealize.ShloMosaic Idealize.ShloMosaic.TcCoe Idealize.SL.Sem

namespace Cert.Mixer

/-- A word between the bounds, as a number. -/
theorem lt_of_bits (v : BitVec 32) (h1 : IntOp.cmpi .sge v 0#32 = 1#1) (h2 : IntOp.cmpi .slt v 16384#32 = 1#1) : v.toNat < 16384 := by
  have ofBool_one (b : Bool) (h : BitVec.ofBool b = 1#1) : b = true := by revert b; decide
  have g1 : (0#32).sle v = true := ofBool_one _ (by simpa [IntOp.cmpi] using h1)
  have g2 : v.slt 16384#32 = true := ofBool_one _ (by simpa [IntOp.cmpi] using h2)
  rw [BitVec.sle_eq_decide, decide_eq_true_eq] at g1
  rw [BitVec.slt_eq_decide, decide_eq_true_eq] at g2
  have z : (0#32).toInt = 0 := by decide
  have q : (16384#32).toInt = 16384 := by decide
  rw [z] at g1
  rw [q] at g2
  rw [BitVec.toInt_eq_toNat_cond] at g1 g2
  split at g1 <;> omega

/-- The precondition says of every expert number that it is below the number of experts. -/
theorem chosen4_lt {F : FTy → Type} [FloatOps F] (x : IVec Cert.Pre_chosen4.S32768x128 32) (w : FVec F Cert.Pre_chosen4.S32768x128 .f32) (h : FVec F Cert.Pre_chosen4.S16x2048x1024 .f32) (T : IVec Cert.Pre_chosen4.S65544x128 32)
    (e : Cert.Pre_chosen4.fn (F := F) x w h T = fun _ => 1#1) (p : Fin 32768) (j : Fin 128) : (x (ix2 p j)).toNat < 16384 := by
  obtain ⟨h1, h2⟩ := and_bits _ _ (congrFun e (ix2 p j))
  exact lt_of_bits _ h1 h2

/-- The other precondition says this too, and that the features and the experts' rows are real numbers. -/
theorem chosen_finite_at (x : IVec Cert.Pre_chosen_finite.S32768x128 32) (w : FVec Ideal Cert.Pre_chosen_finite.S32768x128 .f32) (h : FVec Ideal Cert.Pre_chosen_finite.S16x2048x1024 .f32) (T : IVec Cert.Pre_chosen_finite.S65544x128 32)
    (e : Cert.Pre_chosen_finite.fn (F := Ideal) x w h T = fun _ => 1#1) : (∀ (p : Fin 32768) (j : Fin 128), (x (ix2 p j)).toNat < 16384) ∧ (∀ i, IsR (h i)) ∧ (∀ i, IsR (expertRows T i)) := by
  have ss : Subsingleton Cert.Pre_chosen_finite.S_.Idx := ⟨fun a b => funext fun x => x.elim0⟩
  have e0 := congrFun e ix0
  unfold Cert.Pre_chosen_finite.fn Cert.Pre_chosen_finite.fn_part1 at e0
  obtain ⟨e01, e2⟩ := and_bits _ _ e0
  obtain ⟨e00, e1⟩ := and_bits _ _ e01
  refine ⟨fun p j => ?_, fun i => ?_, fun i => ?_⟩
  · obtain ⟨h1, h2⟩ := and_bits _ _ (Host.reduce_andi_all _ _ _ _ _ e00 (ix2 p j))
    exact lt_of_bits _ h1 h2
  · exact real_of_cmp _ (Host.reduce_andi_all _ _ _ _ _ e1 i)
  · exact real_of_cmp _ (Host.reduce_andi_all _ _ _ _ _ e2 i)

/-- Every value of a finite table is a real number. -/
theorem feat_real (T : IVec Cert.Pre_chosen.S65544x128 32) (h : ∀ i, IsR (expertRows T i)) (e : Fin 16384) (q : Fin 2) (r : Fin 4) (l : Fin 128) : IsR (feat T e q.val r l) := by
  rw [← expertRows_at T e q r l]
  exact h _

/-- A lane's share of an inner product that comes from row `r` of the lower and of the upper half. -/
def laneTerm (h : FVec Ideal Cert.Reference2Ideal.S32768x1024 .f32) (T : IVec Cert.Pre_chosen.S65544x128 32) (e : Fin 16384) (p : Fin 32768) (l : Fin 128) (r : Fin 4) : EReal :=
  feat T e 0 r l * h (ix2 p (⟨128 * r.val + l.val, by omega⟩ : Fin 1024)) + feat T e 1 r l * h (ix2 p (⟨128 * (r.val + 4) + l.val, by omega⟩ : Fin 1024))
/-- The inner product of token `p` with the expert in its slot `j`. -/
def preact (h : FVec Ideal Cert.Reference2Ideal.S32768x1024 .f32) (x : IVec Cert.Pre_chosen.S32768x128 32) (T : IVec Cert.Pre_chosen.S65544x128 32) (p : Fin 32768) (j : Fin 128) : EReal :=
  ∑ l : Fin 128, ∑ r : Fin 4, laneTerm h T (⟨(x (ix2 p j)).toNat % 16384, Nat.mod_lt _ (by decide)⟩ : Fin 16384) p l r
/-- The activation. -/
def gelu (v : EReal) : EReal := v * (Ideal.ofBits .f32 0x3F000000#32 * (1 + Ideal.tanh (Ideal.ofBits .f32 0x3F4C422A#32 * (v + Ideal.ofBits .f32 0x3D372713#32 * (v * v * v)))))
/-- The first expert call's result. -/
def actArr (h : FVec Ideal Cert.Reference2Ideal.S32768x1024 .f32) (x : IVec Cert.Pre_chosen.S32768x128 32) (g : FVec Ideal Cert.Pre_chosen.S32768x128 .f32) (T : IVec Cert.Pre_chosen.S65544x128 32) : FVec Ideal Cert.Pre_chosen.S32768x128 .f32 :=
  fun i => g (ix2 (i 0 : Fin 32768) (i 1 : Fin 128)) * gelu (preact h x T (i 0 : Fin 32768) (i 1 : Fin 128))

/-- A sum over the features, lane by lane. -/
theorem sum_feats (f : Fin 1024 → EReal) : ∑ d, f d = ∑ l : Fin 128, ∑ r : Fin 4, (f (⟨128 * r.val + l.val, by omega⟩ : Fin 1024) + f (⟨128 * (r.val + 4) + l.val, by omega⟩ : Fin 1024)) := by
  have e : ∑ d, f d = ∑ x : Fin 8 × Fin 128, f (finProdFinEquiv x : Fin (8 * 128)) := ((finProdFinEquiv (m := 8) (n := 128)).sum_comp (fun d : Fin (8 * 128) => f d)).symm
  rw [e, Fintype.sum_prod_type, Finset.sum_comm]
  refine Finset.sum_congr rfl fun l _ => ?_
  have g : ∀ s : Fin 8, f (finProdFinEquiv (s, l) : Fin (8 * 128)) = f (⟨128 * s.val + l.val, by omega⟩ : Fin 1024) := by
    intro s
    congr 1
    exact Fin.ext (by show l.val + 128 * s.val = 128 * s.val + l.val; omega)
  simp only [g]
  rw [Fin.sum_univ_eight, Fin.sum_univ_four]
  show f ⟨128 * 0 + l.val, _⟩ + f ⟨128 * 1 + l.val, _⟩ + f ⟨128 * 2 + l.val, _⟩ + f ⟨128 * 3 + l.val, _⟩ + f ⟨128 * 4 + l.val, _⟩ + f ⟨128 * 5 + l.val, _⟩ + f ⟨128 * 6 + l.val, _⟩ + f ⟨128 * 7 + l.val, _⟩
    = (f ⟨128 * 0 + l.val, _⟩ + f ⟨128 * 4 + l.val, _⟩) + (f ⟨128 * 1 + l.val, _⟩ + f ⟨128 * 5 + l.val, _⟩) + (f ⟨128 * 2 + l.val, _⟩ + f ⟨128 * 6 + l.val, _⟩) + (f ⟨128 * 3 + l.val, _⟩ + f ⟨128 * 7 + l.val, _⟩)
  abel

section
open Cert.Reference2Ideal Cert.Reference2Ideal.Gen

/-- The rows of the experts a token's slots name. -/
def takenRows (x : IVec S32768x128 32) (T : IVec S65544x128 32) : FVec Ideal S32768x128x1024 .f32 :=
  Host.gather gather_S16384x1024_S32768x128x1_S32768x128x1024_2_0_n_n_0_2_11024 (expertRows T) (ids x)
/-- One entry of them. -/
theorem takenRows_at (x : IVec S32768x128 32) (T : IVec S65544x128 32) (p : Fin 32768) (j : Fin 128) (hx : (x (ix2 p j)).toNat < 16384) (q : Fin 2) (r : Fin 4) (l : Fin 128) :
    takenRows x T (ix3 p j (⟨512 * q.val + 128 * r.val + l.val, by omega⟩ : Fin 1024)) = feat T (⟨(x (ix2 p j)).toNat % 16384, Nat.mod_lt _ (by decide)⟩ : Fin 16384) q.val r l := by
  have hi := ids_at x p j hx
  have hlt : (ids x (ix3 p j 0)).toNat < 16384 := by rw [hi]; exact hx
  unfold takenRows
  rw [taken_at _ _ p j _ hlt]
  have e : (⟨(ids x (ix3 p j 0)).toNat, hlt⟩ : Fin 16384) = ⟨(x (ix2 p j)).toNat % 16384, Nat.mod_lt _ (by decide)⟩ := Fin.ext (by show (ids x (ix3 p j 0)).toNat = _ % 16384; rw [hi, Nat.mod_eq_of_lt hx])
  rw [e]
  exact expertRows_at T _ q r l
end

section
open Cert.Reference4Ideal Cert.Reference4Ideal.Gen Cert.Reference4Ideal.Value Idealize.ShloMosaic.StableHlo

/-- One entry of the reference's last steps. -/
theorem gelu_ref (w D : FVec Ideal S32768x128 .f32) (p : Fin 32768) (j : Fin 128) :
    (mulf w (mulf D (mulf (broadcastInDim S32768x128 ![] bcast_S_S32768x128 (constant S_ .f32 0x3F000000#32)) (addf (broadcastInDim S32768x128 ![] bcast_S_S32768x128 (constant S_ .f32 0x3F800000#32)) (Host.tanh (mulf (broadcastInDim S32768x128 ![] bcast_S_S32768x128 (constant S_ .f32 0x3F4C422A#32)) (addf D (mulf (broadcastInDim S32768x128 ![] bcast_S_S32768x128 (constant S_ .f32 0x3D372713#32)) (mulf (mulf D D) D)))))))) : FVec Ideal S32768x128 .f32) (ix2 p j)
      = w (ix2 p j) * gelu (D (ix2 p j)) := by
  unfold gelu
  pointwise
/-- One inner product. -/
theorem dots_at (H : FVec Ideal S32768x1024 .f32) (A : FVec Ideal S32768x128x1024 .f32) (p : Fin 32768) (j : Fin 128) :
    Host.dotGeneral dot_S32768x1024_S32768x128x1024_S32768x128_1_2_n_1_0_0 none H A (ix2 p j) = ∑ d : Fin 1024, H (ix2 p d) * A (ix3 p j d) := by
  pointwise
/-- One inner product with an expert's row. -/
theorem dot_taken (H : FVec Ideal S32768x1024 .f32) (x : IVec S32768x128 32) (T : IVec S65544x128 32) (p : Fin 32768) (j : Fin 128) (hx : (x (ix2 p j)).toNat < 16384) :
    Host.dotGeneral dot_S32768x1024_S32768x128x1024_S32768x128_1_2_n_1_0_0 none H (takenRows x T) (ix2 p j) = preact H x T p j := by
  rw [dots_at, sum_feats]
  unfold preact laneTerm
  refine Finset.sum_congr rfl fun l _ => Finset.sum_congr rfl fun r _ => ?_
  have a0 := takenRows_at x T p j hx 0 r l
  have a1 := takenRows_at x T p j hx 1 r l
  have b0 : (⟨512 * (0 : Fin 2).val + 128 * r.val + l.val, by show 512 * 0 + _ + _ < 1024; omega⟩ : Fin 1024) = ⟨128 * r.val + l.val, by omega⟩ := Fin.ext (by show 512 * 0 + 128 * r.val + l.val = 128 * r.val + l.val; omega)
  have b1 : (⟨512 * (1 : Fin 2).val + 128 * r.val + l.val, by show 512 * 1 + _ + _ < 1024; omega⟩ : Fin 1024) = ⟨128 * (r.val + 4) + l.val, by omega⟩ := Fin.ext (by show 512 * 1 + 128 * r.val + l.val = 128 * (r.val + 4) + l.val; omega)
  rw [b0] at a0
  rw [b1] at a1
  rw [a0, a1, mul_comm, mul_comm (H _) (feat _ _ (1 : Fin 2).val _ _)]
  rfl

variable (m : (ℓ : Loc nD τ sig) → Buf (Elt Ideal) ℓ)

/-- The features as a matrix, as the reference reads them. -/
abbrev refH (c : Dev nD) : FVec Ideal S32768x1024 .f32 := shapeCast S32768x1024 (m ((c.tc : Thread nD τ).loc main_arg2) : FVec Ideal S16x2048x1024 .f32) shapeCasts_S16x2048x1024_S32768x1024

/-- The reference's result. -/
theorem ref4_eq (c : Dev nD) (hx : ∀ (p : Fin 32768) (j : Fin 128), (m ((c.tc : Thread nD τ).loc main_arg0) (ix2 p j)).toNat < 16384) :
    res_main_v31 m c = actArr (refH m c) (m ((c.tc : Thread nD τ).loc main_arg0)) (m ((c.tc : Thread nD τ).loc main_arg1)) (m ((c.tc : Thread nD τ).loc main_arg3)) := by
  funext i
  have e : i = ix2 (i 0 : Fin 32768) (i 1 : Fin 128) := by
    funext a
    match a with
    | ⟨0, _⟩ => rfl
    | ⟨1, _⟩ => rfl
  have key : ∀ (p : Fin 32768) (j : Fin 128), (res_main_v31 m c : FVec Ideal S32768x128 .f32) (ix2 p j)
      = (show FVec Ideal S32768x128 .f32 from m ((c.tc : Thread nD τ).loc main_arg1)) (ix2 p j) * gelu (preact (refH m c) (m ((c.tc : Thread nD τ).loc main_arg0)) (m ((c.tc : Thread nD τ).loc main_arg3)) p j) := by
    intro p j
    rw [← dot_taken (refH m c) _ _ p j (hx p j)]
    unfold res_main_v31
    exact gelu_ref _ (Host.dotGeneral dot_S32768x1024_S32768x128x1024_S32768x128_1_2_n_1_0_0 none (refH m c) (takenRows (m ((c.tc : Thread nD τ).loc main_arg0)) (m ((c.tc : Thread nD τ).loc main_arg3)))) p j
  exact (congrArg _ e).trans (key _ _)

/-- The reference runs to its end, leaves its arguments as they were and every counter at zero. -/
theorem ref4_frame : Cert.quiescent_Reference4Ideal (hReference4Ideal := Cert.Reference4Ideal.Gen.facts) := by
  intro m g _
  exact (θ_run _ _ _).mono (fun r h => ⟨fun c => (h c).2, sem_eq_zero_of_no_sems rfl _⟩) (Cert.Reference4Ideal.Value.run m g)

/-- The same frame under the precondition of the equality. -/
theorem ref4_frame_finite : Cert.quiescent_Reference4Ideal_pre_chosen_finite (hReference4Ideal := Cert.Reference4Ideal.Gen.facts) := by
  intro m g _
  exact (θ_run _ _ _).mono (fun r h => ⟨fun c => (h c).2, sem_eq_zero_of_no_sems rfl _⟩) (Cert.Reference4Ideal.Value.run m g)
end

end Cert.Mixer

end
-- ==== Proof.Act.lean ====
module

public import proofs.«01_k».proof.Defs
public import proofs.«01_k».proof.Proof.Gen.Kernel4Ideal.Frame
public import proofs.«01_k».proof.Proof.Gen.Kernel4Ideal
public import proofs.«01_k».proof.Proof.Chosen
public import Idealize.ShloMosaic.Lib.WholeRead
public import Idealize.ShloMosaic.Lib.Pointwise
public import Idealize.ShloMosaic.Lib.Tactic
public import Idealize.ShloMosaic.Lib.StableHlo.Predicate

/-! The first expert call's row addresses. -/

@[expose] public section

set_option maxRecDepth 16384

noncomputable section

open Idealize.ShloMosaic Idealize.ShloMosaic.TcCoe Idealize.SL.Sem

namespace Cert.Mixer.Act

open Cert.Kernel4Ideal Cert.Kernel4Ideal.Gen

variable {F : FTy → Type} [FloatOps F] (m : (ℓ : Loc nD τ sig) → Buf (Elt F) ℓ)

/-- The row added in every slot, as the host computes it from the slot's number. -/
def slotRow : IVec S1x128 32 :=
  let b : IVec S_ 32 := select (cmpi .eq (constantI S_ 32 8#32) (constantI S_ 32 0#32)) (constantI S_ 32 1#32) (constantI S_ 32 8#32)
  let r : IVec S1x128 32 := Host.remsi (iotaInDim S1x128 32 1) (broadcastInDim S1x128 ![] bcast_S_S1x128 b)
  let n : IVec S1x128 1 := andi (cmpi .ne (cmpi .slt r (broadcastInDim S1x128 ![] bcast_S_S1x128 (constantI S_ 32 0#32))) (broadcastInDim S1x128 ![] bcast_S_S1x128 (cmpi .slt b (constantI S_ 32 0#32)))) (cmpi .ne r (broadcastInDim S1x128 ![] bcast_S_S1x128 (constantI S_ 32 0#32)))
  let q : IVec S1x128 32 := select n (addi r (broadcastInDim S1x128 ![] bcast_S_S1x128 b)) r
  select (cmpi .slt q (broadcastInDim S1x128 ![] bcast_S_S1x128 (constantI S_ 32 4#32))) (broadcastInDim S1x128 ![] bcast_S_S1x128 (constantI S_ 32 4#32)) (broadcastInDim S1x128 ![] bcast_S_S1x128 (constantI S_ 32 0#32))

set_option maxHeartbeats 2000000 in
/-- The array of row addresses the host prepares, from the expert numbers and a row that depends on the slot alone. -/
theorem rows_eq (c : Dev nD) : ∃ X : IVec S1x128 32, V m c main_v10 = addi (muli (m ((c : Thread nD τ).loc main_arg0)) (broadcastInDim S32768x128 ![] bcast_S_S32768x128 (constantI S_ 32 4#32))) (broadcastInDim S32768x128 ![0, 1] bcast_S1x128_S32768x128_0_1 X)
    ∧ ∀ j : Fin 128, X (ix2 0 j) = if j.val % 8 < 4 then 4#32 else 0#32 := by
  refine ⟨slotRow, ?a, ?b⟩
  case a =>
    show StableHlo.after (List.flatten [hostOps0, hostOps0_1, hostOps0_2, hostOps0_3, hostOps0_4]) _ (Proc.devRef .tc main_v10) = _
    simp only [hostOps0, hostOps0_1, hostOps0_2, hostOps0_3, hostOps0_4, List.flatten_cons, List.flatten_nil, List.append_nil, List.cons_append, List.nil_append]
    after_results_simp
    rfl
  case b => decide +kernel

/-- One row address. -/
theorem row_at (c : Dev nD) (p : Fin 32768) (j : Fin 128) : V m c main_v10 (ix2 p j) = rowWord (m ((c : Thread nD τ).loc main_arg0) (ix2 p j)) j := by
  obtain ⟨X, e, hX⟩ := rows_eq m c
  rw [e]
  have h : ∀ (x : IVec S32768x128 32) (X : IVec S1x128 32), addi (muli x (broadcastInDim S32768x128 ![] bcast_S_S32768x128 (constantI S_ 32 4#32))) (broadcastInDim S32768x128 ![0, 1] bcast_S1x128_S32768x128_0_1 X) (ix2 p j) = x (ix2 p j) * 4#32 + X (ix2 0 j) := by
    intro x X
    pointwise
    rfl
  rw [h, hX]
  rfl

/-- A point's blocks: its rows of the addresses. -/
theorem idx0 : ∀ t : Fin cfg0.N, win0_0.index t (0 : Fin 2) = t.val ∧ win0_0.index t (1 : Fin 2) = 0 :=
  (by decide +kernel : ∀ t : Fin grid0.N, _)

/-- One row address in a point's block. -/
theorem blk0 (c : Dev nD) (t : Fin cfg0.N) (ht : t.val < 512) (k : Fin 64) (j : Fin 128) :
    iblk m c 0 t (ix2 k j) = rowWord (m ((c : Thread nD τ).loc main_arg0) (ix2 (⟨64 * t.val + k.val, by omega⟩ : Fin 32768) j)) j := by
  obtain ⟨e0, e1⟩ := idx0 t
  rw [← row_at m c]
  unfold iblk
  rw [View.read_apply]
  show V m c main_v10 _ = _
  congr 1
  funext a
  apply Fin.ext
  match a with
  | ⟨0, _⟩ => show win0_0.index t (0 : Fin 2) * 64 + 1 * k.val = 64 * t.val + k.val; omega
  | ⟨1, _⟩ => show win0_0.index t (1 : Fin 2) * 128 + 1 * j.val = j.val; omega

/-- Where token `k`'s slot `j` lies. -/
abbrev wordOff (k : Fin k0_t1_loop.trips) (j : Fin 128) : Fin 2 → ℕ := ![(Scalar.indexCast (Scf.iv 0#32 1#32 k)).toNat, j.val]
/-- It lies in the block. -/
theorem wordOff_inb (k : Fin k0_t1_loop.trips) (j : Fin 128) (a) : wordOff k j a + S1x1.size a ≤ S64x128.size a := by
  have h0 := k0_off2_inb k 0
  match a with
  | ⟨0, _⟩ => exact h0
  | ⟨1, _⟩ => show j.val + 1 ≤ 128; omega
/-- The word at slot `j` of token `k`. -/
abbrev wordOf {e : EltTy} (arg1 : Memref sig .tc .smem S64x128 e) (X1 : BufTy.Contents (Elt F) arg1.view.ty) (k : Fin k0_t1_loop.trips) (j : Fin 128) : Elt F e :=
  arg1.view.readAt (Elt F) (Rect.unit (s := S64x128) (wordOff k j) S1x1.size (wordOff_inb k j)).toLoadRect X1 (Shape.Idx.first (numel1_S1x1.symm ▸ Nat.one_pos))
/-- The trip's number. -/
theorem trip_val : ∀ k : Fin k0_t1_loop.trips, k.val < 64 ∧ (Scalar.indexCast (Scf.iv 0#32 1#32 k) : Index).toNat = k.val := by decide +kernel
/-- The word at slot `j` of token `k` is the block's entry. -/
theorem wordOf_eq {e : EltTy} (M : Memref sig .tc .smem S64x128 e) (hM : M.IsWhole) (X : S64x128.Idx → Elt F e) (k : Fin k0_t1_loop.trips) (j : Fin 128) :
    wordOf M (hM.unread X) k j = X (ix2 (⟨k.val, (trip_val k).1⟩ : Fin 64) j) := by
  obtain ⟨h1, h2⟩ := trip_val k
  refine (Memref.IsWhole.readAt_unread hM X _ _).trans (congrArg X (funext fun a => Fin.ext ?_))
  match a with
  | ⟨0, _⟩ => show (Scalar.indexCast (Scf.iv 0#32 1#32 k) : Index).toNat + 1 * 0 = k.val; omega
  | ⟨1, _⟩ => show j.val + 1 * 0 = j.val; omega
/-- The rows a word starts at are in the table. -/
abbrev RowIn (w : BitVec 32) : Prop := ∀ a, (![(Scalar.indexCast w : Index).toNat, 0] : Fin 2 → ℕ) a + S8x128.size a ≤ S65544x128.size a
/-- A small word's rows are in the table. -/
theorem rowIn_of_le (w : BitVec 32) (h : w.toNat ≤ 65536) : RowIn w := by
  intro a
  have e := idx_toNat w h
  match a with
  | ⟨0, _⟩ => show (Scalar.indexCast w : Index).toNat + 8 ≤ 65544; omega
  | ⟨1, _⟩ => show 0 + 128 ≤ 128; omega

/-- When the expert numbers are in range every word's rows are in the table. -/
theorem rowIn (hp : ∀ (c : Dev nD) (p : Fin 32768) (j : Fin 128), (m ((c : Thread nD τ).loc main_arg0) (ix2 p j)).toNat < 16384)
    (c : Dev nD) (t : Fin cfg0.N) (k : Fin k0_t1_loop.trips) (j : Fin 128) : RowIn (wordOf (F := F) (ms0_0 t) ((hs0_0 t).unread (iblk m c 0 t)) k j) := by
  have ht : t.val < 512 := t.isLt
  rw [wordOf_eq, blk0 m c t ht]
  exact rowIn_of_le _ (rowWord_le _ j (hp c _ j))

/-- When the expert numbers are in range every condition the body assumes of its words holds. -/
theorem hyps (hp : ∀ (c : Dev nD) (p : Fin 32768) (j : Fin 128), (m ((c : Thread nD τ).loc main_arg0) (ix2 p j)).toNat < 16384) : Hyps m :=
  Hyps.of
    (fun c t kq hkq => rowIn m hp c t ⟨kq, hkq⟩ 0)
    (fun c t kq hkq => rowIn m hp c t ⟨kq, hkq⟩ 4)
    (fun c t kq hkq => rowIn m hp c t ⟨kq, hkq⟩ 1)
    (fun c t kq hkq => rowIn m hp c t ⟨kq, hkq⟩ 5)
    (fun c t kq hkq => rowIn m hp c t ⟨kq, hkq⟩ 2)
    (fun c t kq hkq => rowIn m hp c t ⟨kq, hkq⟩ 6)
    (fun c t kq hkq => rowIn m hp c t ⟨kq, hkq⟩ 3)
    (fun c t kq hkq => rowIn m hp c t ⟨kq, hkq⟩ 7)
    (fun c t kq hkq => rowIn m hp c t ⟨kq, hkq⟩ 8)
    (fun c t kq hkq => rowIn m hp c t ⟨kq, hkq⟩ 12)
    (fun c t kq hkq => rowIn m hp c t ⟨kq, hkq⟩ 9)
    (fun c t kq hkq => rowIn m hp c t ⟨kq, hkq⟩ 13)
    (fun c t kq hkq => rowIn m hp c t ⟨kq, hkq⟩ 10)
    (fun c t kq hkq => rowIn m hp c t ⟨kq, hkq⟩ 14)
    (fun c t kq hkq => rowIn m hp c t ⟨kq, hkq⟩ 11)
    (fun c t kq hkq => rowIn m hp c t ⟨kq, hkq⟩ 15)
    (fun c t kq hkq => rowIn m hp c t ⟨kq, hkq⟩ 16)
    (fun c t kq hkq => rowIn m hp c t ⟨kq, hkq⟩ 20)
    (fun c t kq hkq => rowIn m hp c t ⟨kq, hkq⟩ 17)
    (fun c t kq hkq => rowIn m hp c t ⟨kq, hkq⟩ 21)
    (fun c t kq hkq => rowIn m hp c t ⟨kq, hkq⟩ 18)
    (fun c t kq hkq => rowIn m hp c t ⟨kq, hkq⟩ 22)
    (fun c t kq hkq => rowIn m hp c t ⟨kq, hkq⟩ 19)
    (fun c t kq hkq => rowIn m hp c t ⟨kq, hkq⟩ 23)
    (fun c t kq hkq => rowIn m hp c t ⟨kq, hkq⟩ 24)
    (fun c t kq hkq => rowIn m hp c t ⟨kq, hkq⟩ 28)
    (fun c t kq hkq => rowIn m hp c t ⟨kq, hkq⟩ 25)
    (fun c t kq hkq => rowIn m hp c t ⟨kq, hkq⟩ 29)
    (fun c t kq hkq => rowIn m hp c t ⟨kq, hkq⟩ 26)
    (fun c t kq hkq => rowIn m hp c t ⟨kq, hkq⟩ 30)
    (fun c t kq hkq => rowIn m hp c t ⟨kq, hkq⟩ 27)
    (fun c t kq hkq => rowIn m hp c t ⟨kq, hkq⟩ 31)
    (fun c t kq hkq => rowIn m hp c t ⟨kq, hkq⟩ 32)
    (fun c t kq hkq => rowIn m hp c t ⟨kq, hkq⟩ 36)
    (fun c t kq hkq => rowIn m hp c t ⟨kq, hkq⟩ 33)
    (fun c t kq hkq => rowIn m hp c t ⟨kq, hkq⟩ 37)
    (fun c t kq hkq => rowIn m hp c t ⟨kq, hkq⟩ 34)
    (fun c t kq hkq => rowIn m hp c t ⟨kq, hkq⟩ 38)
    (fun c t kq hkq => rowIn m hp c t ⟨kq, hkq⟩ 35)
    (fun c t kq hkq => rowIn m hp c t ⟨kq, hkq⟩ 39)
    (fun c t kq hkq => rowIn m hp c t ⟨kq, hkq⟩ 40)
    (fun c t kq hkq => rowIn m hp c t ⟨kq, hkq⟩ 44)
    (fun c t kq hkq => rowIn m hp c t ⟨kq, hkq⟩ 41)
    (fun c t kq hkq => rowIn m hp c t ⟨kq, hkq⟩ 45)
    (fun c t kq hkq => rowIn m hp c t ⟨kq, hkq⟩ 42)
    (fun c t kq hkq => rowIn m hp c t ⟨kq, hkq⟩ 46)
    (fun c t kq hkq => rowIn m hp c t ⟨kq, hkq⟩ 43)
    (fun c t kq hkq => rowIn m hp c t ⟨kq, hkq⟩ 47)
    (fun c t kq hkq => rowIn m hp c t ⟨kq, hkq⟩ 48)
    (fun c t kq hkq => rowIn m hp c t ⟨kq, hkq⟩ 52)
    (fun c t kq hkq => rowIn m hp c t ⟨kq, hkq⟩ 49)
    (fun c t kq hkq => rowIn m hp c t ⟨kq, hkq⟩ 53)
    (fun c t kq hkq => rowIn m hp c t ⟨kq, hkq⟩ 50)
    (fun c t kq hkq => rowIn m hp c t ⟨kq, hkq⟩ 54)
    (fun c t kq hkq => rowIn m hp c t ⟨kq, hkq⟩ 51)
    (fun c t kq hkq => rowIn m hp c t ⟨kq, hkq⟩ 55)
    (fun c t kq hkq => rowIn m hp c t ⟨kq, hkq⟩ 56)
    (fun c t kq hkq => rowIn m hp c t ⟨kq, hkq⟩ 60)
    (fun c t kq hkq => rowIn m hp c t ⟨kq, hkq⟩ 57)
    (fun c t kq hkq => rowIn m hp c t ⟨kq, hkq⟩ 61)
    (fun c t kq hkq => rowIn m hp c t ⟨kq, hkq⟩ 58)
    (fun c t kq hkq => rowIn m hp c t ⟨kq, hkq⟩ 62)
    (fun c t kq hkq => rowIn m hp c t ⟨kq, hkq⟩ 59)
    (fun c t kq hkq => rowIn m hp c t ⟨kq, hkq⟩ 63)
    (fun c t kq hkq => rowIn m hp c t ⟨kq, hkq⟩ 64)
    (fun c t kq hkq => rowIn m hp c t ⟨kq, hkq⟩ 68)
    (fun c t kq hkq => rowIn m hp c t ⟨kq, hkq⟩ 65)
    (fun c t kq hkq => rowIn m hp c t ⟨kq, hkq⟩ 69)
    (fun c t kq hkq => rowIn m hp c t ⟨kq, hkq⟩ 66)
    (fun c t kq hkq => rowIn m hp c t ⟨kq, hkq⟩ 70)
    (fun c t kq hkq => rowIn m hp c t ⟨kq, hkq⟩ 67)
    (fun c t kq hkq => rowIn m hp c t ⟨kq, hkq⟩ 71)
    (fun c t kq hkq => rowIn m hp c t ⟨kq, hkq⟩ 72)
    (fun c t kq hkq => rowIn m hp c t ⟨kq, hkq⟩ 76)
    (fun c t kq hkq => rowIn m hp c t ⟨kq, hkq⟩ 73)
    (fun c t kq hkq => rowIn m hp c t ⟨kq, hkq⟩ 77)
    (fun c t kq hkq => rowIn m hp c t ⟨kq, hkq⟩ 74)
    (fun c t kq hkq => rowIn m hp c t ⟨kq, hkq⟩ 78)
    (fun c t kq hkq => rowIn m hp c t ⟨kq, hkq⟩ 75)
    (fun c t kq hkq => rowIn m hp c t ⟨kq, hkq⟩ 79)
    (fun c t kq hkq => rowIn m hp c t ⟨kq, hkq⟩ 80)
    (fun c t kq hkq => rowIn m hp c t ⟨kq, hkq⟩ 84)
    (fun c t kq hkq => rowIn m hp c t ⟨kq, hkq⟩ 81)
    (fun c t kq hkq => rowIn m hp c t ⟨kq, hkq⟩ 85)
    (fun c t kq hkq => rowIn m hp c t ⟨kq, hkq⟩ 82)
    (fun c t kq hkq => rowIn m hp c t ⟨kq, hkq⟩ 86)
    (fun c t kq hkq => rowIn m hp c t ⟨kq, hkq⟩ 83)
    (fun c t kq hkq => rowIn m hp c t ⟨kq, hkq⟩ 87)
    (fun c t kq hkq => rowIn m hp c t ⟨kq, hkq⟩ 88)
    (fun c t kq hkq => rowIn m hp c t ⟨kq, hkq⟩ 92)
    (fun c t kq hkq => rowIn m hp c t ⟨kq, hkq⟩ 89)
    (fun c t kq hkq => rowIn m hp c t ⟨kq, hkq⟩ 93)
    (fun c t kq hkq => rowIn m hp c t ⟨kq, hkq⟩ 90)
    (fun c t kq hkq => rowIn m hp c t ⟨kq, hkq⟩ 94)
    (fun c t kq hkq => rowIn m hp c t ⟨kq, hkq⟩ 91)
    (fun c t kq hkq => rowIn m hp c t ⟨kq, hkq⟩ 95)
    (fun c t kq hkq => rowIn m hp c t ⟨kq, hkq⟩ 96)
    (fun c t kq hkq => rowIn m hp c t ⟨kq, hkq⟩ 100)
    (fun c t kq hkq => rowIn m hp c t ⟨kq, hkq⟩ 97)
    (fun c t kq hkq => rowIn m hp c t ⟨kq, hkq⟩ 101)
    (fun c t kq hkq => rowIn m hp c t ⟨kq, hkq⟩ 98)
    (fun c t kq hkq => rowIn m hp c t ⟨kq, hkq⟩ 102)
    (fun c t kq hkq => rowIn m hp c t ⟨kq, hkq⟩ 99)
    (fun c t kq hkq => rowIn m hp c t ⟨kq, hkq⟩ 103)
    (fun c t kq hkq => rowIn m hp c t ⟨kq, hkq⟩ 104)
    (fun c t kq hkq => rowIn m hp c t ⟨kq, hkq⟩ 108)
    (fun c t kq hkq => rowIn m hp c t ⟨kq, hkq⟩ 105)
    (fun c t kq hkq => rowIn m hp c t ⟨kq, hkq⟩ 109)
    (fun c t kq hkq => rowIn m hp c t ⟨kq, hkq⟩ 106)
    (fun c t kq hkq => rowIn m hp c t ⟨kq, hkq⟩ 110)
    (fun c t kq hkq => rowIn m hp c t ⟨kq, hkq⟩ 107)
    (fun c t kq hkq => rowIn m hp c t ⟨kq, hkq⟩ 111)
    (fun c t kq hkq => rowIn m hp c t ⟨kq, hkq⟩ 112)
    (fun c t kq hkq => rowIn m hp c t ⟨kq, hkq⟩ 116)
    (fun c t kq hkq => rowIn m hp c t ⟨kq, hkq⟩ 113)
    (fun c t kq hkq => rowIn m hp c t ⟨kq, hkq⟩ 117)
    (fun c t kq hkq => rowIn m hp c t ⟨kq, hkq⟩ 114)
    (fun c t kq hkq => rowIn m hp c t ⟨kq, hkq⟩ 118)
    (fun c t kq hkq => rowIn m hp c t ⟨kq, hkq⟩ 115)
    (fun c t kq hkq => rowIn m hp c t ⟨kq, hkq⟩ 119)
    (fun c t kq hkq => rowIn m hp c t ⟨kq, hkq⟩ 120)
    (fun c t kq hkq => rowIn m hp c t ⟨kq, hkq⟩ 124)
    (fun c t kq hkq => rowIn m hp c t ⟨kq, hkq⟩ 121)
    (fun c t kq hkq => rowIn m hp c t ⟨kq, hkq⟩ 125)
    (fun c t kq hkq => rowIn m hp c t ⟨kq, hkq⟩ 122)
    (fun c t kq hkq => rowIn m hp c t ⟨kq, hkq⟩ 126)
    (fun c t kq hkq => rowIn m hp c t ⟨kq, hkq⟩ 123)
    (fun c t kq hkq => rowIn m hp c t ⟨kq, hkq⟩ 127)

end Cert.Mixer.Act

end
-- ==== Proof.ActX.lean ====
module

public import proofs.«01_k».proof.Proof.Act
public import proofs.«01_k».proof.Proof.Words
public import proofs.«01_k».proof.Proof.Real
public import proofs.«01_k».proof.Proof.Gen.Kernel4Ideal.Value

/-! The first expert call's arithmetic for one token: for every slot the inner product of the token's features with the features of the slot's expert. -/

@[expose] public section

set_option maxRecDepth 16384

noncomputable section

open Idealize.ShloMosaic Idealize.ShloMosaic.TcCoe Idealize.SL.Sem

namespace Cert.Mixer.Act

open Cert.Kernel4Ideal Cert.Kernel4Ideal.Gen Cert.Kernel4Ideal.Value

/-- The slot of pair `i`'s first expert. -/
abbrev slot (i : ℕ) : ℕ := 8 * (i / 4) + i % 4

section
variable {F : FTy → Type} [FloatOps F] (B : Fin 128 → Vec F S8x128 .i32) (X : Vec F S8x128 .f32)

/-- Slot `j`'s rows of the table. -/
abbrev rowsAt (j : ℕ) : Vec F S8x128 .i32 := B ⟨j % 128, Nat.mod_lt _ (by decide)⟩
/-- The token's features. -/
def feats : FVec F S8x128 .f32 := shapeCast S8x128 X shapeCasts_S8x128_S8x128
/-- The first half of the features, twice. -/
def featsLo : FVec F S8x128 .f32 := select k0_pay107 (feats X) (dynamicRotate 0 4#32 none (feats X) rotates_S8x128_d0)
/-- The second half of the features, twice. -/
def featsHi : FVec F S8x128 .f32 := select k0_pay107 (dynamicRotate 0 4#32 none (feats X) rotates_S8x128_d0) (feats X)
/-- The words of pair `i`: the upper half of the block from its first expert, the lower half from its second. -/
def pairW (i : ℕ) : Vec F S8x128 .i32 := select k0_pay107 (rowsAt B (slot i)) (rowsAt B (slot i + 4))
/-- The words' low halves as floats. -/
def pairLo (i : ℕ) : FVec F S8x128 .f32 := bitcastToFloat .f32 (shli (pairW B i) (broadcast S8x128 16#32))
/-- The words' high halves as floats. -/
def pairHi (i : ℕ) : FVec F S8x128 .f32 := bitcastToFloat .f32 (andi (pairW B i) (broadcast S8x128 4294901760#32))
/-- Both halves' products with the features. -/
def prod (i : ℕ) : FVec F S8x128 .f32 := addf (mulf (pairLo B i) (featsLo X)) (mulf (pairHi B i) (featsHi X))
/-- A block and itself turned by two rows. -/
def twice (P : FVec F S8x128 .f32) : FVec F S8x128 .f32 := addf P (dynamicRotate 0 2#32 none P rotates_S8x128_d0)
/-- Two blocks' sums of two rows, interleaved by pairs of rows. -/
def mix (P Q : FVec F S8x128 .f32) : FVec F S8x128 .f32 := select k0_pay108 (twice P) (dynamicRotate 0 6#32 none (twice Q) rotates_S8x128_d0)
/-- Two blocks' sums of four rows. -/
def pairSum (P Q : FVec F S8x128 .f32) : FVec F S8x128 .f32 := addf (mix P Q) (dynamicRotate 0 1#32 none (mix P Q) rotates_S8x128_d0)
/-- Four pairs' sums of four rows, interleaved: a row for each of the eight experts. -/
def group (g : ℕ) : FVec F S8x128 .f32 :=
  select k0_pay109 (pairSum (prod B X (4 * g + 3)) (prod B X (4 * g + 1))) (dynamicRotate 0 7#32 none (pairSum (prod B X (4 * g + 2)) (prod B X (4 * g))) rotates_S8x128_d0)
/-- A token's row of inner products. -/
def tokenRow : FVec F S1x128 .f32 :=
  k0_pay106 k0_pay110 k0_pay111 (group B X 0) (group B X 1) (group B X 2) (group B X 3) (group B X 4) (group B X 5) (group B X 6) (group B X 7) (group B X 8) (group B X 9) (group B X 10) (group B X 11) (group B X 12) (group B X 13) (group B X 14) (group B X 15)
end

/-! ### One entry -/

/-- A choice between the upper and the lower half of a block. -/
theorem sel_at {e : EltTy} (X Y : Vec Ideal S8x128 e) (s : Fin 8) (l : Fin 128) : select k0_pay107 X Y (ix2 s l) = if s.val < 4 then X (ix2 s l) else Y (ix2 s l) := by
  have h : ∀ (s : Fin 8) (l : Fin 128), k0_pay107 (ix2 s l) = if s.val < 4 then 1#1 else 0#1 := by decide +kernel
  show Scalar.select (k0_pay107 (ix2 s l)) _ _ = _
  rw [h s l]
  split
  · rfl
  · rfl
/-- A choice between pairs of rows. -/
theorem sel2_at (X Y : FVec Ideal S8x128 .f32) (s : Fin 8) (l : Fin 128) : select k0_pay108 X Y (ix2 s l) = if 2 ≤ s.val % 4 then X (ix2 s l) else Y (ix2 s l) := by
  have h : ∀ (s : Fin 8) (l : Fin 128), k0_pay108 (ix2 s l) = if 2 ≤ s.val % 4 then 1#1 else 0#1 := by decide +kernel
  show Scalar.select (k0_pay108 (ix2 s l)) _ _ = _
  rw [h s l]
  split
  · rfl
  · rfl
/-- A choice between odd and even rows. -/
theorem sel1_at (X Y : FVec Ideal S8x128 .f32) (s : Fin 8) (l : Fin 128) : select k0_pay109 X Y (ix2 s l) = if s.val % 2 = 1 then X (ix2 s l) else Y (ix2 s l) := by
  have h : ∀ (s : Fin 8) (l : Fin 128), k0_pay109 (ix2 s l) = if s.val % 2 = 1 then 1#1 else 0#1 := by decide +kernel
  show Scalar.select (k0_pay109 (ix2 s l)) _ _ = _
  rw [h s l]
  split
  · rfl
  · rfl
/-- The diagonal. -/
theorem eye_at : ∀ (j c : Fin 128), k0_pay110 (ix2 j c) = if j = c then 1#1 else 0#1 := by decide +kernel

/-- Row `s` of a block turned by `k` rows. -/
abbrev turn (s : Fin 8) (k : ℕ) : Fin 8 := ⟨(s.val + 8 - k) % 8, Nat.mod_lt _ (by decide)⟩
/-- A block turned by one row. -/
theorem rot1_at (X : FVec Ideal S8x128 .f32) (s : Fin 8) (l : Fin 128) : dynamicRotate 0 1#32 none X rotates_S8x128_d0 (ix2 s l) = X (ix2 (turn s 1) l) := by pointwise
/-- A block turned by two rows. -/
theorem rot2_at (X : FVec Ideal S8x128 .f32) (s : Fin 8) (l : Fin 128) : dynamicRotate 0 2#32 none X rotates_S8x128_d0 (ix2 s l) = X (ix2 (turn s 2) l) := by pointwise
/-- A block turned by four rows. -/
theorem rot4_at (X : FVec Ideal S8x128 .f32) (s : Fin 8) (l : Fin 128) : dynamicRotate 0 4#32 none X rotates_S8x128_d0 (ix2 s l) = X (ix2 (turn s 4) l) := by pointwise
/-- A block turned by six rows. -/
theorem rot6_at (X : FVec Ideal S8x128 .f32) (s : Fin 8) (l : Fin 128) : dynamicRotate 0 6#32 none X rotates_S8x128_d0 (ix2 s l) = X (ix2 (turn s 6) l) := by pointwise
/-- A block turned by seven rows. -/
theorem rot7_at (X : FVec Ideal S8x128 .f32) (s : Fin 8) (l : Fin 128) : dynamicRotate 0 7#32 none X rotates_S8x128_d0 (ix2 s l) = X (ix2 (turn s 7) l) := by pointwise

/-- One entry of a block and itself turned by two rows. -/
theorem twice_at (P : FVec Ideal S8x128 .f32) (s : Fin 8) (l : Fin 128) : twice P (ix2 s l) = P (ix2 s l) + P (ix2 (turn s 2) l) := by
  have e : twice P (ix2 s l) = P (ix2 s l) + dynamicRotate 0 2#32 none P rotates_S8x128_d0 (ix2 s l) := rfl
  rw [e, rot2_at]
/-- One entry of two blocks interleaved. -/
theorem mix_at (P Q : FVec Ideal S8x128 .f32) (s : Fin 8) (l : Fin 128) : mix P Q (ix2 s l) = if 2 ≤ s.val % 4 then twice P (ix2 s l) else twice Q (ix2 (turn s 6) l) := by
  unfold mix
  rw [sel2_at, rot6_at]
/-- One entry of two blocks' sums. -/
theorem pairSum_at (P Q : FVec Ideal S8x128 .f32) (s : Fin 8) (l : Fin 128) : pairSum P Q (ix2 s l) = mix P Q (ix2 s l) + mix P Q (ix2 (turn s 1) l) := by
  have e : pairSum P Q (ix2 s l) = mix P Q (ix2 s l) + dynamicRotate 0 1#32 none (mix P Q) rotates_S8x128_d0 (ix2 s l) := rfl
  rw [e, rot1_at]
/-- Four blocks' sums of four rows, interleaved. -/
theorem four_at (P0 P1 P2 P3 : FVec Ideal S8x128 .f32) (s : Fin 8) (l : Fin 128) :
    select k0_pay109 (pairSum P3 P1) (dynamicRotate 0 7#32 none (pairSum P2 P0) rotates_S8x128_d0) (ix2 s l)
      = ∑ r : Fin 4, (if s.val % 4 = 0 then P0 else if s.val % 4 = 1 then P1 else if s.val % 4 = 2 then P2 else P3) (ix2 (⟨4 * (s.val / 4) + r.val, by omega⟩ : Fin 8) l) := by
  rw [sel1_at, rot7_at, Fin.sum_univ_four]
  simp only [pairSum_at, mix_at, twice_at]
  fin_cases s <;> simp [turn] <;> abel

section
variable (B : Fin 128 → Vec Ideal S8x128 .i32) (X : Vec Ideal S8x128 .f32)

/-- Half `q` of the word in row `s`, lane `l` of slot `j`. -/
def half (q j : ℕ) (s : Fin 8) (l : Fin 128) : EReal := Ideal.ofBits .bf16 ((rowsAt (F := Ideal) B j (ix2 s l)).extractLsb' (q * 16) 16)
/-- The slot pair `i` reads in row `s`. -/
abbrev slotOf (i : ℕ) (s : Fin 8) : ℕ := if s.val < 4 then slot i else slot i + 4

/-- The features as they are. -/
theorem feats_at (s : Fin 8) (l : Fin 128) : feats (F := Ideal) X (ix2 s l) = X (ix2 s l) := by
  unfold feats
  pointwise
/-- The first half of the features. -/
theorem featsLo_at (s : Fin 8) (l : Fin 128) : featsLo (F := Ideal) X (ix2 s l) = X (ix2 (⟨s.val % 4, by omega⟩ : Fin 8) l) := by
  unfold featsLo
  have e := sel_at (e := .f32) (feats (F := Ideal) X) (dynamicRotate 0 4#32 none (feats (F := Ideal) X) rotates_S8x128_d0) s l
  refine e.trans ?_
  rw [rot4_at, feats_at, feats_at]
  split
  · congr 2; exact Fin.ext (by show s.val = s.val % 4; omega)
  · congr 2; exact Fin.ext (by show (s.val + 8 - 4) % 8 = s.val % 4; omega)
/-- The second half of the features. -/
theorem featsHi_at (s : Fin 8) (l : Fin 128) : featsHi (F := Ideal) X (ix2 s l) = X (ix2 (⟨s.val % 4 + 4, by omega⟩ : Fin 8) l) := by
  unfold featsHi
  have e := sel_at (e := .f32) (dynamicRotate 0 4#32 none (feats (F := Ideal) X) rotates_S8x128_d0) (feats (F := Ideal) X) s l
  refine e.trans ?_
  rw [rot4_at, feats_at, feats_at]
  split
  · congr 2; exact Fin.ext (by show (s.val + 8 - 4) % 8 = s.val % 4 + 4; omega)
  · congr 2; exact Fin.ext (by show s.val = s.val % 4 + 4; omega)

/-- One entry of the products. -/
theorem prod_at (i : ℕ) (s : Fin 8) (l : Fin 128) : prod (F := Ideal) B X i (ix2 s l)
    = half B 0 (slotOf i s) s l * X (ix2 (⟨s.val % 4, by omega⟩ : Fin 8) l) + half B 1 (slotOf i s) s l * X (ix2 (⟨s.val % 4 + 4, by omega⟩ : Fin 8) l) := by
  have e : prod (F := Ideal) B X i (ix2 s l) = Ideal.ofBits .f32 (IntOp.shli .vector (pairW (F := Ideal) B i (ix2 s l)) 16#32) * featsLo (F := Ideal) X (ix2 s l)
      + Ideal.ofBits .f32 (IntOp.andi (pairW (F := Ideal) B i (ix2 s l)) 4294901760#32) * featsHi (F := Ideal) X (ix2 s l) := rfl
  rw [e, ofBits_low, ofBits_high, featsLo_at, featsHi_at]
  unfold pairW half slotOf
  rw [sel_at]
  split <;> rfl

/-- The inner product's share of one lane, for slot `j`. -/
def lane (j : ℕ) (l : Fin 128) : EReal := ∑ r : Fin 4, (half B 0 j (⟨if j % 8 < 4 then r.val else r.val + 4, by split <;> omega⟩ : Fin 8) l * X (ix2 (⟨r.val, by omega⟩ : Fin 8) l) + half B 1 j (⟨if j % 8 < 4 then r.val else r.val + 4, by split <;> omega⟩ : Fin 8) l * X (ix2 (⟨r.val + 4, by omega⟩ : Fin 8) l))

/-- One entry of a group: its slot's share of the lane. -/
theorem group_at (g : ℕ) (s : Fin 8) (l : Fin 128) : group (F := Ideal) B X g (ix2 s l) = lane B X (8 * g + s.val) l := by
  unfold group
  rw [four_at]
  unfold lane
  refine Finset.sum_congr rfl fun r _ => ?_
  have e : (if s.val % 4 = 0 then prod (F := Ideal) B X (4 * g) else if s.val % 4 = 1 then prod (F := Ideal) B X (4 * g + 1) else if s.val % 4 = 2 then prod (F := Ideal) B X (4 * g + 2) else prod (F := Ideal) B X (4 * g + 3))
      = prod (F := Ideal) B X (4 * g + s.val % 4) := by
    have h : s.val % 4 < 4 := Nat.mod_lt _ (by decide)
    split
    · next h0 => rw [h0]; rfl
    · split
      · next h1 => rw [h1]
      · split
        · next h2 => rw [h2]
        · rw [show s.val % 4 = 3 by omega]
  rw [e, prod_at]
  have a : slotOf (4 * g + s.val % 4) (⟨4 * (s.val / 4) + r.val, by omega⟩ : Fin 8) = 8 * g + s.val := by
    show (if 4 * (s.val / 4) + r.val < 4 then slot (4 * g + s.val % 4) else slot (4 * g + s.val % 4) + 4) = _
    unfold slot
    split <;> omega
  have b : (⟨4 * (s.val / 4) + r.val, by omega⟩ : Fin 8) = ⟨if (8 * g + s.val) % 8 < 4 then r.val else r.val + 4, by split <;> omega⟩ := Fin.ext (by show 4 * (s.val / 4) + r.val = if (8 * g + s.val) % 8 < 4 then r.val else r.val + 4; split <;> omega)
  have c : (⟨(4 * (s.val / 4) + r.val) % 4, by omega⟩ : Fin 8) = ⟨r.val, by omega⟩ := Fin.ext (by show (4 * (s.val / 4) + r.val) % 4 = r.val; omega)
  have d : (⟨(4 * (s.val / 4) + r.val) % 4 + 4, by omega⟩ : Fin 8) = ⟨r.val + 4, by omega⟩ := Fin.ext (by show (4 * (s.val / 4) + r.val) % 4 + 4 = r.val + 4; omega)
  rw [a, c, d, b]
end

/-! ### The sum over the lanes -/

/-- The blocks one below the other. -/
def stack (Y : Fin 16 → FVec Ideal S8x128 .f32) : FVec Ideal S128x128 .f32 :=
  concatenate S128x128 0 [⟨S8x128, Y 0⟩, ⟨S8x128, Y 1⟩, ⟨S8x128, Y 2⟩, ⟨S8x128, Y 3⟩, ⟨S8x128, Y 4⟩, ⟨S8x128, Y 5⟩, ⟨S8x128, Y 6⟩, ⟨S8x128, Y 7⟩, ⟨S8x128, Y 8⟩, ⟨S8x128, Y 9⟩, ⟨S8x128, Y 10⟩, ⟨S8x128, Y 11⟩, ⟨S8x128, Y 12⟩, ⟨S8x128, Y 13⟩, ⟨S8x128, Y 14⟩, ⟨S8x128, Y 15⟩] concatenates_S8x128_S8x128_S8x128_S8x128_S8x128_S8x128_S8x128_S8x128_S8x128_S8x128_S8x128_S8x128_S8x128_S8x128_S8x128_S8x128_S128x128_d0
/-- What the first narrowing leaves over. -/
def rest (W : FVec Ideal S128x128 .f32) : FVec Ideal S128x128 .f32 := subf W (extf .f32 (truncf .bf16 W bitsLt_bf16_f32) bitsLt_bf16_f32)
/-- A matrix in three narrow parts. -/
def parts (W : FVec Ideal S128x128 .f32) : FVec Ideal S128x384 .bf16 :=
  concatenate S128x384 1 [⟨S128x128, truncf .bf16 W bitsLt_bf16_f32⟩, ⟨S128x128, truncf .bf16 (rest W) bitsLt_bf16_f32⟩, ⟨S128x128, truncf .bf16 (rest (rest W)) bitsLt_bf16_f32⟩] concatenates_S128x128_S128x128_S128x128_S128x384_d1
/-- The rows' sums, in every column. -/
def rowSums (W : FVec Ideal S128x128 .f32) : FVec Ideal S128x128 .f32 := matmul dot_S128x384_S384x128_S128x128_1_0_0_1_n_n none (parts W) k0_pay111 (constant S128x128 .f32 0x00000000#32)
/-- The diagonal of the rows' sums as one row. -/
def sumsRow (W : FVec Ideal S128x128 .f32) : FVec Ideal S1x128 .f32 :=
  shapeCast S1x128 (multiReduction .add [0] S128 (select k0_pay110 (rowSums W) (broadcast S128x128 (Scalar.ofBits .f32 0x00000000#32))) 0x00000000#32 reduces_S128x128_S128 (.inl rfl) rfl) shapeCasts_S128_S1x128

/-- One column's sum. -/
theorem reduce_at (Y : FVec Ideal S128x128 .f32) (c : Fin 128) : (shapeCast S1x128 (multiReduction .add [0] S128 Y 0x00000000#32 reduces_S128x128_S128 (.inl rfl) rfl) shapeCasts_S128_S1x128 : FVec Ideal S1x128 .f32) (ix2 0 c) = ∑ j : Fin 128, Y (ix2 j c) := by
  pointwise
/-- One entry of the product with ones. -/
theorem dot_at (A : FVec Ideal S128x384 .bf16) (O : FVec Ideal S384x128 .bf16) (j c : Fin 128) : matmul dot_S128x384_S384x128_S128x128_1_0_0_1_n_n none A O (constant S128x128 .f32 0x00000000#32) (ix2 j c) = ∑ k : Fin 384, A (ix2 j k) * O (ix2 k c) := by
  pointwise
/-- The ones. -/
theorem ones_at (k : Fin 384) (c : Fin 128) : (k0_pay111 (F := Ideal)) (ix2 k c) = 1 := by
  show Ideal.ofBits .bf16 0x3F80#16 = 1
  rw [← ofBits_of_toNat 0x3F800000#32 0x3F80#16 (by decide)]
  exact Ideal.ofBits_one_f32
/-- A matrix of reals leaves nothing over. -/
theorem rest_zero (W : FVec Ideal S128x128 .f32) (h : ∀ i, IsR (W i)) : rest W = fun _ => 0 := by
  funext i
  obtain ⟨r, hr⟩ := h i
  show W i - W i = 0
  rw [hr, ← EReal.coe_sub, sub_self, EReal.coe_zero]
/-- One entry of the three parts of a matrix of reals. -/
theorem parts_at (W : FVec Ideal S128x128 .f32) (h : ∀ i, IsR (W i)) (j : Fin 128) (k : Fin 384) : parts W (ix2 j k) = if hk : k.val < 128 then W (ix2 j ⟨k.val, hk⟩) else 0 := by
  have r1 := rest_zero W h
  have r2 := rest_zero (rest W) (fun i => by rw [r1]; exact IsR.zero)
  unfold parts
  rw [r2, r1]
  pointwise
  split_ifs <;> rfl
/-- One row's sum. -/
theorem rowSums_at (W : FVec Ideal S128x128 .f32) (h : ∀ i, IsR (W i)) (j c : Fin 128) : rowSums W (ix2 j c) = ∑ l : Fin 128, W (ix2 j l) := by
  unfold rowSums
  rw [dot_at]
  simp only [ones_at, mul_one, parts_at W h]
  have e := Fin.sum_univ_add (fun k : Fin (128 + 256) => if hk : k.val < 128 then W (ix2 j ⟨k.val, hk⟩) else 0)
  refine e.trans ?_
  simp
/-- The diagonal of the rows' sums. -/
theorem sumsRow_at (W : FVec Ideal S128x128 .f32) (h : ∀ i, IsR (W i)) (c : Fin 128) : sumsRow W (ix2 0 c) = ∑ l : Fin 128, W (ix2 c l) := by
  unfold sumsRow
  rw [reduce_at, ← rowSums_at W h c c]
  have e : ∀ j : Fin 128, select k0_pay110 (rowSums W) (broadcast S128x128 (Scalar.ofBits (F := Ideal) .f32 0x00000000#32)) (ix2 j c) = if j = c then rowSums W (ix2 j c) else 0 := by
    intro j
    show Scalar.select (k0_pay110 (ix2 j c)) (rowSums W (ix2 j c)) (Ideal.ofBits .f32 0x00000000#32) = _
    rw [eye_at, Ideal.ofBits_zero_f32]
    split
    · rfl
    · rfl
  simp only [e]
  rw [Finset.sum_ite_eq' Finset.univ c (fun j => rowSums W (ix2 j c))]
  simp

/-- Equal blocks at equal rows. -/
theorem pick (Y : Fin 16 → FVec Ideal S8x128 .f32) (a b : Fin 16) (s t : Fin 8) (l : Fin 128) (h : a.val = b.val) (g : s.val = t.val) : Y a (ix2 s l) = Y b (ix2 t l) := by
  rw [Fin.ext h, Fin.ext g]
/-- One entry of the stacked blocks. -/
theorem stack_at (Y : Fin 16 → FVec Ideal S8x128 .f32) (j l : Fin 128) : stack Y (ix2 j l) = Y (⟨j.val / 8, by omega⟩ : Fin 16) (ix2 (⟨j.val % 8, Nat.mod_lt _ (by decide)⟩ : Fin 8) l) := by
  have hj := j.isLt
  exact concatenate_ofFn_apply (t := S128x128) (s₁ := S8x128) (0 : Fin 2) Y concatenates_S8x128_S8x128_S8x128_S8x128_S8x128_S8x128_S8x128_S8x128_S8x128_S8x128_S8x128_S8x128_S8x128_S8x128_S8x128_S8x128_S128x128_d0 rfl 8 rfl (ix2 j l)
    (⟨j.val / 8, by omega⟩ : Fin 16) rfl (ix2 (⟨j.val % 8, Nat.mod_lt _ (by decide)⟩ : Fin 8) l) rfl
    (fun b hb => match b with
      | ⟨0, _⟩ => absurd rfl hb
      | ⟨1, _⟩ => rfl)

/-- A token's row, where every lane's share is a real number. -/
theorem tokenRow_at (B : Fin 128 → Vec Ideal S8x128 .i32) (X : Vec Ideal S8x128 .f32) (h : ∀ j l : Fin 128, IsR (lane B X j.val l)) (c : Fin 128) :
    tokenRow (F := Ideal) B X (ix2 0 c) = ∑ l : Fin 128, lane B X c.val l := by
  have e : tokenRow (F := Ideal) B X = sumsRow (stack fun g => group (F := Ideal) B X g.val) := rfl
  have w : ∀ j l : Fin 128, stack (fun g => group (F := Ideal) B X g.val) (ix2 j l) = lane B X j.val l := by
    intro j l
    rw [stack_at]
    beta_reduce
    rw [group_at]
    congr 1
    show 8 * (j.val / 8) + j.val % 8 = j.val
    omega
  have hr : ∀ i, IsR (stack (fun g => group (F := Ideal) B X g.val) i) := by
    intro i
    have ei : i = ix2 (i 0 : Fin 128) (i 1 : Fin 128) := by
      funext a
      match a with
      | ⟨0, _⟩ => rfl
      | ⟨1, _⟩ => rfl
    have q : stack (fun g => group (F := Ideal) B X g.val) i = lane B X (i 0 : Fin 128).val (i 1 : Fin 128) := (congrArg (stack _) ei).trans (w (i 0 : Fin 128) (i 1 : Fin 128))
    rw [q]
    exact h _ _
  rw [e, sumsRow_at _ hr]
  exact Finset.sum_congr rfl fun l _ => w c l

end Cert.Mixer.Act

end
-- ==== Proof.ActRun.lean ====
module

public import proofs.«01_k».proof.Proof.ActX
public import proofs.«01_k».proof.Proof.Scores
public import proofs.«01_k».proof.Proof.Sum
public import proofs.«01_k».proof.Proof.Gen.Kernel4Ideal

/-! The first expert call from its blocks to its result. -/

@[expose] public section

set_option maxRecDepth 16384

noncomputable section

open Idealize.ShloMosaic Idealize.ShloMosaic.TcCoe Idealize.SL.Sem

namespace Cert.Mixer.Act

/-- What a trip adds is among the pieces collected by then. -/
theorem mem_trips {α : Type} (N : ℕ) (L : ℕ → List α) (T : Fin N → List α) (hs : ∀ k : Fin N, L (k.val + 1) = T k ++ L k.val) :
    ∀ n, n ≤ N → ∀ k : Fin N, k.val < n → ∀ p, p ∈ T k → p ∈ L n
  | 0, _, k, hk, _, _ => absurd hk (Nat.not_lt_zero _)
  | n + 1, h, k, hk, p, hp => by
    rw [hs ⟨n, h⟩]
    by_cases e : k.val = n
    · have ek : k = ⟨n, h⟩ := Fin.ext e
      subst ek
      exact List.mem_append_left _ hp
    · exact List.mem_append_right _ (mem_trips N L T hs n (by omega) k (by omega) p hp)

/-- What a trip covers is covered by the pieces collected by then. -/
theorem cover_trips {s : Shape} {e : EltTy} {Val : EltTy → Type} (y : s.Idx) (N : ℕ) (L : ℕ → List (View.Piece Val s e)) (T : Fin N → List (View.Piece Val s e)) (hs : ∀ k : Fin N, L (k.val + 1) = T k ++ L k.val)
    (k : Fin N) (h : ∃ p ∈ T k, y ∈ p.1.set) : ∃ p ∈ L N, y ∈ p.1.set := by
  obtain ⟨p, hp, hy⟩ := h
  exact ⟨p, mem_trips N L T hs N (le_refl _) k k.isLt p hp, hy⟩

open Cert.Kernel4Ideal Cert.Kernel4Ideal.Gen Cert.Kernel4Ideal.Value

/-- The rows a word starts at. -/
abbrev rowsOf (arg4 : Memref sig .tc .vmem S65544x128 .i32) (X4 : BufTy.Contents (Elt Ideal) arg4.view.ty) (w : BitVec 32) (h : RowIn w) : Vec Ideal S8x128 .i32 :=
  arg4.view.readAt (Elt Ideal) (Rect.unit (s := S65544x128) ![(Scalar.indexCast w : Index).toNat, 0] S8x128.size h).toLoadRect X4
/-- A token's features in its point's block. -/
abbrev featsOf (arg2 : Memref sig .tc .vmem S512x128 .f32) (X2 : BufTy.Contents (Elt Ideal) arg2.view.ty) (k : Fin k0_t1_loop.trips) : Vec Ideal S8x128 .f32 :=
  arg2.view.readAt (Elt Ideal) (Rect.unit (s := S512x128) (k0_off1 k) S8x128.size (k0_off1_inb k)).toLoadRect X2

variable (m : (ℓ : Loc nD τ sig) → Buf (Elt Ideal) ℓ)

/-- The features as a matrix. -/
@[irreducible] def featM (c : Dev nD) : FVec Ideal S32768x1024 .f32 := shapeCast S32768x1024 (m ((c : Thread nD τ).loc main_arg2) : FVec Ideal S16x2048x1024 .f32) shapeCasts_S16x2048x1024_S32768x1024
/-- The features are real numbers when the argument's are. -/
theorem featM_real (c : Dev nD) (h : ∀ i, IsR ((show FVec Ideal S16x2048x1024 .f32 from m ((c : Thread nD τ).loc main_arg2)) i)) (i : S32768x1024.Idx) : IsR (featM m c i) := by
  unfold featM
  exact h _

set_option maxHeartbeats 2000000 in
/-- The features as the call receives them. -/
theorem feats_eq (c : Dev nD) : V m c main_v11 = shapeCast S262144x128 (featM m c) shapeCasts_S32768x1024_S262144x128 := by
  unfold featM
  show StableHlo.after (List.flatten [hostOps0, hostOps0_1, hostOps0_2, hostOps0_3, hostOps0_4]) _ (Proc.devRef .tc main_v11) = _
  simp only [hostOps0, hostOps0_1, hostOps0_2, hostOps0_3, hostOps0_4, List.flatten_cons, List.flatten_nil, List.append_nil, List.cons_append, List.nil_append]
  after_results_simp
  rfl

/-- A point's blocks: its rows of the features and of the gates, all of the table, and its rows of the result. -/
theorem idx14 : ∀ t : Fin cfg0.N, win0_1.index t (0 : Fin 2) = t.val ∧ win0_1.index t (1 : Fin 2) = 0 ∧ win0_2.index t (0 : Fin 2) = t.val ∧ win0_2.index t (1 : Fin 2) = 0
      ∧ win0_3.index t (0 : Fin 2) = 0 ∧ win0_3.index t (1 : Fin 2) = 0 ∧ win0_4.index t (0 : Fin 2) = t.val ∧ win0_4.index t (1 : Fin 2) = 0 :=
  (by decide +kernel : ∀ t : Fin grid0.N, _)

/-- One feature in a point's block. -/
theorem blk1 (c : Dev nD) (t : Fin cfg0.N) (ht : t.val < 512) (k : Fin 64) (s : Fin 8) (l : Fin 128) :
    iblk m c 1 t (ix2 (⟨8 * k.val + s.val, by omega⟩ : Fin 512) l) = featM m c (ix2 (⟨64 * t.val + k.val, by omega⟩ : Fin 32768) (⟨128 * s.val + l.val, by omega⟩ : Fin 1024)) := by
  obtain ⟨e0, e1, e2, e3, e4, e5, e6, e7⟩ := idx14 t
  rw [← flat_at (featM m c) (⟨64 * t.val + k.val, by omega⟩ : Fin 32768) s l]
  unfold iblk
  rw [View.read_apply]
  show V m c main_v11 _ = _
  rw [feats_eq]
  congr 1
  funext a
  apply Fin.ext
  match a with
  | ⟨0, _⟩ => show win0_1.index t (0 : Fin 2) * 512 + 1 * (8 * k.val + s.val) = 8 * (64 * t.val + k.val) + s.val; omega
  | ⟨1, _⟩ => show win0_1.index t (1 : Fin 2) * 128 + 1 * l.val = l.val; omega
/-- One gate in a point's block. -/
theorem blk2 (c : Dev nD) (t : Fin cfg0.N) (ht : t.val < 512) (k : Fin 64) (j : Fin 128) :
    iblk m c 2 t (ix2 k j) = m ((c : Thread nD τ).loc main_arg1) (ix2 (⟨64 * t.val + k.val, by omega⟩ : Fin 32768) j) := by
  obtain ⟨e0, e1, e2, e3, e4, e5, e6, e7⟩ := idx14 t
  unfold iblk
  rw [View.read_apply]
  show V m c main_arg1 _ = _
  rw [V_main_arg1]
  congr 1
  funext a
  apply Fin.ext
  match a with
  | ⟨0, _⟩ => show win0_2.index t (0 : Fin 2) * 64 + 1 * k.val = 64 * t.val + k.val; omega
  | ⟨1, _⟩ => show win0_2.index t (1 : Fin 2) * 128 + 1 * j.val = j.val; omega
/-- One word of the table. -/
theorem blk3 (c : Dev nD) (t : Fin cfg0.N) (k : Fin 65544) (j : Fin 128) :
    iblk m c 3 t (ix2 k j) = m ((c : Thread nD τ).loc main_arg3) (ix2 k j) := by
  obtain ⟨e0, e1, e2, e3, e4, e5, e6, e7⟩ := idx14 t
  unfold iblk
  rw [View.read_apply]
  show V m c main_arg3 _ = _
  rw [V_main_arg3]
  congr 1
  funext a
  apply Fin.ext
  match a with
  | ⟨0, _⟩ => show win0_3.index t (0 : Fin 2) * 65544 + 1 * k.val = k.val; omega
  | ⟨1, _⟩ => show win0_3.index t (1 : Fin 2) * 128 + 1 * j.val = j.val; omega

/-- One word of the rows a word starts at. -/
theorem rowsOf_at (M : Memref sig .tc .vmem S65544x128 .i32) (hM : M.IsWhole) (X : S65544x128.Idx → Elt Ideal .i32) (w : BitVec 32) (h : RowIn w) (hw : w.toNat ≤ 65536) (s : Fin 8) (l : Fin 128) :
    rowsOf M (hM.unread X) w h (ix2 s l) = X (ix2 (⟨w.toNat + s.val, by omega⟩ : Fin 65544) l) := by
  have e := idx_toNat w hw
  refine (Memref.IsWhole.readAt_unread hM X _ _).trans (congrArg X (funext fun a => Fin.ext ?_))
  match a with
  | ⟨0, _⟩ => show (Scalar.indexCast w : Index).toNat + 1 * s.val = w.toNat + s.val; omega
  | ⟨1, _⟩ => show 0 + 1 * l.val = l.val; omega
/-- Where a trip reads its token's features. -/
theorem off1_val : ∀ k : Fin k0_t1_loop.trips, k0_off1 k 0 = 8 * k.val ∧ k0_off1 k 1 = 0 := by decide +kernel
/-- Where a trip stores. -/
theorem off258_val : ∀ k : Fin k0_t1_loop.trips, k0_off258 k 0 = k.val ∧ k0_off258 k 1 = 0 := by decide +kernel
/-- One of a token's features. -/
theorem featsOf_at (M : Memref sig .tc .vmem S512x128 .f32) (hM : M.IsWhole) (X : S512x128.Idx → Elt Ideal .f32) (k : Fin k0_t1_loop.trips) (s : Fin 8) (l : Fin 128) :
    featsOf M (hM.unread X) k (ix2 s l) = X (ix2 (⟨8 * k.val + s.val, by have := (trip_val k).1; omega⟩ : Fin 512) l) := by
  obtain ⟨e0, e1⟩ := off1_val k
  refine (Memref.IsWhole.readAt_unread hM X _ _).trans (congrArg X (funext fun a => Fin.ext ?_))
  match a with
  | ⟨0, _⟩ => show k0_off1 k 0 + 1 * s.val = 8 * k.val + s.val; omega
  | ⟨1, _⟩ => show k0_off1 k 1 + 1 * l.val = l.val; omega

/-- The precondition on the arguments. -/
abbrev Finite4 : Prop := ∀ c : Dev nD, Cert.Pre_chosen_finite.fn (F := Ideal) (m ((c : Thread nD τ).loc main_arg0)) (m ((c : Thread nD τ).loc main_arg1)) (m ((c : Thread nD τ).loc main_arg2)) (m ((c : Thread nD τ).loc main_arg3)) = fun _ => 1#1
/-- The expert numbers are in range. -/
abbrev InRange : Prop := ∀ (c : Dev nD) (p : Fin 32768) (j : Fin 128), (m ((c : Thread nD τ).loc main_arg0) (ix2 p j)).toNat < 16384
/-- The precondition gives this. -/
theorem inRange (hp : Finite4 m) : InRange m := fun c => (chosen_finite_at _ _ _ _ (hp c)).1

/-- The rows of a trip's slots. -/
abbrev rowsT (hid : InRange m) (c : Dev nD) (t : Fin cfg0.N) (k : Fin k0_t1_loop.trips) : Fin 128 → Vec Ideal S8x128 .i32 :=
  fun j => rowsOf (ms0_3 t) ((hs0_3 t).unread (iblk m c 3 t)) (wordOf (F := Ideal) (ms0_0 t) ((hs0_0 t).unread (iblk m c 0 t)) k j) (rowIn m hid c t k j)
/-- The features of a trip's token. -/
abbrev featsT (c : Dev nD) (t : Fin cfg0.N) (k : Fin k0_t1_loop.trips) : Vec Ideal S8x128 .f32 := featsOf (ms0_1 t) ((hs0_1 t).unread (iblk m c 1 t)) k

/-- A value read for a slot is its expert's. -/
theorem half_eq (hid : InRange m) (c : Dev nD) (t : Fin cfg0.N) (ht : t.val < 512) (k : Fin k0_t1_loop.trips) (q : ℕ) (J l : Fin 128) (r : Fin 4) :
    half (rowsT m hid c t k) q J.val (⟨if J.val % 8 < 4 then r.val else r.val + 4, by split <;> omega⟩ : Fin 8) l
      = feat (m ((c : Thread nD τ).loc main_arg3)) (⟨(m ((c : Thread nD τ).loc main_arg0) (ix2 (⟨64 * t.val + k.val, by have := (trip_val k).1; omega⟩ : Fin 32768) J)).toNat % 16384, Nat.mod_lt _ (by decide)⟩ : Fin 16384) q r l := by
  have hk := (trip_val k).1
  have ej : (⟨J.val % 128, Nat.mod_lt _ (by decide)⟩ : Fin 128) = J := Fin.ext (Nat.mod_eq_of_lt J.isLt)
  unfold half rowsAt
  rw [ej]
  have hlt := hid c (⟨64 * t.val + k.val, by omega⟩ : Fin 32768) J
  have hw : wordOf (F := Ideal) (e := .i32) (ms0_0 t) ((hs0_0 t).unread (iblk m c 0 t)) k J = rowWord (m ((c : Thread nD τ).loc main_arg0) (ix2 (⟨64 * t.val + k.val, by omega⟩ : Fin 32768) J)) J :=
    (wordOf_eq _ _ _ k J).trans (blk0 m c t ht _ J)
  have hn := rowWord_toNat _ J hlt
  rw [← hw] at hn
  have hle : (wordOf (F := Ideal) (e := .i32) (ms0_0 t) ((hs0_0 t).unread (iblk m c 0 t)) k J).toNat ≤ 65536 := by
    rw [hw]
    exact rowWord_le _ J hlt
  unfold feat
  refine congrArg (fun v : BitVec 32 => Ideal.ofBits .bf16 (v.extractLsb' (q * 16) 16)) ?_
  refine (rowsOf_at (ms0_3 t) (hs0_3 t) (iblk m c 3 t) _ _ hle _ l).trans ((blk3 m c t _ l).trans (congrArg (m ((c : Thread nD τ).loc main_arg3)) (congrArg (fun a : Fin 65544 => (ix2 a l : S65544x128.Idx)) (Fin.ext ?_))))
  show _ + (if J.val % 8 < 4 then r.val else r.val + 4) = 4 + 4 * ((m ((c : Thread nD τ).loc main_arg0) (ix2 (⟨64 * t.val + k.val, by omega⟩ : Fin 32768) J)).toNat % 16384) + r.val
  rw [hn, Nat.mod_eq_of_lt hlt]
  split <;> omega

/-- One of the features of a trip's token. -/
theorem featsT_at (c : Dev nD) (t : Fin cfg0.N) (ht : t.val < 512) (k : Fin k0_t1_loop.trips) (s : Fin 8) (l : Fin 128) :
    featsT m c t k (ix2 s l) = featM m c (ix2 (⟨64 * t.val + k.val, by have := (trip_val k).1; omega⟩ : Fin 32768) (⟨128 * s.val + l.val, by omega⟩ : Fin 1024)) :=
  (featsOf_at (ms0_1 t) (hs0_1 t) (iblk m c 1 t) k s l).trans (blk1 m c t ht (⟨k.val, (trip_val k).1⟩ : Fin 64) s l)

/-- One lane's share of a slot's inner product. -/
theorem lane_eq (hid : InRange m) (c : Dev nD) (t : Fin cfg0.N) (ht : t.val < 512) (k : Fin k0_t1_loop.trips) (J l : Fin 128) :
    lane (rowsT m hid c t k) (featsT m c t k) J.val l
      = ∑ r : Fin 4, laneTerm (featM m c) (m ((c : Thread nD τ).loc main_arg3)) (⟨(m ((c : Thread nD τ).loc main_arg0) (ix2 (⟨64 * t.val + k.val, by have := (trip_val k).1; omega⟩ : Fin 32768) J)).toNat % 16384, Nat.mod_lt _ (by decide)⟩ : Fin 16384) (⟨64 * t.val + k.val, by have := (trip_val k).1; omega⟩ : Fin 32768) l r := by
  unfold lane laneTerm
  refine Finset.sum_congr rfl fun r _ => ?_
  rw [half_eq m hid c t ht, half_eq m hid c t ht, featsT_at m c t ht, featsT_at m c t ht]

/-- A lane's share is a real number. -/
theorem lane_real (hp : Finite4 m) (c : Dev nD) (t : Fin cfg0.N) (ht : t.val < 512) (k : Fin k0_t1_loop.trips) (J l : Fin 128) : IsR (lane (rowsT m (inRange m hp) c t k) (featsT m c t k) J.val l) := by
  obtain ⟨h0, h1, h2⟩ := chosen_finite_at _ _ _ _ (hp c)
  rw [lane_eq m (inRange m hp) c t ht]
  refine IsR.sum _ _ fun r _ => ?_
  unfold laneTerm
  exact ((feat_real _ h2 _ 0 r l).mul (featM_real m c h1 _)).add ((feat_real _ h2 _ 1 r l).mul (featM_real m c h1 _))

/-- A point's block of inner products. -/
def preRes (c : Dev nD) (t : Fin cfg0.N) (ht : t.val < 512) : S64x128.Idx → EReal := fun y =>
  preact (featM m c) (m ((c : Thread nD τ).loc main_arg0)) (m ((c : Thread nD τ).loc main_arg3)) (⟨64 * t.val + (y 0).val, by have : (y 0).val < 64 := (y 0).isLt; omega⟩ : Fin 32768) (⟨(y 1).val, (y 1).isLt⟩ : Fin 128)

set_option maxHeartbeats 4000000 in
/-- A trip's row of inner products, entry by entry. -/
theorem row_eq (hp : Finite4 m) (c : Dev nD) (t : Fin cfg0.N) (ht : t.val < 512) (k : Fin k0_t1_loop.trips) (J : Fin 128) :
    tokenRow (F := Ideal) (rowsT m (inRange m hp) c t k) (featsT m c t k) (ix2 (0 : Fin 1) J)
      = preact (featM m c) (m ((c : Thread nD τ).loc main_arg0)) (m ((c : Thread nD τ).loc main_arg3)) (⟨64 * t.val + k.val, by have := (trip_val k).1; omega⟩ : Fin 32768) J := by
  refine (tokenRow_at _ _ (lane_real m hp c t ht k) J).trans ?_
  unfold preact
  exact Finset.sum_congr rfl fun l _ => lane_eq m (inRange m hp) c t ht k J l

/-- Where a trip's row lies in the block. -/
theorem emb_val (k : Fin k0_t1_loop.trips) (x : S1x128.Idx) :
    ((Rect.unit (s := S64x128) (k0_off258 k) S1x128.size (k0_off258_inb k)).emb x 0).val = k.val
      ∧ ((Rect.unit (s := S64x128) (k0_off258 k) S1x128.size (k0_off258_inb k)).emb x 1).val = (x 1).val := by
  obtain ⟨e0, e1⟩ := off258_val k
  have h0 : (x 0).val < 1 := (x 0).isLt
  have b0 : ((Rect.unit (s := S64x128) (k0_off258 k) S1x128.size (k0_off258_inb k)).emb x 0).val = k0_off258 k 0 + 1 * (x 0).val := rfl
  have b1 : ((Rect.unit (s := S64x128) (k0_off258 k) S1x128.size (k0_off258_inb k)).emb x 1).val = k0_off258 k 1 + 1 * (x 1).val := rfl
  rw [e0] at b0
  rw [e1] at b1
  exact ⟨by omega, by omega⟩

set_option maxHeartbeats 4000000 in
/-- An entry a trip stores is that entry of the point's block of inner products. -/
theorem stored_eq (hp : Finite4 m) (c : Dev nD) (t : Fin cfg0.N) (ht : t.val < 512) (k : Fin k0_t1_loop.trips) (x : S1x128.Idx) :
    tokenRow (F := Ideal) (rowsT m (inRange m hp) c t k) (featsT m c t k) x = preRes m c t ht ((Rect.unit (s := S64x128) (k0_off258 k) S1x128.size (k0_off258_inb k)).emb x) := by
  obtain ⟨b0, b1⟩ := emb_val k x
  generalize (Rect.unit (s := S64x128) (k0_off258 k) S1x128.size (k0_off258_inb k)).emb x = z at b0 b1 ⊢
  have h0 : (x 0).val < 1 := (x 0).isLt
  have h1 : (x 1).val < 128 := (x 1).isLt
  have hk := (trip_val k).1
  have hz : (z 0).val < 64 := (z 0).isLt
  have hz1 : (z 1).val < 128 := (z 1).isLt
  have ex : x = ix2 (0 : Fin 1) (⟨(x 1).val, h1⟩ : Fin 128) := by
    funext a
    match a with
    | ⟨0, _⟩ => exact Fin.ext (by show (x 0).val = 0; omega)
    | ⟨1, _⟩ => rfl
  have f0 : (⟨64 * t.val + k.val, by omega⟩ : Fin 32768) = ⟨64 * t.val + (z 0).val, by omega⟩ := Fin.ext (by show 64 * t.val + k.val = 64 * t.val + (z 0).val; rw [b0])
  have f1 : (⟨(x 1).val, h1⟩ : Fin 128) = ⟨(z 1).val, hz1⟩ := Fin.ext b1.symm
  refine (congrArg (tokenRow (F := Ideal) (rowsT m (inRange m hp) c t k) (featsT m c t k)) ex).trans ((row_eq m hp c t ht k _).trans ?_)
  unfold preRes
  exact congrArg₂ (fun (a : Fin 32768) (b : Fin 128) => preact (featM m c) (m ((c : Thread nD τ).loc main_arg0)) (m ((c : Thread nD τ).loc main_arg3)) a b) f0 f1

/-- One entry of the last steps, as the kernel takes them. -/
theorem last_at (G A : Vec Ideal S64x128 .f32) (k : Fin 64) (j : Fin 128) : k0_pay1 (F := Ideal) G A (ix2 k j)
    = G (ix2 k j) * (A (ix2 k j) * (Ideal.ofBits .f32 0x3F000000#32 * (1 + Ideal.tanh (Ideal.ofBits .f32 0x3F4C422A#32 * (A (ix2 k j) + Ideal.ofBits .f32 0x3D372713#32 * (A (ix2 k j) * (A (ix2 k j) * A (ix2 k j)))))))) := by
  unfold k0_pay1
  pointwise
/-- One entry of the last steps. -/
theorem gelu_at (G A : Vec Ideal S64x128 .f32) (y : S64x128.Idx) : k0_pay1 (F := Ideal) G A y = G y * gelu (A y) := by
  have ey : y = ix2 (⟨(y 0).val, (y 0).isLt⟩ : Fin 64) (⟨(y 1).val, (y 1).isLt⟩ : Fin 128) := by
    funext a
    match a with
    | ⟨0, _⟩ => rfl
    | ⟨1, _⟩ => rfl
  have h : ∀ v : EReal, v * (v * v) = v * v * v := fun v => mul_comm _ _
  refine (congrArg _ ey).trans ((last_at G A _ _).trans ?_)
  rw [h, ← ey]
  rfl

/-- A point's block of the result. -/
def blockRes (c : Dev nD) (t : Fin cfg0.N) (ht : t.val < 512) : S64x128.Idx → EReal := fun y =>
  (show FVec Ideal S32768x128 .f32 from m ((c : Thread nD τ).loc main_arg1)) (ix2 (⟨64 * t.val + (y 0).val, by have : (y 0).val < 64 := (y 0).isLt; omega⟩ : Fin 32768) (⟨(y 1).val, (y 1).isLt⟩ : Fin 128)) * gelu (preRes m c t ht y)

set_option maxHeartbeats 8000000 in
/-- What a point leaves in its block. -/
theorem outs_eq (hp : Finite4 m) (hH : Hyps m) (c : Dev nD) (t : Fin cfg0.N) (ht : t.val < 512) (y : S64x128.Idx) : outsAt0 m hH c t y = blockRes m c t ht y := by
  have hz : (![0, 0] : Fin 2 → ℕ) = fun _ => 0 := by decide
  unfold outsAt0 out0_A_4
  unfold kernelRun0_A
  dsimp only
  generalize hL : pb_k0_t1 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = L
  have hpc : View.PiecesOf (preRes m c t ht) (L 64) := by
    subst hL
    refine Cert.Mixer.Peer.pieces_trips (preRes m c t ht) 64 _ _ ?_ (fun k => pb_k0_t1_succ (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ k) (fun k => ?_) 64 (le_refl _)
    · rfl
    · unfold tripL_k0_t1
      unfold trip_k0_t1
      refine ⟨fun x => ?_, trivial⟩
      exact stored_eq m hp c t ht k x
  have hcov : ∀ y : S64x128.Idx, ∃ p ∈ L 64, y ∈ p.1.set := by
    subst hL
    intro y
    have h0 : (y 0).val < 64 := (y 0).isLt
    have h1 : (y 1).val < 128 := (y 1).isLt
    obtain ⟨e0, e1⟩ := off258_val ⟨(y 0).val, h0⟩
    refine cover_trips y 64 _ _ (fun k => pb_k0_t1_succ (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ k) ⟨(y 0).val, h0⟩ ?_
    unfold tripL_k0_t1
    unfold trip_k0_t1
    refine ⟨_, List.mem_cons_self, ?_⟩
    show y ∈ (Rect.unit (s := S64x128) (k0_off258 ⟨(y 0).val, h0⟩) S1x128.size (k0_off258_inb ⟨(y 0).val, h0⟩)).set
    rw [Rect.mem_set_unit]
    intro a
    match a with
    | ⟨0, _⟩ => show k0_off258 ⟨(y 0).val, h0⟩ 0 ≤ (y 0).val ∧ (y 0).val < k0_off258 ⟨(y 0).val, h0⟩ 0 + 1; rw [e0]; exact ⟨le_refl _, Nat.lt_succ_self _⟩
    | ⟨1, _⟩ => show k0_off258 ⟨(y 0).val, h0⟩ 1 ≤ (y 1).val ∧ (y 1).val < k0_off258 ⟨(y 0).val, h0⟩ 1 + 128; rw [e1]; omega
  clear hL
  refine (View.read_writes_junk_apply_eq_canon _ _ _).trans ?_
  refine (congrFun (View.canon_cons_unit_zero (S := S64x128) hz _ _ _) y).trans ?_
  rw [View.readCov_eq_canon']
  refine (gelu_at _ _ y).trans ?_
  have hi : (Rect.unit (s := S64x128) ![0, 0] ![64, 128] inb_S64x128_S64x128_0_0).toLoadRect.idx y = y := by
    funext a
    apply Fin.ext
    match a with
    | ⟨0, _⟩ => show 0 + 1 * (y 0).val = (y 0).val; omega
    | ⟨1, _⟩ => show 0 + 1 * (y 1).val = (y 1).val; omega
  unfold blockRes
  refine congrArg₂ (fun a b => a * gelu b) ?_ ?_
  · refine (Memref.IsWhole.readAt_unread (hs0_2 t) (iblk m c 2 t) _ _).trans ((congrArg (iblk m c 2 t) hi).trans ?_)
    have ey : y = ix2 (⟨(y 0).val, (y 0).isLt⟩ : Fin 64) (⟨(y 1).val, (y 1).isLt⟩ : Fin 128) := by
      funext a
      match a with
      | ⟨0, _⟩ => rfl
      | ⟨1, _⟩ => rfl
    exact (congrArg (iblk m c 2 t) ey).trans (blk2 m c t ht _ _)
  · show View.canon (L 64) ((Rect.unit (s := S64x128) ![0, 0] ![64, 128] inb_S64x128_S64x128_0_0).toLoadRect.idx y) = _
    rw [hi]
    exact View.canon_apply_of_pieces _ (L 64) hpc.mem y (hcov y)

/-- What a point writes back. -/
theorem flush_eq (hp : Finite4 m) (hH : Hyps m) (c : Dev nD) (t : Fin cfg0.N) : (dats m hH 0 c).flushed 4 t
    = ((cfg0.win 4).blk t).view.read (Elt Ideal) (actArr (featM m c) (m ((c : Thread nD τ).loc main_arg0)) (m ((c : Thread nD τ).loc main_arg1)) (m ((c : Thread nD τ).loc main_arg3))) := by
  rw [flushed4]
  have ht : t.val < 512 := t.isLt
  obtain ⟨e0, e1, e2, e3, e4, e5, e6, e7⟩ := idx14 t
  funext y
  have hy0 : (y 0).val < 64 := (y 0).isLt
  have hy1 : (y 1).val < 128 := (y 1).isLt
  have hb0 : (((cfg0.win 4).blk t).view.emb y 0).val = win0_4.index t (0 : Fin 2) * 64 + 1 * (y 0).val := rfl
  have hb1 : (((cfg0.win 4).blk t).view.emb y 1).val = win0_4.index t (1 : Fin 2) * 128 + 1 * (y 1).val := rfl
  show outsAt0 m hH c t ((cfg0.win 4).xinj (grid0.coords t) y) = actArr _ _ _ _ (((cfg0.win 4).blk t).view.emb y)
  rw [outs_eq m hp hH c t ht]
  have c0 : ((cfg0.win 4).xinj (grid0.coords t) y 0).val = (y 0).val := rfl
  have c1 : ((cfg0.win 4).xinj (grid0.coords t) y 1).val = (y 1).val := rfl
  have f0 : (⟨64 * t.val + ((cfg0.win 4).xinj (grid0.coords t) y 0).val, by rw [c0]; omega⟩ : Fin 32768) = ((cfg0.win 4).blk t).view.emb y 0 := Fin.ext (by show 64 * t.val + _ = _; rw [hb0, c0]; omega)
  have f1 : (⟨((cfg0.win 4).xinj (grid0.coords t) y 1).val, by rw [c1]; omega⟩ : Fin 128) = ((cfg0.win 4).blk t).view.emb y 1 := Fin.ext (by show _ = _; rw [hb1, c1]; omega)
  unfold blockRes preRes actArr
  exact congrArg₂ (fun (a : Fin 32768) (b : Fin 128) => (show FVec Ideal S32768x128 .f32 from m ((c : Thread nD τ).loc main_arg1)) (ix2 a b) * gelu (preact (featM m c) (m ((c : Thread nD τ).loc main_arg0)) (m ((c : Thread nD τ).loc main_arg3)) a b)) f0 f1

/-- Every entry is in some point's block. -/
theorem cover (i : S32768x128.Idx) : ∃ t : Fin cfg0.N, (cfg0.win 4).flush t = true ∧ i ∈ ((cfg0.win 4).blk t).view.set := by
  have h0 : (i 0).val < 32768 := (i 0).isLt
  have h1 : (i 1).val < 128 := (i 1).isLt
  have hN : cfg0.N = 512 := by decide +kernel
  have hlt : (i 0).val / 64 < cfg0.N := by omega
  obtain ⟨e0, e1, e2, e3, e4, e5, e6, e7⟩ := idx14 ⟨(i 0).val / 64, hlt⟩
  refine ⟨⟨(i 0).val / 64, hlt⟩, flush0_4 _, ?_⟩
  show i ∈ ((View.whole main_v12).slice (win0_4.rect ⟨(i 0).val / 64, hlt⟩)).set
  rw [View.set_slice_whole, Rect.mem_set_unit]
  intro a
  match a with
  | ⟨0, _⟩ => show win0_4.index _ (0 : Fin 2) * 64 ≤ (i 0).val ∧ (i 0).val < win0_4.index _ (0 : Fin 2) * 64 + 64; rw [e6]; show (i 0).val / 64 * 64 ≤ _ ∧ _ < (i 0).val / 64 * 64 + 64; omega
  | ⟨1, _⟩ => show win0_4.index _ (1 : Fin 2) * 128 ≤ (i 1).val ∧ (i 1).val < win0_4.index _ (1 : Fin 2) * 128 + 128; rw [e7]; omega

/-- The array the call ends with. -/
theorem arr_eq (hp : Finite4 m) (hH : Hyps m) (c : Dev nD) : (dats m hH 0 c).arrAt 4 cfg0.N
    = actArr (featM m c) (m ((c : Thread nD τ).loc main_arg0)) (m ((c : Thread nD τ).loc main_arg1)) (m ((c : Thread nD τ).loc main_arg3)) :=
  (dats m hH 0 c).arrAt_eq_of_cover 4 _ (fun t _ => flush_eq m hp hH c t) cover

/-- The first expert call runs to its end, leaves its arguments as they were and every counter at zero. -/
theorem frame : Cert.quiescent_Kernel4Ideal (hKernel4Ideal := Cert.Kernel4Ideal.Gen.facts) (hPre_chosen4 := Cert.Pre_chosen4.Gen.facts) :=
  fun m g hp => Cert.Kernel4Ideal.Gen.frame m g (hyps m fun c => chosen4_lt _ _ _ _ (hp c))
/-- So it does under the precondition of the value claim. -/
theorem frame_finite : Cert.quiescent_Kernel4Ideal_pre_chosen_finite (hKernel4Ideal := Cert.Kernel4Ideal.Gen.facts) (hPre_chosen_finite := Cert.Pre_chosen_finite.Gen.facts) :=
  fun m g hp => Cert.Kernel4Ideal.Gen.frame m g (hyps m (inRange m hp))

/-- The first expert call and its reference end with equal results. -/
theorem algebraic : Cert.algebraic_Kernel4Ideal_Reference4Ideal_pre_chosen_finite (hKernel4Ideal := Cert.Kernel4Ideal.Gen.facts)
    (hReference4Ideal := Cert.Reference4Ideal.Gen.facts) (hPre_chosen_finite := Cert.Pre_chosen_finite.Gen.facts) := by
  intro m g m' g' hp hag
  have hH : Hyps m := hyps m (inRange m hp)
  refine ⟨fun c => actArr (featM m c) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)), ?_, ?_⟩
  · exact (θ_run _ _ _).mono (fun r h c => ⟨(h c).1.trans (arr_eq m hp hH c), (h c).2⟩) (Cert.Kernel4Ideal.Value.run_blocks m g hH)
  · refine (θ_run _ _ _).mono (fun r h c => ⟨(h c).1.trans ?_, (h c).2⟩) (Cert.Reference4Ideal.Value.run m' g')
    obtain ⟨e0, e1, e2, e3⟩ := hag c
    refine (ref4_eq m' c (fun p j => ?_)).trans ?_
    · rw [e0]
      exact inRange m hp c p j
    · unfold featM refH
      rw [e0, e1, e2, e3]

end Cert.Mixer.Act

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Pre_chosen
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_chosen4
public import proofs.«01_k».proof.Proof.Gen.Pre_chosen_finite
public import proofs.«01_k».proof.Proof.Equal
public import proofs.«01_k».proof.Proof.Frames
public import proofs.«01_k».proof.Proof.Bits2
public import proofs.«01_k».proof.Proof.Experts
public import proofs.«01_k».proof.Proof.Sum
public import proofs.«01_k».proof.Proof.Final
public import proofs.«01_k».proof.Proof.Bits4
public import proofs.«01_k».proof.Proof.Scores
public import proofs.«01_k».proof.Proof.ActRun

@[expose] public section

noncomputable section

namespace Cert.Proof

open Idealize.ShloMosaic Idealize.SL.Sem

/-- Everything claimed of the mixer's call, the expert sum's, the final norm's and the first expert call's. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_chosen.Gen.facts, Cert.Pre_chosen4.Gen.facts, Cert.Pre_chosen_finite.Gen.facts,
    fun m g _ => Cert.Kernel.Gen.frame m g,
    fun m g _ => Cert.KernelIdeal.Gen.frame m g,
    fun m g _ => Cert.KernelIdeal.Gen.frame m g,
    Cert.Mixer.ref_frame, Cert.Mixer.ref_frame_finite,
    fun m g hp => Cert.Kernel2.Gen.frame m g (Cert.Mixer.Bits2.hyps m hp),
    Cert.Mixer.Peer.frame, Cert.Mixer.ref2_frame, Cert.Mixer.ref2_frame_chosen,
    fun m g _ => Cert.Kernel3.Gen.frame m g,
    fun m g _ => Cert.Kernel3Ideal.Gen.frame m g,
    Cert.Mixer.fin_ref_frame,
    fun m g hp => Cert.Kernel4.Gen.frame m g (Cert.Mixer.Bits4.hyps m fun c => Cert.Mixer.chosen4_lt _ _ _ _ (hp c)),
    Cert.Mixer.Act.frame, Cert.Mixer.Act.frame_finite, Cert.Mixer.ref4_frame, Cert.Mixer.ref4_frame_finite,
    trivial, Cert.Mixer.algebraic, trivial, Cert.Mixer.Peer.algebraic, trivial, Cert.Mixer.fin_algebraic,
    trivial, Cert.Mixer.Act.algebraic⟩

end Cert.Proof

end
